-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gb_above_minus_infinity [hPre_gb_above_minus_infinity : Cert.Pre_gb_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_gb_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gb_above_minus_infinity [hPre_gb_above_minus_infinity : Cert.Pre_gb_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gb_above_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_c_above_minus_infinity [hPre_c_above_minus_infinity : Cert.Pre_c_above_minus_infinity.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_c_above_minus_infinity.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_c_above_minus_infinity [hPre_c_above_minus_infinity : Cert.Pre_c_above_minus_infinity.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_c_above_minus_infinity.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_gb_above_minus_infinity [hKernelIdeal : Cert.KernelIdeal.Facts] [hPre_gb_above_minus_infinity : Cert.Pre_gb_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gb_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_gb_above_minus_infinity [hReferenceIdeal : Cert.ReferenceIdeal.Facts] [hPre_gb_above_minus_infinity : Cert.Pre_gb_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gb_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_c_above_minus_infinity [hKernel3Ideal : Cert.Kernel3Ideal.Facts] [hPre_c_above_minus_infinity : Cert.Pre_c_above_minus_infinity.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_c_above_minus_infinity m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_c_above_minus_infinity [hReference3Ideal : Cert.Reference3Ideal.Facts] [hPre_c_above_minus_infinity : Cert.Pre_c_above_minus_infinity.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_c_above_minus_infinity m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def preserves_Kernel_KernelIdeal : Prop :=
  True

def algebraic_KernelIdeal_ReferenceIdeal_pre_gb_above_minus_infinity [hKernelIdeal : Cert.KernelIdeal.Facts] [hReferenceIdeal : Cert.ReferenceIdeal.Facts] [hPre_gb_above_minus_infinity : Cert.Pre_gb_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gb_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)) (v4 : (c : Dev Cert.Kernel2Ideal.nD) → Buf (Elt Ideal) ((c.tc : Thread Cert.Kernel2Ideal.nD Cert.Kernel2Ideal.τ).loc Cert.Kernel2Ideal.main_v13_4)) (v5 : (c : Dev Cert.Kernel2Ideal.nD) → Buf (Elt Ideal) ((c.tc : Thread Cert.Kernel2Ideal.nD Cert.Kernel2Ideal.τ).loc Cert.Kernel2Ideal.main_v13_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_v13_4) = v4 c
          ∧ r.2.mem ((c.tc : Thread Cert.Kernel2Ideal.nD Cert.Kernel2Ideal.τ).loc Cert.Kernel2Ideal.main_v13_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_v65) = v2 c
          ∧ r.2.mem ((c.tc : Thread Cert.Reference2Ideal.nD Cert.Reference2Ideal.τ).loc Cert.Reference2Ideal.main_v96) = v3 c
          ∧ r.2.mem ((c.tc : Thread Cert.Reference2Ideal.nD Cert.Reference2Ideal.τ).loc Cert.Reference2Ideal.main_v31) = v4 c
          ∧ r.2.mem ((c.tc : Thread Cert.Reference2Ideal.nD Cert.Reference2Ideal.τ).loc Cert.Reference2Ideal.main_v97) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_c_above_minus_infinity [hKernel3Ideal : Cert.Kernel3Ideal.Facts] [hReference3Ideal : Cert.Reference3Ideal.Facts] [hPre_c_above_minus_infinity : Cert.Pre_c_above_minus_infinity.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_c_above_minus_infinity m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hPre_gb_above_minus_infinity : Cert.Pre_gb_above_minus_infinity.Facts) (hPre_c_above_minus_infinity : Cert.Pre_c_above_minus_infinity.Facts),
    quiescent_Kernel (hKernel := hKernel)
    ∧ quiescent_KernelIdeal (hKernelIdeal := hKernelIdeal)
    ∧ quiescent_KernelIdeal_pre_gb_above_minus_infinity (hKernelIdeal := hKernelIdeal) (hPre_gb_above_minus_infinity := hPre_gb_above_minus_infinity)
    ∧ quiescent_ReferenceIdeal (hReferenceIdeal := hReferenceIdeal)
    ∧ quiescent_ReferenceIdeal_pre_gb_above_minus_infinity (hReferenceIdeal := hReferenceIdeal) (hPre_gb_above_minus_infinity := hPre_gb_above_minus_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_c_above_minus_infinity (hKernel3Ideal := hKernel3Ideal) (hPre_c_above_minus_infinity := hPre_c_above_minus_infinity)
    ∧ quiescent_Reference3Ideal (hReference3Ideal := hReference3Ideal)
    ∧ quiescent_Reference3Ideal_pre_c_above_minus_infinity (hReference3Ideal := hReference3Ideal) (hPre_c_above_minus_infinity := hPre_c_above_minus_infinity)
    ∧ quiescent_Kernel4 (hKernel4 := hKernel4)
    ∧ quiescent_Kernel4Ideal (hKernel4Ideal := hKernel4Ideal)
    ∧ preserves_Kernel_KernelIdeal
    ∧ algebraic_KernelIdeal_ReferenceIdeal_pre_gb_above_minus_infinity (hKernelIdeal := hKernelIdeal) (hReferenceIdeal := hReferenceIdeal) (hPre_gb_above_minus_infinity := hPre_gb_above_minus_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_c_above_minus_infinity (hKernel3Ideal := hKernel3Ideal) (hReference3Ideal := hReference3Ideal) (hPre_c_above_minus_infinity := hPre_c_above_minus_infinity)
    ∧ preserves_Kernel4_Kernel4Ideal
-- ==== Pre_c_above_minus_infinity.lean ====
abbrev S8x1024 : Shape := ⟨2, ![8, 1024]⟩
abbrev S1x1024x3072 : Shape := ⟨3, ![1, 1024, 3072]⟩
abbrev S1x3072 : Shape := ⟨2, ![1, 3072]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel

variable [Facts]

def fn {F : FTy → Type} [FloatOps F] (main_arg0 : FVec F S8x1024 .f32) (main_arg1 : FVec F S1x1024x3072 .f32) (main_arg2 : FVec F S1x3072 .f32) : IVec S_ 1 :=
  let main_cst : FVec F S_ .f32 := constant S_ .f32 0xFF800000#32
  let main_v0 : FVec F S8x1024 .f32 := broadcastInDim S8x1024 ![] bcast_S_S8x1024 main_cst
  let main_v1 : IVec S8x1024 1 := cmpf .ogt main_arg0 main_v0
  let main_c : IVec S_ 1 := constantI S_ 1 1#1
  let main_v2 : IVec S_ 1 := (fun x v => Host.reduce IntOp.andi x v reducesTo_S8x1024_S_d0_1 h_S_) main_v1 main_c
  main_v2
-- ==== Pre_gb_above_minus_infinity.lean ====
abbrev S8x2048x1024 : Shape := ⟨3, ![8, 2048, 1024]⟩
abbrev S8x2048x512 : Shape := ⟨3, ![8, 2048, 512]⟩
abbrev S8x3072 : Shape := ⟨2, ![8, 3072]⟩
abbrev S1x512 : Shape := ⟨2, ![1, 512]⟩
abbrev S1x1024 : Shape := ⟨2, ![1, 1024]⟩
abbrev S1x1024x1024 : Shape := ⟨3, ![1, 1024, 1024]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x1024 .f32) (main_arg1 : FVec F S8x2048x512 .bf16) (main_arg2 : FVec F S8x2048x512 .bf16) (main_arg3 : FVec F S8x2048x512 .bf16) (main_arg4 : FVec F S8x3072 .f32) (main_arg5 : FVec F S1x512 .f32) (main_arg6 : FVec F S1x1024 .f32) (main_arg7 : FVec F S1x1024x1024 .f32) : IVec S_ 1 :=
  let main_v0 : FVec F S8x2048x512 .f32 := (extf .f32 · bitsLt_bf16_f32) main_arg3
  let main_cst : FVec F S_ .f32 := constant S_ .f32 0xFF800000#32
  let main_v1 : FVec F S8x2048x512 .f32 := broadcastInDim S8x2048x512 ![] bcast_S_S8x2048x512 main_cst
  let main_v2 : IVec S8x2048x512 1 := cmpf .ogt main_v0 main_v1
  let main_c : IVec S_ 1 := constantI S_ 1 1#1
  let main_v3 : IVec S_ 1 := (fun x v => Host.reduce IntOp.andi x v reducesTo_S8x2048x512_S_d0_1_2 h_S_) main_v2 main_c
  main_v3
-- ==== Kernel.lean ====
abbrev S8x2048x1024 : Shape := ⟨3, ![8, 2048, 1024]⟩
abbrev S8x2048x512 : Shape := ⟨3, ![8, 2048, 512]⟩
abbrev S8x3072 : Shape := ⟨2, ![8, 3072]⟩
abbrev S1x512 : Shape := ⟨2, ![1, 512]⟩
abbrev S1x1024 : Shape := ⟨2, ![1, 1024]⟩
abbrev S1x1024x1024 : Shape := ⟨3, ![1, 1024, 1024]⟩
abbrev S512 : Shape := ⟨1, ![512]⟩
abbrev S1024 : Shape := ⟨1, ![1024]⟩
abbrev S1024x1024 : Shape := ⟨2, ![1024, 1024]⟩
abbrev S8x4x512x512 : Shape := ⟨4, ![8, 4, 512, 512]⟩
abbrev S4x1024x128 : Shape := ⟨3, ![4, 1024, 128]⟩
abbrev S3x1x1024x1024 : Shape := ⟨4, ![3, 1, 1024, 1024]⟩
abbrev S3 : Shape := ⟨1, ![3]⟩
abbrev S3x1x1024x512 : Shape := ⟨4, ![3, 1, 1024, 512]⟩
abbrev S3x1x4x256x512 : Shape := ⟨5, ![3, 1, 4, 256, 512]⟩
abbrev S2x1x1024x1024 : Shape := ⟨4, ![2, 1, 1024, 1024]⟩
abbrev S2 : Shape := ⟨1, ![2]⟩
abbrev S1 : Shape := ⟨1, ![1]⟩
abbrev S_ : Shape := ⟨0, ![]⟩
abbrev S1x1x1024x1024 : Shape := ⟨4, ![1, 1, 1024, 1024]⟩
abbrev S1x1x1024x512 : Shape := ⟨4, ![1, 1, 1024, 512]⟩
abbrev S1x1024x512 : Shape := ⟨3, ![1, 1024, 512]⟩
abbrev S1x1x4x256x512 : Shape := ⟨5, ![1, 1, 4, 256, 512]⟩
abbrev S1x4x256x512 : Shape := ⟨4, ![1, 4, 256, 512]⟩
abbrev S1x1x128x512 : Shape := ⟨4, ![1, 1, 128, 512]⟩
abbrev S128x512 : Shape := ⟨2, ![128, 512]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩
abbrev S512x512 : Shape := ⟨2, ![512, 512]⟩
abbrev S1x512x512 : Shape := ⟨3, ![1, 512, 512]⟩
abbrev S512x1 : Shape := ⟨2, ![512, 1]⟩
abbrev S512x1024 : Shape := ⟨2, ![512, 1024]⟩
abbrev S1x512x1024 : Shape := ⟨3, ![1, 512, 1024]⟩

abbrev nBuf : Space → Nat
  | .hbm => 15
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S8x3072, .f32⟩
  | .hbm, ⟨5, _⟩ => ⟨S1x512, .f32⟩
  | .hbm, ⟨6, _⟩ => ⟨S1x1024, .f32⟩
  | .hbm, ⟨7, _⟩ => ⟨S1x1024x1024, .f32⟩
  | .hbm, ⟨8, _⟩ => ⟨S512, .f32⟩
  | .hbm, ⟨9, _⟩ => ⟨S1024, .f32⟩
  | .hbm, ⟨10, _⟩ => ⟨S1024x1024, .f32⟩
  | .hbm, ⟨11, _⟩ => ⟨S8x4x512x512, .bf16⟩
  | .hbm, ⟨12, _⟩ => ⟨S1x512, .f32⟩
  | .hbm, ⟨13, _⟩ => ⟨S1x1024, .f32⟩
  | .hbm, ⟨14, _⟩ => ⟨S8x2048x1024, .f32⟩
  | .local _ .vmem, ⟨0, _⟩ => ⟨S8x3072, .f32⟩
  | .local _ .vmem, ⟨1, _⟩ => ⟨S1x512, .f32⟩
  | .local _ .vmem, ⟨2, _⟩ => ⟨S1x1024, .f32⟩
  | .local _ .vmem, ⟨3, _⟩ => ⟨S1024x1024, .f32⟩
  | .local _ .vmem, ⟨4, _⟩ => ⟨S4x1024x128, .f32⟩
  | .local _ .vmem, ⟨5, _⟩ => ⟨S1024x1024, .bf16⟩
  | .local _ .vmem, ⟨6, _⟩ => ⟨S3x1x1024x1024, .f32⟩
  | .local _ .vmem, ⟨7, _⟩ => ⟨S3x1x1024x512, .bf16⟩
  | .local _ .vmem, ⟨8, _⟩ => ⟨S3x1x4x256x512, .bf16⟩
  | .local _ .vmem, ⟨9, _⟩ => ⟨S3x1x1024x512, .bf16⟩
  | .local _ .vmem, ⟨10, _⟩ => ⟨S2x1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scoped0 : Ref sig .tc := ⟨.vmem, 6, rfl⟩
abbrev cc0_scoped2 : Ref sig .tc := ⟨.vmem, 7, rfl⟩
abbrev cc0_scoped4 : Ref sig .tc := ⟨.vmem, 8, rfl⟩
abbrev cc0_scoped6 : Ref sig .tc := ⟨.vmem, 9, rfl⟩
abbrev cc0_scoped8 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_40_r0 : BitVec 32 := 0#32
  let c3_i32_r0 : BitVec 32 := 3#32
  let v47_r0 : BitVec 32 := Scalar.remui c0_i32_40_r0 c3_i32_r0
  ![v47_r0.toNat]
def k0_off2 : Fin 4 → Nat :=
  let c0_i32_40_r0 : BitVec 32 := 0#32
  let c3_i32_r0 : BitVec 32 := 3#32
  let v47_r0 : BitVec 32 := Scalar.remui c0_i32_40_r0 c3_i32_r0
  let c0_i32_41_r0 : BitVec 32 := 0#32
  let c0_i32_42_r0 : BitVec 32 := 0#32
  let c0_i32_43_r0 : BitVec 32 := 0#32
  ![v47_r0.toNat, 0, 0, 0]
def k0_off3 : Fin 4 → Nat :=
  let c0_i32_49_r0 : BitVec 32 := 0#32
  let c3_i32_50_r0 : BitVec 32 := 3#32
  let v54_r0 : BitVec 32 := Scalar.remui c0_i32_49_r0 c3_i32_50_r0
  let c0_i32_51_r0 : BitVec 32 := 0#32
  let c0_i32_52_r0 : BitVec 32 := 0#32
  let c0_i32_53_r0 : BitVec 32 := 0#32
  ![v54_r0.toNat, 0, 0, 0]
def k0_off4 : Fin 5 → Nat :=
  let c0_i32_59_r0 : BitVec 32 := 0#32
  let c3_i32_60_r0 : BitVec 32 := 3#32
  let v61_r0 : BitVec 32 := Scalar.remui c0_i32_59_r0 c3_i32_60_r0
  let c0_i32_61_r0 : BitVec 32 := 0#32
  let c0_i32_62_r0 : BitVec 32 := 0#32
  let c0_i32_63_r0 : BitVec 32 := 0#32
  let c0_i32_64_r0 : BitVec 32 := 0#32
  ![v61_r0.toNat, 0, 0, 0, 0]
def k0_cond1 : BitVec 1 :=
  let true_83_r0 : BitVec 1 := 1#1
  let true_13_r0 : BitVec 1 := 1#1
  let c1_i32_15_r0 : BitVec 32 := 1#32
  let c0_i32_14_r0 : BitVec 32 := 0#32
  let v19_r0 : BitVec 32 := Scalar.select true_13_r0 c1_i32_15_r0 c0_i32_14_r0
  let c2_i32_r0 : BitVec 32 := 2#32
  let v20_r0 : BitVec 1 := Scalar.cmpi .eq v19_r0 c2_i32_r0
  let c1_i32_18_r0 : BitVec 32 := 1#32
  let c0_i32_17_r0 : BitVec 32 := 0#32
  let v22_r0 : BitVec 32 := Scalar.select v20_r0 c1_i32_18_r0 c0_i32_17_r0
  let c8_i32_r0 : BitVec 32 := 8#32
  let v23_r0 : BitVec 1 := Scalar.cmpi .eq v22_r0 c8_i32_r0
  let c0_i32_19_r0 : BitVec 32 := 0#32
  let v24_r0 : BitVec 32 := Scalar.select v23_r0 c0_i32_19_r0 v22_r0
  let c0_i32_20_r0 : BitVec 32 := 0#32
  let v25_r0 : BitVec 32 := Scalar.addi v24_r0 c0_i32_20_r0
  let c0_i32_81_r0 : BitVec 32 := 0#32
  let v75_r0 : BitVec 1 := Scalar.cmpi .ne v25_r0 c0_i32_81_r0
  let c0_i32_16_r0 : BitVec 32 := 0#32
  let v21_r0 : BitVec 32 := Scalar.select v20_r0 c0_i32_16_r0 v19_r0
  let c0_i32_21_r0 : BitVec 32 := 0#32
  let v26_r0 : BitVec 32 := Scalar.addi v21_r0 c0_i32_21_r0
  let c0_i32_82_r0 : BitVec 32 := 0#32
  let v76_r0 : BitVec 1 := Scalar.cmpi .ne v26_r0 c0_i32_82_r0
  let v77_r0 : BitVec 1 := Scalar.ori v75_r0 v76_r0
  let v78_r0 : BitVec 1 := Scalar.andi true_83_r0 v77_r0
  let true_84_r0 : BitVec 1 := 1#1
  let v79_r0 : BitVec 1 := Scalar.andi v78_r0 true_84_r0
  let v80_r0 : BitVec 32 := Scalar.extui v79_r0
  let c0_i32_85_r0 : BitVec 32 := 0#32
  let v81_r0 : BitVec 1 := Scalar.cmpi .ne v80_r0 c0_i32_85_r0
  v81_r0

def k0_off5 : Fin 1 → Nat :=
  let c0_i32_47_r0 : BitVec 32 := 0#32
  let c1_i32_48_r0 : BitVec 32 := 1#32
  let v53_r0 : BitVec 32 := Scalar.addi c0_i32_47_r0 c1_i32_48_r0
  let c3_i32_167_r0 : BitVec 32 := 3#32
  let v171_r0 : BitVec 32 := Scalar.remui v53_r0 c3_i32_167_r0
  ![v171_r0.toNat]
def k0_off6 : Fin 4 → Nat :=
  let c0_i32_47_r0 : BitVec 32 := 0#32
  let c1_i32_48_r0 : BitVec 32 := 1#32
  let v53_r0 : BitVec 32 := Scalar.addi c0_i32_47_r0 c1_i32_48_r0
  let c3_i32_167_r0 : BitVec 32 := 3#32
  let v171_r0 : BitVec 32 := Scalar.remui v53_r0 c3_i32_167_r0
  let c0_i32_170_r0 : BitVec 32 := 0#32
  let c0_i32_171_r0 : BitVec 32 := 0#32
  let c0_i32_172_r0 : BitVec 32 := 0#32
  ![v171_r0.toNat, 0, 0, 0]
def k0_off7 : Fin 3 → Nat :=
  let c1_i32_168_r0 : BitVec 32 := 1#32
  let true_13_r0 : BitVec 1 := 1#1
  let c1_i32_15_r0 : BitVec 32 := 1#32
  let c0_i32_14_r0 : BitVec 32 := 0#32
  let v19_r0 : BitVec 32 := Scalar.select true_13_r0 c1_i32_15_r0 c0_i32_14_r0
  let c2_i32_r0 : BitVec 32 := 2#32
  let v20_r0 : BitVec 1 := Scalar.cmpi .eq v19_r0 c2_i32_r0
  let c1_i32_18_r0 : BitVec 32 := 1#32
  let c0_i32_17_r0 : BitVec 32 := 0#32
  let v22_r0 : BitVec 32 := Scalar.select v20_r0 c1_i32_18_r0 c0_i32_17_r0
  let c8_i32_r0 : BitVec 32 := 8#32
  let v23_r0 : BitVec 1 := Scalar.cmpi .eq v22_r0 c8_i32_r0
  let c0_i32_19_r0 : BitVec 32 := 0#32
  let v24_r0 : BitVec 32 := Scalar.select v23_r0 c0_i32_19_r0 v22_r0
  let c0_i32_20_r0 : BitVec 32 := 0#32
  let v25_r0 : BitVec 32 := Scalar.addi v24_r0 c0_i32_20_r0
  let v172_r0 : BitVec 32 := Scalar.muli c1_i32_168_r0 v25_r0
  let c1024_i32_169_r0 : BitVec 32 := 1024#32
  let c0_i32_16_r0 : BitVec 32 := 0#32
  let v21_r0 : BitVec 32 := Scalar.select v20_r0 c0_i32_16_r0 v19_r0
  let c0_i32_21_r0 : BitVec 32 := 0#32
  let v26_r0 : BitVec 32 := Scalar.addi v21_r0 c0_i32_21_r0
  let v173_r0 : BitVec 32 := Scalar.muli c1024_i32_169_r0 v26_r0
  let c0_i32_173_r0 : BitVec 32 := 0#32
  ![v172_r0.toNat, v173_r0.toNat, 0]
def k0_cond2 : BitVec 1 :=
  let true_89_r0 : BitVec 1 := 1#1
  let true_13_r0 : BitVec 1 := 1#1
  let c1_i32_15_r0 : BitVec 32 := 1#32
  let c0_i32_14_r0 : BitVec 32 := 0#32
  let v19_r0 : BitVec 32 := Scalar.select true_13_r0 c1_i32_15_r0 c0_i32_14_r0
  let c2_i32_r0 : BitVec 32 := 2#32
  let v20_r0 : BitVec 1 := Scalar.cmpi .eq v19_r0 c2_i32_r0
  let c1_i32_18_r0 : BitVec 32 := 1#32
  let c0_i32_17_r0 : BitVec 32 := 0#32
  let v22_r0 : BitVec 32 := Scalar.select v20_r0 c1_i32_18_r0 c0_i32_17_r0
  let c8_i32_r0 : BitVec 32 := 8#32
  let v23_r0 : BitVec 1 := Scalar.cmpi .eq v22_r0 c8_i32_r0
  let c0_i32_19_r0 : BitVec 32 := 0#32
  let v24_r0 : BitVec 32 := Scalar.select v23_r0 c0_i32_19_r0 v22_r0
  let c0_i32_20_r0 : BitVec 32 := 0#32
  let v25_r0 : BitVec 32 := Scalar.addi v24_r0 c0_i32_20_r0
  let c0_i32_87_r0 : BitVec 32 := 0#32
  let v84_r0 : BitVec 1 := Scalar.cmpi .ne v25_r0 c0_i32_87_r0
  let c0_i32_16_r0 : BitVec 32 := 0#32
  let v21_r0 : BitVec 32 := Scalar.select v20_r0 c0_i32_16_r0 v19_r0
  let c0_i32_21_r0 : BitVec 32 := 0#32
  let v26_r0 : BitVec 32 := Scalar.addi v21_r0 c0_i32_21_r0
  let c0_i32_88_r0 : BitVec 32 := 0#32
  let v85_r0 : BitVec 1 := Scalar.cmpi .ne v26_r0 c0_i32_88_r0
  let v86_r0 : BitVec 1 := Scalar.ori v84_r0 v85_r0
  let v87_r0 : BitVec 1 := Scalar.andi true_89_r0 v86_r0
  let true_90_r0 : BitVec 1 := 1#1
  let v88_r0 : BitVec 1 := Scalar.andi v87_r0 true_90_r0
  let v89_r0 : BitVec 32 := Scalar.extui v88_r0
  let c0_i32_91_r0 : BitVec 32 := 0#32
  let v90_r0 : BitVec 1 := Scalar.cmpi .ne v89_r0 c0_i32_91_r0
  v90_r0

def k0_off8 : Fin 1 → Nat :=
  let c0_i32_57_r0 : BitVec 32 := 0#32
  let c1_i32_58_r0 : BitVec 32 := 1#32
  let v60_r0 : BitVec 32 := Scalar.addi c0_i32_57_r0 c1_i32_58_r0
  let c3_i32_167_r0 : BitVec 32 := 3#32
  let v171_r0 : BitVec 32 := Scalar.remui v60_r0 c3_i32_167_r0
  ![v171_r0.toNat]
def k0_off9 : Fin 4 → Nat :=
  let c0_i32_57_r0 : BitVec 32 := 0#32
  let c1_i32_58_r0 : BitVec 32 := 1#32
  let v60_r0 : BitVec 32 := Scalar.addi c0_i32_57_r0 c1_i32_58_r0
  let c3_i32_167_r0 : BitVec 32 := 3#32
  let v171_r0 : BitVec 32 := Scalar.remui v60_r0 c3_i32_167_r0
  let c0_i32_170_r0 : BitVec 32 := 0#32
  let c0_i32_171_r0 : BitVec 32 := 0#32
  let c0_i32_172_r0 : BitVec 32 := 0#32
  ![v171_r0.toNat, 0, 0, 0]
def k0_off10 : Fin 3 → Nat :=
  let c1_i32_168_r0 : BitVec 32 := 1#32
  let true_13_r0 : BitVec 1 := 1#1
  let c1_i32_15_r0 : BitVec 32 := 1#32
  let c0_i32_14_r0 : BitVec 32 := 0#32
  let v19_r0 : BitVec 32 := Scalar.select true_13_r0 c1_i32_15_r0 c0_i32_14_r0
  let c2_i32_r0 : BitVec 32 := 2#32
  let v20_r0 : BitVec 1 := Scalar.cmpi .eq v19_r0 c2_i32_r0
  let c1_i32_18_r0 : BitVec 32 := 1#32
  let c0_i32_17_r0 : BitVec 32 := 0#32
  let v22_r0 : BitVec 32 := Scalar.select v20_r0 c1_i32_18_r0 c0_i32_17_r0
  let c8_i32_r0 : BitVec 32 := 8#32
  let v23_r0 : BitVec 1 := Scalar.cmpi .eq v22_r0 c8_i32_r0
  let c0_i32_19_r0 : BitVec 32 := 0#32
  let v24_r0 : BitVec 32 := Scalar.select v23_r0 c0_i32_19_r0 v22_r0
  let c0_i32_20_r0 : BitVec 32 := 0#32
  let v25_r0 : BitVec 32 := Scalar.addi v24_r0 c0_i32_20_r0
  let v172_r0 : BitVec 32 := Scalar.muli c1_i32_168_r0 v25_r0
  let c1024_i32_169_r0 : BitVec 32 := 1024#32
  let c0_i32_16_r0 : BitVec 32 := 0#32
  let v21_r0 : BitVec 32 := Scalar.select v20_r0 c0_i32_16_r0 v19_r0
  let c0_i32_21_r0 : BitVec 32 := 0#32
  let v26_r0 : BitVec 32 := Scalar.addi v21_r0 c0_i32_21_r0
  let v173_r0 : BitVec 32 := Scalar.muli c1024_i32_169_r0 v26_r0
  let c0_i32_173_r0 : BitVec 32 := 0#32
  ![v172_r0.toNat, v173_r0.toNat, 0]
def k0_cond3 : BitVec 1 :=
  let true_95_r0 : BitVec 1 := 1#1
  let true_13_r0 : BitVec 1 := 1#1
  let c1_i32_15_r0 : BitVec 32 := 1#32
  let c0_i32_14_r0 : BitVec 32 := 0#32
  let v19_r0 : BitVec 32 := Scalar.select true_13_r0 c1_i32_15_r0 c0_i32_14_r0
  let c2_i32_r0 : BitVec 32 := 2#32
  let v20_r0 : BitVec 1 := Scalar.cmpi .eq v19_r0 c2_i32_r0
  let c1_i32_18_r0 : BitVec 32 := 1#32
  let c0_i32_17_r0 : BitVec 32 := 0#32
  let v22_r0 : BitVec 32 := Scalar.select v20_r0 c1_i32_18_r0 c0_i32_17_r0
  let c8_i32_r0 : BitVec 32 := 8#32
  let v23_r0 : BitVec 1 := Scalar.cmpi .eq v22_r0 c8_i32_r0
  let c0_i32_19_r0 : BitVec 32 := 0#32
  let v24_r0 : BitVec 32 := Scalar.select v23_r0 c0_i32_19_r0 v22_r0
  let c0_i32_20_r0 : BitVec 32 := 0#32
  let v25_r0 : BitVec 32 := Scalar.addi v24_r0 c0_i32_20_r0
  let c0_i32_93_r0 : BitVec 32 := 0#32
  let v93_r0 : BitVec 1 := Scalar.cmpi .ne v25_r0 c0_i32_93_r0
  let c0_i32_16_r0 : BitVec 32 := 0#32
  let v21_r0 : BitVec 32 := Scalar.select v20_r0 c0_i32_16_r0 v19_r0
  let c0_i32_21_r0 : BitVec 32 := 0#32
  let v26_r0 : BitVec 32 := Scalar.addi v21_r0 c0_i32_21_r0
  let c0_i32_94_r0 : BitVec 32 := 0#32
  let v94_r0 : BitVec 1 := Scalar.cmpi .ne v26_r0 c0_i32_94_r0
  let v95_r0 : BitVec 1 := Scalar.ori v93_r0 v94_r0
  let v96_r0 : BitVec 1 := Scalar.andi true_95_r0 v95_r0
  let true_96_r0 : BitVec 1 := 1#1
  let v97_r0 : BitVec 1 := Scalar.andi v96_r0 true_96_r0
  let v98_r0 : BitVec 32 := Scalar.extui v97_r0
  let c0_i32_97_r0 : BitVec 32 := 0#32
  let v99_r0 : BitVec 1 := Scalar.cmpi .ne v98_r0 c0_i32_97_r0
  v99_r0

def k0_off11 : Fin 1 → Nat :=
  let c0_i32_69_r0 : BitVec 32 := 0#32
  let c1_i32_70_r0 : BitVec 32 := 1#32
  let v67_r0 : BitVec 32 := Scalar.addi c0_i32_69_r0 c1_i32_70_r0
  let c3_i32_167_r0 : BitVec 32 := 3#32
  let v171_r0 : BitVec 32 := Scalar.remui v67_r0 c3_i32_167_r0
  ![v171_r0.toNat]
def k0_off12 : Fin 5 → Nat :=
  let c0_i32_69_r0 : BitVec 32 := 0#32
  let c1_i32_70_r0 : BitVec 32 := 1#32
  let v67_r0 : BitVec 32 := Scalar.addi c0_i32_69_r0 c1_i32_70_r0
  let c3_i32_167_r0 : BitVec 32 := 3#32
  let v171_r0 : BitVec 32 := Scalar.remui v67_r0 c3_i32_167_r0
  let c0_i32_169_r0 : BitVec 32 := 0#32
  let c0_i32_170_r0 : BitVec 32 := 0#32
  let c0_i32_171_r0 : BitVec 32 := 0#32
  let c0_i32_172_r0 : BitVec 32 := 0#32
  ![v171_r0.toNat, 0, 0, 0, 0]
def k0_off13 : Fin 4 → Nat :=
  let c1_i32_168_r0 : BitVec 32 := 1#32
  let true_13_r0 : BitVec 1 := 1#1
  let c1_i32_15_r0 : BitVec 32 := 1#32
  let c0_i32_14_r0 : BitVec 32 := 0#32
  let v19_r0 : BitVec 32 := Scalar.select true_13_r0 c1_i32_15_r0 c0_i32_14_r0
  let c2_i32_r0 : BitVec 32 := 2#32
  let v20_r0 : BitVec 1 := Scalar.cmpi .eq v19_r0 c2_i32_r0
  let c1_i32_18_r0 : BitVec 32 := 1#32
  let c0_i32_17_r0 : BitVec 32 := 0#32
  let v22_r0 : BitVec 32 := Scalar.select v20_r0 c1_i32_18_r0 c0_i32_17_r0
  let c8_i32_r0 : BitVec 32 := 8#32
  let v23_r0 : BitVec 1 := Scalar.cmpi .eq v22_r0 c8_i32_r0
  let c0_i32_19_r0 : BitVec 32 := 0#32
  let v24_r0 : BitVec 32 := Scalar.select v23_r0 c0_i32_19_r0 v22_r0
  let c0_i32_20_r0 : BitVec 32 := 0#32
  let v25_r0 : BitVec 32 := Scalar.addi v24_r0 c0_i32_20_r0
  let v172_r0 : BitVec 32 := Scalar.muli c1_i32_168_r0 v25_r0
  let c0_i32_173_r0 : BitVec 32 := 0#32
  let c256_i32_r0 : BitVec 32 := 256#32
  let c0_i32_16_r0 : BitVec 32 := 0#32
  let v21_r0 : BitVec 32 := Scalar.select v20_r0 c0_i32_16_r0 v19_r0
  let c0_i32_21_r0 : BitVec 32 := 0#32
  let v26_r0 : BitVec 32 := Scalar.addi v21_r0 c0_i32_21_r0
  let v173_r0 : BitVec 32 := Scalar.muli c256_i32_r0 v26_r0
  let c0_i32_174_r0 : BitVec 32 := 0#32
  ![v172_r0.toNat, 0, v173_r0.toNat, 0]
def k0_cond4 : BitVec 1 :=
  let true_101_r0 : BitVec 1 := 1#1
  let true_13_r0 : BitVec 1 := 1#1
  let c1_i32_15_r0 : BitVec 32 := 1#32
  let c0_i32_14_r0 : BitVec 32 := 0#32
  let v19_r0 : BitVec 32 := Scalar.select true_13_r0 c1_i32_15_r0 c0_i32_14_r0
  let c2_i32_r0 : BitVec 32 := 2#32
  let v20_r0 : BitVec 1 := Scalar.cmpi .eq v19_r0 c2_i32_r0
  let c1_i32_18_r0 : BitVec 32 := 1#32
  let c0_i32_17_r0 : BitVec 32 := 0#32
  let v22_r0 : BitVec 32 := Scalar.select v20_r0 c1_i32_18_r0 c0_i32_17_r0
  let c8_i32_r0 : BitVec 32 := 8#32
  let v23_r0 : BitVec 1 := Scalar.cmpi .eq v22_r0 c8_i32_r0
  let c0_i32_19_r0 : BitVec 32 := 0#32
  let v24_r0 : BitVec 32 := Scalar.select v23_r0 c0_i32_19_r0 v22_r0
  let c0_i32_20_r0 : BitVec 32 := 0#32
  let v25_r0 : BitVec 32 := Scalar.addi v24_r0 c0_i32_20_r0
  let c0_i32_99_r0 : BitVec 32 := 0#32
  let v102_r0 : BitVec 1 := Scalar.cmpi .ne v25_r0 c0_i32_99_r0
  let c0_i32_16_r0 : BitVec 32 := 0#32
  let v21_r0 : BitVec 32 := Scalar.select v20_r0 c0_i32_16_r0 v19_r0
  let c0_i32_21_r0 : BitVec 32 := 0#32
  let v26_r0 : BitVec 32 := Scalar.addi v21_r0 c0_i32_21_r0
  let c0_i32_100_r0 : BitVec 32 := 0#32
  let v103_r0 : BitVec 1 := Scalar.cmpi .ne v26_r0 c0_i32_100_r0
  let v104_r0 : BitVec 1 := Scalar.ori v102_r0 v103_r0
  let v105_r0 : BitVec 1 := Scalar.andi true_101_r0 v104_r0
  let true_102_r0 : BitVec 1 := 1#1
  let v106_r0 : BitVec 1 := Scalar.andi v105_r0 true_102_r0
  let v107_r0 : BitVec 32 := Scalar.extui v106_r0
  let c0_i32_103_r0 : BitVec 32 := 0#32
  let v108_r0 : BitVec 1 := Scalar.cmpi .ne v107_r0 c0_i32_103_r0
  v108_r0

def k0_off14 : Fin 1 → Nat :=
  let c0_i32_79_r0 : BitVec 32 := 0#32
  let c1_i32_80_r0 : BitVec 32 := 1#32
  let v74_r0 : BitVec 32 := Scalar.addi c0_i32_79_r0 c1_i32_80_r0
  let c3_i32_167_r0 : BitVec 32 := 3#32
  let v171_r0 : BitVec 32 := Scalar.remui v74_r0 c3_i32_167_r0
  ![v171_r0.toNat]
def k0_off15 : Fin 4 → Nat :=
  let c0_i32_79_r0 : BitVec 32 := 0#32
  let c1_i32_80_r0 : BitVec 32 := 1#32
  let v74_r0 : BitVec 32 := Scalar.addi c0_i32_79_r0 c1_i32_80_r0
  let c3_i32_167_r0 : BitVec 32 := 3#32
  let v171_r0 : BitVec 32 := Scalar.remui v74_r0 c3_i32_167_r0
  let c0_i32_170_r0 : BitVec 32 := 0#32
  let c0_i32_171_r0 : BitVec 32 := 0#32
  let c0_i32_172_r0 : BitVec 32 := 0#32
  ![v171_r0.toNat, 0, 0, 0]
def k0_off16 : Fin 3 → Nat :=
  let c1_i32_168_r0 : BitVec 32 := 1#32
  let true_13_r0 : BitVec 1 := 1#1
  let c1_i32_15_r0 : BitVec 32 := 1#32
  let c0_i32_14_r0 : BitVec 32 := 0#32
  let v19_r0 : BitVec 32 := Scalar.select true_13_r0 c1_i32_15_r0 c0_i32_14_r0
  let c2_i32_r0 : BitVec 32 := 2#32
  let v20_r0 : BitVec 1 := Scalar.cmpi .eq v19_r0 c2_i32_r0
  let c1_i32_18_r0 : BitVec 32 := 1#32
  let c0_i32_17_r0 : BitVec 32 := 0#32
  let v22_r0 : BitVec 32 := Scalar.select v20_r0 c1_i32_18_r0 c0_i32_17_r0
  let c8_i32_r0 : BitVec 32 := 8#32
  let v23_r0 : BitVec 1 := Scalar.cmpi .eq v22_r0 c8_i32_r0
  let c0_i32_19_r0 : BitVec 32 := 0#32
  let v24_r0 : BitVec 32 := Scalar.select v23_r0 c0_i32_19_r0 v22_r0
  let c0_i32_20_r0 : BitVec 32 := 0#32
  let v25_r0 : BitVec 32 := Scalar.addi v24_r0 c0_i32_20_r0
  let v172_r0 : BitVec 32 := Scalar.muli c1_i32_168_r0 v25_r0
  let c1024_i32_169_r0 : BitVec 32 := 1024#32
  let c0_i32_16_r0 : BitVec 32 := 0#32
  let v21_r0 : BitVec 32 := Scalar.select v20_r0 c0_i32_16_r0 v19_r0
  let c0_i32_21_r0 : BitVec 32 := 0#32
  let v26_r0 : BitVec 32 := Scalar.addi v21_r0 c0_i32_21_r0
  let v173_r0 : BitVec 32 := Scalar.muli c1024_i32_169_r0 v26_r0
  let c0_i32_173_r0 : BitVec 32 := 0#32
  ![v172_r0.toNat, v173_r0.toNat, 0]
@[reducible] def k0_t1_loop : Scf.Loop 32 :=
  let c0_i32_113_r0 : BitVec 32 := 0#32
  let c16_i32_r0 : BitVec 32 := 16#32
  let v111_r0 : BitVec 32 := Scalar.addi c0_i32_113_r0 c16_i32_r0
  let c1_i32_114_r0 : BitVec 32 := 1#32
  ⟨c0_i32_113_r0, v111_r0, c1_i32_114_r0⟩
def k0_off17 (arg12_r0 : BitVec 32) : Fin 1 → Nat :=
  let c3_i32_535_r0 : BitVec 32 := 3#32
  let v733_r0 : BitVec 32 := Scalar.remui arg12_r0 c3_i32_535_r0
  ![v733_r0.toNat]
def k0_cond5 (k0_t1 : Fin k0_t1_loop.trips) (arg22_r0 : BitVec 32) (arg23_r0 : BitVec 32) : BitVec 1 :=
  let true_180_r0 : BitVec 1 := 1#1
  let c1_i32_179_r0 : BitVec 32 := 1#32
  let v185_r0 : BitVec 32 := Scalar.addi arg23_r0 c1_i32_179_r0
  let v186_r0 : BitVec 32 := Scalar.select true_180_r0 v185_r0 arg23_r0
  let c2_i32_181_r0 : BitVec 32 := 2#32
  let v187_r0 : BitVec 1 := Scalar.cmpi .eq v186_r0 c2_i32_181_r0
  let c1_i32_183_r0 : BitVec 32 := 1#32
  let v189_r0 : BitVec 32 := Scalar.addi arg22_r0 c1_i32_183_r0
  let v190_r0 : BitVec 32 := Scalar.select v187_r0 v189_r0 arg22_r0
  let c8_i32_184_r0 : BitVec 32 := 8#32
  let v191_r0 : BitVec 1 := Scalar.cmpi .eq v190_r0 c8_i32_184_r0
  let c0_i32_185_r0 : BitVec 32 := 0#32
  let v192_r0 : BitVec 32 := Scalar.select v191_r0 c0_i32_185_r0 v190_r0
  let c0_i32_186_r0 : BitVec 32 := 0#32
  let v193_r0 : BitVec 32 := Scalar.addi v192_r0 c0_i32_186_r0
  let true_189_r0 : BitVec 1 := 1#1
  let c0_i32_182_r0 : BitVec 32 := 0#32
  let v188_r0 : BitVec 32 := Scalar.select v187_r0 c0_i32_182_r0 v186_r0
  let c1_i32_188_r0 : BitVec 32 := 1#32
  let v195_r0 : BitVec 32 := Scalar.addi v188_r0 c1_i32_188_r0
  let v196_r0 : BitVec 32 := Scalar.select true_189_r0 v195_r0 v188_r0
  let c2_i32_190_r0 : BitVec 32 := 2#32
  let v197_r0 : BitVec 1 := Scalar.cmpi .eq v196_r0 c2_i32_190_r0
  let c1_i32_192_r0 : BitVec 32 := 1#32
  let v199_r0 : BitVec 32 := Scalar.addi v192_r0 c1_i32_192_r0
  let v200_r0 : BitVec 32 := Scalar.select v197_r0 v199_r0 v192_r0
  let c8_i32_193_r0 : BitVec 32 := 8#32
  let v201_r0 : BitVec 1 := Scalar.cmpi .eq v200_r0 c8_i32_193_r0
  let c0_i32_194_r0 : BitVec 32 := 0#32
  let v202_r0 : BitVec 32 := Scalar.select v201_r0 c0_i32_194_r0 v200_r0
  let c0_i32_195_r0 : BitVec 32 := 0#32
  let v203_r0 : BitVec 32 := Scalar.addi v202_r0 c0_i32_195_r0
  let v215_r0 : BitVec 1 := Scalar.cmpi .ne v193_r0 v203_r0
  let c0_i32_187_r0 : BitVec 32 := 0#32
  let v194_r0 : BitVec 32 := Scalar.addi v188_r0 c0_i32_187_r0
  let c0_i32_191_r0 : BitVec 32 := 0#32
  let v198_r0 : BitVec 32 := Scalar.select v197_r0 c0_i32_191_r0 v196_r0
  let c0_i32_196_r0 : BitVec 32 := 0#32
  let v204_r0 : BitVec 32 := Scalar.addi v198_r0 c0_i32_196_r0
  let v216_r0 : BitVec 1 := Scalar.cmpi .ne v194_r0 v204_r0
  let v217_r0 : BitVec 1 := Scalar.ori v215_r0 v216_r0
  let c0_i32_113_r0 : BitVec 32 := 0#32
  let c1_i32_114_r0 : BitVec 32 := 1#32
  let arg11_r0 : BitVec 32 := Scf.iv c0_i32_113_r0 c1_i32_114_r0 k0_t1
  let c14_i32_r0 : BitVec 32 := 14#32
  let v218_r0 : BitVec 1 := Scalar.cmpi .sge arg11_r0 c14_i32_r0
  let true_206_r0 : BitVec 1 := 1#1
  let v219_r0 : BitVec 1 := Scalar.xori v218_r0 true_206_r0
  let v220_r0 : BitVec 1 := Scalar.andi v217_r0 v219_r0
  let true_207_r0 : BitVec 1 := 1#1
  let v221_r0 : BitVec 1 := Scalar.andi v220_r0 true_207_r0
  let v222_r0 : BitVec 32 := Scalar.extui v221_r0
  let c0_i32_208_r0 : BitVec 32 := 0#32
  let v223_r0 : BitVec 1 := Scalar.cmpi .ne v222_r0 c0_i32_208_r0
  v223_r0

def k0_off18 (arg12_r0 : BitVec 32) : Fin 4 → Nat :=
  let c3_i32_535_r0 : BitVec 32 := 3#32
  let v733_r0 : BitVec 32 := Scalar.remui arg12_r0 c3_i32_535_r0
  let c0_i32_538_r0 : BitVec 32 := 0#32
  let c0_i32_539_r0 : BitVec 32 := 0#32
  let c0_i32_540_r0 : BitVec 32 := 0#32
  ![v733_r0.toNat, 0, 0, 0]
def k0_off19 (arg22_r0 : BitVec 32) (arg23_r0 : BitVec 32) : Fin 3 → Nat :=
  let c1_i32_536_r0 : BitVec 32 := 1#32
  let true_189_r0 : BitVec 1 := 1#1
  let true_180_r0 : BitVec 1 := 1#1
  let c1_i32_179_r0 : BitVec 32 := 1#32
  let v185_r0 : BitVec 32 := Scalar.addi arg23_r0 c1_i32_179_r0
  let v186_r0 : BitVec 32 := Scalar.select true_180_r0 v185_r0 arg23_r0
  let c2_i32_181_r0 : BitVec 32 := 2#32
  let v187_r0 : BitVec 1 := Scalar.cmpi .eq v186_r0 c2_i32_181_r0
  let c0_i32_182_r0 : BitVec 32 := 0#32
  let v188_r0 : BitVec 32 := Scalar.select v187_r0 c0_i32_182_r0 v186_r0
  let c1_i32_188_r0 : BitVec 32 := 1#32
  let v195_r0 : BitVec 32 := Scalar.addi v188_r0 c1_i32_188_r0
  let v196_r0 : BitVec 32 := Scalar.select true_189_r0 v195_r0 v188_r0
  let c2_i32_190_r0 : BitVec 32 := 2#32
  let v197_r0 : BitVec 1 := Scalar.cmpi .eq v196_r0 c2_i32_190_r0
  let c1_i32_183_r0 : BitVec 32 := 1#32
  let v189_r0 : BitVec 32 := Scalar.addi arg22_r0 c1_i32_183_r0
  let v190_r0 : BitVec 32 := Scalar.select v187_r0 v189_r0 arg22_r0
  let c8_i32_184_r0 : BitVec 32 := 8#32
  let v191_r0 : BitVec 1 := Scalar.cmpi .eq v190_r0 c8_i32_184_r0
  let c0_i32_185_r0 : BitVec 32 := 0#32
  let v192_r0 : BitVec 32 := Scalar.select v191_r0 c0_i32_185_r0 v190_r0
  let c1_i32_192_r0 : BitVec 32 := 1#32
  let v199_r0 : BitVec 32 := Scalar.addi v192_r0 c1_i32_192_r0
  let v200_r0 : BitVec 32 := Scalar.select v197_r0 v199_r0 v192_r0
  let c8_i32_193_r0 : BitVec 32 := 8#32
  let v201_r0 : BitVec 1 := Scalar.cmpi .eq v200_r0 c8_i32_193_r0
  let c0_i32_194_r0 : BitVec 32 := 0#32
  let v202_r0 : BitVec 32 := Scalar.select v201_r0 c0_i32_194_r0 v200_r0
  let c0_i32_195_r0 : BitVec 32 := 0#32
  let v203_r0 : BitVec 32 := Scalar.addi v202_r0 c0_i32_195_r0
  let v734_r0 : BitVec 32 := Scalar.muli c1_i32_536_r0 v203_r0
  let c1024_i32_537_r0 : BitVec 32 := 1024#32
  let c0_i32_191_r0 : BitVec 32 := 0#32
  let v198_r0 : BitVec 32 := Scalar.select v197_r0 c0_i32_191_r0 v196_r0
  let c0_i32_196_r0 : BitVec 32 := 0#32
  let v204_r0 : BitVec 32 := Scalar.addi v198_r0 c0_i32_196_r0
  let v735_r0 : BitVec 32 := Scalar.muli c1024_i32_537_r0 v204_r0
  let c0_i32_541_r0 : BitVec 32 := 0#32
  ![v734_r0.toNat, v735_r0.toNat, 0]
def k0_off20 (arg14_r0 : BitVec 32) : Fin 1 → Nat :=
  let c3_i32_535_r0 : BitVec 32 := 3#32
  let v733_r0 : BitVec 32 := Scalar.remui arg14_r0 c3_i32_535_r0
  ![v733_r0.toNat]
def k0_cond6 (k0_t1 : Fin k0_t1_loop.trips) (arg22_r0 : BitVec 32) (arg23_r0 : BitVec 32) : BitVec 1 :=
  let true_180_r0 : BitVec 1 := 1#1
  let c1_i32_179_r0 : BitVec 32 := 1#32
  let v185_r0 : BitVec 32 := Scalar.addi arg23_r0 c1_i32_179_r0
  let v186_r0 : BitVec 32 := Scalar.select true_180_r0 v185_r0 arg23_r0
  let c2_i32_181_r0 : BitVec 32 := 2#32
  let v187_r0 : BitVec 1 := Scalar.cmpi .eq v186_r0 c2_i32_181_r0
  let c1_i32_183_r0 : BitVec 32 := 1#32
  let v189_r0 : BitVec 32 := Scalar.addi arg22_r0 c1_i32_183_r0
  let v190_r0 : BitVec 32 := Scalar.select v187_r0 v189_r0 arg22_r0
  let c8_i32_184_r0 : BitVec 32 := 8#32
  let v191_r0 : BitVec 1 := Scalar.cmpi .eq v190_r0 c8_i32_184_r0
  let c0_i32_185_r0 : BitVec 32 := 0#32
  let v192_r0 : BitVec 32 := Scalar.select v191_r0 c0_i32_185_r0 v190_r0
  let c0_i32_186_r0 : BitVec 32 := 0#32
  let v193_r0 : BitVec 32 := Scalar.addi v192_r0 c0_i32_186_r0
  let true_189_r0 : BitVec 1 := 1#1
  let c0_i32_182_r0 : BitVec 32 := 0#32
  let v188_r0 : BitVec 32 := Scalar.select v187_r0 c0_i32_182_r0 v186_r0
  let c1_i32_188_r0 : BitVec 32 := 1#32
  let v195_r0 : BitVec 32 := Scalar.addi v188_r0 c1_i32_188_r0
  let v196_r0 : BitVec 32 := Scalar.select true_189_r0 v195_r0 v188_r0
  let c2_i32_190_r0 : BitVec 32 := 2#32
  let v197_r0 : BitVec 1 := Scalar.cmpi .eq v196_r0 c2_i32_190_r0
  let c1_i32_192_r0 : BitVec 32 := 1#32
  let v199_r0 : BitVec 32 := Scalar.addi v192_r0 c1_i32_192_r0
  let v200_r0 : BitVec 32 := Scalar.select v197_r0 v199_r0 v192_r0
  let c8_i32_193_r0 : BitVec 32 := 8#32
  let v201_r0 : BitVec 1 := Scalar.cmpi .eq v200_r0 c8_i32_193_r0
  let c0_i32_194_r0 : BitVec 32 := 0#32
  let v202_r0 : BitVec 32 := Scalar.select v201_r0 c0_i32_194_r0 v200_r0
  let c0_i32_195_r0 : BitVec 32 := 0#32
  let v203_r0 : BitVec 32 := Scalar.addi v202_r0 c0_i32_195_r0
  let v227_r0 : BitVec 1 := Scalar.cmpi .ne v193_r0 v203_r0
  let c0_i32_187_r0 : BitVec 32 := 0#32
  let v194_r0 : BitVec 32 := Scalar.addi v188_r0 c0_i32_187_r0
  let c0_i32_191_r0 : BitVec 32 := 0#32
  let v198_r0 : BitVec 32 := Scalar.select v197_r0 c0_i32_191_r0 v196_r0
  let c0_i32_196_r0 : BitVec 32 := 0#32
  let v204_r0 : BitVec 32 := Scalar.addi v198_r0 c0_i32_196_r0
  let v228_r0 : BitVec 1 := Scalar.cmpi .ne v194_r0 v204_r0
  let v229_r0 : BitVec 1 := Scalar.ori v227_r0 v228_r0
  let c0_i32_113_r0 : BitVec 32 := 0#32
  let c1_i32_114_r0 : BitVec 32 := 1#32
  let arg11_r0 : BitVec 32 := Scf.iv c0_i32_113_r0 c1_i32_114_r0 k0_t1
  let c14_i32_211_r0 : BitVec 32 := 14#32
  let v230_r0 : BitVec 1 := Scalar.cmpi .sge arg11_r0 c14_i32_211_r0
  let true_212_r0 : BitVec 1 := 1#1
  let v231_r0 : BitVec 1 := Scalar.xori v230_r0 true_212_r0
  let v232_r0 : BitVec 1 := Scalar.andi v229_r0 v231_r0
  let true_213_r0 : BitVec 1 := 1#1
  let v233_r0 : BitVec 1 := Scalar.andi v232_r0 true_213_r0
  let v234_r0 : BitVec 32 := Scalar.extui v233_r0
  let c0_i32_214_r0 : BitVec 32 := 0#32
  let v235_r0 : BitVec 1 := Scalar.cmpi .ne v234_r0 c0_i32_214_r0
  v235_r0

def k0_off21 (arg14_r0 : BitVec 32) : Fin 4 → Nat :=
  let c3_i32_535_r0 : BitVec 32 := 3#32
  let v733_r0 : BitVec 32 := Scalar.remui arg14_r0 c3_i32_535_r0
  let c0_i32_538_r0 : BitVec 32 := 0#32
  let c0_i32_539_r0 : BitVec 32 := 0#32
  let c0_i32_540_r0 : BitVec 32 := 0#32
  ![v733_r0.toNat, 0, 0, 0]
def k0_off22 (arg22_r0 : BitVec 32) (arg23_r0 : BitVec 32) : Fin 3 → Nat :=
  let c1_i32_536_r0 : BitVec 32 := 1#32
  let true_189_r0 : BitVec 1 := 1#1
  let true_180_r0 : BitVec 1 := 1#1
  let c1_i32_179_r0 : BitVec 32 := 1#32
  let v185_r0 : BitVec 32 := Scalar.addi arg23_r0 c1_i32_179_r0
  let v186_r0 : BitVec 32 := Scalar.select true_180_r0 v185_r0 arg23_r0
  let c2_i32_181_r0 : BitVec 32 := 2#32
  let v187_r0 : BitVec 1 := Scalar.cmpi .eq v186_r0 c2_i32_181_r0
  let c0_i32_182_r0 : BitVec 32 := 0#32
  let v188_r0 : BitVec 32 := Scalar.select v187_r0 c0_i32_182_r0 v186_r0
  let c1_i32_188_r0 : BitVec 32 := 1#32
  let v195_r0 : BitVec 32 := Scalar.addi v188_r0 c1_i32_188_r0
  let v196_r0 : BitVec 32 := Scalar.select true_189_r0 v195_r0 v188_r0
  let c2_i32_190_r0 : BitVec 32 := 2#32
  let v197_r0 : BitVec 1 := Scalar.cmpi .eq v196_r0 c2_i32_190_r0
  let c1_i32_183_r0 : BitVec 32 := 1#32
  let v189_r0 : BitVec 32 := Scalar.addi arg22_r0 c1_i32_183_r0
  let v190_r0 : BitVec 32 := Scalar.select v187_r0 v189_r0 arg22_r0
  let c8_i32_184_r0 : BitVec 32 := 8#32
  let v191_r0 : BitVec 1 := Scalar.cmpi .eq v190_r0 c8_i32_184_r0
  let c0_i32_185_r0 : BitVec 32 := 0#32
  let v192_r0 : BitVec 32 := Scalar.select v191_r0 c0_i32_185_r0 v190_r0
  let c1_i32_192_r0 : BitVec 32 := 1#32
  let v199_r0 : BitVec 32 := Scalar.addi v192_r0 c1_i32_192_r0
  let v200_r0 : BitVec 32 := Scalar.select v197_r0 v199_r0 v192_r0
  let c8_i32_193_r0 : BitVec 32 := 8#32
  let v201_r0 : BitVec 1 := Scalar.cmpi .eq v200_r0 c8_i32_193_r0
  let c0_i32_194_r0 : BitVec 32 := 0#32
  let v202_r0 : BitVec 32 := Scalar.select v201_r0 c0_i32_194_r0 v200_r0
  let c0_i32_195_r0 : BitVec 32 := 0#32
  let v203_r0 : BitVec 32 := Scalar.addi v202_r0 c0_i32_195_r0
  let v734_r0 : BitVec 32 := Scalar.muli c1_i32_536_r0 v203_r0
  let c1024_i32_537_r0 : BitVec 32 := 1024#32
  let c0_i32_191_r0 : BitVec 32 := 0#32
  let v198_r0 : BitVec 32 := Scalar.select v197_r0 c0_i32_191_r0 v196_r0
  let c0_i32_196_r0 : BitVec 32 := 0#32
  let v204_r0 : BitVec 32 := Scalar.addi v198_r0 c0_i32_196_r0
  let v735_r0 : BitVec 32 := Scalar.muli c1024_i32_537_r0 v204_r0
  let c0_i32_541_r0 : BitVec 32 := 0#32
  ![v734_r0.toNat, v735_r0.toNat, 0]
def k0_off23 (arg16_r0 : BitVec 32) : Fin 1 → Nat :=
  let c3_i32_535_r0 : BitVec 32 := 3#32
  let v733_r0 : BitVec 32 := Scalar.remui arg16_r0 c3_i32_535_r0
  ![v733_r0.toNat]
def k0_cond7 (k0_t1 : Fin k0_t1_loop.trips) (arg22_r0 : BitVec 32) (arg23_r0 : BitVec 32) : BitVec 1 :=
  let true_180_r0 : BitVec 1 := 1#1
  let c1_i32_179_r0 : BitVec 32 := 1#32
  let v185_r0 : BitVec 32 := Scalar.addi arg23_r0 c1_i32_179_r0
  let v186_r0 : BitVec 32 := Scalar.select true_180_r0 v185_r0 arg23_r0
  let c2_i32_181_r0 : BitVec 32 := 2#32
  let v187_r0 : BitVec 1 := Scalar.cmpi .eq v186_r0 c2_i32_181_r0
  let c1_i32_183_r0 : BitVec 32 := 1#32
  let v189_r0 : BitVec 32 := Scalar.addi arg22_r0 c1_i32_183_r0
  let v190_r0 : BitVec 32 := Scalar.select v187_r0 v189_r0 arg22_r0
  let c8_i32_184_r0 : BitVec 32 := 8#32
  let v191_r0 : BitVec 1 := Scalar.cmpi .eq v190_r0 c8_i32_184_r0
  let c0_i32_185_r0 : BitVec 32 := 0#32
  let v192_r0 : BitVec 32 := Scalar.select v191_r0 c0_i32_185_r0 v190_r0
  let c0_i32_186_r0 : BitVec 32 := 0#32
  let v193_r0 : BitVec 32 := Scalar.addi v192_r0 c0_i32_186_r0
  let true_189_r0 : BitVec 1 := 1#1
  let c0_i32_182_r0 : BitVec 32 := 0#32
  let v188_r0 : BitVec 32 := Scalar.select v187_r0 c0_i32_182_r0 v186_r0
  let c1_i32_188_r0 : BitVec 32 := 1#32
  let v195_r0 : BitVec 32 := Scalar.addi v188_r0 c1_i32_188_r0
  let v196_r0 : BitVec 32 := Scalar.select true_189_r0 v195_r0 v188_r0
  let c2_i32_190_r0 : BitVec 32 := 2#32
  let v197_r0 : BitVec 1 := Scalar.cmpi .eq v196_r0 c2_i32_190_r0
  let c1_i32_192_r0 : BitVec 32 := 1#32
  let v199_r0 : BitVec 32 := Scalar.addi v192_r0 c1_i32_192_r0
  let v200_r0 : BitVec 32 := Scalar.select v197_r0 v199_r0 v192_r0
  let c8_i32_193_r0 : BitVec 32 := 8#32
  let v201_r0 : BitVec 1 := Scalar.cmpi .eq v200_r0 c8_i32_193_r0
  let c0_i32_194_r0 : BitVec 32 := 0#32
  let v202_r0 : BitVec 32 := Scalar.select v201_r0 c0_i32_194_r0 v200_r0
  let c0_i32_195_r0 : BitVec 32 := 0#32
  let v203_r0 : BitVec 32 := Scalar.addi v202_r0 c0_i32_195_r0
  let v239_r0 : BitVec 1 := Scalar.cmpi .ne v193_r0 v203_r0
  let c0_i32_187_r0 : BitVec 32 := 0#32
  let v194_r0 : BitVec 32 := Scalar.addi v188_r0 c0_i32_187_r0
  let c0_i32_191_r0 : BitVec 32 := 0#32
  let v198_r0 : BitVec 32 := Scalar.select v197_r0 c0_i32_191_r0 v196_r0
  let c0_i32_196_r0 : BitVec 32 := 0#32
  let v204_r0 : BitVec 32 := Scalar.addi v198_r0 c0_i32_196_r0
  let v240_r0 : BitVec 1 := Scalar.cmpi .ne v194_r0 v204_r0
  let v241_r0 : BitVec 1 := Scalar.ori v239_r0 v240_r0
  let c0_i32_113_r0 : BitVec 32 := 0#32
  let c1_i32_114_r0 : BitVec 32 := 1#32
  let arg11_r0 : BitVec 32 := Scf.iv c0_i32_113_r0 c1_i32_114_r0 k0_t1
  let c14_i32_217_r0 : BitVec 32 := 14#32
  let v242_r0 : BitVec 1 := Scalar.cmpi .sge arg11_r0 c14_i32_217_r0
  let true_218_r0 : BitVec 1 := 1#1
  let v243_r0 : BitVec 1 := Scalar.xori v242_r0 true_218_r0
  let v244_r0 : BitVec 1 := Scalar.andi v241_r0 v243_r0
  let true_219_r0 : BitVec 1 := 1#1
  let v245_r0 : BitVec 1 := Scalar.andi v244_r0 true_219_r0
  let v246_r0 : BitVec 32 := Scalar.extui v245_r0
  let c0_i32_220_r0 : BitVec 32 := 0#32
  let v247_r0 : BitVec 1 := Scalar.cmpi .ne v246_r0 c0_i32_220_r0
  v247_r0

def k0_off24 (arg16_r0 : BitVec 32) : Fin 5 → Nat :=
  let c3_i32_535_r0 : BitVec 32 := 3#32
  let v733_r0 : BitVec 32 := Scalar.remui arg16_r0 c3_i32_535_r0
  let c0_i32_537_r0 : BitVec 32 := 0#32
  let c0_i32_538_r0 : BitVec 32 := 0#32
  let c0_i32_539_r0 : BitVec 32 := 0#32
  let c0_i32_540_r0 : BitVec 32 := 0#32
  ![v733_r0.toNat, 0, 0, 0, 0]
def k0_off25 (arg22_r0 : BitVec 32) (arg23_r0 : BitVec 32) : Fin 4 → Nat :=
  let c1_i32_536_r0 : BitVec 32 := 1#32
  let true_189_r0 : BitVec 1 := 1#1
  let true_180_r0 : BitVec 1 := 1#1
  let c1_i32_179_r0 : BitVec 32 := 1#32
  let v185_r0 : BitVec 32 := Scalar.addi arg23_r0 c1_i32_179_r0
  let v186_r0 : BitVec 32 := Scalar.select true_180_r0 v185_r0 arg23_r0
  let c2_i32_181_r0 : BitVec 32 := 2#32
  let v187_r0 : BitVec 1 := Scalar.cmpi .eq v186_r0 c2_i32_181_r0
  let c0_i32_182_r0 : BitVec 32 := 0#32
  let v188_r0 : BitVec 32 := Scalar.select v187_r0 c0_i32_182_r0 v186_r0
  let c1_i32_188_r0 : BitVec 32 := 1#32
  let v195_r0 : BitVec 32 := Scalar.addi v188_r0 c1_i32_188_r0
  let v196_r0 : BitVec 32 := Scalar.select true_189_r0 v195_r0 v188_r0
  let c2_i32_190_r0 : BitVec 32 := 2#32
  let v197_r0 : BitVec 1 := Scalar.cmpi .eq v196_r0 c2_i32_190_r0
  let c1_i32_183_r0 : BitVec 32 := 1#32
  let v189_r0 : BitVec 32 := Scalar.addi arg22_r0 c1_i32_183_r0
  let v190_r0 : BitVec 32 := Scalar.select v187_r0 v189_r0 arg22_r0
  let c8_i32_184_r0 : BitVec 32 := 8#32
  let v191_r0 : BitVec 1 := Scalar.cmpi .eq v190_r0 c8_i32_184_r0
  let c0_i32_185_r0 : BitVec 32 := 0#32
  let v192_r0 : BitVec 32 := Scalar.select v191_r0 c0_i32_185_r0 v190_r0
  let c1_i32_192_r0 : BitVec 32 := 1#32
  let v199_r0 : BitVec 32 := Scalar.addi v192_r0 c1_i32_192_r0
  let v200_r0 : BitVec 32 := Scalar.select v197_r0 v199_r0 v192_r0
  let c8_i32_193_r0 : BitVec 32 := 8#32
  let v201_r0 : BitVec 1 := Scalar.cmpi .eq v200_r0 c8_i32_193_r0
  let c0_i32_194_r0 : BitVec 32 := 0#32
  let v202_r0 : BitVec 32 := Scalar.select v201_r0 c0_i32_194_r0 v200_r0
  let c0_i32_195_r0 : BitVec 32 := 0#32
  let v203_r0 : BitVec 32 := Scalar.addi v202_r0 c0_i32_195_r0
  let v734_r0 : BitVec 32 := Scalar.muli c1_i32_536_r0 v203_r0
  let c0_i32_541_r0 : BitVec 32 := 0#32
  let c256_i32_r0 : BitVec 32 := 256#32
  let c0_i32_191_r0 : BitVec 32 := 0#32
  let v198_r0 : BitVec 32 := Scalar.select v197_r0 c0_i32_191_r0 v196_r0
  let c0_i32_196_r0 : BitVec 32 := 0#32
  let v204_r0 : BitVec 32 := Scalar.addi v198_r0 c0_i32_196_r0
  let v735_r0 : BitVec 32 := Scalar.muli c256_i32_r0 v204_r0
  let c0_i32_542_r0 : BitVec 32 := 0#32
  ![v734_r0.toNat, 0, v735_r0.toNat, 0]
def k0_off26 (arg18_r0 : BitVec 32) : Fin 1 → Nat :=
  let c3_i32_535_r0 : BitVec 32 := 3#32
  let v733_r0 : BitVec 32 := Scalar.remui arg18_r0 c3_i32_535_r0
  ![v733_r0.toNat]
def k0_cond8 (k0_t1 : Fin k0_t1_loop.trips) (arg22_r0 : BitVec 32) (arg23_r0 : BitVec 32) : BitVec 1 :=
  let true_180_r0 : BitVec 1 := 1#1
  let c1_i32_179_r0 : BitVec 32 := 1#32
  let v185_r0 : BitVec 32 := Scalar.addi arg23_r0 c1_i32_179_r0
  let v186_r0 : BitVec 32 := Scalar.select true_180_r0 v185_r0 arg23_r0
  let c2_i32_181_r0 : BitVec 32 := 2#32
  let v187_r0 : BitVec 1 := Scalar.cmpi .eq v186_r0 c2_i32_181_r0
  let c1_i32_183_r0 : BitVec 32 := 1#32
  let v189_r0 : BitVec 32 := Scalar.addi arg22_r0 c1_i32_183_r0
  let v190_r0 : BitVec 32 := Scalar.select v187_r0 v189_r0 arg22_r0
  let c8_i32_184_r0 : BitVec 32 := 8#32
  let v191_r0 : BitVec 1 := Scalar.cmpi .eq v190_r0 c8_i32_184_r0
  let c0_i32_185_r0 : BitVec 32 := 0#32
  let v192_r0 : BitVec 32 := Scalar.select v191_r0 c0_i32_185_r0 v190_r0
  let c0_i32_186_r0 : BitVec 32 := 0#32
  let v193_r0 : BitVec 32 := Scalar.addi v192_r0 c0_i32_186_r0
  let true_189_r0 : BitVec 1 := 1#1
  let c0_i32_182_r0 : BitVec 32 := 0#32
  let v188_r0 : BitVec 32 := Scalar.select v187_r0 c0_i32_182_r0 v186_r0
  let c1_i32_188_r0 : BitVec 32 := 1#32
  let v195_r0 : BitVec 32 := Scalar.addi v188_r0 c1_i32_188_r0
  let v196_r0 : BitVec 32 := Scalar.select true_189_r0 v195_r0 v188_r0
  let c2_i32_190_r0 : BitVec 32 := 2#32
  let v197_r0 : BitVec 1 := Scalar.cmpi .eq v196_r0 c2_i32_190_r0
  let c1_i32_192_r0 : BitVec 32 := 1#32
  let v199_r0 : BitVec 32 := Scalar.addi v192_r0 c1_i32_192_r0
  let v200_r0 : BitVec 32 := Scalar.select v197_r0 v199_r0 v192_r0
  let c8_i32_193_r0 : BitVec 32 := 8#32
  let v201_r0 : BitVec 1 := Scalar.cmpi .eq v200_r0 c8_i32_193_r0
  let c0_i32_194_r0 : BitVec 32 := 0#32
  let v202_r0 : BitVec 32 := Scalar.select v201_r0 c0_i32_194_r0 v200_r0
  let c0_i32_195_r0 : BitVec 32 := 0#32
  let v203_r0 : BitVec 32 := Scalar.addi v202_r0 c0_i32_195_r0
  let v251_r0 : BitVec 1 := Scalar.cmpi .ne v193_r0 v203_r0
  let c0_i32_187_r0 : BitVec 32 := 0#32
  let v194_r0 : BitVec 32 := Scalar.addi v188_r0 c0_i32_187_r0
  let c0_i32_191_r0 : BitVec 32 := 0#32
  let v198_r0 : BitVec 32 := Scalar.select v197_r0 c0_i32_191_r0 v196_r0
  let c0_i32_196_r0 : BitVec 32 := 0#32
  let v204_r0 : BitVec 32 := Scalar.addi v198_r0 c0_i32_196_r0
  let v252_r0 : BitVec 1 := Scalar.cmpi .ne v194_r0 v204_r0
  let v253_r0 : BitVec 1 := Scalar.ori v251_r0 v252_r0
  let c0_i32_113_r0 : BitVec 32 := 0#32
  let c1_i32_114_r0 : BitVec 32 := 1#32
  let arg11_r0 : BitVec 32 := Scf.iv c0_i32_113_r0 c1_i32_114_r0 k0_t1
  let c14_i32_223_r0 : BitVec 32 := 14#32
  let v254_r0 : BitVec 1 := Scalar.cmpi .sge arg11_r0 c14_i32_223_r0
  let true_224_r0 : BitVec 1 := 1#1
  let v255_r0 : BitVec 1 := Scalar.xori v254_r0 true_224_r0
  let v256_r0 : BitVec 1 := Scalar.andi v253_r0 v255_r0
  let true_225_r0 : BitVec 1 := 1#1
  let v257_r0 : BitVec 1 := Scalar.andi v256_r0 true_225_r0
  let v258_r0 : BitVec 32 := Scalar.extui v257_r0
  let c0_i32_226_r0 : BitVec 32 := 0#32
  let v259_r0 : BitVec 1 := Scalar.cmpi .ne v258_r0 c0_i32_226_r0
  v259_r0

def k0_off27 (arg18_r0 : BitVec 32) : Fin 4 → Nat :=
  let c3_i32_535_r0 : BitVec 32 := 3#32
  let v733_r0 : BitVec 32 := Scalar.remui arg18_r0 c3_i32_535_r0
  let c0_i32_538_r0 : BitVec 32 := 0#32
  let c0_i32_539_r0 : BitVec 32 := 0#32
  let c0_i32_540_r0 : BitVec 32 := 0#32
  ![v733_r0.toNat, 0, 0, 0]
def k0_off28 (arg22_r0 : BitVec 32) (arg23_r0 : BitVec 32) : Fin 3 → Nat :=
  let c1_i32_536_r0 : BitVec 32 := 1#32
  let true_189_r0 : BitVec 1 := 1#1
  let true_180_r0 : BitVec 1 := 1#1
  let c1_i32_179_r0 : BitVec 32 := 1#32
  let v185_r0 : BitVec 32 := Scalar.addi arg23_r0 c1_i32_179_r0
  let v186_r0 : BitVec 32 := Scalar.select true_180_r0 v185_r0 arg23_r0
  let c2_i32_181_r0 : BitVec 32 := 2#32
  let v187_r0 : BitVec 1 := Scalar.cmpi .eq v186_r0 c2_i32_181_r0
  let c0_i32_182_r0 : BitVec 32 := 0#32
  let v188_r0 : BitVec 32 := Scalar.select v187_r0 c0_i32_182_r0 v186_r0
  let c1_i32_188_r0 : BitVec 32 := 1#32
  let v195_r0 : BitVec 32 := Scalar.addi v188_r0 c1_i32_188_r0
  let v196_r0 : BitVec 32 := Scalar.select true_189_r0 v195_r0 v188_r0
  let c2_i32_190_r0 : BitVec 32 := 2#32
  let v197_r0 : BitVec 1 := Scalar.cmpi .eq v196_r0 c2_i32_190_r0
  let c1_i32_183_r0 : BitVec 32 := 1#32
  let v189_r0 : BitVec 32 := Scalar.addi arg22_r0 c1_i32_183_r0
  let v190_r0 : BitVec 32 := Scalar.select v187_r0 v189_r0 arg22_r0
  let c8_i32_184_r0 : BitVec 32 := 8#32
  let v191_r0 : BitVec 1 := Scalar.cmpi .eq v190_r0 c8_i32_184_r0
  let c0_i32_185_r0 : BitVec 32 := 0#32
  let v192_r0 : BitVec 32 := Scalar.select v191_r0 c0_i32_185_r0 v190_r0
  let c1_i32_192_r0 : BitVec 32 := 1#32
  let v199_r0 : BitVec 32 := Scalar.addi v192_r0 c1_i32_192_r0
  let v200_r0 : BitVec 32 := Scalar.select v197_r0 v199_r0 v192_r0
  let c8_i32_193_r0 : BitVec 32 := 8#32
  let v201_r0 : BitVec 1 := Scalar.cmpi .eq v200_r0 c8_i32_193_r0
  let c0_i32_194_r0 : BitVec 32 := 0#32
  let v202_r0 : BitVec 32 := Scalar.select v201_r0 c0_i32_194_r0 v200_r0
  let c0_i32_195_r0 : BitVec 32 := 0#32
  let v203_r0 : BitVec 32 := Scalar.addi v202_r0 c0_i32_195_r0
  let v734_r0 : BitVec 32 := Scalar.muli c1_i32_536_r0 v203_r0
  let c1024_i32_537_r0 : BitVec 32 := 1024#32
  let c0_i32_191_r0 : BitVec 32 := 0#32
  let v198_r0 : BitVec 32 := Scalar.select v197_r0 c0_i32_191_r0 v196_r0
  let c0_i32_196_r0 : BitVec 32 := 0#32
  let v204_r0 : BitVec 32 := Scalar.addi v198_r0 c0_i32_196_r0
  let v735_r0 : BitVec 32 := Scalar.muli c1024_i32_537_r0 v204_r0
  let c0_i32_541_r0 : BitVec 32 := 0#32
  ![v734_r0.toNat, v735_r0.toNat, 0]
def k0_off29 (arg13_r0 : BitVec 32) : Fin 1 → Nat :=
  let c3_i32_537_r0 : BitVec 32 := 3#32
  let v735_r0 : BitVec 32 := Scalar.remui arg13_r0 c3_i32_537_r0
  ![v735_r0.toNat]
def k0_cond9 (k0_t1 : Fin k0_t1_loop.trips) (arg22_r0 : BitVec 32) (arg23_r0 : BitVec 32) : BitVec 1 :=
  let c0_i32_168_r0 : BitVec 32 := 0#32
  let v173_r0 : BitVec 32 := Scalar.addi arg22_r0 c0_i32_168_r0
  let true_171_r0 : BitVec 1 := 1#1
  let c1_i32_170_r0 : BitVec 32 := 1#32
  let v175_r0 : BitVec 32 := Scalar.subi arg23_r0 c1_i32_170_r0
  let v176_r0 : BitVec 32 := Scalar.select true_171_r0 v175_r0 arg23_r0
  let c_m1_i32_172_r0 : BitVec 32 := 4294967295#32
  let v177_r0 : BitVec 1 := Scalar.cmpi .eq v176_r0 c_m1_i32_172_r0
  let c1_i32_174_r0 : BitVec 32 := 1#32
  let v179_r0 : BitVec 32 := Scalar.subi arg22_r0 c1_i32_174_r0
  let v180_r0 : BitVec 32 := Scalar.select v177_r0 v179_r0 arg22_r0
  let c_m1_i32_175_r0 : BitVec 32 := 4294967295#32
  let v181_r0 : BitVec 1 := Scalar.cmpi .eq v180_r0 c_m1_i32_175_r0
  let c7_i32_176_r0 : BitVec 32 := 7#32
  let v182_r0 : BitVec 32 := Scalar.select v181_r0 c7_i32_176_r0 v180_r0
  let c0_i32_177_r0 : BitVec 32 := 0#32
  let v183_r0 : BitVec 32 := Scalar.addi v182_r0 c0_i32_177_r0
  let v269_r0 : BitVec 1 := Scalar.cmpi .ne v173_r0 v183_r0
  let c0_i32_169_r0 : BitVec 32 := 0#32
  let v174_r0 : BitVec 32 := Scalar.addi arg23_r0 c0_i32_169_r0
  let c1_i32_173_r0 : BitVec 32 := 1#32
  let v178_r0 : BitVec 32 := Scalar.select v177_r0 c1_i32_173_r0 v176_r0
  let c0_i32_178_r0 : BitVec 32 := 0#32
  let v184_r0 : BitVec 32 := Scalar.addi v178_r0 c0_i32_178_r0
  let v270_r0 : BitVec 1 := Scalar.cmpi .ne v174_r0 v184_r0
  let v271_r0 : BitVec 1 := Scalar.ori v269_r0 v270_r0
  let c0_i32_113_r0 : BitVec 32 := 0#32
  let c1_i32_114_r0 : BitVec 32 := 1#32
  let arg11_r0 : BitVec 32 := Scf.iv c0_i32_113_r0 c1_i32_114_r0 k0_t1
  let c0_i32_167_r0 : BitVec 32 := 0#32
  let v171_r0 : BitVec 1 := Scalar.cmpi .eq arg11_r0 c0_i32_167_r0
  let v272_r0 : BitVec 1 := Scalar.ori v271_r0 v171_r0
  let c0_i32_231_r0 : BitVec 32 := 0#32
  let v273_r0 : BitVec 1 := Scalar.cmpi .sge arg11_r0 c0_i32_231_r0
  let v274_r0 : BitVec 1 := Scalar.andi v272_r0 v273_r0
  let v275_r0 : BitVec 32 := Scalar.extui v274_r0
  let c0_i32_232_r0 : BitVec 32 := 0#32
  let v276_r0 : BitVec 1 := Scalar.cmpi .ne v275_r0 c0_i32_232_r0
  v276_r0

def k0_off30 (arg13_r0 : BitVec 32) : Fin 4 → Nat :=
  let c3_i32_537_r0 : BitVec 32 := 3#32
  let v735_r0 : BitVec 32 := Scalar.remui arg13_r0 c3_i32_537_r0
  let c0_i32_538_r0 : BitVec 32 := 0#32
  let c0_i32_539_r0 : BitVec 32 := 0#32
  let c0_i32_540_r0 : BitVec 32 := 0#32
  ![v735_r0.toNat, 0, 0, 0]
def k0_off31 (arg22_r0 : BitVec 32) (arg23_r0 : BitVec 32) : Fin 3 → Nat :=
  let c1_i32_535_r0 : BitVec 32 := 1#32
  let c0_i32_168_r0 : BitVec 32 := 0#32
  let v173_r0 : BitVec 32 := Scalar.addi arg22_r0 c0_i32_168_r0
  let v733_r0 : BitVec 32 := Scalar.muli c1_i32_535_r0 v173_r0
  let c1024_i32_536_r0 : BitVec 32 := 1024#32
  let c0_i32_169_r0 : BitVec 32 := 0#32
  let v174_r0 : BitVec 32 := Scalar.addi arg23_r0 c0_i32_169_r0
  let v734_r0 : BitVec 32 := Scalar.muli c1024_i32_536_r0 v174_r0
  let c0_i32_541_r0 : BitVec 32 := 0#32
  ![v733_r0.toNat, v734_r0.toNat, 0]
def k0_off32 (arg15_r0 : BitVec 32) : Fin 1 → Nat :=
  let c3_i32_537_r0 : BitVec 32 := 3#32
  let v735_r0 : BitVec 32 := Scalar.remui arg15_r0 c3_i32_537_r0
  ![v735_r0.toNat]
def k0_cond10 (k0_t1 : Fin k0_t1_loop.trips) (arg22_r0 : BitVec 32) (arg23_r0 : BitVec 32) : BitVec 1 :=
  let c0_i32_168_r0 : BitVec 32 := 0#32
  let v173_r0 : BitVec 32 := Scalar.addi arg22_r0 c0_i32_168_r0
  let true_171_r0 : BitVec 1 := 1#1
  let c1_i32_170_r0 : BitVec 32 := 1#32
  let v175_r0 : BitVec 32 := Scalar.subi arg23_r0 c1_i32_170_r0
  let v176_r0 : BitVec 32 := Scalar.select true_171_r0 v175_r0 arg23_r0
  let c_m1_i32_172_r0 : BitVec 32 := 4294967295#32
  let v177_r0 : BitVec 1 := Scalar.cmpi .eq v176_r0 c_m1_i32_172_r0
  let c1_i32_174_r0 : BitVec 32 := 1#32
  let v179_r0 : BitVec 32 := Scalar.subi arg22_r0 c1_i32_174_r0
  let v180_r0 : BitVec 32 := Scalar.select v177_r0 v179_r0 arg22_r0
  let c_m1_i32_175_r0 : BitVec 32 := 4294967295#32
  let v181_r0 : BitVec 1 := Scalar.cmpi .eq v180_r0 c_m1_i32_175_r0
  let c7_i32_176_r0 : BitVec 32 := 7#32
  let v182_r0 : BitVec 32 := Scalar.select v181_r0 c7_i32_176_r0 v180_r0
  let c0_i32_177_r0 : BitVec 32 := 0#32
  let v183_r0 : BitVec 32 := Scalar.addi v182_r0 c0_i32_177_r0
  let v277_r0 : BitVec 1 := Scalar.cmpi .ne v173_r0 v183_r0
  let c0_i32_169_r0 : BitVec 32 := 0#32
  let v174_r0 : BitVec 32 := Scalar.addi arg23_r0 c0_i32_169_r0
  let c1_i32_173_r0 : BitVec 32 := 1#32
  let v178_r0 : BitVec 32 := Scalar.select v177_r0 c1_i32_173_r0 v176_r0
  let c0_i32_178_r0 : BitVec 32 := 0#32
  let v184_r0 : BitVec 32 := Scalar.addi v178_r0 c0_i32_178_r0
  let v278_r0 : BitVec 1 := Scalar.cmpi .ne v174_r0 v184_r0
  let v279_r0 : BitVec 1 := Scalar.ori v277_r0 v278_r0
  let c0_i32_113_r0 : BitVec 32 := 0#32
  let c1_i32_114_r0 : BitVec 32 := 1#32
  let arg11_r0 : BitVec 32 := Scf.iv c0_i32_113_r0 c1_i32_114_r0 k0_t1
  let c0_i32_167_r0 : BitVec 32 := 0#32
  let v171_r0 : BitVec 1 := Scalar.cmpi .eq arg11_r0 c0_i32_167_r0
  let v280_r0 : BitVec 1 := Scalar.ori v279_r0 v171_r0
  let c0_i32_233_r0 : BitVec 32 := 0#32
  let v281_r0 : BitVec 1 := Scalar.cmpi .sge arg11_r0 c0_i32_233_r0
  let v282_r0 : BitVec 1 := Scalar.andi v280_r0 v281_r0
  let v283_r0 : BitVec 32 := Scalar.extui v282_r0
  let c0_i32_234_r0 : BitVec 32 := 0#32
  let v284_r0 : BitVec 1 := Scalar.cmpi .ne v283_r0 c0_i32_234_r0
  v284_r0

def k0_off33 (arg15_r0 : BitVec 32) : Fin 4 → Nat :=
  let c3_i32_537_r0 : BitVec 32 := 3#32
  let v735_r0 : BitVec 32 := Scalar.remui arg15_r0 c3_i32_537_r0
  let c0_i32_538_r0 : BitVec 32 := 0#32
  let c0_i32_539_r0 : BitVec 32 := 0#32
  let c0_i32_540_r0 : BitVec 32 := 0#32
  ![v735_r0.toNat, 0, 0, 0]
def k0_off34 (arg22_r0 : BitVec 32) (arg23_r0 : BitVec 32) : Fin 3 → Nat :=
  let c1_i32_535_r0 : BitVec 32 := 1#32
  let c0_i32_168_r0 : BitVec 32 := 0#32
  let v173_r0 : BitVec 32 := Scalar.addi arg22_r0 c0_i32_168_r0
  let v733_r0 : BitVec 32 := Scalar.muli c1_i32_535_r0 v173_r0
  let c1024_i32_536_r0 : BitVec 32 := 1024#32
  let c0_i32_169_r0 : BitVec 32 := 0#32
  let v174_r0 : BitVec 32 := Scalar.addi arg23_r0 c0_i32_169_r0
  let v734_r0 : BitVec 32 := Scalar.muli c1024_i32_536_r0 v174_r0
  let c0_i32_541_r0 : BitVec 32 := 0#32
  ![v733_r0.toNat, v734_r0.toNat, 0]
def k0_off35 (arg17_r0 : BitVec 32) : Fin 1 → Nat :=
  let c3_i32_536_r0 : BitVec 32 := 3#32
  let v735_r0 : BitVec 32 := Scalar.remui arg17_r0 c3_i32_536_r0
  ![v735_r0.toNat]
def k0_cond11 (k0_t1 : Fin k0_t1_loop.trips) (arg22_r0 : BitVec 32) (arg23_r0 : BitVec 32) : BitVec 1 :=
  let c0_i32_168_r0 : BitVec 32 := 0#32
  let v173_r0 : BitVec 32 := Scalar.addi arg22_r0 c0_i32_168_r0
  let true_171_r0 : BitVec 1 := 1#1
  let c1_i32_170_r0 : BitVec 32 := 1#32
  let v175_r0 : BitVec 32 := Scalar.subi arg23_r0 c1_i32_170_r0
  let v176_r0 : BitVec 32 := Scalar.select true_171_r0 v175_r0 arg23_r0
  let c_m1_i32_172_r0 : BitVec 32 := 4294967295#32
  let v177_r0 : BitVec 1 := Scalar.cmpi .eq v176_r0 c_m1_i32_172_r0
  let c1_i32_174_r0 : BitVec 32 := 1#32
  let v179_r0 : BitVec 32 := Scalar.subi arg22_r0 c1_i32_174_r0
  let v180_r0 : BitVec 32 := Scalar.select v177_r0 v179_r0 arg22_r0
  let c_m1_i32_175_r0 : BitVec 32 := 4294967295#32
  let v181_r0 : BitVec 1 := Scalar.cmpi .eq v180_r0 c_m1_i32_175_r0
  let c7_i32_176_r0 : BitVec 32 := 7#32
  let v182_r0 : BitVec 32 := Scalar.select v181_r0 c7_i32_176_r0 v180_r0
  let c0_i32_177_r0 : BitVec 32 := 0#32
  let v183_r0 : BitVec 32 := Scalar.addi v182_r0 c0_i32_177_r0
  let v285_r0 : BitVec 1 := Scalar.cmpi .ne v173_r0 v183_r0
  let c0_i32_169_r0 : BitVec 32 := 0#32
  let v174_r0 : BitVec 32 := Scalar.addi arg23_r0 c0_i32_169_r0
  let c1_i32_173_r0 : BitVec 32 := 1#32
  let v178_r0 : BitVec 32 := Scalar.select v177_r0 c1_i32_173_r0 v176_r0
  let c0_i32_178_r0 : BitVec 32 := 0#32
  let v184_r0 : BitVec 32 := Scalar.addi v178_r0 c0_i32_178_r0
  let v286_r0 : BitVec 1 := Scalar.cmpi .ne v174_r0 v184_r0
  let v287_r0 : BitVec 1 := Scalar.ori v285_r0 v286_r0
  let c0_i32_113_r0 : BitVec 32 := 0#32
  let c1_i32_114_r0 : BitVec 32 := 1#32
  let arg11_r0 : BitVec 32 := Scf.iv c0_i32_113_r0 c1_i32_114_r0 k0_t1
  let c0_i32_167_r0 : BitVec 32 := 0#32
  let v171_r0 : BitVec 1 := Scalar.cmpi .eq arg11_r0 c0_i32_167_r0
  let v288_r0 : BitVec 1 := Scalar.ori v287_r0 v171_r0
  let c0_i32_235_r0 : BitVec 32 := 0#32
  let v289_r0 : BitVec 1 := Scalar.cmpi .sge arg11_r0 c0_i32_235_r0
  let v290_r0 : BitVec 1 := Scalar.andi v288_r0 v289_r0
  let v291_r0 : BitVec 32 := Scalar.extui v290_r0
  let c0_i32_236_r0 : BitVec 32 := 0#32
  let v292_r0 : BitVec 1 := Scalar.cmpi .ne v291_r0 c0_i32_236_r0
  v292_r0

def k0_off36 (arg17_r0 : BitVec 32) : Fin 5 → Nat :=
  let c3_i32_536_r0 : BitVec 32 := 3#32
  let v735_r0 : BitVec 32 := Scalar.remui arg17_r0 c3_i32_536_r0
  let c0_i32_537_r0 : BitVec 32 := 0#32
  let c0_i32_538_r0 : BitVec 32 := 0#32
  let c0_i32_539_r0 : BitVec 32 := 0#32
  let c0_i32_540_r0 : BitVec 32 := 0#32
  ![v735_r0.toNat, 0, 0, 0, 0]
def k0_off37 (arg22_r0 : BitVec 32) (arg23_r0 : BitVec 32) : Fin 4 → Nat :=
  let c1_i32_535_r0 : BitVec 32 := 1#32
  let c0_i32_168_r0 : BitVec 32 := 0#32
  let v173_r0 : BitVec 32 := Scalar.addi arg22_r0 c0_i32_168_r0
  let v733_r0 : BitVec 32 := Scalar.muli c1_i32_535_r0 v173_r0
  let c0_i32_541_r0 : BitVec 32 := 0#32
  let c256_i32_r0 : BitVec 32 := 256#32
  let c0_i32_169_r0 : BitVec 32 := 0#32
  let v174_r0 : BitVec 32 := Scalar.addi arg23_r0 c0_i32_169_r0
  let v734_r0 : BitVec 32 := Scalar.muli c256_i32_r0 v174_r0
  let c0_i32_542_r0 : BitVec 32 := 0#32
  ![v733_r0.toNat, 0, v734_r0.toNat, 0]
def k0_off38 (arg19_r0 : BitVec 32) : Fin 1 → Nat :=
  let c3_i32_537_r0 : BitVec 32 := 3#32
  let v735_r0 : BitVec 32 := Scalar.remui arg19_r0 c3_i32_537_r0
  ![v735_r0.toNat]
def k0_cond12 (k0_t1 : Fin k0_t1_loop.trips) (arg22_r0 : BitVec 32) (arg23_r0 : BitVec 32) : BitVec 1 :=
  let c0_i32_168_r0 : BitVec 32 := 0#32
  let v173_r0 : BitVec 32 := Scalar.addi arg22_r0 c0_i32_168_r0
  let true_171_r0 : BitVec 1 := 1#1
  let c1_i32_170_r0 : BitVec 32 := 1#32
  let v175_r0 : BitVec 32 := Scalar.subi arg23_r0 c1_i32_170_r0
  let v176_r0 : BitVec 32 := Scalar.select true_171_r0 v175_r0 arg23_r0
  let c_m1_i32_172_r0 : BitVec 32 := 4294967295#32
  let v177_r0 : BitVec 1 := Scalar.cmpi .eq v176_r0 c_m1_i32_172_r0
  let c1_i32_174_r0 : BitVec 32 := 1#32
  let v179_r0 : BitVec 32 := Scalar.subi arg22_r0 c1_i32_174_r0
  let v180_r0 : BitVec 32 := Scalar.select v177_r0 v179_r0 arg22_r0
  let c_m1_i32_175_r0 : BitVec 32 := 4294967295#32
  let v181_r0 : BitVec 1 := Scalar.cmpi .eq v180_r0 c_m1_i32_175_r0
  let c7_i32_176_r0 : BitVec 32 := 7#32
  let v182_r0 : BitVec 32 := Scalar.select v181_r0 c7_i32_176_r0 v180_r0
  let c0_i32_177_r0 : BitVec 32 := 0#32
  let v183_r0 : BitVec 32 := Scalar.addi v182_r0 c0_i32_177_r0
  let v293_r0 : BitVec 1 := Scalar.cmpi .ne v173_r0 v183_r0
  let c0_i32_169_r0 : BitVec 32 := 0#32
  let v174_r0 : BitVec 32 := Scalar.addi arg23_r0 c0_i32_169_r0
  let c1_i32_173_r0 : BitVec 32 := 1#32
  let v178_r0 : BitVec 32 := Scalar.select v177_r0 c1_i32_173_r0 v176_r0
  let c0_i32_178_r0 : BitVec 32 := 0#32
  let v184_r0 : BitVec 32 := Scalar.addi v178_r0 c0_i32_178_r0
  let v294_r0 : BitVec 1 := Scalar.cmpi .ne v174_r0 v184_r0
  let v295_r0 : BitVec 1 := Scalar.ori v293_r0 v294_r0
  let c0_i32_113_r0 : BitVec 32 := 0#32
  let c1_i32_114_r0 : BitVec 32 := 1#32
  let arg11_r0 : BitVec 32 := Scf.iv c0_i32_113_r0 c1_i32_114_r0 k0_t1
  let c0_i32_167_r0 : BitVec 32 := 0#32
  let v171_r0 : BitVec 1 := Scalar.cmpi .eq arg11_r0 c0_i32_167_r0
  let v296_r0 : BitVec 1 := Scalar.ori v295_r0 v171_r0
  let c0_i32_237_r0 : BitVec 32 := 0#32
  let v297_r0 : BitVec 1 := Scalar.cmpi .sge arg11_r0 c0_i32_237_r0
  let v298_r0 : BitVec 1 := Scalar.andi v296_r0 v297_r0
  let v299_r0 : BitVec 32 := Scalar.extui v298_r0
  let c0_i32_238_r0 : BitVec 32 := 0#32
  let v300_r0 : BitVec 1 := Scalar.cmpi .ne v299_r0 c0_i32_238_r0
  v300_r0

def k0_off39 (arg19_r0 : BitVec 32) : Fin 4 → Nat :=
  let c3_i32_537_r0 : BitVec 32 := 3#32
  let v735_r0 : BitVec 32 := Scalar.remui arg19_r0 c3_i32_537_r0
  let c0_i32_538_r0 : BitVec 32 := 0#32
  let c0_i32_539_r0 : BitVec 32 := 0#32
  let c0_i32_540_r0 : BitVec 32 := 0#32
  ![v735_r0.toNat, 0, 0, 0]
def k0_off40 (arg22_r0 : BitVec 32) (arg23_r0 : BitVec 32) : Fin 3 → Nat :=
  let c1_i32_535_r0 : BitVec 32 := 1#32
  let c0_i32_168_r0 : BitVec 32 := 0#32
  let v173_r0 : BitVec 32 := Scalar.addi arg22_r0 c0_i32_168_r0
  let v733_r0 : BitVec 32 := Scalar.muli c1_i32_535_r0 v173_r0
  let c1024_i32_536_r0 : BitVec 32 := 1024#32
  let c0_i32_169_r0 : BitVec 32 := 0#32
  let v174_r0 : BitVec 32 := Scalar.addi arg23_r0 c0_i32_169_r0
  let v734_r0 : BitVec 32 := Scalar.muli c1024_i32_536_r0 v174_r0
  let c0_i32_541_r0 : BitVec 32 := 0#32
  ![v733_r0.toNat, v734_r0.toNat, 0]
def k0_off41 (arg17_r0 : BitVec 32) : Fin 5 → Nat :=
  let c3_i32_243_r0 : BitVec 32 := 3#32
  let v311_r0 : BitVec 32 := Scalar.remui arg17_r0 c3_i32_243_r0
  let c0_i32_246_r0 : BitVec 32 := 0#32
  let c0_i32_247_r0 : BitVec 32 := 0#32
  let c0_i32_248_r0 : BitVec 32 := 0#32
  let c0_i32_249_r0 : BitVec 32 := 0#32
  ![v311_r0.toNat, 0, 0, 0, 0]

def k0_chk2 (arg17_r0 : BitVec 32) : Prop :=
  (∀ a, (k0_off41 arg17_r0) a + S1x1x4x256x512.size a ≤ S3x1x4x256x512.size a)
theorem k0_off41_inb : ∀ (arg17_r0 : BitVec 32) (k0_hw2 : k0_chk2 arg17_r0), ∀ a, (k0_off41 arg17_r0) a + S1x1x4x256x512.size a ≤ S3x1x4x256x512.size a := fun arg17_r0 k0_hw2 => k0_hw2

def k0_off42 (arg15_r0 : BitVec 32) : Fin 4 → Nat :=
  let c3_i32_242_r0 : BitVec 32 := 3#32
  let v310_r0 : BitVec 32 := Scalar.remui arg15_r0 c3_i32_242_r0
  let c0_i32_335_r0 : BitVec 32 := 0#32
  let c0_i32_336_r0 : BitVec 32 := 0#32
  let c0_i32_337_r0 : BitVec 32 := 0#32
  ![v310_r0.toNat, 0, 0, 0]

def k0_chk3 (arg15_r0 : BitVec 32) : Prop :=
  (∀ a, (k0_off42 arg15_r0) a + S1x1x1024x512.size a ≤ S3x1x1024x512.size a)
theorem k0_off42_inb : ∀ (arg15_r0 : BitVec 32) (k0_hw3 : k0_chk3 arg15_r0), ∀ a, (k0_off42 arg15_r0) a + S1x1x1024x512.size a ≤ S3x1x1024x512.size a := fun arg15_r0 k0_hw3 => k0_hw3

def k0_off43 (arg19_r0 : BitVec 32) : Fin 4 → Nat :=
  let c3_i32_244_r0 : BitVec 32 := 3#32
  let v312_r0 : BitVec 32 := Scalar.remui arg19_r0 c3_i32_244_r0
  let c0_i32_341_r0 : BitVec 32 := 0#32
  let c0_i32_342_r0 : BitVec 32 := 0#32
  let c0_i32_343_r0 : BitVec 32 := 0#32
  ![v312_r0.toNat, 0, 0, 0]

def k0_chk4 (arg19_r0 : BitVec 32) : Prop :=
  (∀ a, (k0_off43 arg19_r0) a + S1x1x1024x512.size a ≤ S3x1x1024x512.size a)
theorem k0_off43_inb : ∀ (arg19_r0 : BitVec 32) (k0_hw4 : k0_chk4 arg19_r0), ∀ a, (k0_off43 arg19_r0) a + S1x1x1024x512.size a ≤ S3x1x1024x512.size a := fun arg19_r0 k0_hw4 => k0_hw4

def k0_off44 (arg22_r0 : BitVec 32) : Fin 2 → Nat :=
  let c0_i32_168_r0 : BitVec 32 := 0#32
  let v173_r0 : BitVec 32 := Scalar.addi arg22_r0 c0_i32_168_r0
  let v566_r0 : Index := Scalar.indexCast v173_r0
  let c2048_r0 : Index := 2048#32
  ![v566_r0.toNat, 2048]

def k0_off45 (arg13_r0 : BitVec 32) : Fin 4 → Nat :=
  let c3_i32_241_r0 : BitVec 32 := 3#32
  let v309_r0 : BitVec 32 := Scalar.remui arg13_r0 c3_i32_241_r0
  let c0_i32_463_r0 : BitVec 32 := 0#32
  let c0_i32_464_r0 : BitVec 32 := 0#32
  let c0_i32_465_r0 : BitVec 32 := 0#32
  ![v309_r0.toNat, 0, 0, 0]

def k0_off46 (arg20_r0 : BitVec 32) : Fin 4 → Nat :=
  let c2_i32_245_r0 : BitVec 32 := 2#32
  let v313_r0 : BitVec 32 := Scalar.remui arg20_r0 c2_i32_245_r0
  let c0_i32_474_r0 : BitVec 32 := 0#32
  let c0_i32_475_r0 : BitVec 32 := 0#32
  let c0_i32_476_r0 : BitVec 32 := 0#32
  ![v313_r0.toNat, 0, 0, 0]

def k0_chk7 (arg20_r0 : BitVec 32) : Prop :=
  (∀ a, (k0_off46 arg20_r0) a + S1x1x1024x1024.size a ≤ S2x1x1024x1024.size a)
theorem k0_off46_inb : ∀ (arg20_r0 : BitVec 32) (k0_hw7 : k0_chk7 arg20_r0), ∀ a, (k0_off46 arg20_r0) a + S1x1x1024x1024.size a ≤ S2x1x1024x1024.size a := fun arg20_r0 k0_hw7 => k0_hw7

def k0_off47 (arg22_r0 : BitVec 32) : Fin 2 → Nat :=
  let c0_i32_168_r0 : BitVec 32 := 0#32
  let v173_r0 : BitVec 32 := Scalar.addi arg22_r0 c0_i32_168_r0
  let v594_r0 : Index := Scalar.indexCast v173_r0
  let c2048_480_r0 : Index := 2048#32
  ![v594_r0.toNat, 2048]

def k0_chk5 (arg22_r0 : BitVec 32) : Prop :=
  (∀ a, (k0_off44 arg22_r0) a + S1x1024.size a ≤ S8x3072.size a) ∧
  (∀ a, (k0_off47 arg22_r0) a + S1x1024.size a ≤ S8x3072.size a)
theorem k0_off44_inb : ∀ (arg22_r0 : BitVec 32) (k0_hw5 : k0_chk5 arg22_r0), ∀ a, (k0_off44 arg22_r0) a + S1x1024.size a ≤ S8x3072.size a := fun arg22_r0 k0_hw5 => k0_hw5.1
theorem k0_off47_inb : ∀ (arg22_r0 : BitVec 32) (k0_hw5 : k0_chk5 arg22_r0), ∀ a, (k0_off47 arg22_r0) a + S1x1024.size a ≤ S8x3072.size a := fun arg22_r0 k0_hw5 => k0_hw5.2

def k0_off48 (arg13_r0 : BitVec 32) : Fin 4 → Nat :=
  let c3_i32_241_r0 : BitVec 32 := 3#32
  let v309_r0 : BitVec 32 := Scalar.remui arg13_r0 c3_i32_241_r0
  let c0_i32_481_r0 : BitVec 32 := 0#32
  let c0_i32_482_r0 : BitVec 32 := 0#32
  let c0_i32_483_r0 : BitVec 32 := 0#32
  ![v309_r0.toNat, 0, 0, 0]

def k0_chk6 (arg13_r0 : BitVec 32) : Prop :=
  (∀ a, (k0_off45 arg13_r0) a + S1x1x1024x1024.size a ≤ S3x1x1024x1024.size a) ∧
  (∀ a, (k0_off48 arg13_r0) a + S1x1x1024x1024.size a ≤ S3x1x1024x1024.size a)
theorem k0_off45_inb : ∀ (arg13_r0 : BitVec 32) (k0_hw6 : k0_chk6 arg13_r0), ∀ a, (k0_off45 arg13_r0) a + S1x1x1024x1024.size a ≤ S3x1x1024x1024.size a := fun arg13_r0 k0_hw6 => k0_hw6.1
theorem k0_off48_inb : ∀ (arg13_r0 : BitVec 32) (k0_hw6 : k0_chk6 arg13_r0), ∀ a, (k0_off48 arg13_r0) a + S1x1x1024x1024.size a ≤ S3x1x1024x1024.size a := fun arg13_r0 k0_hw6 => k0_hw6.2

def k0_off49 (arg20_r0 : BitVec 32) : Fin 1 → Nat :=
  let c2_i32_535_r0 : BitVec 32 := 2#32
  let v733_r0 : BitVec 32 := Scalar.remui arg20_r0 c2_i32_535_r0
  ![v733_r0.toNat]
def k0_cond18 (k0_t1 : Fin k0_t1_loop.trips) (arg22_r0 : BitVec 32) (arg23_r0 : BitVec 32) : BitVec 1 :=
  let c0_i32_168_r0 : BitVec 32 := 0#32
  let v173_r0 : BitVec 32 := Scalar.addi arg22_r0 c0_i32_168_r0
  let true_180_r0 : BitVec 1 := 1#1
  let c1_i32_179_r0 : BitVec 32 := 1#32
  let v185_r0 : BitVec 32 := Scalar.addi arg23_r0 c1_i32_179_r0
  let v186_r0 : BitVec 32 := Scalar.select true_180_r0 v185_r0 arg23_r0
  let c2_i32_181_r0 : BitVec 32 := 2#32
  let v187_r0 : BitVec 1 := Scalar.cmpi .eq v186_r0 c2_i32_181_r0
  let c1_i32_183_r0 : BitVec 32 := 1#32
  let v189_r0 : BitVec 32 := Scalar.addi arg22_r0 c1_i32_183_r0
  let v190_r0 : BitVec 32 := Scalar.select v187_r0 v189_r0 arg22_r0
  let c8_i32_184_r0 : BitVec 32 := 8#32
  let v191_r0 : BitVec 1 := Scalar.cmpi .eq v190_r0 c8_i32_184_r0
  let c0_i32_185_r0 : BitVec 32 := 0#32
  let v192_r0 : BitVec 32 := Scalar.select v191_r0 c0_i32_185_r0 v190_r0
  let c0_i32_186_r0 : BitVec 32 := 0#32
  let v193_r0 : BitVec 32 := Scalar.addi v192_r0 c0_i32_186_r0
  let v650_r0 : BitVec 1 := Scalar.cmpi .ne v173_r0 v193_r0
  let c0_i32_169_r0 : BitVec 32 := 0#32
  let v174_r0 : BitVec 32 := Scalar.addi arg23_r0 c0_i32_169_r0
  let c0_i32_182_r0 : BitVec 32 := 0#32
  let v188_r0 : BitVec 32 := Scalar.select v187_r0 c0_i32_182_r0 v186_r0
  let c0_i32_187_r0 : BitVec 32 := 0#32
  let v194_r0 : BitVec 32 := Scalar.addi v188_r0 c0_i32_187_r0
  let v651_r0 : BitVec 1 := Scalar.cmpi .ne v174_r0 v194_r0
  let v652_r0 : BitVec 1 := Scalar.ori v650_r0 v651_r0
  let c0_i32_113_r0 : BitVec 32 := 0#32
  let c1_i32_114_r0 : BitVec 32 := 1#32
  let arg11_r0 : BitVec 32 := Scf.iv c0_i32_113_r0 c1_i32_114_r0 k0_t1
  let c15_i32_r0 : BitVec 32 := 15#32
  let v172_r0 : BitVec 1 := Scalar.cmpi .eq arg11_r0 c15_i32_r0
  let v653_r0 : BitVec 1 := Scalar.ori v652_r0 v172_r0
  let v654_r0 : BitVec 32 := Scalar.extui v653_r0
  let c0_i32_505_r0 : BitVec 32 := 0#32
  let v655_r0 : BitVec 1 := Scalar.cmpi .ne v654_r0 c0_i32_505_r0
  v655_r0

def k0_off50 (arg22_r0 : BitVec 32) (arg23_r0 : BitVec 32) : Fin 3 → Nat :=
  let c1_i32_536_r0 : BitVec 32 := 1#32
  let c0_i32_168_r0 : BitVec 32 := 0#32
  let v173_r0 : BitVec 32 := Scalar.addi arg22_r0 c0_i32_168_r0
  let v734_r0 : BitVec 32 := Scalar.muli c1_i32_536_r0 v173_r0
  let c1024_i32_537_r0 : BitVec 32 := 1024#32
  let c0_i32_169_r0 : BitVec 32 := 0#32
  let v174_r0 : BitVec 32 := Scalar.addi arg23_r0 c0_i32_169_r0
  let v735_r0 : BitVec 32 := Scalar.muli c1024_i32_537_r0 v174_r0
  let c0_i32_538_r0 : BitVec 32 := 0#32
  ![v734_r0.toNat, v735_r0.toNat, 0]
def k0_off51 (arg20_r0 : BitVec 32) : Fin 4 → Nat :=
  let c2_i32_535_r0 : BitVec 32 := 2#32
  let v733_r0 : BitVec 32 := Scalar.remui arg20_r0 c2_i32_535_r0
  let c0_i32_539_r0 : BitVec 32 := 0#32
  let c0_i32_540_r0 : BitVec 32 := 0#32
  let c0_i32_541_r0 : BitVec 32 := 0#32
  ![v733_r0.toNat, 0, 0, 0]
def k0_off52 (arg21_r0 : BitVec 32) : Fin 1 → Nat :=
  let c2_i32_535_r0 : BitVec 32 := 2#32
  let v733_r0 : BitVec 32 := Scalar.remui arg21_r0 c2_i32_535_r0
  ![v733_r0.toNat]
def k0_cond23 (k0_t1 : Fin k0_t1_loop.trips) (arg22_r0 : BitVec 32) (arg23_r0 : BitVec 32) : BitVec 1 :=
  let c0_i32_168_r0 : BitVec 32 := 0#32
  let v173_r0 : BitVec 32 := Scalar.addi arg22_r0 c0_i32_168_r0
  let true_171_r0 : BitVec 1 := 1#1
  let c1_i32_170_r0 : BitVec 32 := 1#32
  let v175_r0 : BitVec 32 := Scalar.subi arg23_r0 c1_i32_170_r0
  let v176_r0 : BitVec 32 := Scalar.select true_171_r0 v175_r0 arg23_r0
  let c_m1_i32_172_r0 : BitVec 32 := 4294967295#32
  let v177_r0 : BitVec 1 := Scalar.cmpi .eq v176_r0 c_m1_i32_172_r0
  let c1_i32_174_r0 : BitVec 32 := 1#32
  let v179_r0 : BitVec 32 := Scalar.subi arg22_r0 c1_i32_174_r0
  let v180_r0 : BitVec 32 := Scalar.select v177_r0 v179_r0 arg22_r0
  let c_m1_i32_175_r0 : BitVec 32 := 4294967295#32
  let v181_r0 : BitVec 1 := Scalar.cmpi .eq v180_r0 c_m1_i32_175_r0
  let c7_i32_176_r0 : BitVec 32 := 7#32
  let v182_r0 : BitVec 32 := Scalar.select v181_r0 c7_i32_176_r0 v180_r0
  let c0_i32_177_r0 : BitVec 32 := 0#32
  let v183_r0 : BitVec 32 := Scalar.addi v182_r0 c0_i32_177_r0
  let v691_r0 : BitVec 1 := Scalar.cmpi .ne v173_r0 v183_r0
  let c0_i32_169_r0 : BitVec 32 := 0#32
  let v174_r0 : BitVec 32 := Scalar.addi arg23_r0 c0_i32_169_r0
  let c1_i32_173_r0 : BitVec 32 := 1#32
  let v178_r0 : BitVec 32 := Scalar.select v177_r0 c1_i32_173_r0 v176_r0
  let c0_i32_178_r0 : BitVec 32 := 0#32
  let v184_r0 : BitVec 32 := Scalar.addi v178_r0 c0_i32_178_r0
  let v692_r0 : BitVec 1 := Scalar.cmpi .ne v174_r0 v184_r0
  let v693_r0 : BitVec 1 := Scalar.ori v691_r0 v692_r0
  let c0_i32_113_r0 : BitVec 32 := 0#32
  let c1_i32_114_r0 : BitVec 32 := 1#32
  let arg11_r0 : BitVec 32 := Scf.iv c0_i32_113_r0 c1_i32_114_r0 k0_t1
  let c0_i32_167_r0 : BitVec 32 := 0#32
  let v171_r0 : BitVec 1 := Scalar.cmpi .eq arg11_r0 c0_i32_167_r0
  let true_520_r0 : BitVec 1 := 1#1
  let v694_r0 : BitVec 1 := Scalar.xori v171_r0 true_520_r0
  let v695_r0 : BitVec 1 := Scalar.andi v693_r0 v694_r0
  let v696_r0 : BitVec 32 := Scalar.extui v695_r0
  let c0_i32_521_r0 : BitVec 32 := 0#32
  let v697_r0 : BitVec 1 := Scalar.cmpi .ne v696_r0 c0_i32_521_r0
  v697_r0

def k0_off53 (arg22_r0 : BitVec 32) (arg23_r0 : BitVec 32) : Fin 3 → Nat :=
  let c1_i32_536_r0 : BitVec 32 := 1#32
  let true_171_r0 : BitVec 1 := 1#1
  let c1_i32_170_r0 : BitVec 32 := 1#32
  let v175_r0 : BitVec 32 := Scalar.subi arg23_r0 c1_i32_170_r0
  let v176_r0 : BitVec 32 := Scalar.select true_171_r0 v175_r0 arg23_r0
  let c_m1_i32_172_r0 : BitVec 32 := 4294967295#32
  let v177_r0 : BitVec 1 := Scalar.cmpi .eq v176_r0 c_m1_i32_172_r0
  let c1_i32_174_r0 : BitVec 32 := 1#32
  let v179_r0 : BitVec 32 := Scalar.subi arg22_r0 c1_i32_174_r0
  let v180_r0 : BitVec 32 := Scalar.select v177_r0 v179_r0 arg22_r0
  let c_m1_i32_175_r0 : BitVec 32 := 4294967295#32
  let v181_r0 : BitVec 1 := Scalar.cmpi .eq v180_r0 c_m1_i32_175_r0
  let c7_i32_176_r0 : BitVec 32 := 7#32
  let v182_r0 : BitVec 32 := Scalar.select v181_r0 c7_i32_176_r0 v180_r0
  let c0_i32_177_r0 : BitVec 32 := 0#32
  let v183_r0 : BitVec 32 := Scalar.addi v182_r0 c0_i32_177_r0
  let v734_r0 : BitVec 32 := Scalar.muli c1_i32_536_r0 v183_r0
  let c1024_i32_537_r0 : BitVec 32 := 1024#32
  let c1_i32_173_r0 : BitVec 32 := 1#32
  let v178_r0 : BitVec 32 := Scalar.select v177_r0 c1_i32_173_r0 v176_r0
  let c0_i32_178_r0 : BitVec 32 := 0#32
  let v184_r0 : BitVec 32 := Scalar.addi v178_r0 c0_i32_178_r0
  let v735_r0 : BitVec 32 := Scalar.muli c1024_i32_537_r0 v184_r0
  let c0_i32_538_r0 : BitVec 32 := 0#32
  ![v734_r0.toNat, v735_r0.toNat, 0]
def k0_off54 (arg21_r0 : BitVec 32) : Fin 4 → Nat :=
  let c2_i32_535_r0 : BitVec 32 := 2#32
  let v733_r0 : BitVec 32 := Scalar.remui arg21_r0 c2_i32_535_r0
  let c0_i32_539_r0 : BitVec 32 := 0#32
  let c0_i32_540_r0 : BitVec 32 := 0#32
  let c0_i32_541_r0 : BitVec 32 := 0#32
  ![v733_r0.toNat, 0, 0, 0]

def k0_chk1_0 (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) : Prop :=
  (∀ (k0_h5 : k0_cond5 k0_t1 arg22_r0 arg23_r0 = 1#1), ∀ a, (k0_off17 arg12_r0) a + S1.size a ≤ S3.size a) ∧
  (∀ (k0_h5 : k0_cond5 k0_t1 arg22_r0 arg23_r0 = 1#1), ∀ a, (k0_off18 arg12_r0) a + S1x1x1024x1024.size a ≤ S3x1x1024x1024.size a) ∧
  (∀ (k0_h5 : k0_cond5 k0_t1 arg22_r0 arg23_r0 = 1#1), ∀ a, (k0_off19 arg22_r0 arg23_r0) a + S1x1024x1024.size a ≤ S8x2048x1024.size a) ∧
  (∀ (k0_h6 : k0_cond6 k0_t1 arg22_r0 arg23_r0 = 1#1), ∀ a, (k0_off20 arg14_r0) a + S1.size a ≤ S3.size a) ∧
  (∀ (k0_h6 : k0_cond6 k0_t1 arg22_r0 arg23_r0 = 1#1), ∀ a, (k0_off21 arg14_r0) a + S1x1x1024x512.size a ≤ S3x1x1024x512.size a) ∧
  (∀ (k0_h6 : k0_cond6 k0_t1 arg22_r0 arg23_r0 = 1#1), ∀ a, (k0_off22 arg22_r0 arg23_r0) a + S1x1024x512.size a ≤ S8x2048x512.size a) ∧
  (∀ (k0_h6 : k0_cond6 k0_t1 arg22_r0 arg23_r0 = 1#1), ∀ (hinb : ∀ a, (k0_off22 arg22_r0 arg23_r0) a + S1x1024x512.size a ≤ S8x2048x512.size a), (Rect.unit (s := S8x2048x512) (k0_off22 arg22_r0 arg23_r0) S1x1024x512.size hinb).WholeWords (EltTy.packing .bf16)) ∧
  (∀ (k0_h6 : k0_cond6 k0_t1 arg22_r0 arg23_r0 = 1#1), ∀ (hinb : ∀ a, (k0_off21 arg14_r0) a + S1x1x1024x512.size a ≤ S3x1x1024x512.size a), (Rect.unit (s := S3x1x1024x512) (k0_off21 arg14_r0) S1x1x1024x512.size hinb).WholeWords (EltTy.packing .bf16)) ∧
  (∀ (k0_h7 : k0_cond7 k0_t1 arg22_r0 arg23_r0 = 1#1), ∀ a, (k0_off23 arg16_r0) a + S1.size a ≤ S3.size a) ∧
  (∀ (k0_h7 : k0_cond7 k0_t1 arg22_r0 arg23_r0 = 1#1), ∀ a, (k0_off24 arg16_r0) a + S1x1x4x256x512.size a ≤ S3x1x4x256x512.size a) ∧
  (∀ (k0_h7 : k0_cond7 k0_t1 arg22_r0 arg23_r0 = 1#1), ∀ a, (k0_off25 arg22_r0 arg23_r0) a + S1x4x256x512.size a ≤ S8x4x512x512.size a) ∧
  (∀ (k0_h7 : k0_cond7 k0_t1 arg22_r0 arg23_r0 = 1#1), ∀ (hinb : ∀ a, (k0_off25 arg22_r0 arg23_r0) a + S1x4x256x512.size a ≤ S8x4x512x512.size a), (Rect.unit (s := S8x4x512x512) (k0_off25 arg22_r0 arg23_r0) S1x4x256x512.size hinb).WholeWords (EltTy.packing .bf16)) ∧
  (∀ (k0_h7 : k0_cond7 k0_t1 arg22_r0 arg23_r0 = 1#1), ∀ (hinb : ∀ a, (k0_off24 arg16_r0) a + S1x1x4x256x512.size a ≤ S3x1x4x256x512.size a), (Rect.unit (s := S3x1x4x256x512) (k0_off24 arg16_r0) S1x1x4x256x512.size hinb).WholeWords (EltTy.packing .bf16)) ∧
  (∀ (k0_h8 : k0_cond8 k0_t1 arg22_r0 arg23_r0 = 1#1), ∀ a, (k0_off26 arg18_r0) a + S1.size a ≤ S3.size a) ∧
  (∀ (k0_h8 : k0_cond8 k0_t1 arg22_r0 arg23_r0 = 1#1), ∀ a, (k0_off27 arg18_r0) a + S1x1x1024x512.size a ≤ S3x1x1024x512.size a) ∧
  (∀ (k0_h8 : k0_cond8 k0_t1 arg22_r0 arg23_r0 = 1#1), ∀ a, (k0_off28 arg22_r0 arg23_r0) a + S1x1024x512.size a ≤ S8x2048x512.size a) ∧
  (∀ (k0_h8 : k0_cond8 k0_t1 arg22_r0 arg23_r0 = 1#1), ∀ (hinb : ∀ a, (k0_off28 arg22_r0 arg23_r0) a + S1x1024x512.size a ≤ S8x2048x512.size a), (Rect.unit (s := S8x2048x512) (k0_off28 arg22_r0 arg23_r0) S1x1024x512.size hinb).WholeWords (EltTy.packing .bf16)) ∧
  (∀ (k0_h8 : k0_cond8 k0_t1 arg22_r0 arg23_r0 = 1#1), ∀ (hinb : ∀ a, (k0_off27 arg18_r0) a + S1x1x1024x512.size a ≤ S3x1x1024x512.size a), (Rect.unit (s := S3x1x1024x512) (k0_off27 arg18_r0) S1x1x1024x512.size hinb).WholeWords (EltTy.packing .bf16)) ∧
  (∀ (k0_h9 : k0_cond9 k0_t1 arg22_r0 arg23_r0 = 1#1), ∀ a, (k0_off29 arg13_r0) a + S1.size a ≤ S3.size a) ∧
  (∀ (k0_h9 : k0_cond9 k0_t1 arg22_r0 arg23_r0 = 1#1), ∀ a, (k0_off30 arg13_r0) a + S1x1x1024x1024.size a ≤ S3x1x1024x1024.size a) ∧
  (∀ (k0_h9 : k0_cond9 k0_t1 arg22_r0 arg23_r0 = 1#1), ∀ a, (k0_off31 arg22_r0 arg23_r0) a + S1x1024x1024.size a ≤ S8x2048x1024.size a) ∧
  (∀ (k0_h10 : k0_cond10 k0_t1 arg22_r0 arg23_r0 = 1#1), ∀ a, (k0_off32 arg15_r0) a + S1.size a ≤ S3.size a) ∧
  (∀ (k0_h10 : k0_cond10 k0_t1 arg22_r0 arg23_r0 = 1#1), ∀ a, (k0_off33 arg15_r0) a + S1x1x1024x512.size a ≤ S3x1x1024x512.size a) ∧
  (∀ (k0_h10 : k0_cond10 k0_t1 arg22_r0 arg23_r0 = 1#1), ∀ a, (k0_off34 arg22_r0 arg23_r0) a + S1x1024x512.size a ≤ S8x2048x512.size a) ∧
  (∀ (k0_h10 : k0_cond10 k0_t1 arg22_r0 arg23_r0 = 1#1), ∀ (hinb : ∀ a, (k0_off34 arg22_r0 arg23_r0) a + S1x1024x512.size a ≤ S8x2048x512.size a), (Rect.unit (s := S8x2048x512) (k0_off34 arg22_r0 arg23_r0) S1x1024x512.size hinb).WholeWords (EltTy.packing .bf16)) ∧
  (∀ (k0_h10 : k0_cond10 k0_t1 arg22_r0 arg23_r0 = 1#1), ∀ (hinb : ∀ a, (k0_off33 arg15_r0) a + S1x1x1024x512.size a ≤ S3x1x1024x512.size a), (Rect.unit (s := S3x1x1024x512) (k0_off33 arg15_r0) S1x1x1024x512.size hinb).WholeWords (EltTy.packing .bf16)) ∧
  (∀ (k0_h11 : k0_cond11 k0_t1 arg22_r0 arg23_r0 = 1#1), ∀ a, (k0_off35 arg17_r0) a + S1.size a ≤ S3.size a) ∧
  (∀ (k0_h11 : k0_cond11 k0_t1 arg22_r0 arg23_r0 = 1#1), ∀ a, (k0_off36 arg17_r0) a + S1x1x4x256x512.size a ≤ S3x1x4x256x512.size a) ∧
  (∀ (k0_h11 : k0_cond11 k0_t1 arg22_r0 arg23_r0 = 1#1), ∀ a, (k0_off37 arg22_r0 arg23_r0) a + S1x4x256x512.size a ≤ S8x4x512x512.size a) ∧
  (∀ (k0_h11 : k0_cond11 k0_t1 arg22_r0 arg23_r0 = 1#1), ∀ (hinb : ∀ a, (k0_off37 arg22_r0 arg23_r0) a + S1x4x256x512.size a ≤ S8x4x512x512.size a), (Rect.unit (s := S8x4x512x512) (k0_off37 arg22_r0 arg23_r0) S1x4x256x512.size hinb).WholeWords (EltTy.packing .bf16)) ∧
  (∀ (k0_h11 : k0_cond11 k0_t1 arg22_r0 arg23_r0 = 1#1), ∀ (hinb : ∀ a, (k0_off36 arg17_r0) a + S1x1x4x256x512.size a ≤ S3x1x4x256x512.size a), (Rect.unit (s := S3x1x4x256x512) (k0_off36 arg17_r0) S1x1x4x256x512.size hinb).WholeWords (EltTy.packing .bf16)) ∧
  (∀ (k0_h12 : k0_cond12 k0_t1 arg22_r0 arg23_r0 = 1#1), ∀ a, (k0_off38 arg19_r0) a + S1.size a ≤ S3.size a)
def k0_chk1_1 (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) : Prop :=
  (∀ (k0_h12 : k0_cond12 k0_t1 arg22_r0 arg23_r0 = 1#1), ∀ a, (k0_off39 arg19_r0) a + S1x1x1024x512.size a ≤ S3x1x1024x512.size a) ∧
  (∀ (k0_h12 : k0_cond12 k0_t1 arg22_r0 arg23_r0 = 1#1), ∀ a, (k0_off40 arg22_r0 arg23_r0) a + S1x1024x512.size a ≤ S8x2048x512.size a) ∧
  (∀ (k0_h12 : k0_cond12 k0_t1 arg22_r0 arg23_r0 = 1#1), ∀ (hinb : ∀ a, (k0_off40 arg22_r0 arg23_r0) a + S1x1024x512.size a ≤ S8x2048x512.size a), (Rect.unit (s := S8x2048x512) (k0_off40 arg22_r0 arg23_r0) S1x1024x512.size hinb).WholeWords (EltTy.packing .bf16)) ∧
  (∀ (k0_h12 : k0_cond12 k0_t1 arg22_r0 arg23_r0 = 1#1), ∀ (hinb : ∀ a, (k0_off39 arg19_r0) a + S1x1x1024x512.size a ≤ S3x1x1024x512.size a), (Rect.unit (s := S3x1x1024x512) (k0_off39 arg19_r0) S1x1x1024x512.size hinb).WholeWords (EltTy.packing .bf16)) ∧
  (∀ (k0_h18 : k0_cond18 k0_t1 arg22_r0 arg23_r0 = 1#1), ∀ a, (k0_off49 arg20_r0) a + S1.size a ≤ S2.size a) ∧
  (∀ (k0_h18 : k0_cond18 k0_t1 arg22_r0 arg23_r0 = 1#1), ∀ a, (k0_off50 arg22_r0 arg23_r0) a + S1x1024x1024.size a ≤ S8x2048x1024.size a) ∧
  (∀ (k0_h18 : k0_cond18 k0_t1 arg22_r0 arg23_r0 = 1#1), ∀ a, (k0_off51 arg20_r0) a + S1x1x1024x1024.size a ≤ S2x1x1024x1024.size a) ∧
  (∀ (k0_h23 : k0_cond23 k0_t1 arg22_r0 arg23_r0 = 1#1), ∀ a, (k0_off52 arg21_r0) a + S1.size a ≤ S2.size a) ∧
  (∀ (k0_h23 : k0_cond23 k0_t1 arg22_r0 arg23_r0 = 1#1), ∀ a, (k0_off53 arg22_r0 arg23_r0) a + S1x1024x1024.size a ≤ S8x2048x1024.size a) ∧
  (∀ (k0_h23 : k0_cond23 k0_t1 arg22_r0 arg23_r0 = 1#1), ∀ a, (k0_off54 arg21_r0) a + S1x1x1024x1024.size a ≤ S2x1x1024x1024.size a)
def k0_chk1 (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) : Prop :=
  k0_chk1_0 k0_t1 arg12_r0 arg13_r0 arg14_r0 arg15_r0 arg16_r0 arg17_r0 arg18_r0 arg19_r0 arg20_r0 arg21_r0 arg22_r0 arg23_r0 ∧
  k0_chk1_1 k0_t1 arg12_r0 arg13_r0 arg14_r0 arg15_r0 arg16_r0 arg17_r0 arg18_r0 arg19_r0 arg20_r0 arg21_r0 arg22_r0 arg23_r0
theorem k0_off17_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h5 : k0_cond5 k0_t1 arg22_r0 arg23_r0 = 1#1), ∀ a, (k0_off17 arg12_r0) a + S1.size a ≤ S3.size a := fun k0_t1 arg12_r0 arg13_r0 arg14_r0 arg15_r0 arg16_r0 arg17_r0 arg18_r0 arg19_r0 arg20_r0 arg21_r0 arg22_r0 arg23_r0 k0_hw1 k0_h5 => k0_hw1.1.1 k0_h5
theorem k0_off18_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h5 : k0_cond5 k0_t1 arg22_r0 arg23_r0 = 1#1), ∀ a, (k0_off18 arg12_r0) a + S1x1x1024x1024.size a ≤ S3x1x1024x1024.size a := fun k0_t1 arg12_r0 arg13_r0 arg14_r0 arg15_r0 arg16_r0 arg17_r0 arg18_r0 arg19_r0 arg20_r0 arg21_r0 arg22_r0 arg23_r0 k0_hw1 k0_h5 => k0_hw1.1.2.1 k0_h5
theorem k0_off19_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h5 : k0_cond5 k0_t1 arg22_r0 arg23_r0 = 1#1), ∀ a, (k0_off19 arg22_r0 arg23_r0) a + S1x1024x1024.size a ≤ S8x2048x1024.size a := fun k0_t1 arg12_r0 arg13_r0 arg14_r0 arg15_r0 arg16_r0 arg17_r0 arg18_r0 arg19_r0 arg20_r0 arg21_r0 arg22_r0 arg23_r0 k0_hw1 k0_h5 => k0_hw1.1.2.2.1 k0_h5
theorem k0_off20_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h6 : k0_cond6 k0_t1 arg22_r0 arg23_r0 = 1#1), ∀ a, (k0_off20 arg14_r0) a + S1.size a ≤ S3.size a := fun k0_t1 arg12_r0 arg13_r0 arg14_r0 arg15_r0 arg16_r0 arg17_r0 arg18_r0 arg19_r0 arg20_r0 arg21_r0 arg22_r0 arg23_r0 k0_hw1 k0_h6 => k0_hw1.1.2.2.2.1 k0_h6
theorem k0_off21_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h6 : k0_cond6 k0_t1 arg22_r0 arg23_r0 = 1#1), ∀ a, (k0_off21 arg14_r0) a + S1x1x1024x512.size a ≤ S3x1x1024x512.size a := fun k0_t1 arg12_r0 arg13_r0 arg14_r0 arg15_r0 arg16_r0 arg17_r0 arg18_r0 arg19_r0 arg20_r0 arg21_r0 arg22_r0 arg23_r0 k0_hw1 k0_h6 => k0_hw1.1.2.2.2.2.1 k0_h6
theorem k0_off22_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h6 : k0_cond6 k0_t1 arg22_r0 arg23_r0 = 1#1), ∀ a, (k0_off22 arg22_r0 arg23_r0) a + S1x1024x512.size a ≤ S8x2048x512.size a := fun k0_t1 arg12_r0 arg13_r0 arg14_r0 arg15_r0 arg16_r0 arg17_r0 arg18_r0 arg19_r0 arg20_r0 arg21_r0 arg22_r0 arg23_r0 k0_hw1 k0_h6 => k0_hw1.1.2.2.2.2.2.1 k0_h6
theorem k0_off22_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h6 : k0_cond6 k0_t1 arg22_r0 arg23_r0 = 1#1), (Rect.unit (s := S8x2048x512) (k0_off22 arg22_r0 arg23_r0) S1x1024x512.size (k0_off22_inb k0_t1 arg12_r0 arg13_r0 arg14_r0 arg15_r0 arg16_r0 arg17_r0 arg18_r0 arg19_r0 arg20_r0 arg21_r0 arg22_r0 arg23_r0 k0_hw1 k0_h6)).WholeWords (EltTy.packing .bf16) := fun k0_t1 arg12_r0 arg13_r0 arg14_r0 arg15_r0 arg16_r0 arg17_r0 arg18_r0 arg19_r0 arg20_r0 arg21_r0 arg22_r0 arg23_r0 k0_hw1 k0_h6 => k0_hw1.1.2.2.2.2.2.2.1 k0_h6 (k0_off22_inb k0_t1 arg12_r0 arg13_r0 arg14_r0 arg15_r0 arg16_r0 arg17_r0 arg18_r0 arg19_r0 arg20_r0 arg21_r0 arg22_r0 arg23_r0 k0_hw1 k0_h6)
theorem k0_off21_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h6 : k0_cond6 k0_t1 arg22_r0 arg23_r0 = 1#1), (Rect.unit (s := S3x1x1024x512) (k0_off21 arg14_r0) S1x1x1024x512.size (k0_off21_inb k0_t1 arg12_r0 arg13_r0 arg14_r0 arg15_r0 arg16_r0 arg17_r0 arg18_r0 arg19_r0 arg20_r0 arg21_r0 arg22_r0 arg23_r0 k0_hw1 k0_h6)).WholeWords (EltTy.packing .bf16) := fun k0_t1 arg12_r0 arg13_r0 arg14_r0 arg15_r0 arg16_r0 arg17_r0 arg18_r0 arg19_r0 arg20_r0 arg21_r0 arg22_r0 arg23_r0 k0_hw1 k0_h6 => k0_hw1.1.2.2.2.2.2.2.2.1 k0_h6 (k0_off21_inb k0_t1 arg12_r0 arg13_r0 arg14_r0 arg15_r0 arg16_r0 arg17_r0 arg18_r0 arg19_r0 arg20_r0 arg21_r0 arg22_r0 arg23_r0 k0_hw1 k0_h6)
theorem k0_off23_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h7 : k0_cond7 k0_t1 arg22_r0 arg23_r0 = 1#1), ∀ a, (k0_off23 arg16_r0) a + S1.size a ≤ S3.size a := fun k0_t1 arg12_r0 arg13_r0 arg14_r0 arg15_r0 arg16_r0 arg17_r0 arg18_r0 arg19_r0 arg20_r0 arg21_r0 arg22_r0 arg23_r0 k0_hw1 k0_h7 => k0_hw1.1.2.2.2.2.2.2.2.2.1 k0_h7
theorem k0_off24_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h7 : k0_cond7 k0_t1 arg22_r0 arg23_r0 = 1#1), ∀ a, (k0_off24 arg16_r0) a + S1x1x4x256x512.size a ≤ S3x1x4x256x512.size a := fun k0_t1 arg12_r0 arg13_r0 arg14_r0 arg15_r0 arg16_r0 arg17_r0 arg18_r0 arg19_r0 arg20_r0 arg21_r0 arg22_r0 arg23_r0 k0_hw1 k0_h7 => k0_hw1.1.2.2.2.2.2.2.2.2.2.1 k0_h7
theorem k0_off25_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h7 : k0_cond7 k0_t1 arg22_r0 arg23_r0 = 1#1), ∀ a, (k0_off25 arg22_r0 arg23_r0) a + S1x4x256x512.size a ≤ S8x4x512x512.size a := fun k0_t1 arg12_r0 arg13_r0 arg14_r0 arg15_r0 arg16_r0 arg17_r0 arg18_r0 arg19_r0 arg20_r0 arg21_r0 arg22_r0 arg23_r0 k0_hw1 k0_h7 => k0_hw1.1.2.2.2.2.2.2.2.2.2.2.1 k0_h7
theorem k0_off25_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h7 : k0_cond7 k0_t1 arg22_r0 arg23_r0 = 1#1), (Rect.unit (s := S8x4x512x512) (k0_off25 arg22_r0 arg23_r0) S1x4x256x512.size (k0_off25_inb k0_t1 arg12_r0 arg13_r0 arg14_r0 arg15_r0 arg16_r0 arg17_r0 arg18_r0 arg19_r0 arg20_r0 arg21_r0 arg22_r0 arg23_r0 k0_hw1 k0_h7)).WholeWords (EltTy.packing .bf16) := fun k0_t1 arg12_r0 arg13_r0 arg14_r0 arg15_r0 arg16_r0 arg17_r0 arg18_r0 arg19_r0 arg20_r0 arg21_r0 arg22_r0 arg23_r0 k0_hw1 k0_h7 => k0_hw1.1.2.2.2.2.2.2.2.2.2.2.2.1 k0_h7 (k0_off25_inb k0_t1 arg12_r0 arg13_r0 arg14_r0 arg15_r0 arg16_r0 arg17_r0 arg18_r0 arg19_r0 arg20_r0 arg21_r0 arg22_r0 arg23_r0 k0_hw1 k0_h7)
theorem k0_off24_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h7 : k0_cond7 k0_t1 arg22_r0 arg23_r0 = 1#1), (Rect.unit (s := S3x1x4x256x512) (k0_off24 arg16_r0) S1x1x4x256x512.size (k0_off24_inb k0_t1 arg12_r0 arg13_r0 arg14_r0 arg15_r0 arg16_r0 arg17_r0 arg18_r0 arg19_r0 arg20_r0 arg21_r0 arg22_r0 arg23_r0 k0_hw1 k0_h7)).WholeWords (EltTy.packing .bf16) := fun k0_t1 arg12_r0 arg13_r0 arg14_r0 arg15_r0 arg16_r0 arg17_r0 arg18_r0 arg19_r0 arg20_r0 arg21_r0 arg22_r0 arg23_r0 k0_hw1 k0_h7 => k0_hw1.1.2.2.2.2.2.2.2.2.2.2.2.2.1 k0_h7 (k0_off24_inb k0_t1 arg12_r0 arg13_r0 arg14_r0 arg15_r0 arg16_r0 arg17_r0 arg18_r0 arg19_r0 arg20_r0 arg21_r0 arg22_r0 arg23_r0 k0_hw1 k0_h7)
theorem k0_off26_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h8 : k0_cond8 k0_t1 arg22_r0 arg23_r0 = 1#1), ∀ a, (k0_off26 arg18_r0) a + S1.size a ≤ S3.size a := fun k0_t1 arg12_r0 arg13_r0 arg14_r0 arg15_r0 arg16_r0 arg17_r0 arg18_r0 arg19_r0 arg20_r0 arg21_r0 arg22_r0 arg23_r0 k0_hw1 k0_h8 => k0_hw1.1.2.2.2.2.2.2.2.2.2.2.2.2.2.1 k0_h8
theorem k0_off27_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h8 : k0_cond8 k0_t1 arg22_r0 arg23_r0 = 1#1), ∀ a, (k0_off27 arg18_r0) a + S1x1x1024x512.size a ≤ S3x1x1024x512.size a := fun k0_t1 arg12_r0 arg13_r0 arg14_r0 arg15_r0 arg16_r0 arg17_r0 arg18_r0 arg19_r0 arg20_r0 arg21_r0 arg22_r0 arg23_r0 k0_hw1 k0_h8 => k0_hw1.1.2.2.2.2.2.2.2.2.2.2.2.2.2.2.1 k0_h8
theorem k0_off28_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h8 : k0_cond8 k0_t1 arg22_r0 arg23_r0 = 1#1), ∀ a, (k0_off28 arg22_r0 arg23_r0) a + S1x1024x512.size a ≤ S8x2048x512.size a := fun k0_t1 arg12_r0 arg13_r0 arg14_r0 arg15_r0 arg16_r0 arg17_r0 arg18_r0 arg19_r0 arg20_r0 arg21_r0 arg22_r0 arg23_r0 k0_hw1 k0_h8 => k0_hw1.1.2.2.2.2.2.2.2.2.2.2.2.2.2.2.2.1 k0_h8
theorem k0_off28_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h8 : k0_cond8 k0_t1 arg22_r0 arg23_r0 = 1#1), (Rect.unit (s := S8x2048x512) (k0_off28 arg22_r0 arg23_r0) S1x1024x512.size (k0_off28_inb k0_t1 arg12_r0 arg13_r0 arg14_r0 arg15_r0 arg16_r0 arg17_r0 arg18_r0 arg19_r0 arg20_r0 arg21_r0 arg22_r0 arg23_r0 k0_hw1 k0_h8)).WholeWords (EltTy.packing .bf16) := fun k0_t1 arg12_r0 arg13_r0 arg14_r0 arg15_r0 arg16_r0 arg17_r0 arg18_r0 arg19_r0 arg20_r0 arg21_r0 arg22_r0 arg23_r0 k0_hw1 k0_h8 => k0_hw1.1.2.2.2.2.2.2.2.2.2.2.2.2.2.2.2.2.1 k0_h8 (k0_off28_inb k0_t1 arg12_r0 arg13_r0 arg14_r0 arg15_r0 arg16_r0 arg17_r0 arg18_r0 arg19_r0 arg20_r0 arg21_r0 arg22_r0 arg23_r0 k0_hw1 k0_h8)
theorem k0_off27_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h8 : k0_cond8 k0_t1 arg22_r0 arg23_r0 = 1#1), (Rect.unit (s := S3x1x1024x512) (k0_off27 arg18_r0) S1x1x1024x512.size (k0_off27_inb k0_t1 arg12_r0 arg13_r0 arg14_r0 arg15_r0 arg16_r0 arg17_r0 arg18_r0 arg19_r0 arg20_r0 arg21_r0 arg22_r0 arg23_r0 k0_hw1 k0_h8)).WholeWords (EltTy.packing .bf16) := fun k0_t1 arg12_r0 arg13_r0 arg14_r0 arg15_r0 arg16_r0 arg17_r0 arg18_r0 arg19_r0 arg20_r0 arg21_r0 arg22_r0 arg23_r0 k0_hw1 k0_h8 => k0_hw1.1.2.2.2.2.2.2.2.2.2.2.2.2.2.2.2.2.2.1 k0_h8 (k0_off27_inb k0_t1 arg12_r0 arg13_r0 arg14_r0 arg15_r0 arg16_r0 arg17_r0 arg18_r0 arg19_r0 arg20_r0 arg21_r0 arg22_r0 arg23_r0 k0_hw1 k0_h8)
theorem k0_off29_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h9 : k0_cond9 k0_t1 arg22_r0 arg23_r0 = 1#1), ∀ a, (k0_off29 arg13_r0) a + S1.size a ≤ S3.size a := fun k0_t1 arg12_r0 arg13_r0 arg14_r0 arg15_r0 arg16_r0 arg17_r0 arg18_r0 arg19_r0 arg20_r0 arg21_r0 arg22_r0 arg23_r0 k0_hw1 k0_h9 => k0_hw1.1.2.2.2.2.2.2.2.2.2.2.2.2.2.2.2.2.2.2.1 k0_h9
theorem k0_off30_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h9 : k0_cond9 k0_t1 arg22_r0 arg23_r0 = 1#1), ∀ a, (k0_off30 arg13_r0) a + S1x1x1024x1024.size a ≤ S3x1x1024x1024.size a := fun k0_t1 arg12_r0 arg13_r0 arg14_r0 arg15_r0 arg16_r0 arg17_r0 arg18_r0 arg19_r0 arg20_r0 arg21_r0 arg22_r0 arg23_r0 k0_hw1 k0_h9 => k0_hw1.1.2.2.2.2.2.2.2.2.2.2.2.2.2.2.2.2.2.2.2.1 k0_h9
theorem k0_off31_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h9 : k0_cond9 k0_t1 arg22_r0 arg23_r0 = 1#1), ∀ a, (k0_off31 arg22_r0 arg23_r0) a + S1x1024x1024.size a ≤ S8x2048x1024.size a := fun k0_t1 arg12_r0 arg13_r0 arg14_r0 arg15_r0 arg16_r0 arg17_r0 arg18_r0 arg19_r0 arg20_r0 arg21_r0 arg22_r0 arg23_r0 k0_hw1 k0_h9 => k0_hw1.1.2.2.2.2.2.2.2.2.2.2.2.2.2.2.2.2.2.2.2.2.1 k0_h9
theorem k0_off32_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h10 : k0_cond10 k0_t1 arg22_r0 arg23_r0 = 1#1), ∀ a, (k0_off32 arg15_r0) a + S1.size a ≤ S3.size a := fun k0_t1 arg12_r0 arg13_r0 arg14_r0 arg15_r0 arg16_r0 arg17_r0 arg18_r0 arg19_r0 arg20_r0 arg21_r0 arg22_r0 arg23_r0 k0_hw1 k0_h10 => k0_hw1.1.2.2.2.2.2.2.2.2.2.2.2.2.2.2.2.2.2.2.2.2.2.1 k0_h10
theorem k0_off33_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h10 : k0_cond10 k0_t1 arg22_r0 arg23_r0 = 1#1), ∀ a, (k0_off33 arg15_r0) a + S1x1x1024x512.size a ≤ S3x1x1024x512.size a := fun k0_t1 arg12_r0 arg13_r0 arg14_r0 arg15_r0 arg16_r0 arg17_r0 arg18_r0 arg19_r0 arg20_r0 arg21_r0 arg22_r0 arg23_r0 k0_hw1 k0_h10 => k0_hw1.1.2.2.2.2.2.2.2.2.2.2.2.2.2.2.2.2.2.2.2.2.2.2.1 k0_h10
theorem k0_off34_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h10 : k0_cond10 k0_t1 arg22_r0 arg23_r0 = 1#1), ∀ a, (k0_off34 arg22_r0 arg23_r0) a + S1x1024x512.size a ≤ S8x2048x512.size a := fun k0_t1 arg12_r0 arg13_r0 arg14_r0 arg15_r0 arg16_r0 arg17_r0 arg18_r0 arg19_r0 arg20_r0 arg21_r0 arg22_r0 arg23_r0 k0_hw1 k0_h10 => k0_hw1.1.2.2.2.2.2.2.2.2.2.2.2.2.2.2.2.2.2.2.2.2.2.2.2.1 k0_h10
theorem k0_off34_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h10 : k0_cond10 k0_t1 arg22_r0 arg23_r0 = 1#1), (Rect.unit (s := S8x2048x512) (k0_off34 arg22_r0 arg23_r0) S1x1024x512.size (k0_off34_inb k0_t1 arg12_r0 arg13_r0 arg14_r0 arg15_r0 arg16_r0 arg17_r0 arg18_r0 arg19_r0 arg20_r0 arg21_r0 arg22_r0 arg23_r0 k0_hw1 k0_h10)).WholeWords (EltTy.packing .bf16) := fun k0_t1 arg12_r0 arg13_r0 arg14_r0 arg15_r0 arg16_r0 arg17_r0 arg18_r0 arg19_r0 arg20_r0 arg21_r0 arg22_r0 arg23_r0 k0_hw1 k0_h10 => k0_hw1.1.2.2.2.2.2.2.2.2.2.2.2.2.2.2.2.2.2.2.2.2.2.2.2.2.1 k0_h10 (k0_off34_inb k0_t1 arg12_r0 arg13_r0 arg14_r0 arg15_r0 arg16_r0 arg17_r0 arg18_r0 arg19_r0 arg20_r0 arg21_r0 arg22_r0 arg23_r0 k0_hw1 k0_h10)
theorem k0_off33_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h10 : k0_cond10 k0_t1 arg22_r0 arg23_r0 = 1#1), (Rect.unit (s := S3x1x1024x512) (k0_off33 arg15_r0) S1x1x1024x512.size (k0_off33_inb k0_t1 arg12_r0 arg13_r0 arg14_r0 arg15_r0 arg16_r0 arg17_r0 arg18_r0 arg19_r0 arg20_r0 arg21_r0 arg22_r0 arg23_r0 k0_hw1 k0_h10)).WholeWords (EltTy.packing .bf16) := fun k0_t1 arg12_r0 arg13_r0 arg14_r0 arg15_r0 arg16_r0 arg17_r0 arg18_r0 arg19_r0 arg20_r0 arg21_r0 arg22_r0 arg23_r0 k0_hw1 k0_h10 => k0_hw1.1.2.2.2.2.2.2.2.2.2.2.2.2.2.2.2.2.2.2.2.2.2.2.2.2.2.1 k0_h10 (k0_off33_inb k0_t1 arg12_r0 arg13_r0 arg14_r0 arg15_r0 arg16_r0 arg17_r0 arg18_r0 arg19_r0 arg20_r0 arg21_r0 arg22_r0 arg23_r0 k0_hw1 k0_h10)
theorem k0_off35_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h11 : k0_cond11 k0_t1 arg22_r0 arg23_r0 = 1#1), ∀ a, (k0_off35 arg17_r0) a + S1.size a ≤ S3.size a := fun k0_t1 arg12_r0 arg13_r0 arg14_r0 arg15_r0 arg16_r0 arg17_r0 arg18_r0 arg19_r0 arg20_r0 arg21_r0 arg22_r0 arg23_r0 k0_hw1 k0_h11 => k0_hw1.1.2.2.2.2.2.2.2.2.2.2.2.2.2.2.2.2.2.2.2.2.2.2.2.2.2.2.1 k0_h11
theorem k0_off36_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h11 : k0_cond11 k0_t1 arg22_r0 arg23_r0 = 1#1), ∀ a, (k0_off36 arg17_r0) a + S1x1x4x256x512.size a ≤ S3x1x4x256x512.size a := fun k0_t1 arg12_r0 arg13_r0 arg14_r0 arg15_r0 arg16_r0 arg17_r0 arg18_r0 arg19_r0 arg20_r0 arg21_r0 arg22_r0 arg23_r0 k0_hw1 k0_h11 => k0_hw1.1.2.2.2.2.2.2.2.2.2.2.2.2.2.2.2.2.2.2.2.2.2.2.2.2.2.2.2.1 k0_h11
theorem k0_off37_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h11 : k0_cond11 k0_t1 arg22_r0 arg23_r0 = 1#1), ∀ a, (k0_off37 arg22_r0 arg23_r0) a + S1x4x256x512.size a ≤ S8x4x512x512.size a := fun k0_t1 arg12_r0 arg13_r0 arg14_r0 arg15_r0 arg16_r0 arg17_r0 arg18_r0 arg19_r0 arg20_r0 arg21_r0 arg22_r0 arg23_r0 k0_hw1 k0_h11 => k0_hw1.1.2.2.2.2.2.2.2.2.2.2.2.2.2.2.2.2.2.2.2.2.2.2.2.2.2.2.2.2.1 k0_h11
theorem k0_off37_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h11 : k0_cond11 k0_t1 arg22_r0 arg23_r0 = 1#1), (Rect.unit (s := S8x4x512x512) (k0_off37 arg22_r0 arg23_r0) S1x4x256x512.size (k0_off37_inb k0_t1 arg12_r0 arg13_r0 arg14_r0 arg15_r0 arg16_r0 arg17_r0 arg18_r0 arg19_r0 arg20_r0 arg21_r0 arg22_r0 arg23_r0 k0_hw1 k0_h11)).WholeWords (EltTy.packing .bf16) := fun k0_t1 arg12_r0 arg13_r0 arg14_r0 arg15_r0 arg16_r0 arg17_r0 arg18_r0 arg19_r0 arg20_r0 arg21_r0 arg22_r0 arg23_r0 k0_hw1 k0_h11 => k0_hw1.1.2.2.2.2.2.2.2.2.2.2.2.2.2.2.2.2.2.2.2.2.2.2.2.2.2.2.2.2.2.1 k0_h11 (k0_off37_inb k0_t1 arg12_r0 arg13_r0 arg14_r0 arg15_r0 arg16_r0 arg17_r0 arg18_r0 arg19_r0 arg20_r0 arg21_r0 arg22_r0 arg23_r0 k0_hw1 k0_h11)
theorem k0_off36_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h11 : k0_cond11 k0_t1 arg22_r0 arg23_r0 = 1#1), (Rect.unit (s := S3x1x4x256x512) (k0_off36 arg17_r0) S1x1x4x256x512.size (k0_off36_inb k0_t1 arg12_r0 arg13_r0 arg14_r0 arg15_r0 arg16_r0 arg17_r0 arg18_r0 arg19_r0 arg20_r0 arg21_r0 arg22_r0 arg23_r0 k0_hw1 k0_h11)).WholeWords (EltTy.packing .bf16) := fun k0_t1 arg12_r0 arg13_r0 arg14_r0 arg15_r0 arg16_r0 arg17_r0 arg18_r0 arg19_r0 arg20_r0 arg21_r0 arg22_r0 arg23_r0 k0_hw1 k0_h11 => k0_hw1.1.2.2.2.2.2.2.2.2.2.2.2.2.2.2.2.2.2.2.2.2.2.2.2.2.2.2.2.2.2.2.1 k0_h11 (k0_off36_inb k0_t1 arg12_r0 arg13_r0 arg14_r0 arg15_r0 arg16_r0 arg17_r0 arg18_r0 arg19_r0 arg20_r0 arg21_r0 arg22_r0 arg23_r0 k0_hw1 k0_h11)
theorem k0_off38_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h12 : k0_cond12 k0_t1 arg22_r0 arg23_r0 = 1#1), ∀ a, (k0_off38 arg19_r0) a + S1.size a ≤ S3.size a := fun k0_t1 arg12_r0 arg13_r0 arg14_r0 arg15_r0 arg16_r0 arg17_r0 arg18_r0 arg19_r0 arg20_r0 arg21_r0 arg22_r0 arg23_r0 k0_hw1 k0_h12 => k0_hw1.1.2.2.2.2.2.2.2.2.2.2.2.2.2.2.2.2.2.2.2.2.2.2.2.2.2.2.2.2.2.2.2 k0_h12
theorem k0_off39_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h12 : k0_cond12 k0_t1 arg22_r0 arg23_r0 = 1#1), ∀ a, (k0_off39 arg19_r0) a + S1x1x1024x512.size a ≤ S3x1x1024x512.size a := fun k0_t1 arg12_r0 arg13_r0 arg14_r0 arg15_r0 arg16_r0 arg17_r0 arg18_r0 arg19_r0 arg20_r0 arg21_r0 arg22_r0 arg23_r0 k0_hw1 k0_h12 => k0_hw1.2.1 k0_h12
theorem k0_off40_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h12 : k0_cond12 k0_t1 arg22_r0 arg23_r0 = 1#1), ∀ a, (k0_off40 arg22_r0 arg23_r0) a + S1x1024x512.size a ≤ S8x2048x512.size a := fun k0_t1 arg12_r0 arg13_r0 arg14_r0 arg15_r0 arg16_r0 arg17_r0 arg18_r0 arg19_r0 arg20_r0 arg21_r0 arg22_r0 arg23_r0 k0_hw1 k0_h12 => k0_hw1.2.2.1 k0_h12
theorem k0_off40_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h12 : k0_cond12 k0_t1 arg22_r0 arg23_r0 = 1#1), (Rect.unit (s := S8x2048x512) (k0_off40 arg22_r0 arg23_r0) S1x1024x512.size (k0_off40_inb k0_t1 arg12_r0 arg13_r0 arg14_r0 arg15_r0 arg16_r0 arg17_r0 arg18_r0 arg19_r0 arg20_r0 arg21_r0 arg22_r0 arg23_r0 k0_hw1 k0_h12)).WholeWords (EltTy.packing .bf16) := fun k0_t1 arg12_r0 arg13_r0 arg14_r0 arg15_r0 arg16_r0 arg17_r0 arg18_r0 arg19_r0 arg20_r0 arg21_r0 arg22_r0 arg23_r0 k0_hw1 k0_h12 => k0_hw1.2.2.2.1 k0_h12 (k0_off40_inb k0_t1 arg12_r0 arg13_r0 arg14_r0 arg15_r0 arg16_r0 arg17_r0 arg18_r0 arg19_r0 arg20_r0 arg21_r0 arg22_r0 arg23_r0 k0_hw1 k0_h12)
theorem k0_off39_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h12 : k0_cond12 k0_t1 arg22_r0 arg23_r0 = 1#1), (Rect.unit (s := S3x1x1024x512) (k0_off39 arg19_r0) S1x1x1024x512.size (k0_off39_inb k0_t1 arg12_r0 arg13_r0 arg14_r0 arg15_r0 arg16_r0 arg17_r0 arg18_r0 arg19_r0 arg20_r0 arg21_r0 arg22_r0 arg23_r0 k0_hw1 k0_h12)).WholeWords (EltTy.packing .bf16) := fun k0_t1 arg12_r0 arg13_r0 arg14_r0 arg15_r0 arg16_r0 arg17_r0 arg18_r0 arg19_r0 arg20_r0 arg21_r0 arg22_r0 arg23_r0 k0_hw1 k0_h12 => k0_hw1.2.2.2.2.1 k0_h12 (k0_off39_inb k0_t1 arg12_r0 arg13_r0 arg14_r0 arg15_r0 arg16_r0 arg17_r0 arg18_r0 arg19_r0 arg20_r0 arg21_r0 arg22_r0 arg23_r0 k0_hw1 k0_h12)
theorem k0_off49_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h18 : k0_cond18 k0_t1 arg22_r0 arg23_r0 = 1#1), ∀ a, (k0_off49 arg20_r0) a + S1.size a ≤ S2.size a := fun k0_t1 arg12_r0 arg13_r0 arg14_r0 arg15_r0 arg16_r0 arg17_r0 arg18_r0 arg19_r0 arg20_r0 arg21_r0 arg22_r0 arg23_r0 k0_hw1 k0_h18 => k0_hw1.2.2.2.2.2.1 k0_h18
theorem k0_off50_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h18 : k0_cond18 k0_t1 arg22_r0 arg23_r0 = 1#1), ∀ a, (k0_off50 arg22_r0 arg23_r0) a + S1x1024x1024.size a ≤ S8x2048x1024.size a := fun k0_t1 arg12_r0 arg13_r0 arg14_r0 arg15_r0 arg16_r0 arg17_r0 arg18_r0 arg19_r0 arg20_r0 arg21_r0 arg22_r0 arg23_r0 k0_hw1 k0_h18 => k0_hw1.2.2.2.2.2.2.1 k0_h18
theorem k0_off51_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h18 : k0_cond18 k0_t1 arg22_r0 arg23_r0 = 1#1), ∀ a, (k0_off51 arg20_r0) a + S1x1x1024x1024.size a ≤ S2x1x1024x1024.size a := fun k0_t1 arg12_r0 arg13_r0 arg14_r0 arg15_r0 arg16_r0 arg17_r0 arg18_r0 arg19_r0 arg20_r0 arg21_r0 arg22_r0 arg23_r0 k0_hw1 k0_h18 => k0_hw1.2.2.2.2.2.2.2.1 k0_h18
theorem k0_off52_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h23 : k0_cond23 k0_t1 arg22_r0 arg23_r0 = 1#1), ∀ a, (k0_off52 arg21_r0) a + S1.size a ≤ S2.size a := fun k0_t1 arg12_r0 arg13_r0 arg14_r0 arg15_r0 arg16_r0 arg17_r0 arg18_r0 arg19_r0 arg20_r0 arg21_r0 arg22_r0 arg23_r0 k0_hw1 k0_h23 => k0_hw1.2.2.2.2.2.2.2.2.1 k0_h23
theorem k0_off53_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h23 : k0_cond23 k0_t1 arg22_r0 arg23_r0 = 1#1), ∀ a, (k0_off53 arg22_r0 arg23_r0) a + S1x1024x1024.size a ≤ S8x2048x1024.size a := fun k0_t1 arg12_r0 arg13_r0 arg14_r0 arg15_r0 arg16_r0 arg17_r0 arg18_r0 arg19_r0 arg20_r0 arg21_r0 arg22_r0 arg23_r0 k0_hw1 k0_h23 => k0_hw1.2.2.2.2.2.2.2.2.2.1 k0_h23
theorem k0_off54_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg12_r0 arg13_r0 arg14_r0 arg15_r0 arg16_r0 arg17_r0 arg18_r0 arg19_r0 arg20_r0 arg21_r0 arg22_r0 arg23_r0), ∀ (k0_h23 : k0_cond23 k0_t1 arg22_r0 arg23_r0 = 1#1), ∀ a, (k0_off54 arg21_r0) a + S1x1x1024x1024.size a ≤ S2x1x1024x1024.size a := fun k0_t1 arg12_r0 arg13_r0 arg14_r0 arg15_r0 arg16_r0 arg17_r0 arg18_r0 arg19_r0 arg20_r0 arg21_r0 arg22_r0 arg23_r0 k0_hw1 k0_h23 => k0_hw1.2.2.2.2.2.2.2.2.2.2 k0_h23

def k0_off55 (v112_9_r0 : BitVec 32) : Fin 1 → Nat :=
  let c2_i32_161_r0 : BitVec 32 := 2#32
  let v163_r0 : BitVec 32 := Scalar.remui v112_9_r0 c2_i32_161_r0
  ![v163_r0.toNat]

def k0_off56 (v112_11_r0 : BitVec 32) (v112_10_r0 : BitVec 32) : Fin 3 → Nat :=
  let c1_i32_162_r0 : BitVec 32 := 1#32
  let true_117_r0 : BitVec 1 := 1#1
  let c1_i32_116_r0 : BitVec 32 := 1#32
  let v113_r0 : BitVec 32 := Scalar.subi v112_11_r0 c1_i32_116_r0
  let v114_r0 : BitVec 32 := Scalar.select true_117_r0 v113_r0 v112_11_r0
  let c_m1_i32_118_r0 : BitVec 32 := 4294967295#32
  let v115_r0 : BitVec 1 := Scalar.cmpi .eq v114_r0 c_m1_i32_118_r0
  let c1_i32_120_r0 : BitVec 32 := 1#32
  let v117_r0 : BitVec 32 := Scalar.subi v112_10_r0 c1_i32_120_r0
  let v118_r0 : BitVec 32 := Scalar.select v115_r0 v117_r0 v112_10_r0
  let c_m1_i32_121_r0 : BitVec 32 := 4294967295#32
  let v119_r0 : BitVec 1 := Scalar.cmpi .eq v118_r0 c_m1_i32_121_r0
  let c7_i32_122_r0 : BitVec 32 := 7#32
  let v120_r0 : BitVec 32 := Scalar.select v119_r0 c7_i32_122_r0 v118_r0
  let c0_i32_123_r0 : BitVec 32 := 0#32
  let v121_r0 : BitVec 32 := Scalar.addi v120_r0 c0_i32_123_r0
  let v164_r0 : BitVec 32 := Scalar.muli c1_i32_162_r0 v121_r0
  let c1024_i32_r0 : BitVec 32 := 1024#32
  let c1_i32_119_r0 : BitVec 32 := 1#32
  let v116_r0 : BitVec 32 := Scalar.select v115_r0 c1_i32_119_r0 v114_r0
  let c0_i32_124_r0 : BitVec 32 := 0#32
  let v122_r0 : BitVec 32 := Scalar.addi v116_r0 c0_i32_124_r0
  let v165_r0 : BitVec 32 := Scalar.muli c1024_i32_r0 v122_r0
  let c0_i32_163_r0 : BitVec 32 := 0#32
  ![v164_r0.toNat, v165_r0.toNat, 0]

def k0_chk9 (v112_11_r0 : BitVec 32) (v112_10_r0 : BitVec 32) : Prop :=
  (∀ a, (k0_off56 v112_11_r0 v112_10_r0) a + S1x1024x1024.size a ≤ S8x2048x1024.size a)
theorem k0_off56_inb : ∀ (v112_11_r0 : BitVec 32) (v112_10_r0 : BitVec 32) (k0_hw9 : k0_chk9 v112_11_r0 v112_10_r0), ∀ a, (k0_off56 v112_11_r0 v112_10_r0) a + S1x1024x1024.size a ≤ S8x2048x1024.size a := fun v112_11_r0 v112_10_r0 k0_hw9 => k0_hw9

def k0_off57 (v112_9_r0 : BitVec 32) : Fin 4 → Nat :=
  let c2_i32_161_r0 : BitVec 32 := 2#32
  let v163_r0 : BitVec 32 := Scalar.remui v112_9_r0 c2_i32_161_r0
  let c0_i32_164_r0 : BitVec 32 := 0#32
  let c0_i32_165_r0 : BitVec 32 := 0#32
  let c0_i32_166_r0 : BitVec 32 := 0#32
  ![v163_r0.toNat, 0, 0, 0]

def k0_chk8 (v112_9_r0 : BitVec 32) : Prop :=
  (∀ a, (k0_off55 v112_9_r0) a + S1.size a ≤ S2.size a) ∧
  (∀ a, (k0_off57 v112_9_r0) a + S1x1x1024x1024.size a ≤ S2x1x1024x1024.size a)
theorem k0_off55_inb : ∀ (v112_9_r0 : BitVec 32) (k0_hw8 : k0_chk8 v112_9_r0), ∀ a, (k0_off55 v112_9_r0) a + S1.size a ≤ S2.size a := fun v112_9_r0 k0_hw8 => k0_hw8.1
theorem k0_off57_inb : ∀ (v112_9_r0 : BitVec 32) (k0_hw8 : k0_chk8 v112_9_r0), ∀ a, (k0_off57 v112_9_r0) a + S1x1x1024x1024.size a ≤ S2x1x1024x1024.size a := fun v112_9_r0 k0_hw8 => k0_hw8.2

abbrev stage0_0 : Fin 1 → Memref sig .tc .vmem S8x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x2048x1024 : Shape := ⟨3, ![8, 2048, 1024]⟩
abbrev S8x2048x512 : Shape := ⟨3, ![8, 2048, 512]⟩
abbrev S8x3072 : Shape := ⟨2, ![8, 3072]⟩
abbrev S1x512 : Shape := ⟨2, ![1, 512]⟩
abbrev S1x1024 : Shape := ⟨2, ![1, 1024]⟩
abbrev S1x1024x1024 : Shape := ⟨3, ![1, 1024, 1024]⟩
abbrev S8x4x512x512 : Shape := ⟨4, ![8, 4, 512, 512]⟩
abbrev S8x512x4x512 : Shape := ⟨4, ![8, 512, 4, 512]⟩
abbrev S8x1024 : Shape := ⟨2, ![8, 1024]⟩
abbrev S_ : Shape := ⟨0, ![]⟩
abbrev S512 : Shape := ⟨1, ![512]⟩
abbrev S8x2048 : Shape := ⟨2, ![8, 2048]⟩
abbrev S8x2048x1 : Shape := ⟨3, ![8, 2048, 1]⟩
abbrev S1x1x512 : Shape := ⟨3, ![1, 1, 512]⟩
abbrev S1024x1024 : Shape := ⟨2, ![1024, 1024]⟩
abbrev S8x1x1024 : Shape := ⟨3, ![8, 1, 1024]⟩
abbrev S1024 : Shape := ⟨1, ![1024]⟩
abbrev S1x1x1024 : Shape := ⟨3, ![1, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S8x3072, .f32⟩
  | .hbm, ⟨5, _⟩ => ⟨S1x512, .f32⟩
  | .hbm, ⟨6, _⟩ => ⟨S1x1024, .f32⟩
  | .hbm, ⟨7, _⟩ => ⟨S1x1024x1024, .f32⟩
  | .hbm, ⟨8, _⟩ => ⟨S8x2048x512, .f32⟩
  | .hbm, ⟨9, _⟩ => ⟨S8x2048x512, .f32⟩
  | .hbm, ⟨10, _⟩ => ⟨S8x4x512x512, .f32⟩
  | .hbm, ⟨11, _⟩ => ⟨S8x512x4x512, .f32⟩
  | .hbm, ⟨12, _⟩ => ⟨S8x2048x512, .f32⟩
  | .hbm, ⟨13, _⟩ => ⟨S8x2048x512, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x2048x512, .f32⟩
  | .hbm, ⟨18, _⟩ => ⟨S8x2048x512, .f32⟩
  | .hbm, ⟨19, _⟩ => ⟨S_, .f32⟩
  | .hbm, ⟨20, _⟩ => ⟨S8x2048x512, .f32⟩
  | .hbm, ⟨21, _⟩ => ⟨S8x2048x512, .f32⟩
  | .hbm, ⟨22, _⟩ => ⟨S_, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S512, .f32⟩
  | .hbm, ⟨28, _⟩ => ⟨S8x2048x512, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1, .f32⟩
  | .hbm, ⟨39, _⟩ => ⟨S8x2048x512, .f32⟩
  | .hbm, ⟨40, _⟩ => ⟨S8x2048x512, .f32⟩
  | .hbm, ⟨41, _⟩ => ⟨S1x1x512, .f32⟩
  | .hbm, ⟨42, _⟩ => ⟨S8x2048x512, .f32⟩
  | .hbm, ⟨43, _⟩ => ⟨S8x2048x512, .f32⟩
  | .hbm, ⟨44, _⟩ => ⟨S8x2048x1024, .f32⟩
  | .hbm, ⟨45, _⟩ => ⟨S1024x1024, .f32⟩
  | .hbm, ⟨46, _⟩ => ⟨S8x2048x1024, .f32⟩
  | .hbm, ⟨47, _⟩ => ⟨S8x1x1024, .f32⟩
  | .hbm, ⟨48, _⟩ => ⟨S1024, .f32⟩
  | .hbm, ⟨49, _⟩ => ⟨S8x2048x1024, .f32⟩
  | .hbm, ⟨50, _⟩ => ⟨S_, .f32⟩
  | .hbm, ⟨51, _⟩ => ⟨S8x2048, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S_, .f32⟩
  | .hbm, ⟨57, _⟩ => ⟨S8x2048x1, .f32⟩
  | .hbm, ⟨58, _⟩ => ⟨S8x2048x1, .f32⟩
  | .hbm, ⟨59, _⟩ => ⟨S8x2048x1, .f32⟩
  | .hbm, ⟨60, _⟩ => ⟨S8x2048x1024, .f32⟩
  | .hbm, ⟨61, _⟩ => ⟨S8x2048x1024, .f32⟩
  | .hbm, ⟨62, _⟩ => ⟨S1x1x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x3072 : Shape := ⟨2, ![8, 3072]⟩
abbrev S1x1024 : Shape := ⟨2, ![1, 1024]⟩
abbrev S8x2048 : Shape := ⟨2, ![8, 2048]⟩
abbrev S1x1024x3072 : Shape := ⟨3, ![1, 1024, 3072]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1024 : Shape := ⟨1, ![1024]⟩
abbrev S1024x3072 : Shape := ⟨2, ![1024, 3072]⟩
abbrev S8x2048x512 : Shape := ⟨3, ![8, 2048, 512]⟩
abbrev S1x1024x1024 : Shape := ⟨3, ![1, 1024, 1024]⟩
abbrev S8x1024 : Shape := ⟨2, ![8, 1024]⟩
abbrev S1x1024x512 : Shape := ⟨3, ![1, 1024, 512]⟩
abbrev S1024x512 : Shape := ⟨2, ![1024, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1x256x512 : Shape := ⟨3, ![1, 256, 512]⟩
abbrev S1x256 : Shape := ⟨2, ![1, 256]⟩
abbrev S128x128 : Shape := ⟨2, ![128, 128]⟩
abbrev S256x128 : Shape := ⟨2, ![256, 128]⟩
abbrev S64x128 : Shape := ⟨2, ![64, 128]⟩

abbrev nBuf : Space → Nat
  | .hbm => 26
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x3072, .f32⟩
  | .hbm, ⟨2, _⟩ => ⟨S1x1024, .f32⟩
  | .hbm, ⟨3, _⟩ => ⟨S8x2048, .i32⟩
  | .hbm, ⟨4, _⟩ => ⟨S1x1024x3072, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S1x32, .f32⟩
  | .hbm, ⟨14, _⟩ => ⟨S4x32, .f32⟩
  | .hbm, ⟨15, _⟩ => ⟨S128, .f32⟩
  | .hbm, ⟨16, _⟩ => ⟨S1x128, .f32⟩
  | .hbm, ⟨17, _⟩ => ⟨S1024, .f32⟩
  | .hbm, ⟨18, _⟩ => ⟨S1024x3072, .f32⟩
  | .hbm, ⟨19, _⟩ => ⟨S1x1024, .f32⟩
  | .hbm, ⟨20, _⟩ => ⟨S8x2048x512, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S8x3072, .f32⟩
  | .local _ .vmem, ⟨3, _⟩ => ⟨S1x1024, .f32⟩
  | .local _ .vmem, ⟨4, _⟩ => ⟨S8x1024, .i32⟩
  | .local _ .vmem, ⟨5, _⟩ => ⟨S8x1024, .i32⟩
  | .local _ .vmem, ⟨6, _⟩ => ⟨S1x128, .f32⟩
  | .local _ .vmem, ⟨7, _⟩ => ⟨S1024x3072, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | .local _ .vmem, ⟨17, _⟩ => ⟨S1x1024x512, .f32⟩
  | .local _ .vmem, ⟨18, _⟩ => ⟨S1x1024x512, .bf16⟩
  | .local _ .vmem, ⟨19, _⟩ => ⟨S1x1024x512, .bf16⟩
  | .local _ .vmem, ⟨20, _⟩ => ⟨S1024x3072, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev main_v13_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let arg0 : BitVec 32 := BitVec.ofNat 32 (i 0).val
  let v5 : Index := Scalar.indexCast arg0
  let c0 : Index := 0#32
  ![v5.toNat, 0]
def k0_off2 (i : grid0.Coords) : Fin 2 → Nat :=
  let arg0 : BitVec 32 := BitVec.ofNat 32 (i 0).val
  let v7 : Index := Scalar.indexCast arg0
  let c1024 : Index := 1024#32
  ![v7.toNat, 1024]
def k0_off3 (i : grid0.Coords) : Fin 2 → Nat :=
  let arg0 : BitVec 32 := BitVec.ofNat 32 (i 0).val
  let v46 : Index := Scalar.indexCast arg0
  let c0_26 : Index := 0#32
  ![v46.toNat, 0]
def k0_off4 (i : grid0.Coords) : Fin 2 → Nat :=
  let arg0 : BitVec 32 := BitVec.ofNat 32 (i 0).val
  let v393 : Index := Scalar.indexCast arg0
  let c256_132 : Index := 256#32
  ![v393.toNat, 256]
def k0_off5 (i : grid0.Coords) : Fin 2 → Nat :=
  let arg0 : BitVec 32 := BitVec.ofNat 32 (i 0).val
  let v740 : Index := Scalar.indexCast arg0
  let c512_247 : Index := 512#32
  ![v740.toNat, 512]
def k0_off6 (i : grid0.Coords) : Fin 2 → Nat :=
  let arg0 : BitVec 32 := BitVec.ofNat 32 (i 0).val
  let v1087 : Index := Scalar.indexCast arg0
  let c768_361 : Index := 768#32
  ![v1087.toNat, 768]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x2048x1024 : Shape := ⟨3, ![8, 2048, 1024]⟩
abbrev S8x3072 : Shape := ⟨2, ![8, 3072]⟩
abbrev S1x1024 : Shape := ⟨2, ![1, 1024]⟩
abbrev S8x2048 : Shape := ⟨2, ![8, 2048]⟩
abbrev S1x1024x3072 : Shape := ⟨3, ![1, 1024, 3072]⟩
abbrev S8x1024 : Shape := ⟨2, ![8, 1024]⟩
abbrev S1024 : Shape := ⟨1, ![1024]⟩
abbrev S_ : Shape := ⟨0, ![]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1024x3072 : Shape := ⟨2, ![1024, 3072]⟩
abbrev S8x2048x3072 : Shape := ⟨3, ![8, 2048, 3072]⟩
abbrev S8x2048x512 : Shape := ⟨3, ![8, 2048, 512]⟩
abbrev S8x2048x8x64 : Shape := ⟨4, ![8, 2048, 8, 64]⟩
abbrev S32 : Shape := ⟨1, ![32]⟩
abbrev S1x1x32 : Shape := ⟨3, ![1, 1, 32]⟩
abbrev S8x2048x32 : Shape := ⟨3, ![8, 2048, 32]⟩
abbrev S8x2048x1x32 : Shape := ⟨4, ![8, 2048, 1, 32]⟩
abbrev S8x2048x8x32 : Shape := ⟨4, ![8, 2048, 8, 32]⟩

abbrev nBuf : Space → Nat
  | .hbm => 112
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x3072, .f32⟩
  | .hbm, ⟨2, _⟩ => ⟨S1x1024, .f32⟩
  | .hbm, ⟨3, _⟩ => ⟨S8x2048, .i32⟩
  | .hbm, ⟨4, _⟩ => ⟨S1x1024x3072, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S1024x3072, .f32⟩
  | .hbm, ⟨35, _⟩ => ⟨S8x2048x3072, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S8x2048x512, .f32⟩
  | .hbm, ⟨40, _⟩ => ⟨S8x2048x512, .f32⟩
  | .hbm, ⟨41, _⟩ => ⟨S8x2048x512, .f32⟩
  | .hbm, ⟨42, _⟩ => ⟨S8x2048x8x64, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S8x2048, .f32⟩
  | .hbm, ⟨52, _⟩ => ⟨S8x2048x1, .f32⟩
  | .hbm, ⟨53, _⟩ => ⟨S1x1x32, .f32⟩
  | .hbm, ⟨54, _⟩ => ⟨S8x2048x32, .f32⟩
  | .hbm, ⟨55, _⟩ => ⟨S8x2048x32, .f32⟩
  | .hbm, ⟨56, _⟩ => ⟨S8x2048x32, .f32⟩
  | .hbm, ⟨57, _⟩ => ⟨S8x2048x32, .f32⟩
  | .hbm, ⟨58, _⟩ => ⟨S8x2048x1x32, .f32⟩
  | .hbm, ⟨59, _⟩ => ⟨S8x2048x32, .f32⟩
  | .hbm, ⟨60, _⟩ => ⟨S8x2048x1x32, .f32⟩
  | .hbm, ⟨61, _⟩ => ⟨S8x2048x8x32, .f32⟩
  | .hbm, ⟨62, _⟩ => ⟨S8x2048x8x32, .f32⟩
  | .hbm, ⟨63, _⟩ => ⟨S8x2048x8x32, .f32⟩
  | .hbm, ⟨64, _⟩ => ⟨S8x2048x8x32, .f32⟩
  | .hbm, ⟨65, _⟩ => ⟨S8x2048x8x32, .f32⟩
  | .hbm, ⟨66, _⟩ => ⟨S8x2048x8x32, .f32⟩
  | .hbm, ⟨67, _⟩ => ⟨S8x2048x8x32, .f32⟩
  | .hbm, ⟨68, _⟩ => ⟨S8x2048x8x32, .f32⟩
  | .hbm, ⟨69, _⟩ => ⟨S8x2048x8x32, .f32⟩
  | .hbm, ⟨70, _⟩ => ⟨S8x2048x8x32, .f32⟩
  | .hbm, ⟨71, _⟩ => ⟨S8x2048x8x32, .f32⟩
  | .hbm, ⟨72, _⟩ => ⟨S8x2048x8x32, .f32⟩
  | .hbm, ⟨73, _⟩ => ⟨S8x2048x8x64, .f32⟩
  | .hbm, ⟨74, _⟩ => ⟨S_, .f32⟩
  | .hbm, ⟨75, _⟩ => ⟨S8x2048x8x64, .f32⟩
  | .hbm, ⟨76, _⟩ => ⟨S8x2048x8x64, .f32⟩
  | .hbm, ⟨77, _⟩ => ⟨S8x2048x512, .f32⟩
  | .hbm, ⟨78, _⟩ => ⟨S8x2048x8x64, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S8x2048, .f32⟩
  | .hbm, ⟨88, _⟩ => ⟨S8x2048x1, .f32⟩
  | .hbm, ⟨89, _⟩ => ⟨S1x1x32, .f32⟩
  | .hbm, ⟨90, _⟩ => ⟨S8x2048x32, .f32⟩
  | .hbm, ⟨91, _⟩ => ⟨S8x2048x32, .f32⟩
  | .hbm, ⟨92, _⟩ => ⟨S8x2048x32, .f32⟩
  | .hbm, ⟨93, _⟩ => ⟨S8x2048x32, .f32⟩
  | .hbm, ⟨94, _⟩ => ⟨S8x2048x1x32, .f32⟩
  | .hbm, ⟨95, _⟩ => ⟨S8x2048x32, .f32⟩
  | .hbm, ⟨96, _⟩ => ⟨S8x2048x1x32, .f32⟩
  | .hbm, ⟨97, _⟩ => ⟨S8x2048x8x32, .f32⟩
  | .hbm, ⟨98, _⟩ => ⟨S8x2048x8x32, .f32⟩
  | .hbm, ⟨99, _⟩ => ⟨S8x2048x8x32, .f32⟩
  | .hbm, ⟨100, _⟩ => ⟨S8x2048x8x32, .f32⟩
  | .hbm, ⟨101, _⟩ => ⟨S8x2048x8x32, .f32⟩
  | .hbm, ⟨102, _⟩ => ⟨S8x2048x8x32, .f32⟩
  | .hbm, ⟨103, _⟩ => ⟨S8x2048x8x32, .f32⟩
  | .hbm, ⟨104, _⟩ => ⟨S8x2048x8x32, .f32⟩
  | .hbm, ⟨105, _⟩ => ⟨S8x2048x8x32, .f32⟩
  | .hbm, ⟨106, _⟩ => ⟨S8x2048x8x32, .f32⟩
  | .hbm, ⟨107, _⟩ => ⟨S8x2048x8x32, .f32⟩
  | .hbm, ⟨108, _⟩ => ⟨S8x2048x8x32, .f32⟩
  | .hbm, ⟨109, _⟩ => ⟨S8x2048x8x64, .f32⟩
  | .hbm, ⟨110, _⟩ => ⟨S8x2048x512, .f32⟩
  | .hbm, ⟨111, _⟩ => ⟨S8x2048x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_5 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_6 : Ref sig .tc := ⟨.hbm, 81, rfl⟩
abbrev main_v69 : Ref sig .tc := ⟨.hbm, 82, rfl⟩
abbrev main_v70 : Ref sig .tc := ⟨.hbm, 83, rfl⟩
abbrev main_cst_7 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩

abbrev nD : Nat := 1
abbrev τ : Topo := Topo.v7x

variable {F : FTy → Type} [FloatOps F]
-- ==== Kernel3.lean ====
abbrev S8x1024 : Shape := ⟨2, ![8, 1024]⟩
abbrev S1x1024x3072 : Shape := ⟨3, ![1, 1024, 3072]⟩
abbrev S1x3072 : Shape := ⟨2, ![1, 3072]⟩
abbrev S1024x3072 : Shape := ⟨2, ![1024, 3072]⟩
abbrev S3072 : Shape := ⟨1, ![3072]⟩
abbrev S8x3072 : Shape := ⟨2, ![8, 3072]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x3072, .f32⟩
  | .hbm, ⟨2, _⟩ => ⟨S1x3072, .f32⟩
  | .hbm, ⟨3, _⟩ => ⟨S1024x3072, .f32⟩
  | .hbm, ⟨4, _⟩ => ⟨S3072, .f32⟩
  | .hbm, ⟨5, _⟩ => ⟨S1x3072, .f32⟩
  | .hbm, ⟨6, _⟩ => ⟨S8x3072, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x1024 : Shape := ⟨2, ![8, 1024]⟩
abbrev S1x1024x3072 : Shape := ⟨3, ![1, 1024, 3072]⟩
abbrev S1x3072 : Shape := ⟨2, ![1, 3072]⟩
abbrev S_ : Shape := ⟨0, ![]⟩
abbrev S1024x3072 : Shape := ⟨2, ![1024, 3072]⟩
abbrev S8x3072 : Shape := ⟨2, ![8, 3072]⟩
abbrev S3072 : Shape := ⟨1, ![3072]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x3072, .f32⟩
  | .hbm, ⟨2, _⟩ => ⟨S1x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x3072, .f32⟩
  | .hbm, ⟨13, _⟩ => ⟨S8x3072, .f32⟩
  | .hbm, ⟨14, _⟩ => ⟨S3072, .f32⟩
  | .hbm, ⟨15, _⟩ => ⟨S1x3072, .f32⟩
  | .hbm, ⟨16, _⟩ => ⟨S8x3072, .f32⟩
  | .hbm, ⟨17, _⟩ => ⟨S8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel4.lean ====
abbrev S8x2048x512 : Shape := ⟨3, ![8, 2048, 512]⟩
abbrev S1x4x512 : Shape := ⟨3, ![1, 4, 512]⟩
abbrev S1x512 : Shape := ⟨2, ![1, 512]⟩
abbrev S1x8x64x64 : Shape := ⟨4, ![1, 8, 64, 64]⟩
abbrev S4x512 : Shape := ⟨2, ![4, 512]⟩
abbrev S512 : Shape := ⟨1, ![512]⟩
abbrev S8x64x64 : Shape := ⟨3, ![8, 64, 64]⟩
abbrev S2x2 : Shape := ⟨2, ![2, 2]⟩
abbrev S_ : Shape := ⟨0, ![]⟩
abbrev S4x2x64x64 : Shape := ⟨4, ![4, 2, 64, 64]⟩
abbrev S4x2x64x1x64 : Shape := ⟨5, ![4, 2, 64, 1, 64]⟩
abbrev S1x2x1x2x1 : Shape := ⟨5, ![1, 2, 1, 2, 1]⟩
abbrev S4x2x64x2x64 : Shape := ⟨5, ![4, 2, 64, 2, 64]⟩
abbrev S4x128x128 : Shape := ⟨3, ![4, 128, 128]⟩
abbrev S4x128x256 : Shape := ⟨3, ![4, 128, 256]⟩
abbrev S1x2048x128 : Shape := ⟨3, ![1, 2048, 128]⟩
abbrev S8x64x512 : Shape := ⟨3, ![8, 64, 512]⟩
abbrev S256x256 : Shape := ⟨2, ![256, 256]⟩
abbrev S3x2048x128 : Shape := ⟨3, ![3, 2048, 128]⟩
abbrev S4x536x128 : Shape := ⟨3, ![4, 536, 128]⟩
abbrev S4x512x128 : Shape := ⟨3, ![4, 512, 128]⟩
abbrev S4x8x128 : Shape := ⟨3, ![4, 8, 128]⟩
abbrev S4x24x128 : Shape := ⟨3, ![4, 24, 128]⟩
abbrev S1x128 : Shape := ⟨2, ![1, 128]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S128x1 : Shape := ⟨2, ![128, 1]⟩
abbrev S1x64x128 : Shape := ⟨3, ![1, 64, 128]⟩
abbrev S64x128 : Shape := ⟨2, ![64, 128]⟩
abbrev S128x256 : Shape := ⟨2, ![128, 256]⟩
abbrev S128x512 : Shape := ⟨2, ![128, 512]⟩
abbrev S512x256 : Shape := ⟨2, ![512, 256]⟩
abbrev S1x128x256 : Shape := ⟨3, ![1, 128, 256]⟩
abbrev S64x512 : Shape := ⟨2, ![64, 512]⟩
abbrev S1x64x512 : Shape := ⟨3, ![1, 64, 512]⟩
abbrev S64 : Shape := ⟨1, ![64]⟩
abbrev S64x1 : Shape := ⟨2, ![64, 1]⟩

abbrev nBuf : Space → Nat
  | .hbm => 54
  | .vmem => 30
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S1x4x512, .f32⟩
  | .hbm, ⟨6, _⟩ => ⟨S1x512, .f32⟩
  | .hbm, ⟨7, _⟩ => ⟨S1x8x64x64, .f32⟩
  | .hbm, ⟨8, _⟩ => ⟨S1x512, .f32⟩
  | .hbm, ⟨9, _⟩ => ⟨S1x8x64x64, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S4x512, .f32⟩
  | .hbm, ⟨14, _⟩ => ⟨S512, .f32⟩
  | .hbm, ⟨15, _⟩ => ⟨S8x64x64, .f32⟩
  | .hbm, ⟨16, _⟩ => ⟨S8x64x64, .f32⟩
  | .hbm, ⟨17, _⟩ => ⟨S2x2, .i32⟩
  | .hbm, ⟨18, _⟩ => ⟨S2x2, .i32⟩
  | .hbm, ⟨19, _⟩ => ⟨S_, .i32⟩
  | .hbm, ⟨20, _⟩ => ⟨S2x2, .i32⟩
  | .hbm, ⟨21, _⟩ => ⟨S2x2, .i32⟩
  | .hbm, ⟨22, _⟩ => ⟨S2x2, .i1⟩
  | .hbm, ⟨23, _⟩ => ⟨S2x2, .f32⟩
  | .hbm, ⟨24, _⟩ => ⟨S4x2x64x64, .f32⟩
  | .hbm, ⟨25, _⟩ => ⟨S4x2x64x1x64, .f32⟩
  | .hbm, ⟨26, _⟩ => ⟨S1x2x1x2x1, .f32⟩
  | .hbm, ⟨27, _⟩ => ⟨S4x2x64x2x64, .f32⟩
  | .hbm, ⟨28, _⟩ => ⟨S4x2x64x2x64, .f32⟩
  | .hbm, ⟨29, _⟩ => ⟨S4x2x64x2x64, .f32⟩
  | .hbm, ⟨30, _⟩ => ⟨S4x128x128, .f32⟩
  | .hbm, ⟨31, _⟩ => ⟨S4x2x64x64, .f32⟩
  | .hbm, ⟨32, _⟩ => ⟨S4x2x64x1x64, .f32⟩
  | .hbm, ⟨33, _⟩ => ⟨S1x2x1x2x1, .f32⟩
  | .hbm, ⟨34, _⟩ => ⟨S4x2x64x2x64, .f32⟩
  | .hbm, ⟨35, _⟩ => ⟨S4x2x64x2x64, .f32⟩
  | .hbm, ⟨36, _⟩ => ⟨S4x2x64x2x64, .f32⟩
  | .hbm, ⟨37, _⟩ => ⟨S4x128x128, .f32⟩
  | .hbm, ⟨38, _⟩ => ⟨S4x128x256, .f32⟩
  | .hbm, ⟨39, _⟩ => ⟨S_, .f32⟩
  | .hbm, ⟨40, _⟩ => ⟨S4x128x256, .f32⟩
  | .hbm, ⟨41, _⟩ => ⟨S4x128x256, .f32⟩
  | .hbm, ⟨42, _⟩ => ⟨S4x128x256, .bf16⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S8x2048x512, .bf16⟩
  | .hbm, ⟨53, _⟩ => ⟨S8x2048x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S8x64x512, .f32⟩
  | .local _ .vmem, ⟨7, _⟩ => ⟨S8x64x512, .f32⟩
  | .local _ .vmem, ⟨8, _⟩ => ⟨S8x64x512, .f32⟩
  | .local _ .vmem, ⟨9, _⟩ => ⟨S8x64x512, .f32⟩
  | .local _ .vmem, ⟨10, _⟩ => ⟨S4x512, .f32⟩
  | .local _ .vmem, ⟨11, _⟩ => ⟨S1x512, .f32⟩
  | .local _ .vmem, ⟨12, _⟩ => ⟨S4x128x256, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x2048x128, .bf16⟩
  | .local _ .vmem, ⟨18, _⟩ => ⟨S1x2048x128, .bf16⟩
  | .local _ .vmem, ⟨19, _⟩ => ⟨S8x64x512, .bf16⟩
  | .local _ .vmem, ⟨20, _⟩ => ⟨S8x64x512, .bf16⟩
  | .local _ .vmem, ⟨21, _⟩ => ⟨S256x256, .bf16⟩
  | .local _ .vmem, ⟨22, _⟩ => ⟨S3x2048x128, .f32⟩
  | .local _ .vmem, ⟨23, _⟩ => ⟨S3x2048x128, .f32⟩
  | .local _ .vmem, ⟨24, _⟩ => ⟨S3x2048x128, .f32⟩
  | .local _ .vmem, ⟨25, _⟩ => ⟨S3x2048x128, .f32⟩
  | .local _ .vmem, ⟨26, _⟩ => ⟨S4x536x128, .f32⟩
  | .local _ .vmem, ⟨27, _⟩ => ⟨S4x512x128, .f32⟩
  | .local _ .vmem, ⟨28, _⟩ => ⟨S4x512x128, .f32⟩
  | .local _ .vmem, ⟨29, _⟩ => ⟨S4x8x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37_0 : Ref sig .tc := ⟨.hbm, 52, rfl⟩
abbrev main_v37_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x64x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Proof.Names.lean ====
/-
  The kernel's buffers by name: block `b` of each array left in HBM, slot `s` of each ring, the slot's semaphore; and
  the twelve words its loop carries, as functions of the trip. Before trip `k` the fetch counters read `min (k + 2) 16`,
  the consume counters `k`, the write counter `k`, the write-wait counter `k - 1`, and the block is `(k / 2, k % 2)`.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Tactic

@[expose] public section

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the launch's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Offsets -/

/-- Block `b` of an array cut into sixteen row blocks: batch `b / 2`, rows from `1024 (b % 2)`. -/
abbrev rowOff (b : Fin 16) : Fin 3 → Nat := ![b.val / 2, 1024 * (b.val % 2), 0]
/-- The same block of the array whose rows are stored by remainder modulo four. -/
abbrev attOff (b : Fin 16) : Fin 4 → Nat := ![b.val / 2, 0, 256 * (b.val % 2), 0]
abbrev slotOff4 {n : Nat} (s : Fin n) : Fin 4 → Nat := ![s.val, 0, 0, 0]
abbrev slotOff5 {n : Nat} (s : Fin n) : Fin 5 → Nat := ![s.val, 0, 0, 0, 0]
abbrev semOff {n : Nat} (s : Fin n) : Fin 1 → Nat := ![s.val]

theorem rowOff_inb : ∀ (b : Fin 16) (a : Fin 3), rowOff b a + S1x1024x1024.size a ≤ S8x2048x1024.size a := by decide +kernel
theorem rowOff_inb' : ∀ (b : Fin 16) (a : Fin 3), rowOff b a + S1x1024x512.size a ≤ S8x2048x512.size a := by decide +kernel
theorem attOff_inb : ∀ (b : Fin 16) (a : Fin 4), attOff b a + S1x4x256x512.size a ≤ S8x4x512x512.size a := by decide +kernel
theorem xslot_inb : ∀ (s : Fin 3) (a : Fin 4), slotOff4 s a + S1x1x1024x1024.size a ≤ S3x1x1024x1024.size a := by decide +kernel
theorem yslot_inb : ∀ (s : Fin 3) (a : Fin 4), slotOff4 s a + S1x1x1024x512.size a ≤ S3x1x1024x512.size a := by decide +kernel
theorem aslot_inb : ∀ (s : Fin 3) (a : Fin 5), slotOff5 s a + S1x1x4x256x512.size a ≤ S3x1x4x256x512.size a := by decide +kernel
theorem oslot_inb : ∀ (s : Fin 2) (a : Fin 4), slotOff4 s a + S1x1x1024x1024.size a ≤ S2x1x1024x1024.size a := by decide +kernel
theorem sem3_inb : ∀ (s : Fin 3) (a : Fin 1), semOff s a + S1.size a ≤ S3.size a := by decide +kernel
theorem sem2_inb : ∀ (s : Fin 2) (a : Fin 1), semOff s a + S1.size a ≤ S2.size a := by decide +kernel

/-! ## The memrefs -/

abbrev xM : Memref sig .tc .hbm S8x2048x1024 .f32 := Memref.whole main_arg0
abbrev yM : Memref sig .tc .hbm S8x2048x512 .bf16 := Memref.whole main_arg1
abbrev aM : Memref sig .tc .hbm S8x4x512x512 .bf16 := Memref.whole main_v3
abbrev gM : Memref sig .tc .hbm S8x2048x512 .bf16 := Memref.whole main_arg3
abbrev oM : Memref sig .tc .hbm S8x2048x1024 .f32 := Memref.whole main_v6
abbrev sM : Memref sig .tc .vmem S4x1024x128 .f32 := Memref.whole cc0_scratch0
abbrev wM : Memref sig .tc .vmem S1024x1024 .bf16 := Memref.whole cc0_scratch1
abbrev xR : Memref sig .tc .vmem S3x1x1024x1024 .f32 := Memref.whole cc0_scoped0
abbrev yR : Memref sig .tc .vmem S3x1x1024x512 .bf16 := Memref.whole cc0_scoped2
abbrev aR : Memref sig .tc .vmem S3x1x4x256x512 .bf16 := Memref.whole cc0_scoped4
abbrev gR : Memref sig .tc .vmem S3x1x1024x512 .bf16 := Memref.whole cc0_scoped6
abbrev oR : Memref sig .tc .vmem S2x1x1024x1024 .f32 := Memref.whole cc0_scoped8

def xblk (b : Fin 16) : Memref sig .tc .hbm S1x1024x1024 .f32 :=
  xM.slice (Rect.unit (s := S8x2048x1024) (rowOff b) S1x1024x1024.size (rowOff_inb b)) (fun _ => rfl)
def yblk (b : Fin 16) : Memref sig .tc .hbm S1x1024x512 .bf16 :=
  yM.slice (Rect.unit (s := S8x2048x512) (rowOff b) S1x1024x512.size (rowOff_inb' b)) (fun _ => rfl)
def ablk (b : Fin 16) : Memref sig .tc .hbm S1x4x256x512 .bf16 :=
  aM.slice (Rect.unit (s := S8x4x512x512) (attOff b) S1x4x256x512.size (attOff_inb b)) (fun _ => rfl)
def gblk (b : Fin 16) : Memref sig .tc .hbm S1x1024x512 .bf16 :=
  gM.slice (Rect.unit (s := S8x2048x512) (rowOff b) S1x1024x512.size (rowOff_inb' b)) (fun _ => rfl)
def oblk (b : Fin 16) : Memref sig .tc .hbm S1x1024x1024 .f32 :=
  oM.slice (Rect.unit (s := S8x2048x1024) (rowOff b) S1x1024x1024.size (rowOff_inb b)) (fun _ => rfl)

def xslot (s : Fin 3) : Memref sig .tc .vmem S1x1024x1024 .f32 :=
  (xR.slice (Rect.unit (s := S3x1x1024x1024) (slotOff4 s) S1x1x1024x1024.size (xslot_inb s)) (fun _ => rfl)).squeeze S1x1024x1024 squeezes_S1x1x1024x1024_S1x1024x1024
def yslot (s : Fin 3) : Memref sig .tc .vmem S1x1024x512 .bf16 :=
  (yR.slice (Rect.unit (s := S3x1x1024x512) (slotOff4 s) S1x1x1024x512.size (yslot_inb s)) (fun _ => rfl)).squeeze S1x1024x512 squeezes_S1x1x1024x512_S1x1024x512
def aslot (s : Fin 3) : Memref sig .tc .vmem S1x4x256x512 .bf16 :=
  (aR.slice (Rect.unit (s := S3x1x4x256x512) (slotOff5 s) S1x1x4x256x512.size (aslot_inb s)) (fun _ => rfl)).squeeze S1x4x256x512 squeezes_S1x1x4x256x512_S1x4x256x512
def gslot (s : Fin 3) : Memref sig .tc .vmem S1x1024x512 .bf16 :=
  (gR.slice (Rect.unit (s := S3x1x1024x512) (slotOff4 s) S1x1x1024x512.size (yslot_inb s)) (fun _ => rfl)).squeeze S1x1024x512 squeezes_S1x1x1024x512_S1x1024x512
def oslot (s : Fin 2) : Memref sig .tc .vmem S1x1024x1024 .f32 :=
  (oR.slice (Rect.unit (s := S2x1x1024x1024) (slotOff4 s) S1x1x1024x1024.size (oslot_inb s)) (fun _ => rfl)).squeeze S1x1024x1024 squeezes_S1x1x1024x1024_S1x1024x1024

def xsem (s : Fin 3) : DmaSems sig S_ := (cc0_scoped1.slice (Rect.unit (s := S3) (semOff s) S1.size (sem3_inb s))).squeeze S_ squeezes_S1_S_
def ysem (s : Fin 3) : DmaSems sig S_ := (cc0_scoped3.slice (Rect.unit (s := S3) (semOff s) S1.size (sem3_inb s))).squeeze S_ squeezes_S1_S_
def asem (s : Fin 3) : DmaSems sig S_ := (cc0_scoped5.slice (Rect.unit (s := S3) (semOff s) S1.size (sem3_inb s))).squeeze S_ squeezes_S1_S_
def gsem (s : Fin 3) : DmaSems sig S_ := (cc0_scoped7.slice (Rect.unit (s := S3) (semOff s) S1.size (sem3_inb s))).squeeze S_ squeezes_S1_S_
def osm (s : Fin 2) : DmaSems sig S_ := (cc0_scoped9.slice (Rect.unit (s := S2) (semOff s) S1.size (sem2_inb s))).squeeze S_ squeezes_S1_S_

/-! ## A slice at offsets equal to a name's is the name -/

section Congr
theorem xsem_of {off : Fin 1 → Nat} {s : Fin 3} (e : off = semOff s) (hh) :
    (cc0_scoped1.slice (Rect.unit (s := S3) off S1.size hh)).squeeze S_ squeezes_S1_S_ = xsem s := by subst e; rfl
theorem ysem_of {off : Fin 1 → Nat} {s : Fin 3} (e : off = semOff s) (hh) :
    (cc0_scoped3.slice (Rect.unit (s := S3) off S1.size hh)).squeeze S_ squeezes_S1_S_ = ysem s := by subst e; rfl
theorem asem_of {off : Fin 1 → Nat} {s : Fin 3} (e : off = semOff s) (hh) :
    (cc0_scoped5.slice (Rect.unit (s := S3) off S1.size hh)).squeeze S_ squeezes_S1_S_ = asem s := by subst e; rfl
theorem gsem_of {off : Fin 1 → Nat} {s : Fin 3} (e : off = semOff s) (hh) :
    (cc0_scoped7.slice (Rect.unit (s := S3) off S1.size hh)).squeeze S_ squeezes_S1_S_ = gsem s := by subst e; rfl
theorem osm_of {off : Fin 1 → Nat} {s : Fin 2} (e : off = semOff s) (hh) :
    (cc0_scoped9.slice (Rect.unit (s := S2) off S1.size hh)).squeeze S_ squeezes_S1_S_ = osm s := by subst e; rfl
theorem xslot_of {off : Fin 4 → Nat} {s : Fin 3} (e : off = slotOff4 s) (hh hs) :
    (xR.slice (Rect.unit (s := S3x1x1024x1024) off S1x1x1024x1024.size hh) hs).squeeze S1x1024x1024 squeezes_S1x1x1024x1024_S1x1024x1024 = xslot s := by subst e; rfl
theorem yslot_of {off : Fin 4 → Nat} {s : Fin 3} (e : off = slotOff4 s) (hh hs) :
    (yR.slice (Rect.unit (s := S3x1x1024x512) off S1x1x1024x512.size hh) hs).squeeze S1x1024x512 squeezes_S1x1x1024x512_S1x1024x512 = yslot s := by subst e; rfl
theorem aslot_of {off : Fin 5 → Nat} {s : Fin 3} (e : off = slotOff5 s) (hh hs) :
    (aR.slice (Rect.unit (s := S3x1x4x256x512) off S1x1x4x256x512.size hh) hs).squeeze S1x4x256x512 squeezes_S1x1x4x256x512_S1x4x256x512 = aslot s := by subst e; rfl
theorem gslot_of {off : Fin 4 → Nat} {s : Fin 3} (e : off = slotOff4 s) (hh hs) :
    (gR.slice (Rect.unit (s := S3x1x1024x512) off S1x1x1024x512.size hh) hs).squeeze S1x1024x512 squeezes_S1x1x1024x512_S1x1024x512 = gslot s := by subst e; rfl
theorem oslot_of {off : Fin 4 → Nat} {s : Fin 2} (e : off = slotOff4 s) (hh hs) :
    (oR.slice (Rect.unit (s := S2x1x1024x1024) off S1x1x1024x1024.size hh) hs).squeeze S1x1024x1024 squeezes_S1x1x1024x1024_S1x1024x1024 = oslot s := by subst e; rfl
theorem xblk_of {off : Fin 3 → Nat} {b : Fin 16} (e : off = rowOff b) (hh hs) :
    xM.slice (Rect.unit (s := S8x2048x1024) off S1x1024x1024.size hh) hs = xblk b := by subst e; rfl
theorem yblk_of {off : Fin 3 → Nat} {b : Fin 16} (e : off = rowOff b) (hh hs) :
    yM.slice (Rect.unit (s := S8x2048x512) off S1x1024x512.size hh) hs = yblk b := by subst e; rfl
theorem ablk_of {off : Fin 4 → Nat} {b : Fin 16} (e : off = attOff b) (hh hs) :
    aM.slice (Rect.unit (s := S8x4x512x512) off S1x4x256x512.size hh) hs = ablk b := by subst e; rfl
theorem gblk_of {off : Fin 3 → Nat} {b : Fin 16} (e : off = rowOff b) (hh hs) :
    gM.slice (Rect.unit (s := S8x2048x512) off S1x1024x512.size hh) hs = gblk b := by subst e; rfl
theorem oblk_of {off : Fin 3 → Nat} {b : Fin 16} (e : off = rowOff b) (hh hs) :
    oM.slice (Rect.unit (s := S8x2048x1024) off S1x1024x1024.size hh) hs = oblk b := by subst e; rfl
end Congr

/-! ## The carried words before trip `k` -/

def wI (k : Nat) : BitVec 32 := BitVec.ofNat 32 (min (k + 2) 16)
def wW (k : Nat) : BitVec 32 := BitVec.ofNat 32 k
def wO (k : Nat) : BitVec 32 := BitVec.ofNat 32 (k - 1)
def wB (k : Nat) : BitVec 32 := BitVec.ofNat 32 (k / 2 % 8)
def wR (k : Nat) : BitVec 32 := BitVec.ofNat 32 (k % 2)

/-- The tuple the loop carries into trip `k`. -/
def accAt (k : Nat) : BitVec 32 × BitVec 32 × BitVec 32 × BitVec 32 × BitVec 32 × BitVec 32 × BitVec 32 × BitVec 32 × BitVec 32 × BitVec 32 × BitVec 32 × BitVec 32 :=
  (wI k, wW k, wI k, wW k, wI k, wW k, wI k, wW k, wW k, wO k, wB k, wR k)

theorem trips_eq : k0_t1_loop.trips = 16 := by decide +kernel

abbrev TT : Type := Fin k0_t1_loop.trips

/-! ### Conditions: what a trip starts and waits -/

theorem cond5_eq : ∀ k : TT, k.val < 14 → k0_cond5 k (wB k) (wR k) = 1#1 := by decide +kernel
theorem cond6_eq : ∀ k : TT, k.val < 14 → k0_cond6 k (wB k) (wR k) = 1#1 := by decide +kernel
theorem cond7_eq : ∀ k : TT, k.val < 14 → k0_cond7 k (wB k) (wR k) = 1#1 := by decide +kernel
theorem cond8_eq : ∀ k : TT, k.val < 14 → k0_cond8 k (wB k) (wR k) = 1#1 := by decide +kernel
theorem cond5_ne : ∀ k : TT, ¬ k.val < 14 → ¬ k0_cond5 k (wB k) (wR k) = 1#1 := by decide +kernel
theorem cond6_ne : ∀ k : TT, ¬ k.val < 14 → ¬ k0_cond6 k (wB k) (wR k) = 1#1 := by decide +kernel
theorem cond7_ne : ∀ k : TT, ¬ k.val < 14 → ¬ k0_cond7 k (wB k) (wR k) = 1#1 := by decide +kernel
theorem cond8_ne : ∀ k : TT, ¬ k.val < 14 → ¬ k0_cond8 k (wB k) (wR k) = 1#1 := by decide +kernel
theorem cond9_eq : ∀ k : TT, k0_cond9 k (wB k) (wR k) = 1#1 := by decide +kernel
theorem cond10_eq : ∀ k : TT, k0_cond10 k (wB k) (wR k) = 1#1 := by decide +kernel
theorem cond11_eq : ∀ k : TT, k0_cond11 k (wB k) (wR k) = 1#1 := by decide +kernel
theorem cond12_eq : ∀ k : TT, k0_cond12 k (wB k) (wR k) = 1#1 := by decide +kernel
theorem cond18_eq : ∀ k : TT, k0_cond18 k (wB k) (wR k) = 1#1 := by decide +kernel
theorem cond23_eq : ∀ k : TT, 1 ≤ k.val → k0_cond23 k (wB k) (wR k) = 1#1 := by decide +kernel
theorem cond23_ne : ∀ k : TT, ¬ 1 ≤ k.val → ¬ k0_cond23 k (wB k) (wR k) = 1#1 := by decide +kernel

/-! ### The checks -/

theorem chk1_eq : ∀ k : TT, k0_chk1 k (wI k) (wW k) (wI k) (wW k) (wI k) (wW k) (wI k) (wW k) (wW k) (wO k) (wB k) (wR k) := by decide +kernel
theorem chk2_eq : ∀ k : TT, k0_chk2 (wW k) := by decide +kernel
theorem chk3_eq : ∀ k : TT, k0_chk3 (wW k) := by decide +kernel
theorem chk4_eq : ∀ k : TT, k0_chk4 (wW k) := by decide +kernel
theorem chk5_eq : ∀ k : TT, k0_chk5 (wB k) := by decide +kernel
theorem chk6_eq : ∀ k : TT, k0_chk6 (wW k) := by decide +kernel
theorem chk7_eq : ∀ k : TT, k0_chk7 (wW k) := by decide +kernel
theorem chk8_eq : k0_chk8 (wO 16) := by decide +kernel
theorem chk9_eq : k0_chk9 (wR 16) (wB 16) := by decide +kernel

end Cert.Proof.K
-- ==== Proof.Canon.lean ====
/-
  The slices the kernel body takes are the named slots, blocks and semaphores: the slices of the start of the kernel,
  those of its loop at trip `k`, and the last wait's.
-/
module

public import proofs.«01_k».proof.Proof.Names

@[expose] public section

noncomputable section

namespace Cert.Proof.K

open Cert.KernelIdeal Cert.KernelIdeal.Gen
open Idealize.ShloMosaic Idealize.ShloMosaic.TcCoe Idealize.ShloMosaic.Tactic

/-! ## The offsets at trip `k` -/

theorem off17_eq : ∀ k : TT, k.val < 14 → k0_off17 (wI k) = semOff (Ring.sl 3 (k.val + 2)) := by decide +kernel
theorem off18_eq : ∀ k : TT, k.val < 14 → k0_off18 (wI k) = slotOff4 (Ring.sl 3 (k.val + 2)) := by decide +kernel
theorem off19_eq : ∀ k : TT, k.val < 14 → k0_off19 (wB k) (wR k) = rowOff (Ring.bk 16 (k.val + 2)) := by decide +kernel
theorem off20_eq : ∀ k : TT, k.val < 14 → k0_off20 (wI k) = semOff (Ring.sl 3 (k.val + 2)) := by decide +kernel
theorem off21_eq : ∀ k : TT, k.val < 14 → k0_off21 (wI k) = slotOff4 (Ring.sl 3 (k.val + 2)) := by decide +kernel
theorem off22_eq : ∀ k : TT, k.val < 14 → k0_off22 (wB k) (wR k) = rowOff (Ring.bk 16 (k.val + 2)) := by decide +kernel
theorem off23_eq : ∀ k : TT, k.val < 14 → k0_off23 (wI k) = semOff (Ring.sl 3 (k.val + 2)) := by decide +kernel
theorem off24_eq : ∀ k : TT, k.val < 14 → k0_off24 (wI k) = slotOff5 (Ring.sl 3 (k.val + 2)) := by decide +kernel
theorem off25_eq : ∀ k : TT, k.val < 14 → k0_off25 (wB k) (wR k) = attOff (Ring.bk 16 (k.val + 2)) := by decide +kernel
theorem off26_eq : ∀ k : TT, k.val < 14 → k0_off26 (wI k) = semOff (Ring.sl 3 (k.val + 2)) := by decide +kernel
theorem off27_eq : ∀ k : TT, k.val < 14 → k0_off27 (wI k) = slotOff4 (Ring.sl 3 (k.val + 2)) := by decide +kernel
theorem off28_eq : ∀ k : TT, k.val < 14 → k0_off28 (wB k) (wR k) = rowOff (Ring.bk 16 (k.val + 2)) := by decide +kernel
theorem off29_eq : ∀ k : TT, k0_off29 (wW k) = semOff (Ring.sl 3 k.val) := by decide +kernel
theorem off30_eq : ∀ k : TT, k0_off30 (wW k) = slotOff4 (Ring.sl 3 k.val) := by decide +kernel
theorem off31_eq : ∀ k : TT, k0_off31 (wB k) (wR k) = rowOff (Ring.bk 16 k.val) := by decide +kernel
theorem off32_eq : ∀ k : TT, k0_off32 (wW k) = semOff (Ring.sl 3 k.val) := by decide +kernel
theorem off33_eq : ∀ k : TT, k0_off33 (wW k) = slotOff4 (Ring.sl 3 k.val) := by decide +kernel
theorem off34_eq : ∀ k : TT, k0_off34 (wB k) (wR k) = rowOff (Ring.bk 16 k.val) := by decide +kernel
theorem off35_eq : ∀ k : TT, k0_off35 (wW k) = semOff (Ring.sl 3 k.val) := by decide +kernel
theorem off36_eq : ∀ k : TT, k0_off36 (wW k) = slotOff5 (Ring.sl 3 k.val) := by decide +kernel
theorem off37_eq : ∀ k : TT, k0_off37 (wB k) (wR k) = attOff (Ring.bk 16 k.val) := by decide +kernel
theorem off38_eq : ∀ k : TT, k0_off38 (wW k) = semOff (Ring.sl 3 k.val) := by decide +kernel
theorem off39_eq : ∀ k : TT, k0_off39 (wW k) = slotOff4 (Ring.sl 3 k.val) := by decide +kernel
theorem off40_eq : ∀ k : TT, k0_off40 (wB k) (wR k) = rowOff (Ring.bk 16 k.val) := by decide +kernel
theorem off41_eq : ∀ k : TT, k0_off41 (wW k) = slotOff5 (Ring.sl 3 k.val) := by decide +kernel
theorem off42_eq : ∀ k : TT, k0_off42 (wW k) = slotOff4 (Ring.sl 3 k.val) := by decide +kernel
theorem off43_eq : ∀ k : TT, k0_off43 (wW k) = slotOff4 (Ring.sl 3 k.val) := by decide +kernel
theorem off45_eq : ∀ k : TT, k0_off45 (wW k) = slotOff4 (Ring.sl 3 k.val) := by decide +kernel
theorem off48_eq : ∀ k : TT, k0_off48 (wW k) = slotOff4 (Ring.sl 3 k.val) := by decide +kernel
theorem off46_eq : ∀ k : TT, k0_off46 (wW k) = slotOff4 (Ring.sl 2 k.val) := by decide +kernel
theorem off51_eq : ∀ k : TT, k0_off51 (wW k) = slotOff4 (Ring.sl 2 k.val) := by decide +kernel
theorem off44_eq : ∀ k : TT, k0_off44 (wB k) = ![k.val / 2, 2048] := by decide +kernel
theorem off47_eq : ∀ k : TT, k0_off47 (wB k) = ![k.val / 2, 2048] := by decide +kernel
theorem off49_eq : ∀ k : TT, k0_off49 (wW k) = semOff (Ring.sl 2 k.val) := by decide +kernel
theorem off50_eq : ∀ k : TT, k0_off50 (wB k) (wR k) = rowOff (Ring.bk 16 k.val) := by decide +kernel
theorem off52_eq : ∀ k : TT, 1 ≤ k.val → k0_off52 (wO k) = semOff (Ring.sl 2 (k.val + 1)) := by decide +kernel
theorem off53_eq : ∀ k : TT, 1 ≤ k.val → k0_off53 (wB k) (wR k) = rowOff (Ring.bk 16 (k.val - 1)) := by decide +kernel
theorem off54_eq : ∀ k : TT, 1 ≤ k.val → k0_off54 (wO k) = slotOff4 (Ring.sl 2 (k.val + 1)) := by decide +kernel
theorem off55_eq : k0_off55 (wO 16) = semOff (1 : Fin 2) := by decide +kernel
theorem off56_eq : k0_off56 (wR 16) (wB 16) = rowOff 15 := by decide +kernel
theorem off57_eq : k0_off57 (wO 16) = slotOff4 (1 : Fin 2) := by decide +kernel

/-! ## The names -/

/-! The start: block 0 into slot 0 and block 1 into slot 1 of each ring. -/
@[sl_canon] theorem xsem_s0 (hh) : (cc0_scoped1.slice (Rect.unit (s := S3) k0_off1 S1.size hh)).squeeze S_ squeezes_S1_S_ = xsem 0 := xsem_of (by decide +kernel) _
@[sl_canon] theorem xslot_s0 (hh hs) : (xR.slice (Rect.unit (s := S3x1x1024x1024) k0_off2 S1x1x1024x1024.size hh) hs).squeeze S1x1024x1024 squeezes_S1x1x1024x1024_S1x1024x1024 = xslot 0 := xslot_of (by decide +kernel) _ _
@[sl_canon] theorem xblk_s0 (hh hs) : xM.slice (Rect.unit (s := S8x2048x1024) ![0, 0, 0] S1x1024x1024.size hh) hs = xblk 0 := xblk_of (by decide +kernel) _ _
@[sl_canon] theorem xsem_s1 (hh) : (cc0_scoped1.slice (Rect.unit (s := S3) k0_off5 S1.size hh)).squeeze S_ squeezes_S1_S_ = xsem 1 := xsem_of (by decide +kernel) _
@[sl_canon] theorem xslot_s1 (hh hs) : (xR.slice (Rect.unit (s := S3x1x1024x1024) k0_off6 S1x1x1024x1024.size hh) hs).squeeze S1x1024x1024 squeezes_S1x1x1024x1024_S1x1024x1024 = xslot 1 := xslot_of (by decide +kernel) _ _
@[sl_canon] theorem xblk_s1 (hh hs) : xM.slice (Rect.unit (s := S8x2048x1024) k0_off7 S1x1024x1024.size hh) hs = xblk 1 := xblk_of (by decide +kernel) _ _
@[sl_canon] theorem ysem_s0 (hh) : (cc0_scoped3.slice (Rect.unit (s := S3) k0_off1 S1.size hh)).squeeze S_ squeezes_S1_S_ = ysem 0 := ysem_of (by decide +kernel) _
@[sl_canon] theorem yslot_s0 (hh hs) : (yR.slice (Rect.unit (s := S3x1x1024x512) k0_off3 S1x1x1024x512.size hh) hs).squeeze S1x1024x512 squeezes_S1x1x1024x512_S1x1024x512 = yslot 0 := yslot_of (by decide +kernel) _ _
@[sl_canon] theorem yblk_s0 (hh hs) : yM.slice (Rect.unit (s := S8x2048x512) ![0, 0, 0] S1x1024x512.size hh) hs = yblk 0 := yblk_of (by decide +kernel) _ _
@[sl_canon] theorem ysem_s1 (hh) : (cc0_scoped3.slice (Rect.unit (s := S3) k0_off8 S1.size hh)).squeeze S_ squeezes_S1_S_ = ysem 1 := ysem_of (by decide +kernel) _
@[sl_canon] theorem yslot_s1 (hh hs) : (yR.slice (Rect.unit (s := S3x1x1024x512) k0_off9 S1x1x1024x512.size hh) hs).squeeze S1x1024x512 squeezes_S1x1x1024x512_S1x1024x512 = yslot 1 := yslot_of (by decide +kernel) _ _
@[sl_canon] theorem yblk_s1 (hh hs) : yM.slice (Rect.unit (s := S8x2048x512) k0_off10 S1x1024x512.size hh) hs = yblk 1 := yblk_of (by decide +kernel) _ _
@[sl_canon] theorem asem_s0 (hh) : (cc0_scoped5.slice (Rect.unit (s := S3) k0_off1 S1.size hh)).squeeze S_ squeezes_S1_S_ = asem 0 := asem_of (by decide +kernel) _
@[sl_canon] theorem aslot_s0 (hh hs) : (aR.slice (Rect.unit (s := S3x1x4x256x512) k0_off4 S1x1x4x256x512.size hh) hs).squeeze S1x4x256x512 squeezes_S1x1x4x256x512_S1x4x256x512 = aslot 0 := aslot_of (by decide +kernel) _ _
@[sl_canon] theorem ablk_s0 (hh hs) : aM.slice (Rect.unit (s := S8x4x512x512) ![0, 0, 0, 0] S1x4x256x512.size hh) hs = ablk 0 := ablk_of (by decide +kernel) _ _
@[sl_canon] theorem asem_s1 (hh) : (cc0_scoped5.slice (Rect.unit (s := S3) k0_off11 S1.size hh)).squeeze S_ squeezes_S1_S_ = asem 1 := asem_of (by decide +kernel) _
@[sl_canon] theorem aslot_s1 (hh hs) : (aR.slice (Rect.unit (s := S3x1x4x256x512) k0_off12 S1x1x4x256x512.size hh) hs).squeeze S1x4x256x512 squeezes_S1x1x4x256x512_S1x4x256x512 = aslot 1 := aslot_of (by decide +kernel) _ _
@[sl_canon] theorem ablk_s1 (hh hs) : aM.slice (Rect.unit (s := S8x4x512x512) k0_off13 S1x4x256x512.size hh) hs = ablk 1 := ablk_of (by decide +kernel) _ _
@[sl_canon] theorem gsem_s0 (hh) : (cc0_scoped7.slice (Rect.unit (s := S3) k0_off1 S1.size hh)).squeeze S_ squeezes_S1_S_ = gsem 0 := gsem_of (by decide +kernel) _
@[sl_canon] theorem gslot_s0 (hh hs) : (gR.slice (Rect.unit (s := S3x1x1024x512) k0_off3 S1x1x1024x512.size hh) hs).squeeze S1x1024x512 squeezes_S1x1x1024x512_S1x1024x512 = gslot 0 := gslot_of (by decide +kernel) _ _
@[sl_canon] theorem gblk_s0 (hh hs) : gM.slice (Rect.unit (s := S8x2048x512) ![0, 0, 0] S1x1024x512.size hh) hs = gblk 0 := gblk_of (by decide +kernel) _ _
@[sl_canon] theorem gsem_s1 (hh) : (cc0_scoped7.slice (Rect.unit (s := S3) k0_off14 S1.size hh)).squeeze S_ squeezes_S1_S_ = gsem 1 := gsem_of (by decide +kernel) _
@[sl_canon] theorem gslot_s1 (hh hs) : (gR.slice (Rect.unit (s := S3x1x1024x512) k0_off15 S1x1x1024x512.size hh) hs).squeeze S1x1024x512 squeezes_S1x1x1024x512_S1x1024x512 = gslot 1 := gslot_of (by decide +kernel) _ _
@[sl_canon] theorem gblk_s1 (hh hs) : gM.slice (Rect.unit (s := S8x2048x512) k0_off16 S1x1024x512.size hh) hs = gblk 1 := gblk_of (by decide +kernel) _ _
/-! Trip `k`: block `k + 2` started into slot `(k + 2) % 3`, block `k` waited in slot `k % 3`. -/
@[sl_canon] theorem xsem_n (k : TT) (hk : k.val < 14) (hh) : (cc0_scoped1.slice (Rect.unit (s := S3) (k0_off17 (wI k)) S1.size hh)).squeeze S_ squeezes_S1_S_ = xsem (Ring.sl 3 (k.val + 2)) := xsem_of (off17_eq k hk) _
@[sl_canon] theorem xslot_n (k : TT) (hk : k.val < 14) (hh hs) : (xR.slice (Rect.unit (s := S3x1x1024x1024) (k0_off18 (wI k)) S1x1x1024x1024.size hh) hs).squeeze S1x1024x1024 squeezes_S1x1x1024x1024_S1x1024x1024 = xslot (Ring.sl 3 (k.val + 2)) := xslot_of (off18_eq k hk) _ _
@[sl_canon] theorem xblk_n (k : TT) (hk : k.val < 14) (hh hs) : xM.slice (Rect.unit (s := S8x2048x1024) (k0_off19 (wB k) (wR k)) S1x1024x1024.size hh) hs = xblk (Ring.bk 16 (k.val + 2)) := xblk_of (off19_eq k hk) _ _
@[sl_canon] theorem ysem_n (k : TT) (hk : k.val < 14) (hh) : (cc0_scoped3.slice (Rect.unit (s := S3) (k0_off20 (wI k)) S1.size hh)).squeeze S_ squeezes_S1_S_ = ysem (Ring.sl 3 (k.val + 2)) := ysem_of (off20_eq k hk) _
@[sl_canon] theorem yslot_n (k : TT) (hk : k.val < 14) (hh hs) : (yR.slice (Rect.unit (s := S3x1x1024x512) (k0_off21 (wI k)) S1x1x1024x512.size hh) hs).squeeze S1x1024x512 squeezes_S1x1x1024x512_S1x1024x512 = yslot (Ring.sl 3 (k.val + 2)) := yslot_of (off21_eq k hk) _ _
@[sl_canon] theorem yblk_n (k : TT) (hk : k.val < 14) (hh hs) : yM.slice (Rect.unit (s := S8x2048x512) (k0_off22 (wB k) (wR k)) S1x1024x512.size hh) hs = yblk (Ring.bk 16 (k.val + 2)) := yblk_of (off22_eq k hk) _ _
@[sl_canon] theorem asem_n (k : TT) (hk : k.val < 14) (hh) : (cc0_scoped5.slice (Rect.unit (s := S3) (k0_off23 (wI k)) S1.size hh)).squeeze S_ squeezes_S1_S_ = asem (Ring.sl 3 (k.val + 2)) := asem_of (off23_eq k hk) _
@[sl_canon] theorem aslot_n (k : TT) (hk : k.val < 14) (hh hs) : (aR.slice (Rect.unit (s := S3x1x4x256x512) (k0_off24 (wI k)) S1x1x4x256x512.size hh) hs).squeeze S1x4x256x512 squeezes_S1x1x4x256x512_S1x4x256x512 = aslot (Ring.sl 3 (k.val + 2)) := aslot_of (off24_eq k hk) _ _
@[sl_canon] theorem ablk_n (k : TT) (hk : k.val < 14) (hh hs) : aM.slice (Rect.unit (s := S8x4x512x512) (k0_off25 (wB k) (wR k)) S1x4x256x512.size hh) hs = ablk (Ring.bk 16 (k.val + 2)) := ablk_of (off25_eq k hk) _ _
@[sl_canon] theorem gsem_n (k : TT) (hk : k.val < 14) (hh) : (cc0_scoped7.slice (Rect.unit (s := S3) (k0_off26 (wI k)) S1.size hh)).squeeze S_ squeezes_S1_S_ = gsem (Ring.sl 3 (k.val + 2)) := gsem_of (off26_eq k hk) _
@[sl_canon] theorem gslot_n (k : TT) (hk : k.val < 14) (hh hs) : (gR.slice (Rect.unit (s := S3x1x1024x512) (k0_off27 (wI k)) S1x1x1024x512.size hh) hs).squeeze S1x1024x512 squeezes_S1x1x1024x512_S1x1024x512 = gslot (Ring.sl 3 (k.val + 2)) := gslot_of (off27_eq k hk) _ _
@[sl_canon] theorem gblk_n (k : TT) (hk : k.val < 14) (hh hs) : gM.slice (Rect.unit (s := S8x2048x512) (k0_off28 (wB k) (wR k)) S1x1024x512.size hh) hs = gblk (Ring.bk 16 (k.val + 2)) := gblk_of (off28_eq k hk) _ _
@[sl_canon] theorem xsem_k (k : TT)  (hh) : (cc0_scoped1.slice (Rect.unit (s := S3) (k0_off29 (wW k)) S1.size hh)).squeeze S_ squeezes_S1_S_ = xsem (Ring.sl 3 k.val) := xsem_of (off29_eq k) _
@[sl_canon] theorem xslot_k (k : TT)  (hh hs) : (xR.slice (Rect.unit (s := S3x1x1024x1024) (k0_off30 (wW k)) S1x1x1024x1024.size hh) hs).squeeze S1x1024x1024 squeezes_S1x1x1024x1024_S1x1024x1024 = xslot (Ring.sl 3 k.val) := xslot_of (off30_eq k) _ _
@[sl_canon] theorem xblk_k (k : TT)  (hh hs) : xM.slice (Rect.unit (s := S8x2048x1024) (k0_off31 (wB k) (wR k)) S1x1024x1024.size hh) hs = xblk (Ring.bk 16 k.val) := xblk_of (off31_eq k) _ _
@[sl_canon] theorem ysem_k (k : TT)  (hh) : (cc0_scoped3.slice (Rect.unit (s := S3) (k0_off32 (wW k)) S1.size hh)).squeeze S_ squeezes_S1_S_ = ysem (Ring.sl 3 k.val) := ysem_of (off32_eq k) _
@[sl_canon] theorem yslot_k (k : TT)  (hh hs) : (yR.slice (Rect.unit (s := S3x1x1024x512) (k0_off33 (wW k)) S1x1x1024x512.size hh) hs).squeeze S1x1024x512 squeezes_S1x1x1024x512_S1x1024x512 = yslot (Ring.sl 3 k.val) := yslot_of (off33_eq k) _ _
@[sl_canon] theorem yblk_k (k : TT)  (hh hs) : yM.slice (Rect.unit (s := S8x2048x512) (k0_off34 (wB k) (wR k)) S1x1024x512.size hh) hs = yblk (Ring.bk 16 k.val) := yblk_of (off34_eq k) _ _
@[sl_canon] theorem asem_k (k : TT)  (hh) : (cc0_scoped5.slice (Rect.unit (s := S3) (k0_off35 (wW k)) S1.size hh)).squeeze S_ squeezes_S1_S_ = asem (Ring.sl 3 k.val) := asem_of (off35_eq k) _
@[sl_canon] theorem aslot_k (k : TT)  (hh hs) : (aR.slice (Rect.unit (s := S3x1x4x256x512) (k0_off36 (wW k)) S1x1x4x256x512.size hh) hs).squeeze S1x4x256x512 squeezes_S1x1x4x256x512_S1x4x256x512 = aslot (Ring.sl 3 k.val) := aslot_of (off36_eq k) _ _
@[sl_canon] theorem ablk_k (k : TT)  (hh hs) : aM.slice (Rect.unit (s := S8x4x512x512) (k0_off37 (wB k) (wR k)) S1x4x256x512.size hh) hs = ablk (Ring.bk 16 k.val) := ablk_of (off37_eq k) _ _
@[sl_canon] theorem gsem_k (k : TT)  (hh) : (cc0_scoped7.slice (Rect.unit (s := S3) (k0_off38 (wW k)) S1.size hh)).squeeze S_ squeezes_S1_S_ = gsem (Ring.sl 3 k.val) := gsem_of (off38_eq k) _
@[sl_canon] theorem gslot_k (k : TT)  (hh hs) : (gR.slice (Rect.unit (s := S3x1x1024x512) (k0_off39 (wW k)) S1x1x1024x512.size hh) hs).squeeze S1x1024x512 squeezes_S1x1x1024x512_S1x1024x512 = gslot (Ring.sl 3 k.val) := gslot_of (off39_eq k) _ _
@[sl_canon] theorem gblk_k (k : TT)  (hh hs) : gM.slice (Rect.unit (s := S8x2048x512) (k0_off40 (wB k) (wR k)) S1x1024x512.size hh) hs = gblk (Ring.bk 16 k.val) := gblk_of (off40_eq k) _ _
@[sl_canon] theorem aslot_l41 (k : TT) (hh hs) : (aR.slice (Rect.unit (s := S3x1x4x256x512) (k0_off41 (wW k)) S1x1x4x256x512.size hh) hs).squeeze S1x4x256x512 squeezes_S1x1x4x256x512_S1x4x256x512 = aslot (Ring.sl 3 k.val) := aslot_of (off41_eq k) _ _
@[sl_canon] theorem yslot_l42 (k : TT) (hh hs) : (yR.slice (Rect.unit (s := S3x1x1024x512) (k0_off42 (wW k)) S1x1x1024x512.size hh) hs).squeeze S1x1024x512 squeezes_S1x1x1024x512_S1x1024x512 = yslot (Ring.sl 3 k.val) := yslot_of (off42_eq k) _ _
@[sl_canon] theorem gslot_l43 (k : TT) (hh hs) : (gR.slice (Rect.unit (s := S3x1x1024x512) (k0_off43 (wW k)) S1x1x1024x512.size hh) hs).squeeze S1x1024x512 squeezes_S1x1x1024x512_S1x1024x512 = gslot (Ring.sl 3 k.val) := gslot_of (off43_eq k) _ _
@[sl_canon] theorem xslot_l45 (k : TT) (hh hs) : (xR.slice (Rect.unit (s := S3x1x1024x1024) (k0_off45 (wW k)) S1x1x1024x1024.size hh) hs).squeeze S1x1024x1024 squeezes_S1x1x1024x1024_S1x1024x1024 = xslot (Ring.sl 3 k.val) := xslot_of (off45_eq k) _ _
@[sl_canon] theorem xslot_l48 (k : TT) (hh hs) : (xR.slice (Rect.unit (s := S3x1x1024x1024) (k0_off48 (wW k)) S1x1x1024x1024.size hh) hs).squeeze S1x1024x1024 squeezes_S1x1x1024x1024_S1x1024x1024 = xslot (Ring.sl 3 k.val) := xslot_of (off48_eq k) _ _
@[sl_canon] theorem oslot_l46 (k : TT) (hh hs) : (oR.slice (Rect.unit (s := S2x1x1024x1024) (k0_off46 (wW k)) S1x1x1024x1024.size hh) hs).squeeze S1x1024x1024 squeezes_S1x1x1024x1024_S1x1024x1024 = oslot (Ring.sl 2 k.val) := oslot_of (off46_eq k) _ _
@[sl_canon] theorem oslot_l51 (k : TT) (hh hs) : (oR.slice (Rect.unit (s := S2x1x1024x1024) (k0_off51 (wW k)) S1x1x1024x1024.size hh) hs).squeeze S1x1024x1024 squeezes_S1x1x1024x1024_S1x1024x1024 = oslot (Ring.sl 2 k.val) := oslot_of (off51_eq k) _ _
@[sl_canon] theorem osm_k (k : TT) (hh) : (cc0_scoped9.slice (Rect.unit (s := S2) (k0_off49 (wW k)) S1.size hh)).squeeze S_ squeezes_S1_S_ = osm (Ring.sl 2 k.val) := osm_of (off49_eq k) _
@[sl_canon] theorem oblk_k (k : TT) (hh hs) : oM.slice (Rect.unit (s := S8x2048x1024) (k0_off50 (wB k) (wR k)) S1x1024x1024.size hh) hs = oblk (Ring.bk 16 k.val) := oblk_of (off50_eq k) _ _
@[sl_canon] theorem osm_p (k : TT) (hk : 1 ≤ k.val) (hh) : (cc0_scoped9.slice (Rect.unit (s := S2) (k0_off52 (wO k)) S1.size hh)).squeeze S_ squeezes_S1_S_ = osm (Ring.sl 2 (k.val + 1)) := osm_of (off52_eq k hk) _
@[sl_canon] theorem oblk_p (k : TT) (hk : 1 ≤ k.val) (hh hs) : oM.slice (Rect.unit (s := S8x2048x1024) (k0_off53 (wB k) (wR k)) S1x1024x1024.size hh) hs = oblk (Ring.bk 16 (k.val - 1)) := oblk_of (off53_eq k hk) _ _
@[sl_canon] theorem oslot_p (k : TT) (hk : 1 ≤ k.val) (hh hs) : (oR.slice (Rect.unit (s := S2x1x1024x1024) (k0_off54 (wO k)) S1x1x1024x1024.size hh) hs).squeeze S1x1024x1024 squeezes_S1x1x1024x1024_S1x1024x1024 = oslot (Ring.sl 2 (k.val + 1)) := oslot_of (off54_eq k hk) _ _
@[sl_canon] theorem osm_e (hh) : (cc0_scoped9.slice (Rect.unit (s := S2) (k0_off55 (wO 16)) S1.size hh)).squeeze S_ squeezes_S1_S_ = osm 1 := osm_of off55_eq _
@[sl_canon] theorem oblk_e (hh hs) : oM.slice (Rect.unit (s := S8x2048x1024) (k0_off56 (wR 16) (wB 16)) S1x1024x1024.size hh) hs = oblk 15 := oblk_of off56_eq _ _
@[sl_canon] theorem oslot_e (hh hs) : (oR.slice (Rect.unit (s := S2x1x1024x1024) (k0_off57 (wO 16)) S1x1x1024x1024.size hh) hs).squeeze S1x1024x1024 squeezes_S1x1x1024x1024_S1x1024x1024 = oslot 1 := oslot_of off57_eq _ _

end Cert.Proof.K
-- ==== Proof.Pieces.lean ====
/-
  What the kernel holds of its buffers: a semaphore at zero, a block of an array, a slot of a ring, a transfer in flight.
-/
module

public import proofs.«01_k».proof.Proof.Canon

@[expose] public section

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD)

abbrev cellP (S : DmaSems sig S_) : sProp 𝕄 := semVal ((c : Thread nD τ), SemLoc.dma S.sem) 0
/-- A whole buffer, held at contents `f`. -/
abbrev wholeP {sp : Space} {s : Shape} {e : EltTy} (M : Memref sig .tc sp s e) (f : Buf (Elt F) (M.view.loc (c : Thread nD τ))) : sProp 𝕄 :=
  M.view.loc (c : Thread nD τ) ↦[M.view.set]{fullShare} f

section
variable (XX : Buf (Elt F) (xM.view.loc (c : Thread nD τ)))
/-- Block `b` of the array at home, slot `s` of its ring at contents `f`, and what block `b` leaves there. -/
abbrev xhome (b : Fin 16) : sProp 𝕄 := (xblk b).view.loc (c : Thread nD τ) ↦[(xblk b).view.set]{fullShare} XX
abbrev xring (s : Fin 3) (f : Buf (Elt F) (xR.view.loc (c : Thread nD τ))) : sProp 𝕄 := (xslot s).view.loc (c : Thread nD τ) ↦[(xslot s).view.set]{fullShare} f
abbrev xlanded (s : Fin 3) (b : Fin 16) (f : Buf (Elt F) (xR.view.loc (c : Thread nD τ))) : Buf (Elt F) (xR.view.loc (c : Thread nD τ)) :=
  (xslot s).view.writes (Elt F) f [⟨Rect.whole S1x1024x1024, ReadAs.same.apply ((xblk b).view.read (Elt F) XX)⟩]
/-- Block `b` on its way into slot `s`. -/
abbrev xflight (s : Fin 3) (b : Fin 16) (f : Buf (Elt F) (xR.view.loc (c : Thread nD τ))) : sProp 𝕄 :=
  Transfers.Flight countersEmb (c : Thread nD τ) (SemLoc.dma (xsem s).sem) () 131072 iprop(xring c s (xlanded c XX s b f) ∗ xhome c XX b)
/-- A slot with nothing on its way. -/
abbrev xfree (s : Fin 3) : sProp 𝕄 := iprop(cellP c (xsem s) ∗ ∃ f : Buf (Elt F) (xR.view.loc (c : Thread nD τ)), xring c s f)
end

section
variable (XY : Buf (Elt F) (yM.view.loc (c : Thread nD τ)))
/-- Block `b` of the array at home, slot `s` of its ring at contents `f`, and what block `b` leaves there. -/
abbrev yhome (b : Fin 16) : sProp 𝕄 := (yblk b).view.loc (c : Thread nD τ) ↦[(yblk b).view.set]{fullShare} XY
abbrev yring (s : Fin 3) (f : Buf (Elt F) (yR.view.loc (c : Thread nD τ))) : sProp 𝕄 := (yslot s).view.loc (c : Thread nD τ) ↦[(yslot s).view.set]{fullShare} f
abbrev ylanded (s : Fin 3) (b : Fin 16) (f : Buf (Elt F) (yR.view.loc (c : Thread nD τ))) : Buf (Elt F) (yR.view.loc (c : Thread nD τ)) :=
  (yslot s).view.writes (Elt F) f [⟨Rect.whole S1x1024x512, ReadAs.same.apply ((yblk b).view.read (Elt F) XY)⟩]
/-- Block `b` on its way into slot `s`. -/
abbrev yflight (s : Fin 3) (b : Fin 16) (f : Buf (Elt F) (yR.view.loc (c : Thread nD τ))) : sProp 𝕄 :=
  Transfers.Flight countersEmb (c : Thread nD τ) (SemLoc.dma (ysem s).sem) () 32768 iprop(yring c s (ylanded c XY s b f) ∗ yhome c XY b)
/-- A slot with nothing on its way. -/
abbrev yfree (s : Fin 3) : sProp 𝕄 := iprop(cellP c (ysem s) ∗ ∃ f : Buf (Elt F) (yR.view.loc (c : Thread nD τ)), yring c s f)
end

section
variable (XA : Buf (Elt F) (aM.view.loc (c : Thread nD τ)))
/-- Block `b` of the array at home, slot `s` of its ring at contents `f`, and what block `b` leaves there. -/
abbrev ahome (b : Fin 16) : sProp 𝕄 := (ablk b).view.loc (c : Thread nD τ) ↦[(ablk b).view.set]{fullShare} XA
abbrev aring (s : Fin 3) (f : Buf (Elt F) (aR.view.loc (c : Thread nD τ))) : sProp 𝕄 := (aslot s).view.loc (c : Thread nD τ) ↦[(aslot s).view.set]{fullShare} f
abbrev alanded (s : Fin 3) (b : Fin 16) (f : Buf (Elt F) (aR.view.loc (c : Thread nD τ))) : Buf (Elt F) (aR.view.loc (c : Thread nD τ)) :=
  (aslot s).view.writes (Elt F) f [⟨Rect.whole S1x4x256x512, ReadAs.same.apply ((ablk b).view.read (Elt F) XA)⟩]
/-- Block `b` on its way into slot `s`. -/
abbrev aflight (s : Fin 3) (b : Fin 16) (f : Buf (Elt F) (aR.view.loc (c : Thread nD τ))) : sProp 𝕄 :=
  Transfers.Flight countersEmb (c : Thread nD τ) (SemLoc.dma (asem s).sem) () 32768 iprop(aring c s (alanded c XA s b f) ∗ ahome c XA b)
/-- A slot with nothing on its way. -/
abbrev afree (s : Fin 3) : sProp 𝕄 := iprop(cellP c (asem s) ∗ ∃ f : Buf (Elt F) (aR.view.loc (c : Thread nD τ)), aring c s f)
end

section
variable (XG : Buf (Elt F) (gM.view.loc (c : Thread nD τ)))
/-- Block `b` of the array at home, slot `s` of its ring at contents `f`, and what block `b` leaves there. -/
abbrev ghome (b : Fin 16) : sProp 𝕄 := (gblk b).view.loc (c : Thread nD τ) ↦[(gblk b).view.set]{fullShare} XG
abbrev gring (s : Fin 3) (f : Buf (Elt F) (gR.view.loc (c : Thread nD τ))) : sProp 𝕄 := (gslot s).view.loc (c : Thread nD τ) ↦[(gslot s).view.set]{fullShare} f
abbrev glanded (s : Fin 3) (b : Fin 16) (f : Buf (Elt F) (gR.view.loc (c : Thread nD τ))) : Buf (Elt F) (gR.view.loc (c : Thread nD τ)) :=
  (gslot s).view.writes (Elt F) f [⟨Rect.whole S1x1024x512, ReadAs.same.apply ((gblk b).view.read (Elt F) XG)⟩]
/-- Block `b` on its way into slot `s`. -/
abbrev gflight (s : Fin 3) (b : Fin 16) (f : Buf (Elt F) (gR.view.loc (c : Thread nD τ))) : sProp 𝕄 :=
  Transfers.Flight countersEmb (c : Thread nD τ) (SemLoc.dma (gsem s).sem) () 32768 iprop(gring c s (glanded c XG s b f) ∗ ghome c XG b)
/-- A slot with nothing on its way. -/
abbrev gfree (s : Fin 3) : sProp 𝕄 := iprop(cellP c (gsem s) ∗ ∃ f : Buf (Elt F) (gR.view.loc (c : Thread nD τ)), gring c s f)
end

/-- Block `b` of the result and slot `s` of its ring; a finished block on its way out of its slot. -/
abbrev ohome (b : Fin 16) (f : Buf (Elt F) (oM.view.loc (c : Thread nD τ))) : sProp 𝕄 := (oblk b).view.loc (c : Thread nD τ) ↦[(oblk b).view.set]{fullShare} f
abbrev oring (s : Fin 2) (f : Buf (Elt F) (oR.view.loc (c : Thread nD τ))) : sProp 𝕄 := (oslot s).view.loc (c : Thread nD τ) ↦[(oslot s).view.set]{fullShare} f
abbrev osent (s : Fin 2) (b : Fin 16) (f : Buf (Elt F) (oR.view.loc (c : Thread nD τ))) (g : Buf (Elt F) (oM.view.loc (c : Thread nD τ))) : Buf (Elt F) (oM.view.loc (c : Thread nD τ)) :=
  (oblk b).view.writes (Elt F) g [⟨Rect.whole S1x1024x1024, ReadAs.same.apply ((oslot s).view.read (Elt F) f)⟩]
abbrev oflight (s : Fin 2) (b : Fin 16) (f : Buf (Elt F) (oR.view.loc (c : Thread nD τ))) (g : Buf (Elt F) (oM.view.loc (c : Thread nD τ))) : sProp 𝕄 :=
  Transfers.Flight countersEmb (c : Thread nD τ) (SemLoc.dma (osm s).sem) () 131072 iprop(ohome c b (osent c s b f g) ∗ oring c s f)
abbrev ofree (s : Fin 2) : sProp 𝕄 := iprop(cellP c (osm s) ∗ ∃ f : Buf (Elt F) (oR.view.loc (c : Thread nD τ)), oring c s f)

end

end Cert.Proof.K
-- ==== Proof.Block.lean ====
/-
  What the body writes into the result's slot for block `n`: the two row halves, as a term over the landed blocks.
  The attention rows come in four remainders modulo four; each remainder's 128 rows go to every fourth row of the head
  scratch, a head's 128 columns at a time.
-/
module

public import proofs.«01_k».proof.Proof.Pieces

@[expose] public section

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (XX : Buf (Elt F) (xM.view.loc (c : Thread nD τ))) (XY : Buf (Elt F) (yM.view.loc (c : Thread nD τ)))
  (XA : Buf (Elt F) (aM.view.loc (c : Thread nD τ))) (XG : Buf (Elt F) (gM.view.loc (c : Thread nD τ)))
  (arg4 : Memref sig .tc .vmem S8x3072 .f32) (arg5 : Memref sig .tc .vmem S1x512 .f32) (arg6 : Memref sig .tc .vmem S1x1024 .f32)
  (f4 : Buf (Elt F) (arg4.view.loc (c : Thread nD τ))) (f5 : Buf (Elt F) (arg5.view.loc (c : Thread nD τ)))
  (f6 : Buf (Elt F) (arg6.view.loc (c : Thread nD τ))) (fw : Buf (Elt F) (wM.view.loc (c : Thread nD τ)))
  (n : ℕ)

/-- Block `n` of each operand, as its transfer writes it into the slot. -/
abbrev xin : List (View.Piece (Elt F) S1x1024x1024 .f32) := [⟨Rect.whole S1x1024x1024, ReadAs.same.apply ((xblk (Ring.bk 16 n)).view.read (Elt F) XX)⟩]
abbrev yin : List (View.Piece (Elt F) S1x1024x512 .bf16) := [⟨Rect.whole S1x1024x512, ReadAs.same.apply ((yblk (Ring.bk 16 n)).view.read (Elt F) XY)⟩]
abbrev ain : List (View.Piece (Elt F) S1x4x256x512 .bf16) := [⟨Rect.whole S1x4x256x512, ReadAs.same.apply ((ablk (Ring.bk 16 n)).view.read (Elt F) XA)⟩]
abbrev gin : List (View.Piece (Elt F) S1x1024x512 .bf16) := [⟨Rect.whole S1x1024x512, ReadAs.same.apply ((gblk (Ring.bk 16 n)).view.read (Elt F) XG)⟩]

theorem aSrc_inb : ∀ (i : Fin 2) (r : Fin 4) (a : Fin 4), (![0, r.val, 128 * i.val, 0] : Fin 4 → Nat) a + S1x1x128x512.size a ≤ S1x4x256x512.size a := by decide +kernel
theorem rowHalf_inb : ∀ (i : Fin 2) (a : Fin 3), (![0, 512 * i.val, 0] : Fin 3 → Nat) a + S1x512x1024.size a ≤ S1x1024x1024.size a := by decide +kernel
theorem rowHalf_inb' : ∀ (i : Fin 2) (a : Fin 3), (![0, 512 * i.val, 0] : Fin 3 → Nat) a + S1x512x512.size a ≤ S1x1024x512.size a := by decide +kernel
theorem head_inb : ∀ (h : Fin 4) (i : Fin 2) (a : Fin 3), (![h.val, 512 * i.val, 0] : Fin 3 → Nat) a + S1x512x128.size a ≤ S4x1024x128.size a := by decide +kernel
theorem seg_inb : ∀ (i : Fin 2) (r h : Fin 4) (a : Fin 3),
    S1x128x128.size a = 0 ∨ (![h.val, 512 * i.val + r.val, 0] : Fin 3 → Nat) a + (![1, 4, 1] : Fin 3 → Nat) a * (S1x128x128.size a - 1) < S4x1024x128.size a := by decide +kernel
theorem col_slices : ∀ h : Fin 4, S128x512.Slices ![0, 128 * h.val] S128x128 := by decide +kernel

/-- The 128 stored rows of remainder `r` in half `i`. -/
def aSrc (i : Fin 2) (r : Fin 4) : Vec F S1x1x128x512 .bf16 :=
  (aslot (Ring.sl 3 n)).view.readCov (ain c XA n) (Rect.unit (s := S1x4x256x512) ![0, r.val, 128 * i.val, 0] S1x1x128x512.size (aSrc_inb i r)).toLoadRect
/-- Head `h`'s columns of them, at every fourth row of the head scratch. -/
def aSeg (i : Fin 2) (r h : Fin 4) : View.Piece (Elt F) S4x1024x128 .f32 :=
  ⟨⟨⟨![h.val, 512 * i.val + r.val, 0], S1x128x128.size, ![1, 4, 1], seg_inb i r h⟩, spos_1_4_1⟩,
    shapeCast S1x128x128 (extractStridedSlice S128x128 ![0, 128 * h.val] (k0_pay1 (aSrc c XA n i r)) (col_slices h)) shapeCasts_S128x128_S1x128x128⟩
/-- The sixteen stores of half `i`, latest first. -/
abbrev aSegs (i : Fin 2) : List (View.Piece (Elt F) S4x1024x128 .f32) :=
  [aSeg c XA n i 3 3, aSeg c XA n i 3 2, aSeg c XA n i 3 1, aSeg c XA n i 3 0, aSeg c XA n i 2 3, aSeg c XA n i 2 2, aSeg c XA n i 2 1, aSeg c XA n i 2 0,
   aSeg c XA n i 1 3, aSeg c XA n i 1 2, aSeg c XA n i 1 1, aSeg c XA n i 1 0, aSeg c XA n i 0 3, aSeg c XA n i 0 2, aSeg c XA n i 0 1, aSeg c XA n i 0 0]
/-- What the scratch holds when half `i` is read. -/
abbrev aAll (i : Fin 2) : List (View.Piece (Elt F) S4x1024x128 .f32) := if i = 0 then aSegs c XA n 0 else aSegs c XA n 1 ++ aSegs c XA n 0
/-- Head `h` of half `i`, 512 rows in order. -/
def aHead (i : Fin 2) (h : Fin 4) : Vec F S1x512x128 .f32 :=
  sM.view.readCov (aAll c XA n i) (Rect.unit (s := S4x1024x128) ![h.val, 512 * i.val, 0] S1x512x128.size (head_inb h i)).toLoadRect

def yHalf (i : Fin 2) : Vec F S1x512x512 .bf16 :=
  (yslot (Ring.sl 3 n)).view.readCov (yin c XY n) (Rect.unit (s := S1x1024x512) ![0, 512 * i.val, 0] S1x512x512.size (rowHalf_inb' i)).toLoadRect
def gHalf (i : Fin 2) : Vec F S1x512x512 .bf16 :=
  (gslot (Ring.sl 3 n)).view.readCov (gin c XG n) (Rect.unit (s := S1x1024x512) ![0, 512 * i.val, 0] S1x512x512.size (rowHalf_inb' i)).toLoadRect
def xHalf (i : Fin 2) : Vec F S1x512x1024 .f32 :=
  (xslot (Ring.sl 3 n)).view.readCov (xin c XX n) (Rect.unit (s := S1x1024x1024) ![0, 512 * i.val, 0] S1x512x1024.size (rowHalf_inb i)).toLoadRect

def normAtt : Vec F S1x512 .f32 := arg5.view.readAt (Elt F) (Rect.unit (s := S1x512) ![0, 0] S1x512.size inb_S1x512_S1x512_0_0).toLoadRect f5
def normPost : Vec F S1x1024 .f32 := arg6.view.readAt (Elt F) (Rect.unit (s := S1x1024) ![0, 0] S1x1024.size inb_S1x1024_S1x1024_0_0).toLoadRect f6
def wOut : Vec F S1024x1024 .bf16 := wM.view.readAt (Elt F) (Rect.unit (s := S1024x1024) ![0, 0] S1024x1024.size inb_S1024x1024_S1024x1024_0_0).toLoadRect fw
theorem chk5_any : ∀ n : ℕ, k0_chk5 (wB n) := by
  intro n
  have h : ∀ j : Fin 8, k0_chk5 (BitVec.ofNat 32 j.val) := by decide +kernel
  exact h ⟨n / 2 % 8, Nat.mod_lt _ (by decide)⟩
def gate : Vec F S1x1024 .f32 := arg4.view.readAt (Elt F) (Rect.unit (s := S8x3072) (k0_off44 (wB n)) S1x1024.size (k0_off44_inb (wB n) (chk5_any n))).toLoadRect f4
end

/-! ## One half, as a function of what is read -/

section
variable (y : Vec F S1x512x512 .bf16) (a0 a1 a2 a3 : Vec F S1x512x128 .f32) (g : Vec F S1x512x512 .bf16) (na : Vec F S1x512 .f32)
  (w : Vec F S1024x1024 .bf16) (gt : Vec F S1x1024 .f32) (x : Vec F S1x512x1024 .f32) (np : Vec F S1x1024 .f32)

/-- The gated attention rows, normalized and rounded. -/
def normedV : FVec F S512x512 .bf16 := k0_pay27 (k0_pay23 a0 a1 a2 a3 g) (k0_pay24 na) (k0_pay25 a0 a1 a2 a3 g) k0_pay26
/-- The half's result rows. -/
def halfV : FVec F S1x512x1024 .f32 :=
  k0_pay56 (k0_pay51 (k0_pay22 y) (normedV a0 a1 a2 a3 g na) w) gt (k0_pay53 x) (k0_pay54 np) (k0_pay55 (k0_pay22 y) (normedV a0 a1 a2 a3 g na) w)
end

section
variable (c : Dev nD) (XX : Buf (Elt F) (xM.view.loc (c : Thread nD τ))) (XY : Buf (Elt F) (yM.view.loc (c : Thread nD τ)))
  (XA : Buf (Elt F) (aM.view.loc (c : Thread nD τ))) (XG : Buf (Elt F) (gM.view.loc (c : Thread nD τ)))
  (arg4 : Memref sig .tc .vmem S8x3072 .f32) (arg5 : Memref sig .tc .vmem S1x512 .f32) (arg6 : Memref sig .tc .vmem S1x1024 .f32)
  (f4 : Buf (Elt F) (arg4.view.loc (c : Thread nD τ))) (f5 : Buf (Elt F) (arg5.view.loc (c : Thread nD τ)))
  (f6 : Buf (Elt F) (arg6.view.loc (c : Thread nD τ))) (fw : Buf (Elt F) (wM.view.loc (c : Thread nD τ)))
  (n : ℕ)
/-- Half `i` of block `n`. -/
def outHalf (i : Fin 2) : FVec F S1x512x1024 .f32 :=
  halfV (yHalf c XY n i) (aHead c XA n i 0) (aHead c XA n i 1) (aHead c XA n i 2) (aHead c XA n i 3) (gHalf c XG n i) (normAtt c arg5 f5)
    (wOut c fw) (gate c arg4 f4 n) (xHalf c XX n i) (normPost c arg6 f6)
/-- The two stores into the result's slot, latest first. -/
abbrev outPieces : List (View.Piece (Elt F) S1x1024x1024 .f32) :=
  [⟨Rect.unit (s := S1x1024x1024) ![0, 512, 0] S1x512x1024.size inb_S1x1024x1024_S1x512x1024_0_512_0, outHalf c XX XY XA XG arg4 arg5 arg6 f4 f5 f6 fw n 1⟩,
   ⟨Rect.unit (s := S1x1024x1024) ![0, 0, 0] S1x512x1024.size inb_S1x1024x1024_S1x512x1024_0_0_0, outHalf c XX XY XA XG arg4 arg5 arg6 f4 f5 f6 fw n 0⟩]
/-- Block `n` written into its slot over `o`. -/
abbrev written (o : Buf (Elt F) (oR.view.loc (c : Thread nD τ))) : Buf (Elt F) (oR.view.loc (c : Thread nD τ)) :=
  (oslot (Ring.sl 2 n)).view.writes (Elt F) o (outPieces c XX XY XA XG arg4 arg5 arg6 f4 f5 f6 fw n)
end

end Cert.Proof.K
-- ==== Proof.Trip.lean ====
/-
  One trip of the kernel's loop, in the three cases the loop meets: the first trip (no finished block to wait for), a
  middle trip, and the last two (no block left to fetch).
-/
module

public import proofs.«01_k».proof.Proof.Block

@[expose] public section

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (XX : Buf (Elt F) (xM.view.loc (c : Thread nD τ))) (XY : Buf (Elt F) (yM.view.loc (c : Thread nD τ)))
  (XA : Buf (Elt F) (aM.view.loc (c : Thread nD τ))) (XG : Buf (Elt F) (gM.view.loc (c : Thread nD τ)))
  (arg4 : Memref sig .tc .vmem S8x3072 .f32) (harg4 : arg4.IsWhole) (arg5 : Memref sig .tc .vmem S1x512 .f32) (harg5 : arg5.IsWhole)
  (arg6 : Memref sig .tc .vmem S1x1024 .f32) (harg6 : arg6.IsWhole) (arg7 : Memref sig .tc .vmem S1024x1024 .f32) (harg7 : arg7.IsWhole)
  (f4 : Buf (Elt F) (arg4.view.loc (c : Thread nD τ))) (f5 : Buf (Elt F) (arg5.view.loc (c : Thread nD τ)))
  (f6 : Buf (Elt F) (arg6.view.loc (c : Thread nD τ))) (fw : Buf (Elt F) (wM.view.loc (c : Thread nD τ)))
  (u1 u2 u3 u4 u5 u6 : BitVec 32) (u7 : BitVec 1) (u8 : BitVec 32)

abbrev tripG (k : TT) (acc : BitVec 32 × BitVec 32 × BitVec 32 × BitVec 32 × BitVec 32 × BitVec 32 × BitVec 32 × BitVec 32 × BitVec 32 × BitVec 32 × BitVec 32 × BitVec 32) :=
  k0_t1_body (F := F) xM (Memref.isWhole_whole _) yM (Memref.isWhole_whole _) aM (Memref.isWhole_whole _) gM (Memref.isWhole_whole _)
    arg4 harg4 arg5 harg5 arg6 harg6 arg7 harg7 oM (Memref.isWhole_whole _) sM (Memref.isWhole_whole _) wM (Memref.isWhole_whole _)
    xR (Memref.isWhole_whole _) cc0_scoped1 yR (Memref.isWhole_whole _) cc0_scoped3 aR (Memref.isWhole_whole _) cc0_scoped5 gR (Memref.isWhole_whole _) cc0_scoped7 oR (Memref.isWhole_whole _) cc0_scoped9
    u1 u2 u3 u4 u5 u6 u7 u8 k acc

/-- What a trip reads and keeps: the staged operands, the weight, the head scratch. -/
abbrev keepP : sProp 𝕄 :=
  iprop(wholeP c arg4 f4 ∗ wholeP c arg5 f5 ∗ wholeP c arg6 f6 ∗ wholeP c wM fw ∗ (∃ fs, wholeP c sM fs) ∗ ∃ W, owes (c : Thread nD τ) 0 W)

variable (k : ℕ)
/-- Operand `x` in trip `k`: what fetching block `k + 2` takes and gives, what consuming block `k` takes and gives. -/
abbrev xfetch : sProp 𝕄 := iprop(xhome c XX (Ring.bk 16 (k + 2)) ∗ xfree (F := F) c (Ring.sl 3 (k + 2)))
abbrev xfetched : sProp 𝕄 := iprop(∃ f, xflight c XX (Ring.sl 3 (k + 2)) (Ring.bk 16 (k + 2)) f)
abbrev xtake : sProp 𝕄 := iprop(∃ f, xflight c XX (Ring.sl 3 k) (Ring.bk 16 k) f)
abbrev xgive : sProp 𝕄 := iprop(xhome c XX (Ring.bk 16 k) ∗ xfree (F := F) c (Ring.sl 3 k))
/-- Operand `y` in trip `k`: what fetching block `k + 2` takes and gives, what consuming block `k` takes and gives. -/
abbrev yfetch : sProp 𝕄 := iprop(yhome c XY (Ring.bk 16 (k + 2)) ∗ yfree (F := F) c (Ring.sl 3 (k + 2)))
abbrev yfetched : sProp 𝕄 := iprop(∃ f, yflight c XY (Ring.sl 3 (k + 2)) (Ring.bk 16 (k + 2)) f)
abbrev ytake : sProp 𝕄 := iprop(∃ f, yflight c XY (Ring.sl 3 k) (Ring.bk 16 k) f)
abbrev ygive : sProp 𝕄 := iprop(yhome c XY (Ring.bk 16 k) ∗ yfree (F := F) c (Ring.sl 3 k))
/-- Operand `a` in trip `k`: what fetching block `k + 2` takes and gives, what consuming block `k` takes and gives. -/
abbrev afetch : sProp 𝕄 := iprop(ahome c XA (Ring.bk 16 (k + 2)) ∗ afree (F := F) c (Ring.sl 3 (k + 2)))
abbrev afetched : sProp 𝕄 := iprop(∃ f, aflight c XA (Ring.sl 3 (k + 2)) (Ring.bk 16 (k + 2)) f)
abbrev atake : sProp 𝕄 := iprop(∃ f, aflight c XA (Ring.sl 3 k) (Ring.bk 16 k) f)
abbrev agive : sProp 𝕄 := iprop(ahome c XA (Ring.bk 16 k) ∗ afree (F := F) c (Ring.sl 3 k))
/-- Operand `g` in trip `k`: what fetching block `k + 2` takes and gives, what consuming block `k` takes and gives. -/
abbrev gfetch : sProp 𝕄 := iprop(ghome c XG (Ring.bk 16 (k + 2)) ∗ gfree (F := F) c (Ring.sl 3 (k + 2)))
abbrev gfetched : sProp 𝕄 := iprop(∃ f, gflight c XG (Ring.sl 3 (k + 2)) (Ring.bk 16 (k + 2)) f)
abbrev gtake : sProp 𝕄 := iprop(∃ f, gflight c XG (Ring.sl 3 k) (Ring.bk 16 k) f)
abbrev ggive : sProp 𝕄 := iprop(ghome c XG (Ring.bk 16 k) ∗ gfree (F := F) c (Ring.sl 3 k))
/-- The result's slot and block for trip `k`, and block `k` on its way out. -/
abbrev otake : sProp 𝕄 := iprop(ofree (F := F) c (Ring.sl 2 k) ∗ ∃ g, ohome c (Ring.bk 16 k) g)
abbrev ogive : sProp 𝕄 := iprop(∃ o g, oflight c (Ring.sl 2 k) (Ring.bk 16 k) (written c XX XY XA XG arg4 arg5 arg6 f4 f5 f6 fw k o) g)
/-- The previous block, out and arrived. -/
abbrev oprev (o : Buf (Elt F) (oR.view.loc (c : Thread nD τ))) (g : Buf (Elt F) (oM.view.loc (c : Thread nD τ))) : sProp 𝕄 := oflight c (Ring.sl 2 (k + 1)) (Ring.bk 16 (k - 1)) o g
abbrev oback (o : Buf (Elt F) (oR.view.loc (c : Thread nD τ))) (g : Buf (Elt F) (oM.view.loc (c : Thread nD τ))) : sProp 𝕄 :=
  iprop(ofree (F := F) c (Ring.sl 2 (k + 1)) ∗ ohome c (Ring.bk 16 (k - 1)) (osent c (Ring.sl 2 (k + 1)) (Ring.bk 16 (k - 1)) o g))
end

section
variable (c : Dev nD) (XX : Buf (Elt F) (xM.view.loc (c : Thread nD τ))) (XY : Buf (Elt F) (yM.view.loc (c : Thread nD τ)))
  (XA : Buf (Elt F) (aM.view.loc (c : Thread nD τ))) (XG : Buf (Elt F) (gM.view.loc (c : Thread nD τ)))
  (arg4 : Memref sig .tc .vmem S8x3072 .f32) (harg4 : arg4.IsWhole) (arg5 : Memref sig .tc .vmem S1x512 .f32) (harg5 : arg5.IsWhole)
  (arg6 : Memref sig .tc .vmem S1x1024 .f32) (harg6 : arg6.IsWhole) (arg7 : Memref sig .tc .vmem S1024x1024 .f32) (harg7 : arg7.IsWhole)
  (f4 : Buf (Elt F) (arg4.view.loc (c : Thread nD τ))) (f5 : Buf (Elt F) (arg5.view.loc (c : Thread nD τ)))
  (f6 : Buf (Elt F) (arg6.view.loc (c : Thread nD τ))) (fw : Buf (Elt F) (wM.view.loc (c : Thread nD τ)))
  (u1 u2 u3 u4 u5 u6 : BitVec 32) (u7 : BitVec 1) (u8 : BitVec 32)

set_option backward.proofsInPublic true
set_option sl_exec.stridedRows true

/-- The first trip. -/
theorem tripFirst (k : TT) (h1 : ¬ 1 ≤ k.val) (h14 : k.val < 14) :
    iprop(keepP c arg4 arg5 arg6 f4 f5 f6 fw
      ∗ (xfetch c XX k.val ∗ yfetch c XY k.val ∗ afetch c XA k.val ∗ gfetch c XG k.val)
      ∗ (xtake c XX k.val ∗ ytake c XY k.val ∗ atake c XA k.val ∗ gtake c XG k.val) ∗ otake c k.val)
    ⊢ wp frame (wpE (defs₀ (F := F)) 𝒱₀ (c : Thread nD τ) none) Set.univ
        (tripG arg4 harg4 arg5 harg5 arg6 harg6 arg7 harg7 u1 u2 u3 u4 u5 u6 u7 u8 k (accAt k.val))
        (fun r => iprop(⌜r = accAt (k.val + 1)⌝ ∗ keepP c arg4 arg5 arg6 f4 f5 f6 fw
          ∗ (xfetched c XX k.val ∗ yfetched c XY k.val ∗ afetched c XA k.val ∗ gfetched c XG k.val)
          ∗ (xgive c XX k.val ∗ ygive c XY k.val ∗ agive c XA k.val ∗ ggive c XG k.val) ∗ ogive c XX XY XA XG arg4 arg5 arg6 f4 f5 f6 fw k.val)) := by
  have hc5 := cond5_eq k h14
  have hc6 := cond6_eq k h14
  have hc7 := cond7_eq k h14
  have hc8 := cond8_eq k h14
  have hc9 := cond9_eq k
  have hc10 := cond10_eq k
  have hc11 := cond11_eq k
  have hc12 := cond12_eq k
  have hc18 := cond18_eq k
  have hc23 := cond23_ne k h1
  have hk1 := chk1_eq k
  have hk2 := chk2_eq k
  have hk3 := chk3_eq k
  have hk4 := chk4_eq k
  have hk5 := chk5_eq k
  have hk6 := chk6_eq k
  have hk7 := chk7_eq k
  iintro ⟨⟨H4, H5, H6, Hw, ⟨%fs, Hs⟩, ⟨%W, HW⟩⟩, ⟨⟨Hx, Cx, ⟨%x0, Sx⟩⟩, ⟨Hy, Cy, ⟨%y0, Sy⟩⟩, ⟨Ha, Ca, ⟨%a0, Sa⟩⟩, ⟨Hg, Cg, ⟨%g0, Sg⟩⟩⟩, ⟨⟨%x1, Fx⟩, ⟨%y1, Fy⟩, ⟨%a1, Fa⟩, ⟨%gg1, Fg⟩⟩, ⟨⟨Co, ⟨%o0, So⟩⟩, ⟨%b0, Bo⟩⟩⟩
  dsimp only [tripG]
  sl_unfold [k0_t1_body]
  sl_exec_parts
  sl_step
  isplitr
  · ipureintro
    sl_unfold_words
    clear * - h1 h14
    simp only [accAt, Prod.mk.injEq]
    revert k
    decide +kernel
  isplitl [H4 H5 H6 Hw Hs HW]
  · isplitl [H4]; · iexact H4
    isplitl [H5]; · iexact H5
    isplitl [H6]; · iexact H6
    isplitl [Hw]; · iexact Hw
    isplitl [Hs]; · iexists _; iexact Hs
    iexists _; iexact HW
  isplitl [Cx Cy Ca Cg]
  · isplitl [Cx]; · iexists _; iexact Cx
    isplitl [Cy]; · iexists _; iexact Cy
    isplitl [Ca]; · iexists _; iexact Ca
    iexists _; iexact Cg
  isplitl [Fx Fx_src Fx_dst Fy Fy_src Fy_dst Fa Fa_src Fa_dst Fg Fg_src Fg_dst]
  · isplitl [Fx Fx_src Fx_dst]
    · isplitl [Fx_src]; · iexact Fx_src
      isplitl [Fx]; · iexact Fx
      iexists _; iexact Fx_dst
    isplitl [Fy Fy_src Fy_dst]
    · isplitl [Fy_src]; · iexact Fy_src
      isplitl [Fy]; · iexact Fy
      iexists _; iexact Fy_dst
    isplitl [Fa Fa_src Fa_dst]
    · isplitl [Fa_src]; · iexact Fa_src
      isplitl [Fa]; · iexact Fa
      iexists _; iexact Fa_dst
    isplitl [Fg_src]; · iexact Fg_src
    isplitl [Fg]; · iexact Fg
    iexists _; iexact Fg_dst
  iexists _; iexists _
  iexact Co

/-- A middle trip. -/
theorem tripMid (k : TT) (h1 : 1 ≤ k.val) (h14 : k.val < 14) (o1 : Buf (Elt F) (oR.view.loc (c : Thread nD τ))) (g1 : Buf (Elt F) (oM.view.loc (c : Thread nD τ))) :
    iprop(keepP c arg4 arg5 arg6 f4 f5 f6 fw
      ∗ (xfetch c XX k.val ∗ yfetch c XY k.val ∗ afetch c XA k.val ∗ gfetch c XG k.val)
      ∗ (xtake c XX k.val ∗ ytake c XY k.val ∗ atake c XA k.val ∗ gtake c XG k.val) ∗ otake c k.val ∗ oprev c k.val o1 g1)
    ⊢ wp frame (wpE (defs₀ (F := F)) 𝒱₀ (c : Thread nD τ) none) Set.univ
        (tripG arg4 harg4 arg5 harg5 arg6 harg6 arg7 harg7 u1 u2 u3 u4 u5 u6 u7 u8 k (accAt k.val))
        (fun r => iprop(⌜r = accAt (k.val + 1)⌝ ∗ keepP c arg4 arg5 arg6 f4 f5 f6 fw
          ∗ (xfetched c XX k.val ∗ yfetched c XY k.val ∗ afetched c XA k.val ∗ gfetched c XG k.val)
          ∗ (xgive c XX k.val ∗ ygive c XY k.val ∗ agive c XA k.val ∗ ggive c XG k.val) ∗ ogive c XX XY XA XG arg4 arg5 arg6 f4 f5 f6 fw k.val ∗ oback c k.val o1 g1)) := by
  have hc5 := cond5_eq k h14
  have hc6 := cond6_eq k h14
  have hc7 := cond7_eq k h14
  have hc8 := cond8_eq k h14
  have hc9 := cond9_eq k
  have hc10 := cond10_eq k
  have hc11 := cond11_eq k
  have hc12 := cond12_eq k
  have hc18 := cond18_eq k
  have hc23 := cond23_eq k h1
  have hk1 := chk1_eq k
  have hk2 := chk2_eq k
  have hk3 := chk3_eq k
  have hk4 := chk4_eq k
  have hk5 := chk5_eq k
  have hk6 := chk6_eq k
  have hk7 := chk7_eq k
  iintro ⟨⟨H4, H5, H6, Hw, ⟨%fs, Hs⟩, ⟨%W, HW⟩⟩, ⟨⟨Hx, Cx, ⟨%x0, Sx⟩⟩, ⟨Hy, Cy, ⟨%y0, Sy⟩⟩, ⟨Ha, Ca, ⟨%a0, Sa⟩⟩, ⟨Hg, Cg, ⟨%g0, Sg⟩⟩⟩, ⟨⟨%x1, Fx⟩, ⟨%y1, Fy⟩, ⟨%a1, Fa⟩, ⟨%gg1, Fg⟩⟩, ⟨⟨Co, ⟨%o0, So⟩⟩, ⟨%b0, Bo⟩⟩, Fo⟩
  dsimp only [tripG]
  sl_unfold [k0_t1_body]
  sl_exec_parts
  sl_step
  isplitr
  · ipureintro
    sl_unfold_words
    clear * - h1 h14
    simp only [accAt, Prod.mk.injEq]
    revert k
    decide +kernel
  isplitl [H4 H5 H6 Hw Hs HW]
  · isplitl [H4]; · iexact H4
    isplitl [H5]; · iexact H5
    isplitl [H6]; · iexact H6
    isplitl [Hw]; · iexact Hw
    isplitl [Hs]; · iexists _; iexact Hs
    iexists _; iexact HW
  isplitl [Cx Cy Ca Cg]
  · isplitl [Cx]; · iexists _; iexact Cx
    isplitl [Cy]; · iexists _; iexact Cy
    isplitl [Ca]; · iexists _; iexact Ca
    iexists _; iexact Cg
  isplitl [Fx Fx_src Fx_dst Fy Fy_src Fy_dst Fa Fa_src Fa_dst Fg Fg_src Fg_dst]
  · isplitl [Fx Fx_src Fx_dst]
    · isplitl [Fx_src]; · iexact Fx_src
      isplitl [Fx]; · iexact Fx
      iexists _; iexact Fx_dst
    isplitl [Fy Fy_src Fy_dst]
    · isplitl [Fy_src]; · iexact Fy_src
      isplitl [Fy]; · iexact Fy
      iexists _; iexact Fy_dst
    isplitl [Fa Fa_src Fa_dst]
    · isplitl [Fa_src]; · iexact Fa_src
      isplitl [Fa]; · iexact Fa
      iexists _; iexact Fa_dst
    isplitl [Fg_src]; · iexact Fg_src
    isplitl [Fg]; · iexact Fg
    iexists _; iexact Fg_dst
  isplitl [Co]
  · iexists _; iexists _
    iexact Co
  isplitl [Fo Fo_src]
  · isplitl [Fo]; · iexact Fo
    iexists _; iexact Fo_src
  iexact Fo_dst

/-- One of the last two trips. -/
theorem tripLast (k : TT) (h1 : 1 ≤ k.val) (h14 : ¬ k.val < 14) (o1 : Buf (Elt F) (oR.view.loc (c : Thread nD τ))) (g1 : Buf (Elt F) (oM.view.loc (c : Thread nD τ))) :
    iprop(keepP c arg4 arg5 arg6 f4 f5 f6 fw
      ∗ (xtake c XX k.val ∗ ytake c XY k.val ∗ atake c XA k.val ∗ gtake c XG k.val) ∗ otake c k.val ∗ oprev c k.val o1 g1)
    ⊢ wp frame (wpE (defs₀ (F := F)) 𝒱₀ (c : Thread nD τ) none) Set.univ
        (tripG arg4 harg4 arg5 harg5 arg6 harg6 arg7 harg7 u1 u2 u3 u4 u5 u6 u7 u8 k (accAt k.val))
        (fun r => iprop(⌜r = accAt (k.val + 1)⌝ ∗ keepP c arg4 arg5 arg6 f4 f5 f6 fw
          ∗ (xgive c XX k.val ∗ ygive c XY k.val ∗ agive c XA k.val ∗ ggive c XG k.val) ∗ ogive c XX XY XA XG arg4 arg5 arg6 f4 f5 f6 fw k.val ∗ oback c k.val o1 g1)) := by
  have hc5 := cond5_ne k h14
  have hc6 := cond6_ne k h14
  have hc7 := cond7_ne k h14
  have hc8 := cond8_ne k h14
  have hc9 := cond9_eq k
  have hc10 := cond10_eq k
  have hc11 := cond11_eq k
  have hc12 := cond12_eq k
  have hc18 := cond18_eq k
  have hc23 := cond23_eq k h1
  have hk1 := chk1_eq k
  have hk2 := chk2_eq k
  have hk3 := chk3_eq k
  have hk4 := chk4_eq k
  have hk5 := chk5_eq k
  have hk6 := chk6_eq k
  have hk7 := chk7_eq k
  iintro ⟨⟨H4, H5, H6, Hw, ⟨%fs, Hs⟩, ⟨%W, HW⟩⟩, ⟨⟨%x1, Fx⟩, ⟨%y1, Fy⟩, ⟨%a1, Fa⟩, ⟨%gg1, Fg⟩⟩, ⟨⟨Co, ⟨%o0, So⟩⟩, ⟨%b0, Bo⟩⟩, Fo⟩
  dsimp only [tripG]
  sl_unfold [k0_t1_body]
  sl_exec_parts
  sl_step
  isplitr
  · ipureintro
    sl_unfold_words
    clear * - h1 h14
    simp only [accAt, Prod.mk.injEq]
    revert k
    decide +kernel
  isplitl [H4 H5 H6 Hw Hs HW]
  · isplitl [H4]; · iexact H4
    isplitl [H5]; · iexact H5
    isplitl [H6]; · iexact H6
    isplitl [Hw]; · iexact Hw
    isplitl [Hs]; · iexists _; iexact Hs
    iexists _; iexact HW
  isplitl [Fx Fx_src Fx_dst Fy Fy_src Fy_dst Fa Fa_src Fa_dst Fg Fg_src Fg_dst]
  · isplitl [Fx Fx_src Fx_dst]
    · isplitl [Fx_src]; · iexact Fx_src
      isplitl [Fx]; · iexact Fx
      iexists _; iexact Fx_dst
    isplitl [Fy Fy_src Fy_dst]
    · isplitl [Fy_src]; · iexact Fy_src
      isplitl [Fy]; · iexact Fy
      iexists _; iexact Fy_dst
    isplitl [Fa Fa_src Fa_dst]
    · isplitl [Fa_src]; · iexact Fa_src
      isplitl [Fa]; · iexact Fa
      iexists _; iexact Fa_dst
    isplitl [Fg_src]; · iexact Fg_src
    isplitl [Fg]; · iexact Fg
    iexists _; iexact Fg_dst
  isplitl [Co]
  · iexists _; iexists _
    iexact Co
  isplitl [Fo Fo_src]
  · isplitl [Fo]; · iexact Fo
    iexists _; iexact Fo_src
  iexact Fo_dst

end

end Cert.Proof.K
-- ==== Proof.Loop.lean ====
/-
  The loop's resources before trip `k`, and that each trip carries them on: every ring two blocks ahead, the finished
  block before last back in the result, the last one on its way.
-/
module

public import proofs.«01_k».proof.Proof.Trip

@[expose] public section

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## A three-slot ring two blocks ahead of sixteen, one trip on -/

section Ring3
variable {M : Type _} [URA M] {C : Fin 3 → Type _} (cell : Fin 3 → sProp M) (slot : (s : Fin 3) → C s → sProp M) (home : Fin 16 → sProp M)
  (flight : (s : Fin 3) → Fin 16 → C s → sProp M)

/-- What a trip with a fetch leaves alone. -/
abbrev ringRest (k : ℕ) : sProp M :=
  iprop(bigSep ((Ring.homeSet (NB := 16) 2 k).erase (Ring.bk 16 (k + 2))) home ∗ Ring.inflight flight (Ring.sl 3 (k + 1)) (Ring.bk 16 (k + 1)))
/-- What a trip without one leaves alone. -/
abbrev ringRestTail (k : ℕ) : sProp M :=
  iprop(bigSep (Ring.homeSet (NB := 16) 2 k) home ∗ Ring.slotAt 2 cell slot flight k 1 ∗ Ring.free cell slot (Ring.sl 3 (k + 2)))

theorem ring_open (k : ℕ) (hk : k < 14) :
    Ring.At 2 cell slot home flight k
      ⊢ iprop((home (Ring.bk 16 (k + 2)) ∗ Ring.free cell slot (Ring.sl 3 (k + 2))) ∗ Ring.inflight flight (Ring.sl 3 k) (Ring.bk 16 k) ∗ ringRest home flight k) := by
  rw [Ring.At3_here _ _ _ _ k (by omega)]
  iintro ⟨⟨Hh, HH⟩, H0, H1, H2⟩
  isplitl [Hh H2]
  · isplitl [Hh]; · iexact Hh
    iexact H2
  isplitl [H0]; · iexact H0
  isplitl [HH]; · iexact HH
  iexact H1

theorem ring_close (k : ℕ) (hk : k < 14) :
    iprop(Ring.inflight flight (Ring.sl 3 (k + 2)) (Ring.bk 16 (k + 2)) ∗ (home (Ring.bk 16 k) ∗ Ring.free cell slot (Ring.sl 3 k)) ∗ ringRest home flight k)
      ⊢ Ring.At 2 cell slot home flight (k + 1) := by
  rw [Ring.At3_next _ _ _ _ k (by omega), Ring.slotAt3_next0 _ _ _ k (by omega), Ring.slotAt3_next1 _ _ _ k (by omega)]
  iintro ⟨H2, ⟨Hh, H0⟩, HH, H1⟩
  isplitl [Hh HH]
  · isplitl [Hh]; · iexact Hh
    iexact HH
  isplitl [H1]; · iexact H1
  isplitl [H2]; · iexact H2
  iexact H0

theorem ring_open_tail (k : ℕ) (hk : k < 16) :
    Ring.At 2 cell slot home flight k ⊢ iprop(Ring.inflight flight (Ring.sl 3 k) (Ring.bk 16 k) ∗ ringRestTail cell slot home flight k) := by
  rw [Ring.At3_here_tail _ _ _ _ k hk]
  iintro ⟨HH, H0, H1, H2⟩
  isplitl [H0]; · iexact H0
  isplitl [HH]; · iexact HH
  isplitl [H1]; · iexact H1
  iexact H2

theorem ring_close_tail (k : ℕ) (h14 : ¬ k < 14) (hk : k < 16) :
    iprop((home (Ring.bk 16 k) ∗ Ring.free cell slot (Ring.sl 3 k)) ∗ ringRestTail cell slot home flight k)
      ⊢ Ring.At 2 cell slot home flight (k + 1) := by
  rw [Ring.At3_next_tail _ _ _ _ k (by omega) hk, Ring.slotAt3_tail_role]
  iintro ⟨⟨Hh, H0⟩, HH, H1, H2⟩
  isplitl [Hh HH]
  · isplitl [Hh]; · iexact Hh
    iexact HH
  isplitl [H1]; · iexact H1
  isplitl [H2]; · iexact H2
  iexact H0

end Ring3

section
variable (c : Dev nD) (XX : Buf (Elt F) (xM.view.loc (c : Thread nD τ))) (XY : Buf (Elt F) (yM.view.loc (c : Thread nD τ)))
  (XA : Buf (Elt F) (aM.view.loc (c : Thread nD τ))) (XG : Buf (Elt F) (gM.view.loc (c : Thread nD τ)))
  (arg4 : Memref sig .tc .vmem S8x3072 .f32) (harg4 : arg4.IsWhole) (arg5 : Memref sig .tc .vmem S1x512 .f32) (harg5 : arg5.IsWhole)
  (arg6 : Memref sig .tc .vmem S1x1024 .f32) (harg6 : arg6.IsWhole) (arg7 : Memref sig .tc .vmem S1024x1024 .f32) (harg7 : arg7.IsWhole)
  (f4 : Buf (Elt F) (arg4.view.loc (c : Thread nD τ))) (f5 : Buf (Elt F) (arg5.view.loc (c : Thread nD τ)))
  (f6 : Buf (Elt F) (arg6.view.loc (c : Thread nD τ))) (fw : Buf (Elt F) (wM.view.loc (c : Thread nD τ)))

abbrev xAt (k : ℕ) : sProp 𝕄 := Ring.At 2 (fun s => cellP (F := F) c (xsem s)) (fun s f => xring c s f) (xhome c XX) (fun s b f => xflight c XX s b f) k
abbrev yAt (k : ℕ) : sProp 𝕄 := Ring.At 2 (fun s => cellP (F := F) c (ysem s)) (fun s f => yring c s f) (yhome c XY) (fun s b f => yflight c XY s b f) k
abbrev aAt (k : ℕ) : sProp 𝕄 := Ring.At 2 (fun s => cellP (F := F) c (asem s)) (fun s f => aring c s f) (ahome c XA) (fun s b f => aflight c XA s b f) k
abbrev gAt (k : ℕ) : sProp 𝕄 := Ring.At 2 (fun s => cellP (F := F) c (gsem s)) (fun s f => gring c s f) (ghome c XG) (fun s b f => gflight c XG s b f) k

/-- Block `b` arrived in the result. -/
abbrev odone (b : Fin 16) : sProp 𝕄 :=
  iprop(∃ o g, ohome c b (osent c (Ring.sl 2 b.val) b (written c XX XY XA XG arg4 arg5 arg6 f4 f5 f6 fw b.val o) g))
abbrev ofresh (b : Fin 16) : sProp 𝕄 := iprop(∃ g, ohome (F := F) c b g)
/-- The other slot of the result's ring: the last block on its way, or free before there is one. -/
abbrev olast (k : ℕ) : sProp 𝕄 := if 1 ≤ k then ogive c XX XY XA XG arg4 arg5 arg6 f4 f5 f6 fw (k - 1) else ofree (F := F) c (Ring.sl 2 (k + 1))
/-- The result before trip `k`. -/
abbrev outAt (k : ℕ) : sProp 𝕄 :=
  iprop(ofree (F := F) c (Ring.sl 2 k) ∗ olast c XX XY XA XG arg4 arg5 arg6 f4 f5 f6 fw k
    ∗ bigSep (Ring.rangeSet 16 0 (k - 1)) (odone c XX XY XA XG arg4 arg5 arg6 f4 f5 f6 fw) ∗ bigSep (Ring.rangeSet 16 k 16) (ofresh (F := F) c))

/-- Everything the loop holds before trip `k`. -/
@[irreducible] def resAt (k : ℕ) : sProp 𝕄 :=
  iprop(keepP c arg4 arg5 arg6 f4 f5 f6 fw ∗ xAt c XX k ∗ yAt c XY k ∗ aAt c XA k ∗ gAt c XG k ∗ outAt c XX XY XA XG arg4 arg5 arg6 f4 f5 f6 fw k)

theorem bk16 (k : ℕ) (h : k < 16) : (⟨k, h⟩ : Fin 16) = Ring.bk 16 k := Fin.ext (Ring.bk_val h).symm
theorem sl2_prev (k : ℕ) (h : 1 ≤ k) : Ring.sl 2 (k - 1) = Ring.sl 2 (k + 1) := by
  rw [← Ring.sl_add 2 (k - 1), show k - 1 + 2 = k + 1 by omega]

/-- The blocks from `k` on: block `k` and the later ones. -/
theorem fresh_take (k : ℕ) (h : k < 16) :
    bigSep (Ring.rangeSet 16 k 16) (ofresh (F := F) c) = iprop(ofresh (F := F) c (Ring.bk 16 k) ∗ bigSep (Ring.rangeSet 16 (k + 1) 16) (ofresh (F := F) c)) := by
  rw [Ring.bigSep_rangeSet_head h h, bk16 k h]
/-- The previous block, on its way under the slot's other name. -/
theorem olast_open (k : ℕ) (h : 1 ≤ k) :
    olast c XX XY XA XG arg4 arg5 arg6 f4 f5 f6 fw k ⊢ iprop(∃ o g, oprev c k (written c XX XY XA XG arg4 arg5 arg6 f4 f5 f6 fw (k - 1) o) g) := by
  unfold olast; rw [if_pos h]; unfold ogive; rw [sl2_prev k h]
theorem olast_first (k : ℕ) (h : ¬ 1 ≤ k) : olast c XX XY XA XG arg4 arg5 arg6 f4 f5 f6 fw k ⊢ ofree (F := F) c (Ring.sl 2 (k + 1)) := by
  unfold olast; rw [if_neg h]
theorem olast_next (k : ℕ) : ogive c XX XY XA XG arg4 arg5 arg6 f4 f5 f6 fw k ⊢ olast c XX XY XA XG arg4 arg5 arg6 f4 f5 f6 fw (k + 1) := by
  unfold olast; rw [if_pos (Nat.succ_le_succ (Nat.zero_le k)), Nat.add_sub_cancel]
theorem done_put (k : ℕ) (h : 1 ≤ k) (hk : k < 16) (o : Buf (Elt F) (oR.view.loc (c : Thread nD τ))) (g : Buf (Elt F) (oM.view.loc (c : Thread nD τ))) :
    iprop(ohome c (Ring.bk 16 (k - 1)) (osent c (Ring.sl 2 (k + 1)) (Ring.bk 16 (k - 1)) (written c XX XY XA XG arg4 arg5 arg6 f4 f5 f6 fw (k - 1) o) g)
      ∗ bigSep (Ring.rangeSet 16 0 (k - 1)) (odone c XX XY XA XG arg4 arg5 arg6 f4 f5 f6 fw)) ⊢ bigSep (Ring.rangeSet 16 0 (k + 1 - 1)) (odone c XX XY XA XG arg4 arg5 arg6 f4 f5 f6 fw) := by
  rw [show k + 1 - 1 = k from rfl, Ring.bigSep_rangeSet_last (NB := 16) (show 0 < k by omega) (by omega), bk16 (k - 1) (by omega), ← sl2_prev k h]
  iintro ⟨H, HD⟩
  isplitl [H]
  · iexists o; iexists g
    rw [Ring.bk_val (show k - 1 < 16 by omega)]
    iexact H
  iexact HD
end

section
variable (c : Dev nD) (XX : Buf (Elt F) (xM.view.loc (c : Thread nD τ))) (XY : Buf (Elt F) (yM.view.loc (c : Thread nD τ)))
  (XA : Buf (Elt F) (aM.view.loc (c : Thread nD τ))) (XG : Buf (Elt F) (gM.view.loc (c : Thread nD τ)))
  (arg4 : Memref sig .tc .vmem S8x3072 .f32) (harg4 : arg4.IsWhole) (arg5 : Memref sig .tc .vmem S1x512 .f32) (harg5 : arg5.IsWhole)
  (arg6 : Memref sig .tc .vmem S1x1024 .f32) (harg6 : arg6.IsWhole) (arg7 : Memref sig .tc .vmem S1024x1024 .f32) (harg7 : arg7.IsWhole)
  (f4 : Buf (Elt F) (arg4.view.loc (c : Thread nD τ))) (f5 : Buf (Elt F) (arg5.view.loc (c : Thread nD τ)))
  (f6 : Buf (Elt F) (arg6.view.loc (c : Thread nD τ))) (fw : Buf (Elt F) (wM.view.loc (c : Thread nD τ)))
  (u1 u2 u3 u4 u5 u6 : BitVec 32) (u7 : BitVec 1) (u8 : BitVec 32)

/-- One trip carries the loop's resources on. -/
theorem trip (k : TT) :
    resAt c XX XY XA XG arg4 arg5 arg6 f4 f5 f6 fw k.val
    ⊢ wp frame (wpE (defs₀ (F := F)) 𝒱₀ (c : Thread nD τ) none) Set.univ
        (tripG arg4 harg4 arg5 harg5 arg6 harg6 arg7 harg7 u1 u2 u3 u4 u5 u6 u7 u8 k (accAt k.val))
        (fun r => iprop(⌜r = accAt (k.val + 1)⌝ ∗ resAt c XX XY XA XG arg4 arg5 arg6 f4 f5 f6 fw (k.val + 1))) := by
  have hk : k.val < 16 := k.isLt.trans_eq trips_eq
  unfold resAt outAt
  iintro ⟨HK, Hx, Hy, Ha, Hg, Ho, Hl, Hd, Hf⟩
  ihave Hf' := (Entails.of_eq (fresh_take c k.val hk)) $$ Hf
  icases Hf' with ⟨Hb, Hf⟩
  by_cases h14 : k.val < 14
  · ihave Hx' := (ring_open _ _ _ _ k.val h14) $$ Hx
    icases Hx' with ⟨Fx, Tx, Rx⟩
    ihave Hy' := (ring_open _ _ _ _ k.val h14) $$ Hy
    icases Hy' with ⟨Fy, Ty, Ry⟩
    ihave Ha' := (ring_open _ _ _ _ k.val h14) $$ Ha
    icases Ha' with ⟨Fa, Ta, Ra⟩
    ihave Hg' := (ring_open _ _ _ _ k.val h14) $$ Hg
    icases Hg' with ⟨Fg, Tg, Rg⟩
    by_cases h1 : 1 ≤ k.val
    · ihave Hl' := (olast_open c XX XY XA XG arg4 arg5 arg6 f4 f5 f6 fw k.val h1) $$ Hl
      icases Hl' with ⟨%o1, %g1, Hl⟩
      iapply (wp_wand_r Idealize.ShloMosaic.frame (wpE (defs₀ (F := F)) 𝒱₀ (c : Thread nD τ) none) Set.univ)
      isplitl [HK Fx Fy Fa Fg Tx Ty Ta Tg Ho Hb Hl]
      · iapply (tripMid c XX XY XA XG arg4 harg4 arg5 harg5 arg6 harg6 arg7 harg7 f4 f5 f6 fw u1 u2 u3 u4 u5 u6 u7 u8 k h1 h14 _ _)
        isplitl [HK]; · iexact HK
        isplitl [Fx Fy Fa Fg]
        · isplitl [Fx]; · iexact Fx
          isplitl [Fy]; · iexact Fy
          isplitl [Fa]; · iexact Fa
          iexact Fg
        isplitl [Tx Ty Ta Tg]
        · isplitl [Tx]; · iexact Tx
          isplitl [Ty]; · iexact Ty
          isplitl [Ta]; · iexact Ta
          iexact Tg
        isplitl [Ho Hb]
        · isplitl [Ho]; · iexact Ho
          iexact Hb
        iexact Hl
      · iintro %r ⟨%e, HK, ⟨Fx, Fy, Fa, Fg⟩, ⟨Gx, Gy, Ga, Gg⟩, HO, Ho, HB⟩
        isplitr; · ipureintro; exact e
        isplitl [HK]; · iexact HK
        isplitl [Fx Gx Rx]
        · iapply (ring_close _ _ _ _ k.val h14)
          isplitl [Fx]; · iexact Fx
          isplitl [Gx]; · iexact Gx
          iexact Rx
        isplitl [Fy Gy Ry]
        · iapply (ring_close _ _ _ _ k.val h14)
          isplitl [Fy]; · iexact Fy
          isplitl [Gy]; · iexact Gy
          iexact Ry
        isplitl [Fa Ga Ra]
        · iapply (ring_close _ _ _ _ k.val h14)
          isplitl [Fa]; · iexact Fa
          isplitl [Ga]; · iexact Ga
          iexact Ra
        isplitl [Fg Gg Rg]
        · iapply (ring_close _ _ _ _ k.val h14)
          isplitl [Fg]; · iexact Fg
          isplitl [Gg]; · iexact Gg
          iexact Rg
        isplitl [Ho]; · iexact Ho
        isplitl [HO]
        · iapply (olast_next c XX XY XA XG arg4 arg5 arg6 f4 f5 f6 fw k.val); iexact HO
        isplitl [HB Hd]
        · iapply (done_put c XX XY XA XG arg4 arg5 arg6 f4 f5 f6 fw k.val h1 hk)
          isplitl [HB]; · iexact HB
          iexact Hd
        iexact Hf
    · iapply (wp_wand_r Idealize.ShloMosaic.frame (wpE (defs₀ (F := F)) 𝒱₀ (c : Thread nD τ) none) Set.univ)
      isplitl [HK Fx Fy Fa Fg Tx Ty Ta Tg Ho Hb]
      · iapply (tripFirst c XX XY XA XG arg4 harg4 arg5 harg5 arg6 harg6 arg7 harg7 f4 f5 f6 fw u1 u2 u3 u4 u5 u6 u7 u8 k h1 h14)
        isplitl [HK]; · iexact HK
        isplitl [Fx Fy Fa Fg]
        · isplitl [Fx]; · iexact Fx
          isplitl [Fy]; · iexact Fy
          isplitl [Fa]; · iexact Fa
          iexact Fg
        isplitl [Tx Ty Ta Tg]
        · isplitl [Tx]; · iexact Tx
          isplitl [Ty]; · iexact Ty
          isplitl [Ta]; · iexact Ta
          iexact Tg
        isplitl [Ho]; · iexact Ho
        iexact Hb
      · iintro %r ⟨%e, HK, ⟨Fx, Fy, Fa, Fg⟩, ⟨Gx, Gy, Ga, Gg⟩, HO⟩
        isplitr; · ipureintro; exact e
        isplitl [HK]; · iexact HK
        isplitl [Fx Gx Rx]
        · iapply (ring_close _ _ _ _ k.val h14)
          isplitl [Fx]; · iexact Fx
          isplitl [Gx]; · iexact Gx
          iexact Rx
        isplitl [Fy Gy Ry]
        · iapply (ring_close _ _ _ _ k.val h14)
          isplitl [Fy]; · iexact Fy
          isplitl [Gy]; · iexact Gy
          iexact Ry
        isplitl [Fa Ga Ra]
        · iapply (ring_close _ _ _ _ k.val h14)
          isplitl [Fa]; · iexact Fa
          isplitl [Ga]; · iexact Ga
          iexact Ra
        isplitl [Fg Gg Rg]
        · iapply (ring_close _ _ _ _ k.val h14)
          isplitl [Fg]; · iexact Fg
          isplitl [Gg]; · iexact Gg
          iexact Rg
        isplitl [Hl]; · iapply (olast_first c XX XY XA XG arg4 arg5 arg6 f4 f5 f6 fw k.val h1); iexact Hl
        isplitl [HO]
        · iapply (olast_next c XX XY XA XG arg4 arg5 arg6 f4 f5 f6 fw k.val); iexact HO
        isplitl [Hd]
        · rw [show k.val + 1 - 1 = k.val - 1 by omega]; iexact Hd
        iexact Hf
  · ihave Hx' := (ring_open_tail _ _ _ _ k.val hk) $$ Hx
    icases Hx' with ⟨Tx, Rx⟩
    ihave Hy' := (ring_open_tail _ _ _ _ k.val hk) $$ Hy
    icases Hy' with ⟨Ty, Ry⟩
    ihave Ha' := (ring_open_tail _ _ _ _ k.val hk) $$ Ha
    icases Ha' with ⟨Ta, Ra⟩
    ihave Hg' := (ring_open_tail _ _ _ _ k.val hk) $$ Hg
    icases Hg' with ⟨Tg, Rg⟩
    have h1 : 1 ≤ k.val := by omega
    ihave Hl' := (olast_open c XX XY XA XG arg4 arg5 arg6 f4 f5 f6 fw k.val h1) $$ Hl
    icases Hl' with ⟨%o1, %g1, Hl⟩
    iapply (wp_wand_r Idealize.ShloMosaic.frame (wpE (defs₀ (F := F)) 𝒱₀ (c : Thread nD τ) none) Set.univ)
    isplitl [HK Tx Ty Ta Tg Ho Hb Hl]
    · iapply (tripLast c XX XY XA XG arg4 harg4 arg5 harg5 arg6 harg6 arg7 harg7 f4 f5 f6 fw u1 u2 u3 u4 u5 u6 u7 u8 k h1 h14 _ _)
      isplitl [HK]; · iexact HK
      isplitl [Tx Ty Ta Tg]
      · isplitl [Tx]; · iexact Tx
        isplitl [Ty]; · iexact Ty
        isplitl [Ta]; · iexact Ta
        iexact Tg
      isplitl [Ho Hb]
      · isplitl [Ho]; · iexact Ho
        iexact Hb
      iexact Hl
    · iintro %r ⟨%e, HK, ⟨Gx, Gy, Ga, Gg⟩, HO, Ho, HB⟩
      isplitr; · ipureintro; exact e
      isplitl [HK]; · iexact HK
      isplitl [Gx Rx]
      · iapply (ring_close_tail _ _ _ _ k.val h14 hk)
        isplitl [Gx]; · iexact Gx
        iexact Rx
      isplitl [Gy Ry]
      · iapply (ring_close_tail _ _ _ _ k.val h14 hk)
        isplitl [Gy]; · iexact Gy
        iexact Ry
      isplitl [Ga Ra]
      · iapply (ring_close_tail _ _ _ _ k.val h14 hk)
        isplitl [Ga]; · iexact Ga
        iexact Ra
      isplitl [Gg Rg]
      · iapply (ring_close_tail _ _ _ _ k.val h14 hk)
        isplitl [Gg]; · iexact Gg
        iexact Rg
      isplitl [Ho]; · iexact Ho
      isplitl [HO]
      · iapply (olast_next c XX XY XA XG arg4 arg5 arg6 f4 f5 f6 fw k.val); iexact HO
      isplitl [HB Hd]
      · iapply (done_put c XX XY XA XG arg4 arg5 arg6 f4 f5 f6 fw k.val h1 hk)
        isplitl [HB]; · iexact HB
        iexact Hd
      iexact Hf

/-- The loop's invariant: the carried words are trip `k`'s, the resources are those before trip `k`. -/
@[irreducible] def invAt (k : ℕ) (acc : BitVec 32 × BitVec 32 × BitVec 32 × BitVec 32 × BitVec 32 × BitVec 32 × BitVec 32 × BitVec 32 × BitVec 32 × BitVec 32 × BitVec 32 × BitVec 32) : sProp 𝕄 :=
  iprop(⌜acc = accAt k⌝ ∗ resAt c XX XY XA XG arg4 arg5 arg6 f4 f5 f6 fw k)

set_option warn.classDefReducibility false in
@[sl_loop] def loopInv (init : BitVec 32 × BitVec 32 × BitVec 32 × BitVec 32 × BitVec 32 × BitVec 32 × BitVec 32 × BitVec 32 × BitVec 32 × BitVec 32 × BitVec 32 × BitVec 32) :
    LoopInvTy_k0_t1 (F := F) Unit ℕ (UU nD τ) ℕ 𝒱₀ c none Set.univ xM (Memref.isWhole_whole _) yM (Memref.isWhole_whole _) aM (Memref.isWhole_whole _) gM (Memref.isWhole_whole _)
      arg4 harg4 arg5 harg5 arg6 harg6 arg7 harg7 oM (Memref.isWhole_whole _) sM (Memref.isWhole_whole _) wM (Memref.isWhole_whole _)
      xR (Memref.isWhole_whole _) cc0_scoped1 yR (Memref.isWhole_whole _) cc0_scoped3 aR (Memref.isWhole_whole _) cc0_scoped5 gR (Memref.isWhole_whole _) cc0_scoped7 oR (Memref.isWhole_whole _) cc0_scoped9
      u1 u2 u3 u4 u5 u6 u7 u8 init where
  inv k acc := invAt c XX XY XA XG arg4 arg5 arg6 f4 f5 f6 fw k acc
  step k acc := by
    unfold invAt
    iintro ⟨%e, H⟩
    subst e
    iapply (trip c XX XY XA XG arg4 harg4 arg5 harg5 arg6 harg6 arg7 harg7 f4 f5 f6 fw u1 u2 u3 u4 u5 u6 u7 u8 k)
    iexact H
end

end Cert.Proof.K
-- ==== Proof.Body.lean ====
/-
  The whole kernel body, from its operands in memory to the result's sixteen blocks written.
-/
module

public import proofs.«01_k».proof.Proof.Loop

@[expose] public section

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (XX : Buf (Elt F) (xM.view.loc (c : Thread nD τ))) (XY : Buf (Elt F) (yM.view.loc (c : Thread nD τ)))
  (XA : Buf (Elt F) (aM.view.loc (c : Thread nD τ))) (XG : Buf (Elt F) (gM.view.loc (c : Thread nD τ)))
  (arg4 : Memref sig .tc .vmem S8x3072 .f32) (harg4 : arg4.IsWhole) (arg5 : Memref sig .tc .vmem S1x512 .f32) (harg5 : arg5.IsWhole)
  (arg6 : Memref sig .tc .vmem S1x1024 .f32) (harg6 : arg6.IsWhole) (arg7 : Memref sig .tc .vmem S1024x1024 .f32) (harg7 : arg7.IsWhole)
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (fw : Buf (Elt F) (wM.view.loc (c : Thread nD τ)))

abbrev bodyG : Prog (TpuEff nD τ sig (Elt F) Λ₀ .tc) PUnit :=
  cc0_outproj xM (Memref.isWhole_whole _) yM (Memref.isWhole_whole _) aM (Memref.isWhole_whole _) gM (Memref.isWhole_whole _)
    arg4 harg4 arg5 harg5 arg6 harg6 arg7 harg7 oM (Memref.isWhole_whole _) sM (Memref.isWhole_whole _) wM (Memref.isWhole_whole _)
    xR (Memref.isWhole_whole _) cc0_scoped1 yR (Memref.isWhole_whole _) cc0_scoped3 aR (Memref.isWhole_whole _) cc0_scoped5 gR (Memref.isWhole_whole _) cc0_scoped7 oR (Memref.isWhole_whole _) cc0_scoped9

/-! Blocks 0 and 1 on their way, the others at home, slot 2 free: the ring before the first trip. -/
theorem xstart :
    iprop(bigSep ((Ring.homeSet (NB := 16) 2 0)) (xhome c XX) ∗ (∃ f, xflight c XX 0 0 f) ∗ (∃ f, xflight c XX 1 1 f) ∗ xfree (F := F) c 2) ⊢ xAt c XX 0 := by
  rw [xAt, Ring.At, Ring.bigSep_fin3, Ring.slotAt_of_lt _ _ _ _ 0 0 (by simp), Ring.slotAt_of_lt _ _ _ _ 0 1 (by simp), Ring.slotAt_of_not _ _ _ _ 0 2 (by simp)]
  exact .rfl
theorem ystart :
    iprop(bigSep ((Ring.homeSet (NB := 16) 2 0)) (yhome c XY) ∗ (∃ f, yflight c XY 0 0 f) ∗ (∃ f, yflight c XY 1 1 f) ∗ yfree (F := F) c 2) ⊢ yAt c XY 0 := by
  rw [yAt, Ring.At, Ring.bigSep_fin3, Ring.slotAt_of_lt _ _ _ _ 0 0 (by simp), Ring.slotAt_of_lt _ _ _ _ 0 1 (by simp), Ring.slotAt_of_not _ _ _ _ 0 2 (by simp)]
  exact .rfl
theorem astart :
    iprop(bigSep ((Ring.homeSet (NB := 16) 2 0)) (ahome c XA) ∗ (∃ f, aflight c XA 0 0 f) ∗ (∃ f, aflight c XA 1 1 f) ∗ afree (F := F) c 2) ⊢ aAt c XA 0 := by
  rw [aAt, Ring.At, Ring.bigSep_fin3, Ring.slotAt_of_lt _ _ _ _ 0 0 (by simp), Ring.slotAt_of_lt _ _ _ _ 0 1 (by simp), Ring.slotAt_of_not _ _ _ _ 0 2 (by simp)]
  exact .rfl
theorem gstart :
    iprop(bigSep ((Ring.homeSet (NB := 16) 2 0)) (ghome c XG) ∗ (∃ f, gflight c XG 0 0 f) ∗ (∃ f, gflight c XG 1 1 f) ∗ gfree (F := F) c 2) ⊢ gAt c XG 0 := by
  rw [gAt, Ring.At, Ring.bigSep_fin3, Ring.slotAt_of_lt _ _ _ _ 0 0 (by simp), Ring.slotAt_of_lt _ _ _ _ 0 1 (by simp), Ring.slotAt_of_not _ _ _ _ 0 2 (by simp)]
  exact .rfl

/-- All sixteen blocks at home: blocks 0 and 1, and those the first trip finds there. -/
theorem home_split {M : Type _} [URA M] (Φ : Fin 16 → sProp M) :
    bigSep Finset.univ Φ = iprop(Φ 0 ∗ Φ 1 ∗ bigSep ((Ring.homeSet (NB := 16) 2 0)) Φ) := by
  rw [show (Finset.univ : Finset (Fin 16)) = insert 0 (insert 1 (Ring.homeSet (NB := 16) 2 0)) from by decide +kernel,
    BI.bigSep_insert (by decide +kernel), BI.bigSep_insert (by decide +kernel)]
  rfl

abbrev inAll : sProp 𝕄 :=
  iprop(bigSep Finset.univ (xhome c XX) ∗ bigSep Finset.univ (yhome c XY) ∗ bigSep Finset.univ (ahome c XA) ∗ bigSep Finset.univ (ghome c XG))
abbrev ringsAll : sProp 𝕄 :=
  iprop((xfree (F := F) c 0 ∗ xfree (F := F) c 1 ∗ xfree (F := F) c 2) ∗ (yfree (F := F) c 0 ∗ yfree (F := F) c 1 ∗ yfree (F := F) c 2)
    ∗ (afree (F := F) c 0 ∗ afree (F := F) c 1 ∗ afree (F := F) c 2) ∗ (gfree (F := F) c 0 ∗ gfree (F := F) c 1 ∗ gfree (F := F) c 2)
    ∗ ofree (F := F) c 0 ∗ ofree (F := F) c 1)
/-- What the body starts from, -/
abbrev bodyPre : sProp 𝕄 :=
  iprop(wholeP c arg4 f4 ∗ wholeP c arg5 f5 ∗ wholeP c arg6 f6 ∗ wholeP c arg7 f7 ∗ wholeP c wM fw ∗ (∃ fs, wholeP (F := F) c sM fs) ∗ (∃ W, owes (c : Thread nD τ) 0 W)
    ∗ inAll c XX XY XA XG ∗ ringsAll (F := F) c ∗ bigSep Finset.univ (ofresh (F := F) c))
/-- the weight once cast, -/
abbrev wCast : Buf (Elt F) (wM.view.loc (c : Thread nD τ)) :=
  wM.view.writes (Elt F) wM.view.junk [⟨Rect.unit ![0, 0] S1024x1024.size inb_S1024x1024_S1024x1024_0_0, k0_pay59 (arg7.view.readAt (Elt F) (Rect.unit ![0, 0] S1024x1024.size inb_S1024x1024_S1024x1024_0_0).toLoadRect f7)⟩]
/-- and what it leaves. -/
abbrev bodyPost : sProp 𝕄 :=
  iprop(wholeP c arg4 f4 ∗ wholeP c arg5 f5 ∗ wholeP c arg6 f6 ∗ wholeP c arg7 f7 ∗ (∃ fw, wholeP (F := F) c wM fw) ∗ (∃ fs, wholeP (F := F) c sM fs) ∗ (∃ W, owes (c : Thread nD τ) 0 W)
    ∗ inAll c XX XY XA XG ∗ ringsAll (F := F) c ∗ bigSep Finset.univ (odone c XX XY XA XG arg4 arg5 arg6 f4 f5 f6 (wCast c arg7 f7)))

theorem loopStart (fw : Buf (Elt F) (wM.view.loc (c : Thread nD τ))) :
    iprop(keepP c arg4 arg5 arg6 f4 f5 f6 fw ∗ xAt c XX 0 ∗ yAt c XY 0 ∗ aAt c XA 0 ∗ gAt c XG 0
      ∗ ofree (F := F) c 0 ∗ ofree (F := F) c 1 ∗ bigSep Finset.univ (ofresh (F := F) c))
    ⊢ invAt c XX XY XA XG arg4 arg5 arg6 f4 f5 f6 fw 0 (2#32, 0#32, 2#32, 0#32, 2#32, 0#32, 2#32, 0#32, 0#32, 0#32, 0#32, 0#32) := by
  unfold invAt resAt
  iintro ⟨HK, Hx, Hy, Ha, Hg, Ho0, Ho1, Hf⟩
  isplitr; · ipureintro; simp only [accAt, Prod.mk.injEq]; decide +kernel
  isplitl [HK]; · iexact HK
  isplitl [Hx]; · iexact Hx
  isplitl [Hy]; · iexact Hy
  isplitl [Ha]; · iexact Ha
  isplitl [Hg]; · iexact Hg
  unfold outAt
  isplitl [Ho0]; · iexact Ho0
  isplitl [Ho1]; · rw [olast, if_neg (show ¬ 1 ≤ 0 by decide)]; iexact Ho1
  isplitr
  · rw [show Ring.rangeSet 16 0 (0 - 1) = (∅ : Finset (Fin 16)) from by decide +kernel, BI.bigSep_empty]
    iempintro
  rw [Ring.rangeSet_univ]
  iexact Hf

theorem xend : xAt c XX 16 ⊢ iprop(bigSep Finset.univ (xhome c XX) ∗ xfree (F := F) c 0 ∗ xfree (F := F) c 1 ∗ xfree (F := F) c 2) :=
  Ring.free3_of_At_last _ _ _ _
theorem yend : yAt c XY 16 ⊢ iprop(bigSep Finset.univ (yhome c XY) ∗ yfree (F := F) c 0 ∗ yfree (F := F) c 1 ∗ yfree (F := F) c 2) :=
  Ring.free3_of_At_last _ _ _ _
theorem aend : aAt c XA 16 ⊢ iprop(bigSep Finset.univ (ahome c XA) ∗ afree (F := F) c 0 ∗ afree (F := F) c 1 ∗ afree (F := F) c 2) :=
  Ring.free3_of_At_last _ _ _ _
theorem gend : gAt c XG 16 ⊢ iprop(bigSep Finset.univ (ghome c XG) ∗ gfree (F := F) c 0 ∗ gfree (F := F) c 1 ∗ gfree (F := F) c 2) :=
  Ring.free3_of_At_last _ _ _ _
theorem olast_last (fw : Buf (Elt F) (wM.view.loc (c : Thread nD τ))) : olast c XX XY XA XG arg4 arg5 arg6 f4 f5 f6 fw 16
    ⊢ iprop(∃ o g, oflight c 1 15 (written c XX XY XA XG arg4 arg5 arg6 f4 f5 f6 fw 15 o) g) := by
  rw [olast, if_pos (show 1 ≤ 16 by decide), ogive, show Ring.sl 2 (16 - 1) = 1 from by decide +kernel, show Ring.bk 16 (16 - 1) = 15 from by decide +kernel]

/-- After the loop: every operand's block at home and its slots free, the last result block on its way. -/
theorem loopEnd (fw : Buf (Elt F) (wM.view.loc (c : Thread nD τ))) (acc : BitVec 32 × BitVec 32 × BitVec 32 × BitVec 32 × BitVec 32 × BitVec 32 × BitVec 32 × BitVec 32 × BitVec 32 × BitVec 32 × BitVec 32 × BitVec 32) :
    invAt c XX XY XA XG arg4 arg5 arg6 f4 f5 f6 fw k0_t1_loop.trips acc
    ⊢ iprop(⌜acc = accAt 16⌝ ∗ keepP c arg4 arg5 arg6 f4 f5 f6 fw
      ∗ (bigSep Finset.univ (xhome c XX) ∗ xfree (F := F) c 0 ∗ xfree (F := F) c 1 ∗ xfree (F := F) c 2)
      ∗ (bigSep Finset.univ (yhome c XY) ∗ yfree (F := F) c 0 ∗ yfree (F := F) c 1 ∗ yfree (F := F) c 2)
      ∗ (bigSep Finset.univ (ahome c XA) ∗ afree (F := F) c 0 ∗ afree (F := F) c 1 ∗ afree (F := F) c 2)
      ∗ (bigSep Finset.univ (ghome c XG) ∗ gfree (F := F) c 0 ∗ gfree (F := F) c 1 ∗ gfree (F := F) c 2)
      ∗ ofree (F := F) c 0 ∗ (∃ o g, oflight c 1 15 (written c XX XY XA XG arg4 arg5 arg6 f4 f5 f6 fw 15 o) g)
      ∗ bigSep (Ring.rangeSet 16 0 15) (odone c XX XY XA XG arg4 arg5 arg6 f4 f5 f6 fw)) := by
  rw [trips_eq]
  unfold invAt resAt
  iintro ⟨%e, HK, Hx, Hy, Ha, Hg, Ho, Hl, Hd, Hf⟩
  isplitr; · ipureintro; exact e
  isplitl [HK]; · iexact HK
  isplitl [Hx]; · iapply (xend c XX); iexact Hx
  isplitl [Hy]; · iapply (yend c XY); iexact Hy
  isplitl [Ha]; · iapply (aend c XA); iexact Ha
  isplitl [Hg]; · iapply (gend c XG); iexact Hg
  isplitl [Ho]; · iexact Ho
  isplitl [Hl]; · iapply (olast_last c XX XY XA XG arg4 arg5 arg6 f4 f5 f6 fw); iexact Hl
  iexact Hd

theorem doneAll (fw : Buf (Elt F) (wM.view.loc (c : Thread nD τ))) :
    iprop((∃ o g, ohome c 15 (osent c 1 15 (written c XX XY XA XG arg4 arg5 arg6 f4 f5 f6 fw 15 o) g)) ∗ bigSep (Ring.rangeSet 16 0 15) (odone c XX XY XA XG arg4 arg5 arg6 f4 f5 f6 fw))
    ⊢ bigSep Finset.univ (odone c XX XY XA XG arg4 arg5 arg6 f4 f5 f6 fw) := by
  rw [← Ring.rangeSet_univ (NB := 16), Ring.bigSep_rangeSet_last (NB := 16) (lo := 0) (hi := 16) (by decide) (by decide),
    odone, show Ring.sl 2 (⟨16 - 1, by decide⟩ : Fin 16).val = 1 from by decide +kernel, show (⟨16 - 1, by decide⟩ : Fin 16) = 15 from rfl]
  exact .rfl

theorem bodyRun (Q : PUnit → sProp 𝕄) :
    iprop(bodyPre c XX XY XA XG arg4 arg5 arg6 arg7 f4 f5 f6 f7 fw ∗ (bodyPost c XX XY XA XG arg4 arg5 arg6 arg7 f4 f5 f6 f7 -∗ Q ⟨⟩))
      ⊢ wp frame (wpE (defs₀ (F := F)) 𝒱₀ (c : Thread nD τ) none) Set.univ (bodyG (F := F) arg4 harg4 arg5 harg5 arg6 harg6 arg7 harg7) Q := by
  iintro ⟨⟨H4, H5, H6, H7, Hw, ⟨%fs, Hs⟩, ⟨%W, HW⟩, ⟨Hx, Hy, Ha, Hg⟩, ⟨⟨⟨Cx0, %fx0, Rx0⟩, ⟨Cx1, %fx1, Rx1⟩, Hx2⟩, ⟨⟨Cy0, %fy0, Ry0⟩, ⟨Cy1, %fy1, Ry1⟩, Hy2⟩, ⟨⟨Ca0, %fa0, Ra0⟩, ⟨Ca1, %fa1, Ra1⟩, Ha2⟩, ⟨⟨Cg0, %fg0, Rg0⟩, ⟨Cg1, %fg1, Rg1⟩, Hg2⟩, Ho0, Ho1⟩, Hf⟩, Hk⟩
  ihave Hx' := (Entails.of_eq (home_split _)) $$ Hx
  icases Hx' with ⟨Hx0, Hx1, Hx⟩
  ihave Hy' := (Entails.of_eq (home_split _)) $$ Hy
  icases Hy' with ⟨Hy0, Hy1, Hy⟩
  ihave Ha' := (Entails.of_eq (home_split _)) $$ Ha
  icases Ha' with ⟨Ha0, Ha1, Ha⟩
  ihave Hg' := (Entails.of_eq (home_split _)) $$ Hg
  icases Hg' with ⟨Hg0, Hg1, Hg⟩
  sl_unfold [bodyG, cc0_outproj]
  sl_exec
  ihave Hx := (xstart c XX) $$ [Hx Cx0 Cx1 Hx2]
  · isplitl [Hx]; · iexact Hx
    isplitl [Cx0]; · iexists _; iexact Cx0
    isplitl [Cx1]; · iexists _; iexact Cx1
    iexact Hx2
  ihave Hy := (ystart c XY) $$ [Hy Cy0 Cy1 Hy2]
  · isplitl [Hy]; · iexact Hy
    isplitl [Cy0]; · iexists _; iexact Cy0
    isplitl [Cy1]; · iexists _; iexact Cy1
    iexact Hy2
  ihave Ha := (astart c XA) $$ [Ha Ca0 Ca1 Ha2]
  · isplitl [Ha]; · iexact Ha
    isplitl [Ca0]; · iexists _; iexact Ca0
    isplitl [Ca1]; · iexists _; iexact Ca1
    iexact Ha2
  ihave Hg := (gstart c XG) $$ [Hg Cg0 Cg1 Hg2]
  · isplitl [Hg]; · iexact Hg
    isplitl [Cg0]; · iexists _; iexact Cg0
    isplitl [Cg1]; · iexists _; iexact Cg1
    iexact Hg2
  ihave HI := (loopStart c XX XY XA XG arg4 arg5 arg6 f4 f5 f6 (wCast c arg7 f7)) $$ [H4 H5 H6 Hw Hs HW Hx Hy Ha Hg Ho0 Ho1 Hf]
  · isplitl [H4 H5 H6 Hw Hs HW]
    · isplitl [H4]; · iexact H4
      isplitl [H5]; · iexact H5
      isplitl [H6]; · iexact H6
      isplitl [Hw]; · iexact Hw
      isplitl [Hs]; · iexists _; iexact Hs
      iexists _; iexact HW
    isplitl [Hx]; · iexact Hx
    isplitl [Hy]; · iexact Hy
    isplitl [Ha]; · iexact Ha
    isplitl [Hg]; · iexact Hg
    isplitl [Ho0]; · iexact Ho0
    isplitl [Ho1]; · iexact Ho1
    iexact Hf
  sl_exec
  ihave HE := (loopEnd c XX XY XA XG arg4 arg5 arg6 f4 f5 f6 (wCast c arg7 f7) _) $$ HI
  icases HE with ⟨%hacc, ⟨H4, H5, H6, Hw, ⟨%fs', Hs⟩, ⟨%W', HW⟩⟩, ⟨Hx, Rx⟩, ⟨Hy, Ry⟩, ⟨Ha, Ra⟩, ⟨Hg, Rg⟩, Ho0, ⟨%o, %g, Hc⟩, Hd⟩
  have hc9 := chk9_eq
  have hc8 := chk8_eq
  subst hacc
  sl_exec
  sl_step
  iapply Hk
  isplitl [H4]; · iexact H4
  isplitl [H5]; · iexact H5
  isplitl [H6]; · iexact H6
  isplitl [H7]; · iexact H7
  isplitl [Hw]; · iexists _; iexact Hw
  isplitl [Hs]; · iexists _; iexact Hs
  isplitl [HW]; · iexists _; iexact HW
  isplitl [Hx Hy Ha Hg]
  · isplitl [Hx]; · iexact Hx
    isplitl [Hy]; · iexact Hy
    isplitl [Ha]; · iexact Ha
    iexact Hg
  isplitl [Rx Ry Ra Rg Ho0 Hc Hc_src]
  · isplitl [Rx]; · iexact Rx
    isplitl [Ry]; · iexact Ry
    isplitl [Ra]; · iexact Ra
    isplitl [Rg]; · iexact Rg
    isplitl [Ho0]; · iexact Ho0
    isplitl [Hc]; · iexact Hc
    iexists _; iexact Hc_src
  iapply (doneAll c XX XY XA XG arg4 arg5 arg6 f4 f5 f6 (wCast c arg7 f7))
  isplitl [Hc_dst]
  · iexists _; iexists _; iexact Hc_dst
  iexact Hd
end

end Cert.Proof.K
-- ==== Proof.Cut.lean ====
/-
  The arrays and rings cut into their blocks and slots, and put together again.
-/
module

public import proofs.«01_k».proof.Proof.Body

@[expose] public section

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Families of disjoint sets that cover -/

theorem disj_of {I : Type} {n : ℕ} (G : Fin n → Finset I) (f : I → ℕ) (h : ∀ b y, y ∈ G b ↔ f y = b.val) : ∀ b b', b ≠ b' → Disjoint (G b) (G b') := by
  intro b b' hne; rw [Finset.disjoint_left]; intro y hy hy'
  exact hne (Fin.ext (((h b y).mp hy).symm.trans ((h b' y).mp hy')))
theorem cover_of {I : Type} [Fintype I] [DecidableEq I] {n : ℕ} (G : Fin n → Finset I) (f : I → ℕ) (h : ∀ b y, y ∈ G b ↔ f y = b.val) (hf : ∀ y, f y < n) :
    Finset.univ.biUnion G = Finset.univ := by
  ext y; simp only [Finset.mem_biUnion, Finset.mem_univ, true_and, iff_true]; exact ⟨⟨f y, hf y⟩, (h _ y).mpr rfl⟩

section Rings
variable {ℓ : Loc nD τ sig}
theorem cut3 (J : Fin 3 → Finset (Idx ℓ)) (f : Idx ℓ → ℕ) (h : ∀ b y, y ∈ J b ↔ f y = b.val) (hf : ∀ y, f y < 3)
    (P : Fin 3 → Buf (Elt F) ℓ → sProp 𝕄) (e : ∀ s f, P s f = (ℓ ↦[J s]{fullShare} f : sProp 𝕄)) :
    iprop(∃ f : Buf (Elt F) ℓ, ℓ ↦{fullShare} f) ⊢ iprop((∃ f, P 0 f) ∗ (∃ f, P 1 f) ∗ (∃ f, P 2 f)) :=
  Ring.slots3_split J (disj_of J f h) (cover_of J f h hf) _ _ _ (e 0) (e 1) (e 2)
theorem glue3 (J : Fin 3 → Finset (Idx ℓ)) (f : Idx ℓ → ℕ) (h : ∀ b y, y ∈ J b ↔ f y = b.val) (hf : ∀ y, f y < 3)
    (P : Fin 3 → Buf (Elt F) ℓ → sProp 𝕄) (e : ∀ s f, P s f = (ℓ ↦[J s]{fullShare} f : sProp 𝕄)) :
    iprop((∃ f, P 0 f) ∗ (∃ f, P 1 f) ∗ (∃ f, P 2 f)) ⊢ iprop(∃ f : Buf (Elt F) ℓ, ℓ ↦{fullShare} f) :=
  Ring.slots3_join J (disj_of J f h) (cover_of J f h hf) _ _ _ (e 0) (e 1) (e 2)
theorem cut2 (J : Fin 2 → Finset (Idx ℓ)) (f : Idx ℓ → ℕ) (h : ∀ b y, y ∈ J b ↔ f y = b.val) (hf : ∀ y, f y < 2)
    (P : Fin 2 → Buf (Elt F) ℓ → sProp 𝕄) (e : ∀ s f, P s f = (ℓ ↦[J s]{fullShare} f : sProp 𝕄)) :
    iprop(∃ f : Buf (Elt F) ℓ, ℓ ↦{fullShare} f) ⊢ iprop((∃ f, P 0 f) ∗ (∃ f, P 1 f)) :=
  Ring.slots2_split J (disj_of J f h) (cover_of J f h hf) _ _ (e 0) (e 1)
theorem glue2 (J : Fin 2 → Finset (Idx ℓ)) (f : Idx ℓ → ℕ) (h : ∀ b y, y ∈ J b ↔ f y = b.val) (hf : ∀ y, f y < 2)
    (P : Fin 2 → Buf (Elt F) ℓ → sProp 𝕄) (e : ∀ s f, P s f = (ℓ ↦[J s]{fullShare} f : sProp 𝕄)) :
    iprop((∃ f, P 0 f) ∗ (∃ f, P 1 f)) ⊢ iprop(∃ f : Buf (Elt F) ℓ, ℓ ↦{fullShare} f) :=
  Ring.slots2_join J (disj_of J f h) (cover_of J f h hf) _ _ (e 0) (e 1)
end Rings

/-! ## `x` -/
abbrev xset (b : Fin 16) : Finset S8x2048x1024.Idx := (Rect.unit (s := S8x2048x1024) (rowOff b) S1x1024x1024.size (rowOff_inb b)).set
theorem xblk_set (b : Fin 16) : (xblk b).view.set = xset b := View.set_slice_whole _ _
theorem xmem (b : Fin 16) (y : S8x2048x1024.Idx) : y ∈ xset b ↔ 2 * (y 0).val + (y 1).val / 1024 = b.val := by
  rw [Rect.mem_set_unit]
  have h0 : (y 0).val < 8 := (y 0).isLt
  have h1 : (y 1).val < 2048 := (y 1).isLt
  have h2 : (y 2).val < 1024 := (y 2).isLt
  have hb := b.isLt
  constructor
  · intro H
    have a0 : b.val / 2 ≤ (y 0).val ∧ (y 0).val < b.val / 2 + 1 := H 0
    have a1 : 1024 * (b.val % 2) ≤ (y 1).val ∧ (y 1).val < 1024 * (b.val % 2) + 1024 := H 1
    omega
  · intro H i; fin_cases i
    · show b.val / 2 ≤ (y 0).val ∧ (y 0).val < b.val / 2 + 1; omega
    · show 1024 * (b.val % 2) ≤ (y 1).val ∧ (y 1).val < 1024 * (b.val % 2) + 1024; omega
    · show 0 ≤ (y 2).val ∧ (y 2).val < 0 + 1024; omega
theorem xblk_lt (y : S8x2048x1024.Idx) : 2 * (y 0).val + (y 1).val / 1024 < 16 := by
  have h0 : (y 0).val < 8 := (y 0).isLt
  have h1 : (y 1).val < 2048 := (y 1).isLt
  omega
theorem xdisj : ∀ b b', b ≠ b' → Disjoint (xset b) (xset b') := disj_of _ _ xmem
theorem xcover : Finset.univ.biUnion xset = Finset.univ := cover_of _ _ xmem xblk_lt
abbrev xrset (s : Fin 3) : Finset S3x1x1024x1024.Idx := (Rect.unit (s := S3x1x1024x1024) (slotOff4 s) S1x1x1024x1024.size (xslot_inb s)).set
theorem xslot_set (s : Fin 3) : (xslot s).view.set = xrset s := (View.set_reshape _ _).trans (View.set_slice_whole _ _)
theorem xrmem (s : Fin 3) (y : S3x1x1024x1024.Idx) : y ∈ xrset s ↔ (y 0).val = s.val := by
  rw [Rect.mem_set_unit]
  have h0 : (y 0).val < 3 := (y 0).isLt
  have h1 : (y 1).val < 1 := (y 1).isLt
  have h2 : (y 2).val < 1024 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1024; omega
    · show 0 ≤ (y 3).val ∧ (y 3).val < 0 + 1024; omega
theorem xwhole (c : Dev nD) (XX : Buf (Elt F) (xM.view.loc (c : Thread nD τ))) :
    ((xM.view.loc (c : Thread nD τ)) ↦{fullShare} XX : sProp 𝕄) = bigSep Finset.univ (xhome c XX) := by
  rw [Ring.pointsTo_blocks (ℓ := xM.view.loc (c : Thread nD τ)) xset xdisj xcover]
  exact bigSep_congr fun b _ => by rw [← xblk_set]; rfl
theorem xring_eq (c : Dev nD) (s : Fin 3) (f) : xring (F := F) c s f = (xR.view.loc (c : Thread nD τ) ↦[xrset s]{fullShare} f : sProp 𝕄) :=
  congrArg (fun S => (xR.view.loc (c : Thread nD τ) ↦[S]{fullShare} f : sProp 𝕄)) (xslot_set s)
theorem xcut (c : Dev nD) : iprop(∃ f : Buf (Elt F) (xR.view.loc (c : Thread nD τ)), (xR.view.loc (c : Thread nD τ)) ↦{fullShare} f)
    ⊢ (iprop((∃ f, xring c 0 f) ∗ (∃ f, xring c 1 f) ∗ ∃ f, xring c 2 f) : sProp 𝕄) :=
  cut3 (ℓ := xR.view.loc (c : Thread nD τ)) xrset (fun y : S3x1x1024x1024.Idx => (y 0).val) xrmem (fun y : S3x1x1024x1024.Idx => (y 0).isLt) (fun s f => xring (F := F) c s f) (xring_eq c)
theorem xglue (c : Dev nD) : (iprop((∃ f, xring c 0 f) ∗ (∃ f, xring c 1 f) ∗ ∃ f, xring c 2 f) : sProp 𝕄)
    ⊢ iprop(∃ f : Buf (Elt F) (xR.view.loc (c : Thread nD τ)), (xR.view.loc (c : Thread nD τ)) ↦{fullShare} f) :=
  glue3 (ℓ := xR.view.loc (c : Thread nD τ)) xrset (fun y : S3x1x1024x1024.Idx => (y 0).val) xrmem (fun y : S3x1x1024x1024.Idx => (y 0).isLt) (fun s f => xring (F := F) c s f) (xring_eq c)
/-! ## `y` -/
abbrev yset (b : Fin 16) : Finset S8x2048x512.Idx := (Rect.unit (s := S8x2048x512) (rowOff b) S1x1024x512.size (rowOff_inb' b)).set
theorem yblk_set (b : Fin 16) : (yblk b).view.set = yset b := View.set_slice_whole _ _
theorem ymem (b : Fin 16) (y : S8x2048x512.Idx) : y ∈ yset b ↔ 2 * (y 0).val + (y 1).val / 1024 = b.val := by
  rw [Rect.mem_set_unit]
  have h0 : (y 0).val < 8 := (y 0).isLt
  have h1 : (y 1).val < 2048 := (y 1).isLt
  have h2 : (y 2).val < 512 := (y 2).isLt
  have hb := b.isLt
  constructor
  · intro H
    have a0 : b.val / 2 ≤ (y 0).val ∧ (y 0).val < b.val / 2 + 1 := H 0
    have a1 : 1024 * (b.val % 2) ≤ (y 1).val ∧ (y 1).val < 1024 * (b.val % 2) + 1024 := H 1
    omega
  · intro H i; fin_cases i
    · show b.val / 2 ≤ (y 0).val ∧ (y 0).val < b.val / 2 + 1; omega
    · show 1024 * (b.val % 2) ≤ (y 1).val ∧ (y 1).val < 1024 * (b.val % 2) + 1024; omega
    · show 0 ≤ (y 2).val ∧ (y 2).val < 0 + 512; omega
theorem yblk_lt (y : S8x2048x512.Idx) : 2 * (y 0).val + (y 1).val / 1024 < 16 := by
  have h0 : (y 0).val < 8 := (y 0).isLt
  have h1 : (y 1).val < 2048 := (y 1).isLt
  omega
theorem ydisj : ∀ b b', b ≠ b' → Disjoint (yset b) (yset b') := disj_of _ _ ymem
theorem ycover : Finset.univ.biUnion yset = Finset.univ := cover_of _ _ ymem yblk_lt
abbrev yrset (s : Fin 3) : Finset S3x1x1024x512.Idx := (Rect.unit (s := S3x1x1024x512) (slotOff4 s) S1x1x1024x512.size (yslot_inb s)).set
theorem yslot_set (s : Fin 3) : (yslot s).view.set = yrset s := (View.set_reshape _ _).trans (View.set_slice_whole _ _)
theorem yrmem (s : Fin 3) (y : S3x1x1024x512.Idx) : y ∈ yrset s ↔ (y 0).val = s.val := by
  rw [Rect.mem_set_unit]
  have h0 : (y 0).val < 3 := (y 0).isLt
  have h1 : (y 1).val < 1 := (y 1).isLt
  have h2 : (y 2).val < 1024 := (y 2).isLt
  have h3 : (y 3).val < 512 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1024; omega
    · show 0 ≤ (y 3).val ∧ (y 3).val < 0 + 512; omega
theorem ywhole (c : Dev nD) (XY : Buf (Elt F) (yM.view.loc (c : Thread nD τ))) :
    ((yM.view.loc (c : Thread nD τ)) ↦{fullShare} XY : sProp 𝕄) = bigSep Finset.univ (yhome c XY) := by
  rw [Ring.pointsTo_blocks (ℓ := yM.view.loc (c : Thread nD τ)) yset ydisj ycover]
  exact bigSep_congr fun b _ => by rw [← yblk_set]; rfl
theorem yring_eq (c : Dev nD) (s : Fin 3) (f) : yring (F := F) c s f = (yR.view.loc (c : Thread nD τ) ↦[yrset s]{fullShare} f : sProp 𝕄) :=
  congrArg (fun S => (yR.view.loc (c : Thread nD τ) ↦[S]{fullShare} f : sProp 𝕄)) (yslot_set s)
theorem ycut (c : Dev nD) : iprop(∃ f : Buf (Elt F) (yR.view.loc (c : Thread nD τ)), (yR.view.loc (c : Thread nD τ)) ↦{fullShare} f)
    ⊢ (iprop((∃ f, yring c 0 f) ∗ (∃ f, yring c 1 f) ∗ ∃ f, yring c 2 f) : sProp 𝕄) :=
  cut3 (ℓ := yR.view.loc (c : Thread nD τ)) yrset (fun y : S3x1x1024x512.Idx => (y 0).val) yrmem (fun y : S3x1x1024x512.Idx => (y 0).isLt) (fun s f => yring (F := F) c s f) (yring_eq c)
theorem yglue (c : Dev nD) : (iprop((∃ f, yring c 0 f) ∗ (∃ f, yring c 1 f) ∗ ∃ f, yring c 2 f) : sProp 𝕄)
    ⊢ iprop(∃ f : Buf (Elt F) (yR.view.loc (c : Thread nD τ)), (yR.view.loc (c : Thread nD τ)) ↦{fullShare} f) :=
  glue3 (ℓ := yR.view.loc (c : Thread nD τ)) yrset (fun y : S3x1x1024x512.Idx => (y 0).val) yrmem (fun y : S3x1x1024x512.Idx => (y 0).isLt) (fun s f => yring (F := F) c s f) (yring_eq c)
/-! ## `a` -/
abbrev aset (b : Fin 16) : Finset S8x4x512x512.Idx := (Rect.unit (s := S8x4x512x512) (attOff b) S1x4x256x512.size (attOff_inb b)).set
theorem ablk_set (b : Fin 16) : (ablk b).view.set = aset b := View.set_slice_whole _ _
theorem amem (b : Fin 16) (y : S8x4x512x512.Idx) : y ∈ aset b ↔ 2 * (y 0).val + (y 2).val / 256 = b.val := by
  rw [Rect.mem_set_unit]
  have h0 : (y 0).val < 8 := (y 0).isLt
  have h1 : (y 1).val < 4 := (y 1).isLt
  have h2 : (y 2).val < 512 := (y 2).isLt
  have h3 : (y 3).val < 512 := (y 3).isLt
  have hb := b.isLt
  constructor
  · intro H
    have a0 : b.val / 2 ≤ (y 0).val ∧ (y 0).val < b.val / 2 + 1 := H 0
    have a1 : 256 * (b.val % 2) ≤ (y 2).val ∧ (y 2).val < 256 * (b.val % 2) + 256 := H 2
    omega
  · intro H i; fin_cases i
    · show b.val / 2 ≤ (y 0).val ∧ (y 0).val < b.val / 2 + 1; omega
    · show 0 ≤ (y 1).val ∧ (y 1).val < 0 + 4; omega
    · show 256 * (b.val % 2) ≤ (y 2).val ∧ (y 2).val < 256 * (b.val % 2) + 256; omega
    · show 0 ≤ (y 3).val ∧ (y 3).val < 0 + 512; omega
theorem ablk_lt (y : S8x4x512x512.Idx) : 2 * (y 0).val + (y 2).val / 256 < 16 := by
  have h0 : (y 0).val < 8 := (y 0).isLt
  have h1 : (y 2).val < 512 := (y 2).isLt
  omega
theorem adisj : ∀ b b', b ≠ b' → Disjoint (aset b) (aset b') := disj_of _ _ amem
theorem acover : Finset.univ.biUnion aset = Finset.univ := cover_of _ _ amem ablk_lt
abbrev arset (s : Fin 3) : Finset S3x1x4x256x512.Idx := (Rect.unit (s := S3x1x4x256x512) (slotOff5 s) S1x1x4x256x512.size (aslot_inb s)).set
theorem aslot_set (s : Fin 3) : (aslot s).view.set = arset s := (View.set_reshape _ _).trans (View.set_slice_whole _ _)
theorem armem (s : Fin 3) (y : S3x1x4x256x512.Idx) : y ∈ arset s ↔ (y 0).val = s.val := by
  rw [Rect.mem_set_unit]
  have h0 : (y 0).val < 3 := (y 0).isLt
  have h1 : (y 1).val < 1 := (y 1).isLt
  have h2 : (y 2).val < 4 := (y 2).isLt
  have h3 : (y 3).val < 256 := (y 3).isLt
  have h4 : (y 4).val < 512 := (y 4).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 4; omega
    · show 0 ≤ (y 3).val ∧ (y 3).val < 0 + 256; omega
    · show 0 ≤ (y 4).val ∧ (y 4).val < 0 + 512; omega
theorem awhole (c : Dev nD) (XA : Buf (Elt F) (aM.view.loc (c : Thread nD τ))) :
    ((aM.view.loc (c : Thread nD τ)) ↦{fullShare} XA : sProp 𝕄) = bigSep Finset.univ (ahome c XA) := by
  rw [Ring.pointsTo_blocks (ℓ := aM.view.loc (c : Thread nD τ)) aset adisj acover]
  exact bigSep_congr fun b _ => by rw [← ablk_set]; rfl
theorem aring_eq (c : Dev nD) (s : Fin 3) (f) : aring (F := F) c s f = (aR.view.loc (c : Thread nD τ) ↦[arset s]{fullShare} f : sProp 𝕄) :=
  congrArg (fun S => (aR.view.loc (c : Thread nD τ) ↦[S]{fullShare} f : sProp 𝕄)) (aslot_set s)
theorem acut (c : Dev nD) : iprop(∃ f : Buf (Elt F) (aR.view.loc (c : Thread nD τ)), (aR.view.loc (c : Thread nD τ)) ↦{fullShare} f)
    ⊢ (iprop((∃ f, aring c 0 f) ∗ (∃ f, aring c 1 f) ∗ ∃ f, aring c 2 f) : sProp 𝕄) :=
  cut3 (ℓ := aR.view.loc (c : Thread nD τ)) arset (fun y : S3x1x4x256x512.Idx => (y 0).val) armem (fun y : S3x1x4x256x512.Idx => (y 0).isLt) (fun s f => aring (F := F) c s f) (aring_eq c)
theorem aglue (c : Dev nD) : (iprop((∃ f, aring c 0 f) ∗ (∃ f, aring c 1 f) ∗ ∃ f, aring c 2 f) : sProp 𝕄)
    ⊢ iprop(∃ f : Buf (Elt F) (aR.view.loc (c : Thread nD τ)), (aR.view.loc (c : Thread nD τ)) ↦{fullShare} f) :=
  glue3 (ℓ := aR.view.loc (c : Thread nD τ)) arset (fun y : S3x1x4x256x512.Idx => (y 0).val) armem (fun y : S3x1x4x256x512.Idx => (y 0).isLt) (fun s f => aring (F := F) c s f) (aring_eq c)
/-! ## `g` -/
abbrev gset (b : Fin 16) : Finset S8x2048x512.Idx := (Rect.unit (s := S8x2048x512) (rowOff b) S1x1024x512.size (rowOff_inb' b)).set
theorem gblk_set (b : Fin 16) : (gblk b).view.set = gset b := View.set_slice_whole _ _
theorem gmem (b : Fin 16) (y : S8x2048x512.Idx) : y ∈ gset b ↔ 2 * (y 0).val + (y 1).val / 1024 = b.val := by
  rw [Rect.mem_set_unit]
  have h0 : (y 0).val < 8 := (y 0).isLt
  have h1 : (y 1).val < 2048 := (y 1).isLt
  have h2 : (y 2).val < 512 := (y 2).isLt
  have hb := b.isLt
  constructor
  · intro H
    have a0 : b.val / 2 ≤ (y 0).val ∧ (y 0).val < b.val / 2 + 1 := H 0
    have a1 : 1024 * (b.val % 2) ≤ (y 1).val ∧ (y 1).val < 1024 * (b.val % 2) + 1024 := H 1
    omega
  · intro H i; fin_cases i
    · show b.val / 2 ≤ (y 0).val ∧ (y 0).val < b.val / 2 + 1; omega
    · show 1024 * (b.val % 2) ≤ (y 1).val ∧ (y 1).val < 1024 * (b.val % 2) + 1024; omega
    · show 0 ≤ (y 2).val ∧ (y 2).val < 0 + 512; omega
theorem gblk_lt (y : S8x2048x512.Idx) : 2 * (y 0).val + (y 1).val / 1024 < 16 := by
  have h0 : (y 0).val < 8 := (y 0).isLt
  have h1 : (y 1).val < 2048 := (y 1).isLt
  omega
theorem gdisj : ∀ b b', b ≠ b' → Disjoint (gset b) (gset b') := disj_of _ _ gmem
theorem gcover : Finset.univ.biUnion gset = Finset.univ := cover_of _ _ gmem gblk_lt
abbrev grset (s : Fin 3) : Finset S3x1x1024x512.Idx := (Rect.unit (s := S3x1x1024x512) (slotOff4 s) S1x1x1024x512.size (yslot_inb s)).set
theorem gslot_set (s : Fin 3) : (gslot s).view.set = grset s := (View.set_reshape _ _).trans (View.set_slice_whole _ _)
theorem grmem (s : Fin 3) (y : S3x1x1024x512.Idx) : y ∈ grset s ↔ (y 0).val = s.val := by
  rw [Rect.mem_set_unit]
  have h0 : (y 0).val < 3 := (y 0).isLt
  have h1 : (y 1).val < 1 := (y 1).isLt
  have h2 : (y 2).val < 1024 := (y 2).isLt
  have h3 : (y 3).val < 512 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1024; omega
    · show 0 ≤ (y 3).val ∧ (y 3).val < 0 + 512; omega
theorem gwhole (c : Dev nD) (XG : Buf (Elt F) (gM.view.loc (c : Thread nD τ))) :
    ((gM.view.loc (c : Thread nD τ)) ↦{fullShare} XG : sProp 𝕄) = bigSep Finset.univ (ghome c XG) := by
  rw [Ring.pointsTo_blocks (ℓ := gM.view.loc (c : Thread nD τ)) gset gdisj gcover]
  exact bigSep_congr fun b _ => by rw [← gblk_set]; rfl
theorem gring_eq (c : Dev nD) (s : Fin 3) (f) : gring (F := F) c s f = (gR.view.loc (c : Thread nD τ) ↦[grset s]{fullShare} f : sProp 𝕄) :=
  congrArg (fun S => (gR.view.loc (c : Thread nD τ) ↦[S]{fullShare} f : sProp 𝕄)) (gslot_set s)
theorem gcut (c : Dev nD) : iprop(∃ f : Buf (Elt F) (gR.view.loc (c : Thread nD τ)), (gR.view.loc (c : Thread nD τ)) ↦{fullShare} f)
    ⊢ (iprop((∃ f, gring c 0 f) ∗ (∃ f, gring c 1 f) ∗ ∃ f, gring c 2 f) : sProp 𝕄) :=
  cut3 (ℓ := gR.view.loc (c : Thread nD τ)) grset (fun y : S3x1x1024x512.Idx => (y 0).val) grmem (fun y : S3x1x1024x512.Idx => (y 0).isLt) (fun s f => gring (F := F) c s f) (gring_eq c)
theorem gglue (c : Dev nD) : (iprop((∃ f, gring c 0 f) ∗ (∃ f, gring c 1 f) ∗ ∃ f, gring c 2 f) : sProp 𝕄)
    ⊢ iprop(∃ f : Buf (Elt F) (gR.view.loc (c : Thread nD τ)), (gR.view.loc (c : Thread nD τ)) ↦{fullShare} f) :=
  glue3 (ℓ := gR.view.loc (c : Thread nD τ)) grset (fun y : S3x1x1024x512.Idx => (y 0).val) grmem (fun y : S3x1x1024x512.Idx => (y 0).isLt) (fun s f => gring (F := F) c s f) (gring_eq c)
/-! ## `o` -/
abbrev oset (b : Fin 16) : Finset S8x2048x1024.Idx := (Rect.unit (s := S8x2048x1024) (rowOff b) S1x1024x1024.size (rowOff_inb b)).set
theorem oblk_set (b : Fin 16) : (oblk b).view.set = oset b := View.set_slice_whole _ _
theorem omem (b : Fin 16) (y : S8x2048x1024.Idx) : y ∈ oset b ↔ 2 * (y 0).val + (y 1).val / 1024 = b.val := by
  rw [Rect.mem_set_unit]
  have h0 : (y 0).val < 8 := (y 0).isLt
  have h1 : (y 1).val < 2048 := (y 1).isLt
  have h2 : (y 2).val < 1024 := (y 2).isLt
  have hb := b.isLt
  constructor
  · intro H
    have a0 : b.val / 2 ≤ (y 0).val ∧ (y 0).val < b.val / 2 + 1 := H 0
    have a1 : 1024 * (b.val % 2) ≤ (y 1).val ∧ (y 1).val < 1024 * (b.val % 2) + 1024 := H 1
    omega
  · intro H i; fin_cases i
    · show b.val / 2 ≤ (y 0).val ∧ (y 0).val < b.val / 2 + 1; omega
    · show 1024 * (b.val % 2) ≤ (y 1).val ∧ (y 1).val < 1024 * (b.val % 2) + 1024; omega
    · show 0 ≤ (y 2).val ∧ (y 2).val < 0 + 1024; omega
theorem oblk_lt (y : S8x2048x1024.Idx) : 2 * (y 0).val + (y 1).val / 1024 < 16 := by
  have h0 : (y 0).val < 8 := (y 0).isLt
  have h1 : (y 1).val < 2048 := (y 1).isLt
  omega
theorem odisj : ∀ b b', b ≠ b' → Disjoint (oset b) (oset b') := disj_of _ _ omem
theorem ocover : Finset.univ.biUnion oset = Finset.univ := cover_of _ _ omem oblk_lt
abbrev orset (s : Fin 2) : Finset S2x1x1024x1024.Idx := (Rect.unit (s := S2x1x1024x1024) (slotOff4 s) S1x1x1024x1024.size (oslot_inb s)).set
theorem oslot_set (s : Fin 2) : (oslot s).view.set = orset s := (View.set_reshape _ _).trans (View.set_slice_whole _ _)
theorem ormem (s : Fin 2) (y : S2x1x1024x1024.Idx) : y ∈ orset s ↔ (y 0).val = s.val := by
  rw [Rect.mem_set_unit]
  have h0 : (y 0).val < 2 := (y 0).isLt
  have h1 : (y 1).val < 1 := (y 1).isLt
  have h2 : (y 2).val < 1024 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1024; omega
    · show 0 ≤ (y 3).val ∧ (y 3).val < 0 + 1024; omega
theorem ohome_eq (c : Dev nD) (b : Fin 16) (f) : ohome (F := F) c b f = (oM.view.loc (c : Thread nD τ) ↦[oset b]{fullShare} f : sProp 𝕄) :=
  congrArg (fun S => (oM.view.loc (c : Thread nD τ) ↦[S]{fullShare} f : sProp 𝕄)) (oblk_set b)
theorem oring_eq (c : Dev nD) (s : Fin 2) (f) : oring (F := F) c s f = (oR.view.loc (c : Thread nD τ) ↦[orset s]{fullShare} f : sProp 𝕄) :=
  congrArg (fun S => (oR.view.loc (c : Thread nD τ) ↦[S]{fullShare} f : sProp 𝕄)) (oslot_set s)
theorem ocut (c : Dev nD) : iprop(∃ f : Buf (Elt F) (oR.view.loc (c : Thread nD τ)), (oR.view.loc (c : Thread nD τ)) ↦{fullShare} f)
    ⊢ (iprop((∃ f, oring c 0 f) ∗ ∃ f, oring c 1 f) : sProp 𝕄) :=
  cut2 (ℓ := oR.view.loc (c : Thread nD τ)) orset (fun y : S2x1x1024x1024.Idx => (y 0).val) ormem (fun y : S2x1x1024x1024.Idx => (y 0).isLt) (fun s f => oring (F := F) c s f) (oring_eq c)
theorem oglue (c : Dev nD) : (iprop((∃ f, oring c 0 f) ∗ ∃ f, oring c 1 f) : sProp 𝕄)
    ⊢ iprop(∃ f : Buf (Elt F) (oR.view.loc (c : Thread nD τ)), (oR.view.loc (c : Thread nD τ)) ↦{fullShare} f) :=
  glue2 (ℓ := oR.view.loc (c : Thread nD τ)) orset (fun y : S2x1x1024x1024.Idx => (y 0).val) ormem (fun y : S2x1x1024x1024.Idx => (y 0).isLt) (fun s f => oring (F := F) c s f) (oring_eq c)
/-- The result's array cut into its blocks; -/
theorem ofresh_all (c : Dev nD) (f : Buf (Elt F) (oM.view.loc (c : Thread nD τ))) :
    (oM.view.loc (c : Thread nD τ) ↦{fullShare} f : sProp 𝕄) ⊢ bigSep Finset.univ (ofresh (F := F) c) := by
  rw [Ring.pointsTo_blocks (ℓ := oM.view.loc (c : Thread nD τ)) oset odisj ocover]
  have h (b : Fin 16) : (oM.view.loc (c : Thread nD τ) ↦[oset b]{fullShare} f : sProp 𝕄) ⊢ ofresh (F := F) c b := by
    rw [← ohome_eq c b f]; iintro H; iexists f; iexact H
  exact BI.bigSep_mono fun b _ => h b
section
variable (c : Dev nD) (XX : Buf (Elt F) (xM.view.loc (c : Thread nD τ))) (XY : Buf (Elt F) (yM.view.loc (c : Thread nD τ)))
  (XA : Buf (Elt F) (aM.view.loc (c : Thread nD τ))) (XG : Buf (Elt F) (gM.view.loc (c : Thread nD τ)))
  (arg4 : Memref sig .tc .vmem S8x3072 .f32) (arg5 : Memref sig .tc .vmem S1x512 .f32) (arg6 : Memref sig .tc .vmem S1x1024 .f32)
  (f4 : Buf (Elt F) (arg4.view.loc (c : Thread nD τ))) (f5 : Buf (Elt F) (arg5.view.loc (c : Thread nD τ)))
  (f6 : Buf (Elt F) (arg6.view.loc (c : Thread nD τ))) (fw : Buf (Elt F) (wM.view.loc (c : Thread nD τ)))

/-- What block `b` of the result holds at the end: what its trip wrote into the slot. -/
def Filled (X : Buf (Elt F) (oM.view.loc (c : Thread nD τ))) : Prop :=
  ∀ b : Fin 16, ∃ o g, ∀ i ∈ (oblk b).view.set, X i = osent c (Ring.sl 2 b.val) b (written c XX XY XA XG arg4 arg5 arg6 f4 f5 f6 fw b.val o) g i

/-- the written blocks put together. -/
theorem ofilled_all :
    bigSep Finset.univ (odone c XX XY XA XG arg4 arg5 arg6 f4 f5 f6 fw)
      ⊢ (iprop(∃ X, ⌜Filled c XX XY XA XG arg4 arg5 arg6 f4 f5 f6 fw X⌝ ∗ oM.view.loc (c : Thread nD τ) ↦{fullShare} X) : sProp 𝕄) := by
  let P (b : Fin 16) (og : Buf (Elt F) (oR.view.loc (c : Thread nD τ)) × Buf (Elt F) (oM.view.loc (c : Thread nD τ))) :=
    osent c (Ring.sl 2 b.val) b (written c XX XY XA XG arg4 arg5 arg6 f4 f5 f6 fw b.val og.1) og.2
  have : Nonempty (Buf (Elt F) (oR.view.loc (c : Thread nD τ)) × Buf (Elt F) (oM.view.loc (c : Thread nD τ))) := ⟨⟨oR.view.junk, oM.view.junk⟩⟩
  have h1 : bigSep Finset.univ (odone c XX XY XA XG arg4 arg5 arg6 f4 f5 f6 fw) ⊢ (bigSep Finset.univ fun b => iprop(∃ og, oM.view.loc (c : Thread nD τ) ↦[oset b]{fullShare} P b og) : sProp 𝕄) := by
    have h (b : Fin 16) : odone c XX XY XA XG arg4 arg5 arg6 f4 f5 f6 fw b ⊢ (iprop(∃ og, oM.view.loc (c : Thread nD τ) ↦[oset b]{fullShare} P b og) : sProp 𝕄) := by
      iintro ⟨%o, %g, H⟩
      iexists (o, g)
      iapply (Entails.of_eq (ohome_eq c b _)); iexact H
    exact BI.bigSep_mono fun b _ => h b
  refine h1.trans ((Idealize.SL.BI.bigSep_exists_pi Finset.univ _).trans ?_)
  iintro ⟨%og, H⟩
  ihave H' := (pointsTo_biUnion_join Finset.univ oset (fun b => P b (og b)) oM.view.junk (fun b _ b' _ h => odisj b b' h)) $$ H
  icases H' with ⟨%X, %hX, H⟩
  rw [ocover]
  iexists X
  isplitr
  · ipureintro
    intro b
    refine ⟨(og b).1, (og b).2, fun i hi => hX b (Finset.mem_univ _) i ?_⟩
    rw [← oblk_set]; exact hi
  iexact H
end

end Cert.Proof.K
-- ==== Proof.Run.lean ====
/-
  The whole program's run, for any float values: it ends, the arguments are as they were, every counter is at zero, and
  the result holds what the sixteen trips wrote.
-/
module

public import proofs.«01_k».proof.Proof.Cut
public import proofs.«01_k».proof.Proof.Gen.KernelIdeal.Frame

@[expose] public section

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-- The kernel's own semaphores. -/
abbrev osem : Fin 14 → SemLoc sig := ![.dma (xsem 0).sem, .dma (xsem 1).sem, .dma (xsem 2).sem, .dma (ysem 0).sem, .dma (ysem 1).sem, .dma (ysem 2).sem, .dma (asem 0).sem, .dma (asem 1).sem, .dma (asem 2).sem, .dma (gsem 0).sem, .dma (gsem 1).sem, .dma (gsem 2).sem, .dma (osm 0).sem, .dma (osm 1).sem]
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(cellP (F := F) c (xsem 0) ∗ cellP (F := F) c (xsem 1) ∗ cellP (F := F) c (xsem 2) ∗ cellP (F := F) c (ysem 0) ∗ cellP (F := F) c (ysem 1) ∗ cellP (F := F) c (ysem 2) ∗ cellP (F := F) c (asem 0) ∗ cellP (F := F) c (asem 1) ∗ cellP (F := F) c (asem 2) ∗ cellP (F := F) c (gsem 0) ∗ cellP (F := F) c (gsem 1) ∗ cellP (F := F) c (gsem 2) ∗ cellP (F := F) c (osm 0) ∗ cellP (F := F) c (osm 1)) := by
  unfold Pipeline.ownSems0
  rw [bigSep_univ_eq_bigSepL [0, 1, 2, 3, 4, 5, 6, 7, 8, 9, 10, 11, 12, 13] (by decide) (by decide)]
  rfl

/-! ## The arrays as the call finds them -/
abbrev XX (c : Dev nD) : Buf (Elt F) (xM.view.loc (c : Thread nD τ)) := V m c main_arg0
abbrev XY (c : Dev nD) : Buf (Elt F) (yM.view.loc (c : Thread nD τ)) := V m c main_arg1
abbrev XA (c : Dev nD) : Buf (Elt F) (aM.view.loc (c : Thread nD τ)) := V m c main_v3
abbrev XG (c : Dev nD) : Buf (Elt F) (gM.view.loc (c : Thread nD τ)) := V m c main_arg3

abbrev st4 (t : Fin cfg0.N) : Memref sig .tc .vmem S8x3072 .f32 := win0_0.stage (cfg0.slots t 0)
abbrev st5 (t : Fin cfg0.N) : Memref sig .tc .vmem S1x512 .f32 := win0_1.stage (cfg0.slots t 1)
abbrev st6 (t : Fin cfg0.N) : Memref sig .tc .vmem S1x1024 .f32 := win0_2.stage (cfg0.slots t 2)
abbrev st7 (t : Fin cfg0.N) : Memref sig .tc .vmem S1024x1024 .f32 := win0_3.stage (cfg0.slots t 3)
abbrev F4 (c : Dev nD) (t : Fin cfg0.N) : Buf (Elt F) ((st4 t).view.loc (c : Thread nD τ)) := (st4 t).view.rep (iblk m c 0 t)
abbrev F5 (c : Dev nD) (t : Fin cfg0.N) : Buf (Elt F) ((st5 t).view.loc (c : Thread nD τ)) := (st5 t).view.rep (iblk m c 1 t)
abbrev F6 (c : Dev nD) (t : Fin cfg0.N) : Buf (Elt F) ((st6 t).view.loc (c : Thread nD τ)) := (st6 t).view.rep (iblk m c 2 t)
abbrev F7 (c : Dev nD) (t : Fin cfg0.N) : Buf (Elt F) ((st7 t).view.loc (c : Thread nD τ)) := (st7 t).view.rep (iblk m c 3 t)

/-- The result's block `b` once written. -/
abbrev done (c : Dev nD) (t : Fin cfg0.N) (b : Fin 16) : sProp 𝕄 :=
  odone c (XX m c) (XY m c) (XA m c) (XG m c) (st4 t) (st5 t) (st6 t) (F4 m c t) (F5 m c t) (F6 m c t) (wCast c (st7 t) (F7 m c t)) b

/-- What the call holds beside the windows before its one point, and after it. -/
def Φ0 (c : Dev nD) : sProp 𝕄 :=
  iprop(inAll c (XX m c) (XY m c) (XA m c) (XG m c) ∗ ringsAll (F := F) c ∗ (∃ fs, wholeP (F := F) c sM fs) ∗ (∃ fw, wholeP (F := F) c wM fw)
    ∗ bigSep Finset.univ (ofresh (F := F) c))
def Φ1 (c : Dev nD) (t : Fin cfg0.N) : sProp 𝕄 :=
  iprop(inAll c (XX m c) (XY m c) (XA m c) (XG m c) ∗ ringsAll (F := F) c ∗ (∃ fs, wholeP (F := F) c sM fs) ∗ (∃ fw, wholeP (F := F) c wM fw)
    ∗ bigSep Finset.univ (done m c t))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ i := if i.val = 0 then Φ0 m c else Φ1 m c t0_0
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w2 (c : Dev nD) (t : Fin cfg0.N) : (dats m 0 c).after 2 t = iblk m c 2 t := by dsimp only [dats]
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w3 (c : Dev nD) (t : Fin cfg0.N) : (dats m 0 c).after 3 t = iblk m c 3 t := by dsimp only [dats]

theorem defs_tc : (defs₀ (F := F)) .tc cfg0.body
    = fun a => bodyG (F := F) (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (F := F) (st4 t) (hstage0_0 0) (st5 t) (hstage0_1 0) (st6 t) (hstage0_2 0) (st7 t) (hstage0_3 0) :=
  (congrFun defs_tc _).trans rfl

theorem Φ_start (c : Dev nD) (t : Fin cfg0.N) : (dats m 0 c).Φ t.castSucc = Φ0 m c := by
  have ht : t.castSucc.val = 0 := by rw [fin_N0 t]; rfl
  show (if t.castSucc.val = 0 then Φ0 m c else Φ1 m c t0_0) = _
  rw [if_pos ht]
theorem Φ_end (c : Dev nD) (t : Fin cfg0.N) : (dats m 0 c).Φ t.succ = Φ1 m c t := by
  obtain rfl := fin_N0 t
  show (if t0_0.succ.val = 0 then Φ0 m c else Φ1 m c t0_0) = _
  rw [if_neg (by rw [Fin.val_succ]; exact Nat.succ_ne_zero _)]

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, after_w0, after_w1, after_w2, after_w3]
  rw [Φ_start, Φ_end]
  unfold Dat.owesAt Pipeline.owesWithin
  rw [show (dats m 0 c).owed t.castSucc = 0 from rfl, show (dats m 0 c).owed t.succ = 0 from rfl]
  unfold owns Φ0 Φ1
  iintro ⟨⟨Hin, Hr, Hs, ⟨%fw, Hw⟩, Ho⟩, ⟨%W, -, HW⟩, ⟨%d4, %g4, %h4, H4⟩, ⟨%d5, %g5, %h5, H5⟩, ⟨%d6, %g6, %h6, H6⟩, ⟨%d7, %g7, %h7, H7⟩⟩
  ihave H4' := (pointsTo_rep_entails (c : Thread nD τ) (st4 t) g4 fullShare) $$ H4
  rw [h4]
  ihave H5' := (pointsTo_rep_entails (c : Thread nD τ) (st5 t) g5 fullShare) $$ H5
  rw [h5]
  ihave H6' := (pointsTo_rep_entails (c : Thread nD τ) (st6 t) g6 fullShare) $$ H6
  rw [h6]
  ihave H7' := (pointsTo_rep_entails (c : Thread nD τ) (st7 t) g7 fullShare) $$ H7
  rw [h7]
  sl_rw [prog_eq t]
  iapply (bodyRun c (XX m c) (XY m c) (XA m c) (XG m c) (st4 t) (hstage0_0 0) (st5 t) (hstage0_1 0) (st6 t) (hstage0_2 0) (st7 t) (hstage0_3 0)
    (F4 m c t) (F5 m c t) (F6 m c t) (F7 m c t) fw)
  isplitl [Hin Hr Hs Hw Ho HW H4' H5' H6' H7']
  · isplitl [H4']; · iexact H4'
    isplitl [H5']; · iexact H5'
    isplitl [H6']; · iexact H6'
    isplitl [H7']; · iexact H7'
    isplitl [Hw]; · iexact Hw
    isplitl [Hs]; · iexact Hs
    isplitl [HW]; · iexists _; iexact HW
    isplitl [Hin]; · iexact Hin
    isplitl [Hr]; · iexact Hr
    iexact Ho
  · iintro ⟨H4, H5, H6, H7, Hw, Hs, ⟨%W', HW⟩, Hin, Hr, Ho⟩
    isplitl [Hin Hr Hs Hw Ho]
    · isplitl [Hin]; · iexact Hin
      isplitl [Hr]; · iexact Hr
      isplitl [Hs]; · iexact Hs
      isplitl [Hw]; · iexact Hw
      iexact Ho
    isplitl [HW]
    · iexists W'; isplitr; · ipureintro; exact fun _ _ => Or.inl trivial
      iexact HW
    isplitl [H4]
    · iexists _; isplitr; · ipureintro; exact View.read_rep _ _
      iexact H4
    isplitl [H5]
    · iexists _; isplitr; · ipureintro; exact View.read_rep _ _
      iexact H5
    isplitl [H6]
    · iexists _; isplitr; · ipureintro; exact View.read_rep _ _
      iexact H6
    iexists _; isplitr; · ipureintro; exact View.read_rep _ _
    iexact H7

/-! ## The run -/

abbrev FilledAt (c : Dev nD) (X : Buf (Elt F) (oM.view.loc (c : Thread nD τ))) : Prop :=
  Filled c (XX m c) (XY m c) (XA m c) (XG m c) (st4 t0_0) (st5 t0_0) (st6 t0_0) (F4 m c t0_0) (F5 m c t0_0) (F6 m c t0_0) (wCast c (st7 t0_0) (F7 m c t0_0)) X

def intoΦ (c : Dev nD) : sProp 𝕄 :=
  iprop((xM.view.loc (c : Thread nD τ) ↦{fullShare} XX m c) ∗ (yM.view.loc (c : Thread nD τ) ↦{fullShare} XY m c)
    ∗ (aM.view.loc (c : Thread nD τ) ↦{fullShare} XA m c) ∗ (gM.view.loc (c : Thread nD τ) ↦{fullShare} XG m c)
    ∗ (oM.view.loc (c : Thread nD τ) ↦{fullShare} (V m c main_v6 : Buf (Elt F) (oM.view.loc (c : Thread nD τ)))) ∗ Pipeline.ownSems0 osem c)
def outOfΦ (c : Dev nD) : sProp 𝕄 :=
  iprop((xM.view.loc (c : Thread nD τ) ↦{fullShare} XX m c) ∗ (yM.view.loc (c : Thread nD τ) ↦{fullShare} XY m c)
    ∗ (gM.view.loc (c : Thread nD τ) ↦{fullShare} XG m c) ∗ (∃ X, ⌜FilledAt m c X⌝ ∗ oM.view.loc (c : Thread nD τ) ↦{fullShare} X))
def kept (c : Dev nD) : sProp 𝕄 :=
  iprop((((c : Thread nD τ).loc main_arg2) ↦{fullShare} V m c main_arg2) ∗ (((c : Thread nD τ).loc main_arg5) ↦{fullShare} V m c main_arg5)
    ∗ (((c : Thread nD τ).loc main_arg6) ↦{fullShare} V m c main_arg6) ∗ (((c : Thread nD τ).loc main_arg7) ↦{fullShare} V m c main_arg7))
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_arg3) = V m c main_arg3
    ∧ s.mem ((c : Thread nD τ).loc main_arg5) = V m c main_arg5 ∧ s.mem ((c : Thread nD τ).loc main_arg6) = V m c main_arg6
    ∧ s.mem ((c : Thread nD τ).loc main_arg7) = V m c main_arg7 ∧ FilledAt m c (s.mem ((c : Thread nD τ).loc main_v6))
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem whole_sM (c : Dev nD) (f : Buf (Elt F) (sM.view.loc (c : Thread nD τ))) :
    (wholeP c sM f : sProp 𝕄) = (((c : Thread nD τ).loc cc0_scratch0) ↦{fullShare} f) := by rw [wholeP, View.set_whole]
theorem whole_wM (c : Dev nD) (f : Buf (Elt F) (wM.view.loc (c : Thread nD τ))) :
    (wholeP c wM f : sProp 𝕄) = (((c : Thread nD τ).loc cc0_scratch1) ↦{fullShare} f) := by rw [wholeP, View.set_whole]

theorem entry (c : Dev nD) :
    iprop(intoΦ m c ∗ Pipeline.scopedRest (Ix := Unit) (Name := ℕ) (U := UU nD τ) (Lvl := ℕ) (Val := Elt F) spec0 c) ⊢ (Φ0 m c : sProp 𝕄) := by
  rw [scopedRest0_eq]
  unfold intoΦ Φ0
  rw [ownSems0_eq]
  iintro ⟨⟨Hx, Hy, Ha, Hg, Ho, CX⟩, Hs, Hw, Rx, Ry, Ra, Rg, Ro⟩
  icases CX with ⟨Cx0, Cx1, Cx2, Cy0, Cy1, Cy2, Ca0, Ca1, Ca2, Cg0, Cg1, Cg2, Co0, Co1⟩
  ihave Rx' := (xcut c) $$ Rx
  icases Rx' with ⟨Rx0, Rx1, Rx2⟩
  ihave Ry' := (ycut c) $$ Ry
  icases Ry' with ⟨Ry0, Ry1, Ry2⟩
  ihave Ra' := (acut c) $$ Ra
  icases Ra' with ⟨Ra0, Ra1, Ra2⟩
  ihave Rg' := (gcut c) $$ Rg
  icases Rg' with ⟨Rg0, Rg1, Rg2⟩
  ihave Ro' := (ocut c) $$ Ro
  icases Ro' with ⟨Ro0, Ro1⟩
  isplitl [Hx Hy Ha Hg]
  · isplitl [Hx]; · iapply (Entails.of_eq (xwhole c (XX m c))); iexact Hx
    isplitl [Hy]; · iapply (Entails.of_eq (ywhole c (XY m c))); iexact Hy
    isplitl [Ha]; · iapply (Entails.of_eq (awhole c (XA m c))); iexact Ha
    iapply (Entails.of_eq (gwhole c (XG m c))); iexact Hg
  isplitl [Cx0 Rx0 Cx1 Rx1 Cx2 Rx2 Cy0 Ry0 Cy1 Ry1 Cy2 Ry2 Ca0 Ra0 Ca1 Ra1 Ca2 Ra2 Cg0 Rg0 Cg1 Rg1 Cg2 Rg2 Co0 Ro0 Co1 Ro1]
  · isplitl [Cx0 Rx0 Cx1 Rx1 Cx2 Rx2]
    · isplitl [Cx0 Rx0]
      · isplitl [Cx0]; · iexact Cx0
        iexact Rx0
      isplitl [Cx1 Rx1]
      · isplitl [Cx1]; · iexact Cx1
        iexact Rx1
      isplitl [Cx2]; · iexact Cx2
      iexact Rx2
    isplitl [Cy0 Ry0 Cy1 Ry1 Cy2 Ry2]
    · isplitl [Cy0 Ry0]
      · isplitl [Cy0]; · iexact Cy0
        iexact Ry0
      isplitl [Cy1 Ry1]
      · isplitl [Cy1]; · iexact Cy1
        iexact Ry1
      isplitl [Cy2]; · iexact Cy2
      iexact Ry2
    isplitl [Ca0 Ra0 Ca1 Ra1 Ca2 Ra2]
    · isplitl [Ca0 Ra0]
      · isplitl [Ca0]; · iexact Ca0
        iexact Ra0
      isplitl [Ca1 Ra1]
      · isplitl [Ca1]; · iexact Ca1
        iexact Ra1
      isplitl [Ca2]; · iexact Ca2
      iexact Ra2
    isplitl [Cg0 Rg0 Cg1 Rg1 Cg2 Rg2]
    · isplitl [Cg0 Rg0]
      · isplitl [Cg0]; · iexact Cg0
        iexact Rg0
      isplitl [Cg1 Rg1]
      · isplitl [Cg1]; · iexact Cg1
        iexact Rg1
      isplitl [Cg2]; · iexact Cg2
      iexact Rg2
    isplitl [Co0 Ro0]
    · isplitl [Co0]; · iexact Co0
      iexact Ro0
    isplitl [Co1]; · iexact Co1
    iexact Ro1
  isplitl [Hs]
  · icases Hs with ⟨%fs, Hs⟩; iexists fs; rw [wholeP, View.set_whole]; iexact Hs
  isplitl [Hw]
  · icases Hw with ⟨%fw, Hw⟩; iexists fw; rw [wholeP, View.set_whole]; iexact Hw
  iapply (ofresh_all c _); iexact Ho

theorem exit (c : Dev nD) :
    (Φ1 m c t0_0 : sProp 𝕄) ⊢ iprop(outOfΦ m c ∗ Pipeline.ownSems0 osem c ∗ Pipeline.scopedRest (Ix := Unit) (Name := ℕ) (U := UU nD τ) (Lvl := ℕ) (Val := Elt F) spec0 c) := by
  rw [scopedRest0_eq]
  unfold outOfΦ Φ1
  rw [ownSems0_eq]
  iintro ⟨⟨Hx, Hy, Ha, Hg⟩, ⟨⟨⟨Cx0, Rx0⟩, ⟨Cx1, Rx1⟩, ⟨Cx2, Rx2⟩⟩, ⟨⟨Cy0, Ry0⟩, ⟨Cy1, Ry1⟩, ⟨Cy2, Ry2⟩⟩, ⟨⟨Ca0, Ra0⟩, ⟨Ca1, Ra1⟩, ⟨Ca2, Ra2⟩⟩, ⟨⟨Cg0, Rg0⟩, ⟨Cg1, Rg1⟩, ⟨Cg2, Rg2⟩⟩, ⟨Co0, Ro0⟩, ⟨Co1, Ro1⟩⟩, Hs, Hw, Ho⟩
  isplitl [Hx Hy Hg Ho]
  · isplitl [Hx]; · iapply (Entails.of_eq (xwhole c (XX m c)).symm); iexact Hx
    isplitl [Hy]; · iapply (Entails.of_eq (ywhole c (XY m c)).symm); iexact Hy
    isplitl [Hg]; · iapply (Entails.of_eq (gwhole c (XG m c)).symm); iexact Hg
    iapply (ofilled_all c (XX m c) (XY m c) (XA m c) (XG m c) (st4 t0_0) (st5 t0_0) (st6 t0_0) (F4 m c t0_0) (F5 m c t0_0) (F6 m c t0_0) (wCast c (st7 t0_0) (F7 m c t0_0)))
    iexact Ho
  isplitl [Cx0 Cx1 Cx2 Cy0 Cy1 Cy2 Ca0 Ca1 Ca2 Cg0 Cg1 Cg2 Co0 Co1]
  · isplitl [Cx0]; · iexact Cx0
    isplitl [Cx1]; · iexact Cx1
    isplitl [Cx2]; · iexact Cx2
    isplitl [Cy0]; · iexact Cy0
    isplitl [Cy1]; · iexact Cy1
    isplitl [Cy2]; · iexact Cy2
    isplitl [Ca0]; · iexact Ca0
    isplitl [Ca1]; · iexact Ca1
    isplitl [Ca2]; · iexact Ca2
    isplitl [Cg0]; · iexact Cg0
    isplitl [Cg1]; · iexact Cg1
    isplitl [Cg2]; · iexact Cg2
    isplitl [Co0]; · iexact Co0
    iexact Co1
  isplitl [Hs]
  · icases Hs with ⟨%fs, Hs⟩; iexists fs; iapply (Entails.of_eq (whole_sM c fs)); iexact Hs
  isplitl [Hw]
  · icases Hw with ⟨%fw, Hw⟩; iexists fw; iapply (Entails.of_eq (whole_wM c fw)); iexact Hw
  isplitl [Rx0 Rx1 Rx2]
  · iapply (xglue c)
    isplitl [Rx0]; · iexact Rx0
    isplitl [Rx1]; · iexact Rx1
    iexact Rx2
  isplitl [Ry0 Ry1 Ry2]
  · iapply (yglue c)
    isplitl [Ry0]; · iexact Ry0
    isplitl [Ry1]; · iexact Ry1
    iexact Ry2
  isplitl [Ra0 Ra1 Ra2]
  · iapply (aglue c)
    isplitl [Ra0]; · iexact Ra0
    isplitl [Ra1]; · iexact Ra1
    iexact Ra2
  isplitl [Rg0 Rg1 Rg2]
  · iapply (gglue c)
    isplitl [Rg0]; · iexact Rg0
    isplitl [Rg1]; · iexact Rg1
    iexact Rg2
  iapply (oglue c)
  isplitl [Ro0]; · iexact Ro0
  iexact Ro1

set_option backward.isDefEq.respectTransparency.types false in
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := kept m)
    (hX := fun c => by
      rw [unscopedRest0_eq]
      unfold intoΦ kept
      iintro ⟨⟨H0, H1, H2, H3, H5, H6, H7, -, -, Hv3, Hv6⟩, HS, -⟩; imodintro
      isplitl [H0 H1 H3 Hv3 Hv6 HS]
      · isplitl [H0]; · iexact H0
        isplitl [H1]; · iexact H1
        isplitl [Hv3]; · iexact Hv3
        isplitl [H3]; · iexact H3
        isplitl [Hv6]; · iexact Hv6
        iexact HS
      isplitl [H2]; · iexact H2
      isplitl [H5]; · iexact H5
      isplitl [H6]; · iexact H6
      iexact H7)
    (hin := fun c => by
      rw [show (dats m 0 c).Φ 0 = Φ0 m c from rfl]
      exact entry m c)
    (hout := fun c => by
      rw [show (dats m 0 c).Φ (Fin.last cfg0.N) = Φ1 m c t0_0 from Φ_end m c t0_0]
      exact exit m c)
    (QY := QY m)
    (hY := fun c s' => by
      unfold outOfΦ kept QY
      iintro ⟨⟨H0, H1, H3, ⟨%X, %hX, HO⟩⟩, ⟨H2, H5, H6, H7⟩, HSI⟩
      icombine HSI H0 gives %h0
      icombine HSI H1 gives %h1
      icombine HSI H2 gives %h2
      icombine HSI H3 gives %h3
      icombine HSI H5 gives %h5
      icombine HSI H6 gives %h6
      icombine HSI H7 gives %h7
      icombine HSI HO gives %hO
      imodintro
      isplitr
      · ipureintro
        refine ⟨Buf.eq_of_forall_mem_univ h0, Buf.eq_of_forall_mem_univ h1, Buf.eq_of_forall_mem_univ h2, Buf.eq_of_forall_mem_univ h3, Buf.eq_of_forall_mem_univ h5, Buf.eq_of_forall_mem_univ h6, Buf.eq_of_forall_mem_univ h7, ?_⟩
        have e := Buf.eq_of_forall_mem_univ hO
        rw [show s'.mem.mem ((c : Thread nD τ).loc main_v6) = X from e]; exact hX
      iexact HSI)
    (hQ := fun _ hh hz => ⟨hh, hz⟩)

end Cert.Proof.K
-- ==== Proof.Frames.lean ====
/-
  The frames: each program runs to the end, leaves its arguments as they were and every counter at zero.  The kernel's run
  is proved once, for any float values, and read here at the bit patterns and at the ideal values.
-/
module

public import proofs.«01_k».proof.Defs
public import proofs.«01_k».proof.Proof.Gen.Kernel
public import proofs.«01_k».proof.Proof.Gen.Kernel.Skeleton
public import proofs.«01_k».proof.Proof.Gen.ReferenceIdeal.Run
public import Idealize.ShloMosaic.Lib.Quiescent
public import proofs.«01_k».proof.Proof.Run

@[expose] public section

noncomputable section

namespace Cert.Proof

open Idealize.ShloMosaic Idealize.ShloMosaic.TcCoe Idealize.SL.Sem

variable {F : FTy → Type} [FloatOps F]

/-- The argument windows' homes after the run are what they were. -/
theorem arg4_kept (m) (c : Dev Cert.KernelIdeal.nD) :
    (K.dats (F := F) m 0 c).arrAt 0 Cert.KernelIdeal.cfg0.N = m ((c.tc : Thread Cert.KernelIdeal.nD Cert.KernelIdeal.τ).loc Cert.KernelIdeal.main_arg4) :=
  ((K.dats m 0 c).arrAt_in 0 rfl _).trans (Cert.KernelIdeal.Gen.V_main_arg4 m c)

theorem args_kept (m) (r : PUnit × MemSt Cert.KernelIdeal.nD Cert.KernelIdeal.τ Cert.KernelIdeal.sig (Elt F)) (h : K.QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) := by
  obtain ⟨hw, h0, h1, h2, h3, h5, h6, h7, -⟩ := h c
  exact ⟨h0.trans (Cert.KernelIdeal.Gen.V_main_arg0 m c), h1.trans (Cert.KernelIdeal.Gen.V_main_arg1 m c), h2.trans (Cert.KernelIdeal.Gen.V_main_arg2 m c), h3.trans (Cert.KernelIdeal.Gen.V_main_arg3 m c), (hw 0).trans (arg4_kept m c), h5.trans (Cert.KernelIdeal.Gen.V_main_arg5 m c), h6.trans (Cert.KernelIdeal.Gen.V_main_arg6 m c), h7.trans (Cert.KernelIdeal.Gen.V_main_arg7 m c)⟩

/-! The kernel as printed and its idealization are one text: the same body, the same table, the same `main`. -/
set_option maxHeartbeats 4000000 in
theorem body_same : @Cert.Kernel.cc0_outproj Bits _ _ = @Cert.KernelIdeal.cc0_outproj Bits _ _ := rfl
theorem bodies_same : @Cert.Kernel.defs₀ Bits _ _ = @Cert.KernelIdeal.defs₀ Bits _ _ := by
  unfold Cert.Kernel.defs₀ Cert.KernelIdeal.defs₀
  rw [body_same]
  refine congrArg Defs.onTc (funext fun l => funext fun a => ?_)
  match l, a with
  | 0, (t, s) => rfl
  | ⟨_ + 1, h⟩, _ => exact absurd h (Nat.not_lt.2 (Nat.le_add_left _ _))
theorem table_same : @Cert.Kernel.defs Bits _ _ = @Cert.KernelIdeal.defs Bits _ _ := by
  unfold Cert.Kernel.defs Cert.KernelIdeal.defs
  rw [bodies_same]; rfl
theorem main_same : Cert.Kernel.main (F := Bits) = Cert.KernelIdeal.main (F := Bits) := rfl

theorem frame_kernel : Cert.quiescent_Kernel := fun m ρ _ => by
  rw [table_same, main_same]
  exact (θ_run Cert.KernelIdeal.defs (onTc (τ := Cert.KernelIdeal.τ) (Cert.KernelIdeal.main (F := Bits))) (s₀ m ρ)).mono
    (fun r (h : K.QC (F := Bits) m r ∧ r.2.sem = fun _ => 0) => And.intro (fun c => args_kept m r h.1 c) h.2) (K.run_main (F := Bits) m ρ)

theorem frame_kernel_ideal : Cert.quiescent_KernelIdeal := fun m ρ _ =>
  (θ_run Cert.KernelIdeal.defs _ _).mono (fun r h => ⟨fun c => args_kept m r h.1 c, h.2⟩) (K.run_main (F := Ideal) m ρ)

theorem frame_reference : Cert.quiescent_ReferenceIdeal := fun m ρ _ =>
  (θ_run Cert.ReferenceIdeal.defs _ _).mono (fun r h => ⟨fun c => (h c).2, sem_eq_zero_of_no_sems rfl _⟩) (Cert.ReferenceIdeal.Value.run m ρ)

end Cert.Proof

end
-- ==== Proof.Row.lean ====
/-
  One row of the result, on extended reals: the gated attention row is normalized, put beside the other half of the row,
  multiplied by the weight matrix, normalized again, scaled by the row's gate and added to the input row.
  The gate's sigmoid-weighted value is written with `tanh` by one program and as a quotient by the other: the two agree
  wherever the argument is not −∞.
-/
module

public import Idealize.ShloMosaic.Lib.Pointwise

@[expose] public section

noncomputable section

namespace Cert.Proof

open Idealize.ShloMosaic

/-- The word of one half. -/
abbrev cHalf : EReal := Ideal.ofBits .f32 0x3F000000#32
/-- The word of the number added under the square root. -/
abbrev cEps : EReal := Ideal.ofBits .f32 0x358637BD#32

def siluTanh (g : EReal) : EReal := cHalf * g + cHalf * g * Ideal.tanh (cHalf * g)
def siluDiv (g : EReal) : EReal := g * Ideal.div 1 (1 + Ideal.exp (-g))

/-- A row over the root of its mean square, times a weight. -/
def rmsRow {n : ℕ} (cnt : EReal) (v w : Fin n → EReal) (k : Fin n) : EReal :=
  v k * Ideal.rsqrt (Ideal.div (∑ l, v l * v l) cnt + cEps) * w k
/-- Two half rows beside each other, times a matrix. -/
def mixRow (y z : Fin 512 → EReal) (w : Fin 1024 → Fin 1024 → EReal) (d : Fin 1024) : EReal :=
  ∑ k : Fin 1024, (if h : k.val < 512 then y ⟨k.val, h⟩ else z ⟨k.val - 512, by omega⟩) * w k d
/-- The result row. -/
def outRow (x gt np : Fin 1024 → EReal) (m : Fin 1024 → EReal) (d : Fin 1024) : EReal :=
  x d + gt d * rmsRow (Ideal.ofBits .f32 0x44800000#32) m np d
/-- The whole row from what it is read from; `s` gives the gate's value. -/
def fullRow (s : EReal → EReal) (x gt np : Fin 1024 → EReal) (y a g na : Fin 512 → EReal) (w : Fin 1024 → Fin 1024 → EReal)
    (d : Fin 1024) : EReal :=
  outRow x gt np (mixRow y (rmsRow (Ideal.ofBits .f32 0x44000000#32) (fun k => a k * s (g k)) na) w) d

theorem cHalf_eq : cHalf = ((1 / 2 : ℝ) : EReal) := by
  simp [cHalf, Ideal.ofBits, Ideal.ieee, -EReal.coe_mul]; norm_num

theorem real_silu (x : ℝ) : 1 / 2 * x + 1 / 2 * x * Real.tanh (1 / 2 * x) = x * (1 + Real.exp (-x))⁻¹ := by
  have ha : 0 < Real.exp (1 / 2 * x) := Real.exp_pos _
  have hb : 0 < Real.exp (-(1 / 2 * x)) := Real.exp_pos _
  have hab : Real.exp (1 / 2 * x) * Real.exp (-(1 / 2 * x)) = 1 := by rw [← Real.exp_add]; simp
  have hx : Real.exp (-x) = Real.exp (-(1 / 2 * x)) * Real.exp (-(1 / 2 * x)) := by rw [← Real.exp_add]; congr 1; ring
  rw [Real.tanh_eq_sinh_div_cosh, Real.sinh_eq, Real.cosh_eq, hx]
  generalize Real.exp (1 / 2 * x) = a at *
  generalize Real.exp (-(1 / 2 * x)) = b at *
  have h1 : a + b ≠ 0 := by positivity
  have h2 : 1 + b * b ≠ 0 := by positivity
  field_simp
  linear_combination (2 * x * b) * hab

theorem silu_eq (g : EReal) (h : g ≠ ⊥) : siluTanh g = siluDiv g := by
  have e : siluDiv g = g * Ideal.logistic g := rfl
  rw [e, siluTanh, cHalf_eq]
  induction g with
  | bot => exact absurd rfl h
  | top =>
    rw [EReal.coe_mul_top_of_pos (by norm_num), Ideal.tanh_top, Ideal.logistic_top]
    simp
  | coe x =>
    rw [Ideal.logistic_coe, ← EReal.coe_mul, Ideal.tanh_coe, ← EReal.coe_mul, ← EReal.coe_mul, ← EReal.coe_add, real_silu]

end Cert.Proof
-- ==== Proof.Half.lean ====
/-
  The rows of one half, read at an index on extended reals.
-/
module

public import proofs.«01_k».proof.Proof.Row
public import proofs.«01_k».proof.Proof.Block

@[expose] public section

set_option maxRecDepth 16384

noncomputable section

namespace Cert.Proof.K

open Cert.KernelIdeal Cert.KernelIdeal.Gen
open Idealize.ShloMosaic

/-- The gated attention row: the four heads beside each other, times the gate's value. -/
theorem gated_apply (a0 a1 a2 a3 : Vec Ideal S1x512x128 .f32) (g : Vec Ideal S1x512x512 .bf16) (A : Fin 512 → Fin 512 → EReal)
    (h0 : ∀ (r : Fin 512) (k : Fin 128), a0 (ix3 0 r k) = A r ⟨k.val, by omega⟩)
    (h1 : ∀ (r : Fin 512) (k : Fin 128), a1 (ix3 0 r k) = A r ⟨128 + k.val, by omega⟩)
    (h2 : ∀ (r : Fin 512) (k : Fin 128), a2 (ix3 0 r k) = A r ⟨256 + k.val, by omega⟩)
    (h3 : ∀ (r : Fin 512) (k : Fin 128), a3 (ix3 0 r k) = A r ⟨384 + k.val, by omega⟩) (r k : Fin 512) :
    k0_pay23 a0 a1 a2 a3 g (ix2 r k) = A r k * siluTanh (g (ix3 0 r k)) := by
  pointwise [k0_pay23]
  refine congrArg (· * siluTanh (g (ix3 0 r k))) ?_
  by_cases c0 : k.val < 128
  · exact (dif_pos c0).trans (h0 r _)
  refine (dif_neg c0).trans ?_
  by_cases c1 : k.val - 128 < 128
  · refine (dif_pos c1).trans ((h1 r _).trans (congrArg (A r) (Fin.ext ?_)))
    show 128 + (k.val - 128) = k.val
    omega
  refine (dif_neg c1).trans ?_
  by_cases c2 : k.val - 128 - 128 < 128
  · refine (dif_pos c2).trans ((h2 r _).trans (congrArg (A r) (Fin.ext ?_)))
    show 256 + (k.val - 128 - 128) = k.val
    omega
  refine (dif_neg c2).trans ((h3 r _).trans (congrArg (A r) (Fin.ext ?_)))
  show 384 + (k.val - 128 - 128 - 128) = k.val
  omega

theorem normed_apply (v : FVec Ideal S512x512 .f32) (na : Vec Ideal S1x512 .f32) (r k : Fin 512) :
    k0_pay27 v (k0_pay24 na) (shapeCast S512x1 (multiReduction .add [1] S512 (mulf v v) 0x00000000#32 reduces_S512x512_S512 (.inl rfl) rfl) shapeCasts_S512_S512x1) k0_pay26 (ix2 r k)
      = rmsRow (Ideal.ofBits .f32 0x44000000#32) (fun k => v (ix2 r k)) (fun k => na (ix2 0 k)) k := by
  pointwise [k0_pay27, k0_pay24, k0_pay26, rmsRow]

theorem mix_apply (y : Vec Ideal S1x512x512 .bf16) (z : FVec Ideal S512x512 .bf16) (w : Vec Ideal S1024x1024 .bf16) (r : Fin 512) (d : Fin 1024) :
    k0_pay51 (k0_pay22 y) z w (ix2 r d)
      = mixRow (fun k => y (ix3 0 r k)) (fun k => z (ix2 r k)) (fun k d => w (ix2 k d)) d := by
  pointwise [k0_pay51, k0_pay22, mixRow]

theorem out_apply (v : FVec Ideal S512x1024 .f32) (gt : Vec Ideal S1x1024 .f32) (x : Vec Ideal S1x512x1024 .f32) (np : Vec Ideal S1x1024 .f32)
    (y z : FVec Ideal S512x512 .bf16) (w : Vec Ideal S1024x1024 .bf16) (h : k0_pay51 y z w = v) (r : Fin 512) (d : Fin 1024) :
    k0_pay56 v gt (k0_pay53 x) (k0_pay54 np) (k0_pay55 y z w) (ix3 0 r d)
      = outRow (fun d => x (ix3 0 r d)) (fun d => gt (ix2 0 d)) (fun d => np (ix2 0 d)) (fun d => v (ix2 r d)) d := by
  subst h
  unfold k0_pay55
  generalize k0_pay51 y z w = v
  pointwise [k0_pay56, k0_pay53, k0_pay54, outRow, rmsRow]

/-- The half's rows from the rows it reads. -/
theorem halfV_apply (y : Vec Ideal S1x512x512 .bf16) (a0 a1 a2 a3 : Vec Ideal S1x512x128 .f32) (g : Vec Ideal S1x512x512 .bf16)
    (na : Vec Ideal S1x512 .f32) (w : Vec Ideal S1024x1024 .bf16) (gt : Vec Ideal S1x1024 .f32) (x : Vec Ideal S1x512x1024 .f32)
    (np : Vec Ideal S1x1024 .f32) (A : Fin 512 → Fin 512 → EReal)
    (h0 : ∀ (r : Fin 512) (k : Fin 128), a0 (ix3 0 r k) = A r ⟨k.val, by omega⟩)
    (h1 : ∀ (r : Fin 512) (k : Fin 128), a1 (ix3 0 r k) = A r ⟨128 + k.val, by omega⟩)
    (h2 : ∀ (r : Fin 512) (k : Fin 128), a2 (ix3 0 r k) = A r ⟨256 + k.val, by omega⟩)
    (h3 : ∀ (r : Fin 512) (k : Fin 128), a3 (ix3 0 r k) = A r ⟨384 + k.val, by omega⟩) (r : Fin 512) (d : Fin 1024) :
    halfV y a0 a1 a2 a3 g na w gt x np (ix3 0 r d)
      = fullRow siluTanh (fun d => x (ix3 0 r d)) (fun d => gt (ix2 0 d)) (fun d => np (ix2 0 d)) (fun k => y (ix3 0 r k)) (A r)
          (fun k => g (ix3 0 r k)) (fun k => na (ix2 0 k)) (fun k d => w (ix2 k d)) d := by
  rw [halfV, out_apply _ _ _ _ _ _ _ rfl, fullRow]
  congr 1
  funext d
  rw [mix_apply]
  congr 1
  funext k
  rw [normedV, k0_pay25]
  refine (normed_apply _ _ r k).trans ?_
  congr 1
  funext k
  exact gated_apply a0 a1 a2 a3 g A h0 h1 h2 h3 r k

end Cert.Proof.K
-- ==== Proof.Reads.lean ====
/-
  What the body reads for block `n`, by element of the arrays it is read from: a block's rows lie one after another, and
  the head scratch puts the attention rows stored by remainder modulo four back in order.
-/
module

public import proofs.«01_k».proof.Proof.Block
public import proofs.«01_k».proof.Proof.Body
public import Idealize.ShloMosaic.Lib.Pointwise

@[expose] public section

set_option maxRecDepth 16384

noncomputable section

namespace Cert.Proof.K

open Cert.KernelIdeal Cert.KernelIdeal.Gen
open Idealize.ShloMosaic Idealize.ShloMosaic.TcCoe
open Idealize.SL.Sem

variable (c : Dev nD) (XX : Buf (Elt Ideal) (xM.view.loc (c : Thread nD τ))) (XY : Buf (Elt Ideal) (yM.view.loc (c : Thread nD τ)))
  (XA : Buf (Elt Ideal) (aM.view.loc (c : Thread nD τ))) (XG : Buf (Elt Ideal) (gM.view.loc (c : Thread nD τ)))
  (n : Fin 16) (i : Fin 2)

/-- Block `n`'s batch, -/
def bat : Fin 8 := ⟨n.val / 2, by omega⟩
/-- and the row `r` of its half `i`. -/
def row (r : Fin 512) : Fin 2048 := ⟨1024 * (n.val % 2) + 512 * i.val + r.val, by omega⟩

theorem bk_self : (Ring.bk 16 n.val).val = n.val := Ring.bk_val n.isLt

theorem canon_whole {S : Shape} {e : EltTy} (w : S.Idx → Elt Ideal e) :
    View.canon [(⟨Rect.whole S, w⟩ : View.Piece (Elt Ideal) S e)] = w := by
  funext y
  have h := View.canon_cons_emb (Val := Elt Ideal) (Rect.whole S) w [] y
  rwa [Rect.emb_whole_apply] at h

theorem xHalf_apply (r : Fin 512) (d : Fin 1024) :
    xHalf c XX n.val i (ix3 0 r d) = (XX : Vec Ideal S8x2048x1024 .f32) (ix3 (bat n) (row n i r) d) := by
  rw [xHalf, View.readCov_eq_canon', canon_whole]
  refine congrArg (XX : S8x2048x1024.Idx → Elt Ideal .f32) (funext fun a => Fin.ext ?_)
  have hb := bk_self n
  fin_cases a
  · show (Ring.bk 16 n.val).val / 2 + 1 * (0 + 1 * 0) = n.val / 2; omega
  · show 1024 * ((Ring.bk 16 n.val).val % 2) + 1 * (512 * i.val + 1 * r.val) = 1024 * (n.val % 2) + 512 * i.val + r.val; omega
  · show 0 + 1 * (0 + 1 * d.val) = d.val; omega

theorem yHalf_apply (r k : Fin 512) :
    yHalf c XY n.val i (ix3 0 r k) = (XY : Vec Ideal S8x2048x512 .bf16) (ix3 (bat n) (row n i r) k) := by
  rw [yHalf, View.readCov_eq_canon', canon_whole]
  refine congrArg (XY : S8x2048x512.Idx → Elt Ideal .bf16) (funext fun a => Fin.ext ?_)
  have hb := bk_self n
  fin_cases a
  · show (Ring.bk 16 n.val).val / 2 + 1 * (0 + 1 * 0) = n.val / 2; omega
  · show 1024 * ((Ring.bk 16 n.val).val % 2) + 1 * (512 * i.val + 1 * r.val) = 1024 * (n.val % 2) + 512 * i.val + r.val; omega
  · show 0 + 1 * (0 + 1 * k.val) = k.val; omega

theorem gHalf_apply (r k : Fin 512) :
    gHalf c XG n.val i (ix3 0 r k) = (XG : Vec Ideal S8x2048x512 .bf16) (ix3 (bat n) (row n i r) k) := by
  rw [gHalf, View.readCov_eq_canon', canon_whole]
  refine congrArg (XG : S8x2048x512.Idx → Elt Ideal .bf16) (funext fun a => Fin.ext ?_)
  have hb := bk_self n
  fin_cases a
  · show (Ring.bk 16 n.val).val / 2 + 1 * (0 + 1 * 0) = n.val / 2; omega
  · show 1024 * ((Ring.bk 16 n.val).val % 2) + 1 * (512 * i.val + 1 * r.val) = 1024 * (n.val % 2) + 512 * i.val + r.val; omega
  · show 0 + 1 * (0 + 1 * k.val) = k.val; omega

theorem aSrc_apply (q : Fin 4) (s : Fin 128) (k : Fin 512) :
    aSrc c XA n.val i q (ix4 0 0 s k)
      = (XA : Vec Ideal S8x4x512x512 .bf16) (ix4 (bat n) q ⟨256 * (n.val % 2) + 128 * i.val + s.val, by omega⟩ k) := by
  rw [aSrc, View.readCov_eq_canon', canon_whole]
  refine congrArg (XA : S8x4x512x512.Idx → Elt Ideal .bf16) (funext fun a => Fin.ext ?_)
  have hb := bk_self n
  fin_cases a
  · show (Ring.bk 16 n.val).val / 2 + 1 * (0 + 1 * 0) = n.val / 2; omega
  · show 0 + 1 * (q.val + 1 * 0) = q.val; omega
  · show 256 * ((Ring.bk 16 n.val).val % 2) + 1 * (128 * i.val + 1 * s.val) = 256 * (n.val % 2) + 128 * i.val + s.val; omega
  · show 0 + 1 * (0 + 1 * k.val) = k.val; omega

/-- What the head scratch holds once filled: head `j 0`, row `j 1`, column `j 2`. -/
def aG (j : S4x1024x128.Idx) : Elt Ideal .f32 :=
  (XA : Vec Ideal S8x4x512x512 .bf16) (ix4 (bat n) ⟨(j 1).val % 4, by omega⟩
    ⟨256 * (n.val % 2) + (j 1).val / 4, by have h : (j 1).val < 1024 := (j 1).isLt; omega⟩
    ⟨128 * (j 0).val + (j 2).val, by have h : (j 0).val < 4 := (j 0).isLt; have h' : (j 2).val < 128 := (j 2).isLt; omega⟩)

theorem aPay_apply (v : Vec Ideal S1x1x128x512 .bf16) (h : Fin 4) (x0 : Fin 1) (x1 x2 : Fin 128) :
    shapeCast S1x128x128 (extractStridedSlice S128x128 ![0, 128 * h.val] (k0_pay1 v) (col_slices h)) shapeCasts_S128x128_S1x128x128 (ix3 x0 x1 x2)
      = v (ix4 0 0 x1 ⟨128 * h.val + x2.val, by omega⟩) := by
  pointwise [k0_pay1]

theorem aSeg_apply (q h : Fin 4) (x : (aSeg c XA n.val i q h).1.shape.Idx) :
    (aSeg c XA n.val i q h).2 x = aG c XA n ((aSeg c XA n.val i q h).1.emb x) := by
  unfold aSeg at x ⊢
  dsimp only at x ⊢
  refine (congrArg _ (eq_ix3 (n0 := 1) (n1 := 128) (n2 := 128) x)).trans ((aPay_apply _ h _ _ _).trans ((aSrc_apply c XA n i q _ _).trans ?_))
  refine congrArg (XA : S8x4x512x512.Idx → Elt Ideal .bf16) (funext fun a => Fin.ext ?_)
  have hx0 : (x 0).val < 1 := (x 0).isLt
  have hx1 : (x 1).val < 128 := (x 1).isLt
  fin_cases a
  · rfl
  · show q.val = (512 * i.val + q.val + 4 * (x 1).val) % 4; omega
  · show 256 * (n.val % 2) + 128 * i.val + (x 1).val = 256 * (n.val % 2) + (512 * i.val + q.val + 4 * (x 1).val) / 4; omega
  · show 128 * h.val + (x 2).val = 128 * (h.val + 1 * (x 0).val) + (0 + 1 * (x 2).val); omega

theorem aSegs_eq : aSegs c XA n.val i
    = (List.finRange 16).map fun q => aSeg c XA n.val i ⟨3 - q.val / 4, by omega⟩ ⟨3 - q.val % 4, by omega⟩ := rfl

theorem mem_aSegs (q h : Fin 4) : aSeg c XA n.val i q h ∈ aSegs c XA n.val i := by
  rw [aSegs_eq]
  refine List.mem_map.mpr ⟨⟨4 * (3 - q.val) + (3 - h.val), by omega⟩, List.mem_finRange _, ?_⟩
  congr 1
  · apply Fin.ext; show 3 - (4 * (3 - q.val) + (3 - h.val)) / 4 = q.val; omega
  · apply Fin.ext; show 3 - (4 * (3 - q.val) + (3 - h.val)) % 4 = h.val; omega

theorem aSegs_agree : ∀ p ∈ aSegs c XA n.val i, ∀ x : p.1.shape.Idx, p.2 x = aG c XA n (p.1.emb x) := by
  rw [aSegs_eq]
  intro p hp
  obtain ⟨q, -, rfl⟩ := List.mem_map.mp hp
  exact aSeg_apply c XA n i _ _

theorem aAll_agree : ∀ p ∈ aAll c XA n.val i, ∀ x : p.1.shape.Idx, p.2 x = aG c XA n (p.1.emb x) := by
  intro p hp
  unfold aAll at hp
  split at hp
  · exact aSegs_agree c XA n 0 p hp
  · rcases List.mem_append.mp hp with h | h
    · exact aSegs_agree c XA n 1 p h
    · exact aSegs_agree c XA n 0 p h

theorem mem_aAll (q h : Fin 4) : aSeg c XA n.val i q h ∈ aAll c XA n.val i := by
  unfold aAll
  split
  · next e => subst e; exact mem_aSegs c XA n 0 q h
  · next e =>
    obtain rfl : i = 1 := by omega
    exact List.mem_append_left _ (mem_aSegs c XA n 1 q h)

theorem aHead_apply (h : Fin 4) (r : Fin 512) (k : Fin 128) :
    aHead c XA n.val i h (ix3 0 r k)
      = (XA : Vec Ideal S8x4x512x512 .bf16) (ix4 (bat n) ⟨(row n i r).val % 4, by omega⟩ ⟨(row n i r).val / 4, by omega⟩ ⟨128 * h.val + k.val, by omega⟩) := by
  rw [aHead, View.readCov_eq_canon']
  have hm : ∃ p ∈ aAll c XA n.val i, (Rect.unit (s := S4x1024x128) ![h.val, 512 * i.val, 0] S1x512x128.size (head_inb h i)).toLoadRect.idx (ix3 0 r k) ∈ p.1.set := by
    refine ⟨_, mem_aAll c XA n i ⟨r.val % 4, by omega⟩ h, ?_⟩
    have e : (Rect.unit (s := S4x1024x128) ![h.val, 512 * i.val, 0] S1x512x128.size (head_inb h i)).toLoadRect.idx (ix3 0 r k)
        = (aSeg c XA n.val i ⟨r.val % 4, by omega⟩ h).1.emb (ix3 (0 : Fin 1) (⟨r.val / 4, by omega⟩ : Fin 128) k) := by
      funext a; apply Fin.ext
      fin_cases a
      · rfl
      · show 512 * i.val + 1 * r.val = 512 * i.val + r.val % 4 + 4 * (r.val / 4); omega
      · rfl
    rw [e, ← Rect.map_emb_univ]
    exact Finset.mem_map_of_mem _ (Finset.mem_univ _)
  refine (View.canon_apply_of_pieces (aG c XA n) _ (aAll_agree c XA n i) _ hm).trans ?_
  refine congrArg (XA : S8x4x512x512.Idx → Elt Ideal .bf16) (funext fun a => Fin.ext ?_)
  fin_cases a
  · rfl
  · show (512 * i.val + 1 * r.val) % 4 = (1024 * (n.val % 2) + 512 * i.val + r.val) % 4; omega
  · show 256 * (n.val % 2) + (512 * i.val + 1 * r.val) / 4 = (1024 * (n.val % 2) + 512 * i.val + r.val) / 4; omega
  · show 128 * (h.val + 1 * 0) + (0 + 1 * k.val) = 128 * h.val + k.val; omega

/-! ## The windows -/

theorem normAtt_apply (arg5 : Memref sig .tc .vmem S1x512 .f32) (X : Vec Ideal S1x512 .f32) (k : Fin 512) :
    normAtt c arg5 (arg5.view.rep X) (ix2 0 k) = X (ix2 0 k) := by
  rw [normAtt, View.readAt_rep]
  refine congrArg X (funext fun a => Fin.ext ?_)
  fin_cases a <;> simp

theorem normPost_apply (arg6 : Memref sig .tc .vmem S1x1024 .f32) (X : Vec Ideal S1x1024 .f32) (d : Fin 1024) :
    normPost c arg6 (arg6.view.rep X) (ix2 0 d) = X (ix2 0 d) := by
  rw [normPost, View.readAt_rep]
  refine congrArg X (funext fun a => Fin.ext ?_)
  fin_cases a <;> simp

theorem gate_apply (arg4 : Memref sig .tc .vmem S8x3072 .f32) (X : Vec Ideal S8x3072 .f32) (d : Fin 1024) :
    gate c arg4 (arg4.view.rep X) n.val (ix2 0 d) = X (ix2 (bat n) ⟨2048 + d.val, by omega⟩) := by
  have h : k0_off44 (wB n.val) = ![n.val / 2, 2048] := off44_eq n
  rw [gate, View.readAt_rep]
  refine congrArg X (funext fun a => Fin.ext ?_)
  fin_cases a
  · show k0_off44 (wB n.val) 0 + 1 * 0 = n.val / 2; rw [h]; rfl
  · show k0_off44 (wB n.val) 1 + 1 * d.val = 2048 + d.val; rw [h, Nat.one_mul]; rfl

theorem wOut_apply (arg7 : Memref sig .tc .vmem S1024x1024 .f32) (X : Vec Ideal S1024x1024 .f32) (k d : Fin 1024) :
    wOut c (wCast c arg7 (arg7.view.rep X)) (ix2 k d) = X (ix2 k d) := by
  rw [wOut, View.readAt_writes_junk_eq_canon, View.canon_unit_zero (by decide), View.readAt_rep]
  pointwise [k0_pay59]

end Cert.Proof.K
-- ==== Proof.Value.lean ====
/-
  The kernel's result, by element of its arguments.
-/
module

public import proofs.«01_k».proof.Proof.Half
public import proofs.«01_k».proof.Proof.Reads
public import proofs.«01_k».proof.Proof.Run
public import Idealize.ShloMosaic.Lib.Claim

@[expose] public section

set_option maxRecDepth 16384

noncomputable section

namespace Cert.Proof.K

open Cert.KernelIdeal Cert.KernelIdeal.Gen
open Idealize.ShloMosaic Idealize.ShloMosaic.TcCoe
open Idealize.SL.Sem

section
variable (c : Dev nD) (XX : Buf (Elt Ideal) (xM.view.loc (c : Thread nD τ))) (XY : Buf (Elt Ideal) (yM.view.loc (c : Thread nD τ)))
  (XA : Buf (Elt Ideal) (aM.view.loc (c : Thread nD τ))) (XG : Buf (Elt Ideal) (gM.view.loc (c : Thread nD τ)))
  (arg4 : Memref sig .tc .vmem S8x3072 .f32) (arg5 : Memref sig .tc .vmem S1x512 .f32) (arg6 : Memref sig .tc .vmem S1x1024 .f32)
  (f4 : Buf (Elt Ideal) (arg4.view.loc (c : Thread nD τ))) (f5 : Buf (Elt Ideal) (arg5.view.loc (c : Thread nD τ)))
  (f6 : Buf (Elt Ideal) (arg6.view.loc (c : Thread nD τ))) (fw : Buf (Elt Ideal) (wM.view.loc (c : Thread nD τ)))

/-- The block a result row lies in. -/
def blkOf (b : Fin 8) (t : Fin 2048) : Fin 16 := ⟨2 * b.val + t.val / 1024, by omega⟩
/-- The half of the block, -/
def halfOf (t : Fin 2048) : Fin 2 := ⟨t.val % 1024 / 512, by omega⟩
/-- and the row of the half. -/
def rowOf (t : Fin 2048) : Fin 512 := ⟨t.val % 512, by omega⟩

theorem bat_blkOf (b : Fin 8) (t : Fin 2048) : bat (blkOf b t) = b := Fin.ext (by show (2 * b.val + t.val / 1024) / 2 = b.val; omega)
theorem row_blkOf (b : Fin 8) (t : Fin 2048) : row (blkOf b t) (halfOf t) (rowOf t) = t :=
  Fin.ext (by show 1024 * ((2 * b.val + t.val / 1024) % 2) + 512 * (t.val % 1024 / 512) + t.val % 512 = t.val; omega)

/-- Two row halves stored one after the other, read back. -/
theorem halves_apply {κ : Kind} {sp : Space} (v : View sig κ sp S1x1024x1024 .f32) (f : v.ty.Contents (Elt Ideal))
    (w0 w1 : Vec Ideal S1x512x1024 .f32) (i : Fin 2) (r : Fin 512) (d : Fin 1024) :
    v.read (Elt Ideal) (v.writes (Elt Ideal) f
        [⟨Rect.unit (s := S1x1024x1024) ![0, 512, 0] S1x512x1024.size inb_S1x1024x1024_S1x512x1024_0_512_0, w1⟩,
         ⟨Rect.unit (s := S1x1024x1024) ![0, 0, 0] S1x512x1024.size inb_S1x1024x1024_S1x512x1024_0_0_0, w0⟩])
        (ix3 (0 : Fin 1) (⟨512 * i.val + r.val, by omega⟩ : Fin 1024) d)
      = (if i = 0 then w0 else w1) (ix3 0 r d) := by
  have e0 : (ix3 (0 : Fin 1) (⟨512 * (0 : Fin 2).val + r.val, by omega⟩ : Fin 1024) d : S1x1024x1024.Idx)
      = (Rect.unit (s := S1x1024x1024) ![0, 0, 0] S1x512x1024.size inb_S1x1024x1024_S1x512x1024_0_0_0).emb (ix3 0 r d) := by
    funext a; apply Fin.ext
    fin_cases a
    · rfl
    · show 512 * 0 + r.val = 0 + 1 * r.val; omega
    · show d.val = 0 + 1 * d.val; omega
  have e1 : (ix3 (0 : Fin 1) (⟨512 * (1 : Fin 2).val + r.val, by omega⟩ : Fin 1024) d : S1x1024x1024.Idx)
      = (Rect.unit (s := S1x1024x1024) ![0, 512, 0] S1x512x1024.size inb_S1x1024x1024_S1x512x1024_0_512_0).emb (ix3 0 r d) := by
    funext a; apply Fin.ext
    fin_cases a
    · rfl
    · show 512 * 1 + r.val = 512 + 1 * r.val; omega
    · show d.val = 0 + 1 * d.val; omega
  have hc : ∀ i : Fin 2, i = 0 ∨ i = 1 := by decide
  rcases hc i with rfl | rfl
  · rw [if_pos rfl, View.read_writes_apply_eq_canon, View.canon_cons_of_not_mem, e0, View.canon_cons_emb]
    · intro h
      have h1 := (Rect.mem_set_unit (inb := inb_S1x1024x1024_S1x512x1024_0_512_0).mp h (1 : Fin 3)).1
      have h2 : 512 ≤ 512 * 0 + r.val := h1
      omega
    · refine ⟨_, List.mem_cons_of_mem _ List.mem_cons_self, ?_⟩
      rw [e0, ← Rect.map_emb_univ]
      exact Finset.mem_map_of_mem _ (Finset.mem_univ _)
  · rw [if_neg (by decide), e1, View.read_writes_cons_emb]

/-- A block's slot once both halves are in. -/
theorem slot_apply (n : Fin 16) (o : Buf (Elt Ideal) (oR.view.loc (c : Thread nD τ))) (i : Fin 2) (r : Fin 512) (d : Fin 1024) :
    (oslot (Ring.sl 2 n.val)).view.read (Elt Ideal) (written c XX XY XA XG arg4 arg5 arg6 f4 f5 f6 fw n.val o)
        (ix3 (0 : Fin 1) (⟨512 * i.val + r.val, by omega⟩ : Fin 1024) d)
      = outHalf c XX XY XA XG arg4 arg5 arg6 f4 f5 f6 fw n.val i (ix3 0 r d) := by
  refine (halves_apply (oslot (Ring.sl 2 n.val)).view o _ _ i r d).trans ?_
  have hc : ∀ i : Fin 2, i = 0 ∨ i = 1 := by decide
  rcases hc i with rfl | rfl
  · rw [if_pos rfl]
  · rw [if_neg (by decide)]

/-- A row's place in its block, -/
def placeOf (t : Fin 2048) : Fin 1024 := ⟨512 * (halfOf t).val + (rowOf t).val, by omega⟩

theorem blk_index (b : Fin 8) (t : Fin 2048) (d : Fin 1024) : (ix3 b t d : S8x2048x1024.Idx)
    = (oblk (blkOf b t)).view.emb (ix3 (0 : Fin 1) (⟨512 * (halfOf t).val + (rowOf t).val, by omega⟩ : Fin 1024) d) := by
  funext a; apply Fin.ext
  fin_cases a
  · show b.val = (2 * b.val + t.val / 1024) / 2 + 1 * 0; omega
  · show t.val = 1024 * ((2 * b.val + t.val / 1024) % 2) + 1 * (512 * (t.val % 1024 / 512) + t.val % 512); omega
  · show d.val = 0 + 1 * d.val; omega

/-- What a whole-block transfer leaves under a block's element: the element it carried. -/
theorem whole_apply {κ : Kind} {sp : Space} {s : Shape} (v : View sig κ sp s .f32) (g : v.ty.Contents (Elt Ideal)) (w : s.Idx → Elt Ideal .f32) (i : s.Idx) :
    v.read (Elt Ideal) (v.writes (Elt Ideal) g [⟨Rect.whole s, w⟩]) i = w i := congrFun (View.read_writes_whole v g w) i

theorem sent_apply (n : Fin 16) (o : Buf (Elt Ideal) (oR.view.loc (c : Thread nD τ))) (g : Buf (Elt Ideal) (oM.view.loc (c : Thread nD τ))) (i : S1x1024x1024.Idx) :
    (oblk n).view.read (Elt Ideal) (osent c (Ring.sl 2 n.val) n o g) i = (oslot (Ring.sl 2 n.val)).view.read (Elt Ideal) o i :=
  whole_apply (oblk n).view g _ i

theorem oblk_read (n : Fin 16) (g : Buf (Elt Ideal) (oM.view.loc (c : Thread nD τ))) (i : S1x1024x1024.Idx) :
    (oblk n).view.read (Elt Ideal) g i = (g : S8x2048x1024.Idx → Elt Ideal .f32) ((oblk n).view.emb i) := rfl

/-- Two contents that agree on a block, read through the block. -/
theorem read_agree (n : Fin 16) (X Y : Buf (Elt Ideal) (oM.view.loc (c : Thread nD τ))) (h : ∀ i ∈ (oblk n).view.set, X i = Y i) (i : S1x1024x1024.Idx) :
    (oblk n).view.read (Elt Ideal) X i = (oblk n).view.read (Elt Ideal) Y i :=
  (oblk_read c n X i).trans ((h _ (Finset.mem_map_of_mem _ (Finset.mem_univ _))).trans (oblk_read c n Y i).symm)

theorem filled_apply (X : Buf (Elt Ideal) (oM.view.loc (c : Thread nD τ))) (hX : Filled c XX XY XA XG arg4 arg5 arg6 f4 f5 f6 fw X)
    (b : Fin 8) (t : Fin 2048) (d : Fin 1024) :
    (X : Vec Ideal S8x2048x1024 .f32) (ix3 b t d)
      = outHalf c XX XY XA XG arg4 arg5 arg6 f4 f5 f6 fw (blkOf b t).val (halfOf t) (ix3 0 (rowOf t) d) := by
  obtain ⟨o, g, h⟩ := hX (blkOf b t)
  exact (congrArg (X : S8x2048x1024.Idx → Elt Ideal .f32) (blk_index b t d)).trans ((oblk_read c _ X _).symm.trans
    ((read_agree c (blkOf b t) X _ h _).trans ((sent_apply c _ _ g _).trans
      (slot_apply c XX XY XA XG arg4 arg5 arg6 f4 f5 f6 fw (blkOf b t) o (halfOf t) (rowOf t) d))))

end

variable (m : (ℓ : Loc nD τ sig) → Buf (Elt Ideal) ℓ)

theorem att_eq (c : Dev nD) : XA m c = (shapeCast S8x4x512x512 (m ((c : Thread nD τ).loc main_arg2) : Vec Ideal S8x2048x512 .bf16) shapeCasts_S8x2048x512_S8x4x512x512 : Vec Ideal S8x4x512x512 .bf16) := by
  show V m c main_v3 = _
  entry_read
  rfl
theorem v2_eq (c : Dev nD) : V m c main_v2 = (shapeCast S1024x1024 (m ((c : Thread nD τ).loc main_arg7) : Vec Ideal S1x1024x1024 .f32) shapeCasts_S1x1024x1024_S1024x1024 : Vec Ideal S1024x1024 .f32) := by
  entry_read
  rfl
theorem v4_eq (c : Dev nD) : V m c main_v4 = (shapeCast S1x512 (shapeCast S512 (m ((c : Thread nD τ).loc main_arg5) : Vec Ideal S1x512 .f32) shapeCasts_S1x512_S512) shapeCasts_S512_S1x512 : Vec Ideal S1x512 .f32) := by
  entry_read
  rfl
theorem v5_eq (c : Dev nD) : V m c main_v5 = (shapeCast S1x1024 (shapeCast S1024 (m ((c : Thread nD τ).loc main_arg6) : Vec Ideal S1x1024 .f32) shapeCasts_S1x1024_S1024) shapeCasts_S1024_S1x1024 : Vec Ideal S1x1024 .f32) := by
  entry_read
  rfl

theorem cast_att (v : Vec Ideal S8x2048x512 .bf16) (b : Fin 8) (q : Fin 4) (s k : Fin 512) :
    (shapeCast S8x4x512x512 v shapeCasts_S8x2048x512_S8x4x512x512 : Vec Ideal S8x4x512x512 .bf16) (ix4 b q s k) = v (ix3 b ⟨q.val * 512 + s.val, by omega⟩ k) := by
  pointwise
theorem cast_w (v : Vec Ideal S1x1024x1024 .f32) (k d : Fin 1024) :
    (shapeCast S1024x1024 v shapeCasts_S1x1024x1024_S1024x1024 : Vec Ideal S1024x1024 .f32) (ix2 k d) = v (ix3 0 k d) := by
  pointwise
theorem cast_na (v : Vec Ideal S1x512 .f32) (k : Fin 512) :
    (shapeCast S1x512 (shapeCast S512 v shapeCasts_S1x512_S512) shapeCasts_S512_S1x512 : Vec Ideal S1x512 .f32) (ix2 0 k) = v (ix2 0 k) := by
  pointwise
theorem cast_np (v : Vec Ideal S1x1024 .f32) (k : Fin 1024) :
    (shapeCast S1x1024 (shapeCast S1024 v shapeCasts_S1x1024_S1024) shapeCasts_S1024_S1x1024 : Vec Ideal S1x1024 .f32) (ix2 0 k) = v (ix2 0 k) := by
  pointwise

theorem att_apply (c : Dev nD) (b : Fin 8) (q : Fin 4) (s k : Fin 512) :
    (XA m c : Vec Ideal S8x4x512x512 .bf16) (ix4 b q s k)
      = (m ((c : Thread nD τ).loc main_arg2) : Vec Ideal S8x2048x512 .bf16) (ix3 b ⟨q.val * 512 + s.val, by omega⟩ k) :=
  (congrFun (att_eq m c) _).trans (cast_att _ b q s k)
theorem v2_apply (c : Dev nD) (k d : Fin 1024) : (V m c main_v2 : Vec Ideal S1024x1024 .f32) (ix2 k d)
    = (m ((c : Thread nD τ).loc main_arg7) : Vec Ideal S1x1024x1024 .f32) (ix3 0 k d) :=
  (congrFun (v2_eq m c) _).trans (cast_w _ k d)
theorem v4_apply (c : Dev nD) (k : Fin 512) : (V m c main_v4 : Vec Ideal S1x512 .f32) (ix2 0 k)
    = (m ((c : Thread nD τ).loc main_arg5) : Vec Ideal S1x512 .f32) (ix2 0 k) :=
  (congrFun (v4_eq m c) _).trans (cast_na _ k)
theorem v5_apply (c : Dev nD) (k : Fin 1024) : (V m c main_v5 : Vec Ideal S1x1024 .f32) (ix2 0 k)
    = (m ((c : Thread nD τ).loc main_arg6) : Vec Ideal S1x1024 .f32) (ix2 0 k) :=
  (congrFun (v5_eq m c) _).trans (cast_np _ k)

theorem blk0 (c : Dev nD) (x : Fin 8) (y : Fin 3072) : (iblk m c 0 t0_0 : Vec Ideal S8x3072 .f32) (ix2 x y) = (V m c main_arg4 : Vec Ideal S8x3072 .f32) (ix2 x y) := by
  refine congrArg (V m c main_arg4 : S8x3072.Idx → Elt Ideal .f32) (?_ : ((cfg0.win 0).blk t0_0).view.emb (ix2 x y) = (ix2 x y : S8x3072.Idx))
  funext a; apply Fin.ext
  fin_cases a
  · show 0 * 8 + 1 * x.val = x.val; omega
  · show 0 * 3072 + 1 * y.val = y.val; omega
theorem blk1 (c : Dev nD) (x : Fin 1) (y : Fin 512) : (iblk m c 1 t0_0 : Vec Ideal S1x512 .f32) (ix2 x y) = (V m c main_v4 : Vec Ideal S1x512 .f32) (ix2 x y) := by
  refine congrArg (V m c main_v4 : S1x512.Idx → Elt Ideal .f32) (?_ : ((cfg0.win 1).blk t0_0).view.emb (ix2 x y) = (ix2 x y : S1x512.Idx))
  funext a; apply Fin.ext
  fin_cases a
  · show 0 * 1 + 1 * x.val = x.val; omega
  · show 0 * 512 + 1 * y.val = y.val; omega
theorem blk2 (c : Dev nD) (x : Fin 1) (y : Fin 1024) : (iblk m c 2 t0_0 : Vec Ideal S1x1024 .f32) (ix2 x y) = (V m c main_v5 : Vec Ideal S1x1024 .f32) (ix2 x y) := by
  refine congrArg (V m c main_v5 : S1x1024.Idx → Elt Ideal .f32) (?_ : ((cfg0.win 2).blk t0_0).view.emb (ix2 x y) = (ix2 x y : S1x1024.Idx))
  funext a; apply Fin.ext
  fin_cases a
  · show 0 * 1 + 1 * x.val = x.val; omega
  · show 0 * 1024 + 1 * y.val = y.val; omega
theorem blk3 (c : Dev nD) (x : Fin 1024) (y : Fin 1024) : (iblk m c 3 t0_0 : Vec Ideal S1024x1024 .f32) (ix2 x y) = (V m c main_v2 : Vec Ideal S1024x1024 .f32) (ix2 x y) := by
  refine congrArg (V m c main_v2 : S1024x1024.Idx → Elt Ideal .f32) (?_ : ((cfg0.win 3).blk t0_0).view.emb (ix2 x y) = (ix2 x y : S1024x1024.Idx))
  funext a; apply Fin.ext
  fin_cases a
  · show 0 * 1024 + 1 * x.val = x.val; omega
  · show 0 * 1024 + 1 * y.val = y.val; omega

theorem fullRow_congr (s : EReal → EReal) {x x' gt gt' np np' : Fin 1024 → EReal} {y y' a a' g g' na na' : Fin 512 → EReal}
    {w w' : Fin 1024 → Fin 1024 → EReal} (hx : ∀ d, x d = x' d) (hgt : ∀ d, gt d = gt' d) (hnp : ∀ d, np d = np' d) (hy : ∀ k, y k = y' k)
    (ha : ∀ k, a k = a' k) (hg : ∀ k, g k = g' k) (hna : ∀ k, na k = na' k) (hw : ∀ k d, w k d = w' k d) (d : Fin 1024) :
    fullRow s x gt np y a g na w d = fullRow s x' gt' np' y' a' g' na' w' d := by
  obtain rfl := funext hx
  obtain rfl := funext hgt
  obtain rfl := funext hnp
  obtain rfl := funext hy
  obtain rfl := funext ha
  obtain rfl := funext hg
  obtain rfl := funext hna
  obtain rfl : w = w' := funext fun k => funext fun d => hw k d
  rfl

/-- A result row, from the arguments' rows. -/
theorem kernel_row (c : Dev nD) (X : Buf (Elt Ideal) ((c : Thread nD τ).loc main_v6)) (hX : FilledAt m c X) (b : Fin 8) (t : Fin 2048) (d : Fin 1024) :
    (X : Vec Ideal S8x2048x1024 .f32) (ix3 b t d)
      = fullRow siluTanh (fun d => (m ((c : Thread nD τ).loc main_arg0) : Vec Ideal S8x2048x1024 .f32) (ix3 b t d))
          (fun d => (m ((c : Thread nD τ).loc main_arg4) : Vec Ideal S8x3072 .f32) (ix2 b ⟨2048 + d.val, by omega⟩))
          (fun d => (m ((c : Thread nD τ).loc main_arg6) : Vec Ideal S1x1024 .f32) (ix2 0 d))
          (fun k => (m ((c : Thread nD τ).loc main_arg1) : Vec Ideal S8x2048x512 .bf16) (ix3 b t k))
          (fun k => (m ((c : Thread nD τ).loc main_arg2) : Vec Ideal S8x2048x512 .bf16) (ix3 b ⟨t.val % 4 * 512 + t.val / 4, by omega⟩ k))
          (fun k => (m ((c : Thread nD τ).loc main_arg3) : Vec Ideal S8x2048x512 .bf16) (ix3 b t k))
          (fun k => (m ((c : Thread nD τ).loc main_arg5) : Vec Ideal S1x512 .f32) (ix2 0 k))
          (fun k d => (m ((c : Thread nD τ).loc main_arg7) : Vec Ideal S1x1024x1024 .f32) (ix3 0 k d)) d := by
  refine (filled_apply c _ _ _ _ _ _ _ _ _ _ _ X hX b t d).trans ?_
  rw [outHalf]
  refine (halfV_apply _ _ _ _ _ _ _ _ _ _ _ (fun r k => (XA m c : Vec Ideal S8x4x512x512 .bf16)
      (ix4 b ⟨(row (blkOf b t) (halfOf t) r).val % 4, by omega⟩ ⟨(row (blkOf b t) (halfOf t) r).val / 4, by omega⟩ k)) ?_ ?_ ?_ ?_ (rowOf t) d).trans ?_
  · intro r k
    refine (aHead_apply c _ _ _ 0 r k).trans ?_
    rw [bat_blkOf]
    congr 2
    apply Fin.ext
    show 128 * 0 + k.val = k.val; omega
  · intro r k
    refine (aHead_apply c _ _ _ 1 r k).trans ?_
    rw [bat_blkOf]
    rfl
  · intro r k
    refine (aHead_apply c _ _ _ 2 r k).trans ?_
    rw [bat_blkOf]
    rfl
  · intro r k
    refine (aHead_apply c _ _ _ 3 r k).trans ?_
    rw [bat_blkOf]
    rfl
  · have e0 : ∀ d, xHalf c (XX m c) (blkOf b t).val (halfOf t) (ix3 0 (rowOf t) d) = (m ((c : Thread nD τ).loc main_arg0) : Vec Ideal S8x2048x1024 .f32) (ix3 b t d) := fun d => by
      rw [xHalf_apply, bat_blkOf, row_blkOf]; exact congrFun (V_main_arg0 m c) _
    have e1 : ∀ k, yHalf c (XY m c) (blkOf b t).val (halfOf t) (ix3 0 (rowOf t) k) = (m ((c : Thread nD τ).loc main_arg1) : Vec Ideal S8x2048x512 .bf16) (ix3 b t k) := fun k => by
      rw [yHalf_apply, bat_blkOf, row_blkOf]; exact congrFun (V_main_arg1 m c) _
    have e3 : ∀ k, gHalf c (XG m c) (blkOf b t).val (halfOf t) (ix3 0 (rowOf t) k) = (m ((c : Thread nD τ).loc main_arg3) : Vec Ideal S8x2048x512 .bf16) (ix3 b t k) := fun k => by
      rw [gHalf_apply, bat_blkOf, row_blkOf]; exact congrFun (V_main_arg3 m c) _
    have e2 : ∀ k, (XA m c : Vec Ideal S8x4x512x512 .bf16) (ix4 b ⟨(row (blkOf b t) (halfOf t) (rowOf t)).val % 4, by omega⟩ ⟨(row (blkOf b t) (halfOf t) (rowOf t)).val / 4, by omega⟩ k)
        = (m ((c : Thread nD τ).loc main_arg2) : Vec Ideal S8x2048x512 .bf16) (ix3 b ⟨t.val % 4 * 512 + t.val / 4, by omega⟩ k) := fun k => by
      simp only [row_blkOf]; exact att_apply m c b _ _ k
    have e4 : ∀ d, gate c (st4 t0_0) (F4 m c t0_0) (blkOf b t).val (ix2 0 d) = (m ((c : Thread nD τ).loc main_arg4) : Vec Ideal S8x3072 .f32) (ix2 b ⟨2048 + d.val, by omega⟩) := fun d => by
      refine (gate_apply c _ _ (iblk m c 0 t0_0) d).trans ?_
      rw [bat_blkOf]
      exact (blk0 m c b _).trans (congrFun (V_main_arg4 m c) _)
    have e5 : ∀ k, normAtt c (st5 t0_0) (F5 m c t0_0) (ix2 0 k) = (m ((c : Thread nD τ).loc main_arg5) : Vec Ideal S1x512 .f32) (ix2 0 k) := fun k =>
      (normAtt_apply c _ (iblk m c 1 t0_0) k).trans ((blk1 m c 0 k).trans (v4_apply m c k))
    have e6 : ∀ d, normPost c (st6 t0_0) (F6 m c t0_0) (ix2 0 d) = (m ((c : Thread nD τ).loc main_arg6) : Vec Ideal S1x1024 .f32) (ix2 0 d) := fun d =>
      (normPost_apply c _ (iblk m c 2 t0_0) d).trans ((blk2 m c 0 d).trans (v5_apply m c d))
    have e7 : ∀ k d, wOut c (wCast c (st7 t0_0) (F7 m c t0_0)) (ix2 k d) = (m ((c : Thread nD τ).loc main_arg7) : Vec Ideal S1x1024x1024 .f32) (ix3 0 k d) := fun k d =>
      (wOut_apply c _ (iblk m c 3 t0_0) k d).trans ((blk3 m c k d).trans (v2_apply m c k d))
    exact fullRow_congr siluTanh e0 e4 e6 e1 e2 e3 e5 e7 d

end Cert.Proof.K
-- ==== Proof.Plain.lean ====
/-
  What the reference computes, read at an index on extended reals.
-/
module

public import proofs.«01_k».proof.Proof.Row
public import proofs.«01_k».proof.Proof.Gen.ReferenceIdeal.Run

@[expose] public section

set_option maxRecDepth 16384

noncomputable section

namespace Cert.Proof.Plain

open Cert.ReferenceIdeal Cert.ReferenceIdeal.Gen
open Idealize.ShloMosaic

/-- The attention rows in order, gated. -/
def gated (at' gb : Vec Ideal S8x2048x512 .bf16) : FVec Ideal S8x2048x512 .f32 :=
  mulf (shapeCast _ (transpose S8x512x4x512 [0, 2, 1, 3] (shapeCast _ (extf .f32 at' bitsLt_bf16_f32) shapeCasts_S8x2048x512_S8x4x512x512) transposes_S8x4x512x512_S8x512x4x512_0_2_1_3) shapeCasts_S8x512x4x512_S8x2048x512)
    (mulf (extf .f32 gb bitsLt_bf16_f32) (Host.divf (broadcastInDim S8x2048x512 ![] bcast_S_S8x2048x512 (constant S_ .f32 0x3F800000#32))
      (addf (broadcastInDim S8x2048x512 ![] bcast_S_S8x2048x512 (constant S_ .f32 0x3F800000#32)) (Host.exp (Host.negf (extf .f32 gb bitsLt_bf16_f32))))))

/-- Normalized and weighted. -/
def normed (v : FVec Ideal S8x2048x512 .f32) (na : Vec Ideal S1x512 .f32) : FVec Ideal S8x2048x512 .f32 :=
  mulf (mulf v (broadcastInDim S8x2048x512 ![0, 1, 2] bcast_S8x2048x1_S8x2048x512_0_1_2 (Host.rsqrt (addf (Host.divf (broadcastInDim S8x2048x1 ![0, 1] bcast_S8x2048_S8x2048x1_0_1
      (Host.reduceAdd (mulf v v) (constant S_ .f32 0x00000000#32) reducesTo_S8x2048x512_S8x2048_d2 h_S_))
      (broadcastInDim S8x2048x1 ![] bcast_S_S8x2048x1 (constant S_ .f32 0x44000000#32))) (broadcastInDim S8x2048x1 ![] bcast_S_S8x2048x1 (constant S_ .f32 0x358637BD#32))))))
    (broadcastInDim S8x2048x512 ![0, 1, 2] bcast_S1x1x512_S8x2048x512_0_1_2 (broadcastInDim S1x1x512 ![2] bcast_S512_S1x1x512_2 (shapeCast _ na shapeCasts_S1x512_S512)))

/-- Both halves of a row times the weight matrix. -/
def mixed (ya : Vec Ideal S8x2048x512 .bf16) (z : FVec Ideal S8x2048x512 .f32) (w : Vec Ideal S1x1024x1024 .f32) : FVec Ideal S8x2048x1024 .f32 :=
  Host.dotGeneral dot_S8x2048x1024_S1024x1024_S8x2048x1024_2_0_01_1_n_n none
    (concatenate S8x2048x1024 2 [⟨S8x2048x512, (extf .f32 ya bitsLt_bf16_f32)⟩, ⟨S8x2048x512, z⟩] concatenates_S8x2048x512_S8x2048x512_S8x2048x1024_d2)
    (shapeCast S1024x1024 w shapeCasts_S1x1024x1024_S1024x1024 : FVec Ideal S1024x1024 .f32)

/-- Normalized again, gated and added to the input. -/
def result (x : Vec Ideal S8x2048x1024 .f32) (v : FVec Ideal S8x2048x1024 .f32) (mod : Vec Ideal S8x3072 .f32) (np : Vec Ideal S1x1024 .f32) : FVec Ideal S8x2048x1024 .f32 :=
  addf x (mulf (broadcastInDim S8x2048x1024 ![0, 1, 2] bcast_S8x1x1024_S8x2048x1024_0_1_2 (broadcastInDim S8x1x1024 ![0, 2] bcast_S8x1024_S8x1x1024_0_2 (extractStridedSlice S8x1024 ![0, 2048] mod slices_S8x3072_S8x1024_0_2048)))
    (mulf (mulf v (broadcastInDim S8x2048x1024 ![0, 1, 2] bcast_S8x2048x1_S8x2048x1024_0_1_2 (Host.rsqrt (addf (Host.divf (broadcastInDim S8x2048x1 ![0, 1] bcast_S8x2048_S8x2048x1_0_1
      (Host.reduceAdd (mulf v v) (constant S_ .f32 0x00000000#32) reducesTo_S8x2048x1024_S8x2048_d2 h_S_))
      (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 (shapeCast _ np shapeCasts_S1x1024_S1024)))))

theorem res_eq (m : (ℓ : Loc nD τ sig) → Buf (Elt Ideal) ℓ) (c : Dev nD) :
    Value.res_out0 m c = result (m ((c.tc : Thread nD τ).loc main_arg0))
      (mixed (m ((c.tc : Thread nD τ).loc main_arg1)) (normed (gated (m ((c.tc : Thread nD τ).loc main_arg2)) (m ((c.tc : Thread nD τ).loc main_arg3))) (m ((c.tc : Thread nD τ).loc main_arg5))) (m ((c.tc : Thread nD τ).loc main_arg7)))
      (m ((c.tc : Thread nD τ).loc main_arg4)) (m ((c.tc : Thread nD τ).loc main_arg6)) := rfl

theorem gated_apply (at' gb : Vec Ideal S8x2048x512 .bf16) (b : Fin 8) (t : Fin 2048) (k : Fin 512) :
    gated at' gb (ix3 b t k) = at' (ix3 b ⟨t.val % 4 * 512 + t.val / 4, by omega⟩ k) * siluDiv (gb (ix3 b t k)) := by
  pointwise [gated, siluDiv]

theorem normed_apply (v : FVec Ideal S8x2048x512 .f32) (na : Vec Ideal S1x512 .f32) (b : Fin 8) (t : Fin 2048) (k : Fin 512) :
    normed v na (ix3 b t k) = rmsRow (Ideal.ofBits .f32 0x44000000#32) (fun k => v (ix3 b t k)) (fun k => na (ix2 0 k)) k := by
  pointwise [normed, rmsRow]

theorem mixed_apply (ya : Vec Ideal S8x2048x512 .bf16) (z : FVec Ideal S8x2048x512 .f32) (w : Vec Ideal S1x1024x1024 .f32) (b : Fin 8) (t : Fin 2048) (d : Fin 1024) :
    mixed ya z w (ix3 b t d) = mixRow (fun k => ya (ix3 b t k)) (fun k => z (ix3 b t k)) (fun k d => w (ix3 0 k d)) d := by
  pointwise [mixed, mixRow]

theorem result_apply (x : Vec Ideal S8x2048x1024 .f32) (v : FVec Ideal S8x2048x1024 .f32) (mod : Vec Ideal S8x3072 .f32) (np : Vec Ideal S1x1024 .f32) (b : Fin 8) (t : Fin 2048) (d : Fin 1024) :
    result x v mod np (ix3 b t d) = outRow (fun d => x (ix3 b t d)) (fun d => mod (ix2 b ⟨2048 + d.val, by omega⟩)) (fun d => np (ix2 0 d)) (fun d => v (ix3 b t d)) d := by
  pointwise [result, outRow, rmsRow]

/-- The reference's row. -/
theorem res_apply (m : (ℓ : Loc nD τ sig) → Buf (Elt Ideal) ℓ) (c : Dev nD) (b : Fin 8) (t : Fin 2048) (d : Fin 1024) :
    Value.res_out0 m c (ix3 b t d) = fullRow siluDiv
      (fun d => (m ((c.tc : Thread nD τ).loc main_arg0) : Vec Ideal S8x2048x1024 .f32) (ix3 b t d))
      (fun d => (m ((c.tc : Thread nD τ).loc main_arg4) : Vec Ideal S8x3072 .f32) (ix2 b ⟨2048 + d.val, by omega⟩))
      (fun d => (m ((c.tc : Thread nD τ).loc main_arg6) : Vec Ideal S1x1024 .f32) (ix2 0 d))
      (fun k => (m ((c.tc : Thread nD τ).loc main_arg1) : Vec Ideal S8x2048x512 .bf16) (ix3 b t k))
      (fun k => (m ((c.tc : Thread nD τ).loc main_arg2) : Vec Ideal S8x2048x512 .bf16) (ix3 b ⟨t.val % 4 * 512 + t.val / 4, by omega⟩ k))
      (fun k => (m ((c.tc : Thread nD τ).loc main_arg3) : Vec Ideal S8x2048x512 .bf16) (ix3 b t k))
      (fun k => (m ((c.tc : Thread nD τ).loc main_arg5) : Vec Ideal S1x512 .f32) (ix2 0 k))
      (fun k d => (m ((c.tc : Thread nD τ).loc main_arg7) : Vec Ideal S1x1024x1024 .f32) (ix3 0 k d)) d := by
  rw [res_eq, result_apply, fullRow]
  congr 1
  funext d
  rw [mixed_apply]
  congr 1
  funext k
  rw [normed_apply]
  congr 1
  funext k
  exact gated_apply _ _ b t k

end Cert.Proof.Plain
-- ==== Proof.Equation.lean ====
/-
  The equation: from arguments that agree, the kernel's run and the reference's leave the same result.
-/
module

public import proofs.«01_k».proof.Proof.Value
public import proofs.«01_k».proof.Proof.Plain
public import proofs.«01_k».proof.Proof.Frames
public import Idealize.ShloMosaic.Lib.ReduceAll

@[expose] public section

noncomputable section

namespace Cert.Proof

open Idealize.ShloMosaic Idealize.ShloMosaic.TcCoe Idealize.SL.Sem

/-- The shape facts the precondition's function takes. -/
theorem pre_facts : Cert.Pre_gb_above_minus_infinity.Facts where
  bitsLt_bf16_f32 := by decide
  bcast_S_S8x2048x512 := by decide
  reducesTo_S8x2048x512_S_d0_1_2 := by decide
  h_S_ := by decide

instance : Cert.Pre_gb_above_minus_infinity.Facts := pre_facts

theorem minus_infinity : Ideal.ofBits .f32 0xFF800000#32 = ⊥ := by
  simp [Ideal.ofBits, Ideal.ieee]

instance : Subsingleton Cert.Pre_gb_above_minus_infinity.S_.Idx := ⟨fun a b => funext fun i => i.elim0⟩

open Cert.Pre_gb_above_minus_infinity in
/-- Where the precondition holds, no element of the gate is −∞. -/
theorem gate_above (x : FVec Ideal S8x2048x1024 .f32) (y a g : FVec Ideal S8x2048x512 .bf16) (md : FVec Ideal S8x3072 .f32) (na : FVec Ideal S1x512 .f32)
    (np : FVec Ideal S1x1024 .f32) (w : FVec Ideal S1x1024x1024 .f32) (h : fn x y a g md na np w = fun _ => 1#1) (i : S8x2048x512.Idx) : g i ≠ ⊥ := by
  have h1 := Host.reduce_andi_all _ _ _ _ (fun i => i.elim0) (congrFun h (fun i => i.elim0)) i
  intro e
  have h2 : Ideal.cmp .ogt (g i) (Ideal.ofBits .f32 0xFF800000#32) = 1#1 := h1
  rw [minus_infinity, e] at h2
  simp [Ideal.cmp] at h2

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two sides' rows, where the gate stays above −∞. -/
theorem fullRow_silu {x gt np : Fin 1024 → EReal} {y a g na : Fin 512 → EReal} {w : Fin 1024 → Fin 1024 → EReal} (hg : ∀ k, g k ≠ ⊥) (d : Fin 1024) :
    fullRow siluTanh x gt np y a g na w d = fullRow siluDiv x gt np y a g na w d := by
  have e : (fun k => a k * siluTanh (g k)) = fun k => a k * siluDiv (g k) := funext fun k => by rw [silu_eq _ (hg k)]
  unfold fullRow
  rw [e]

/-- The kernel's result is the reference's. -/
theorem result_eq (hp : Cert.Pre_KernelIdeal_gb_above_minus_infinity m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (X : Buf (Elt Ideal) ((c.tc : Thread Cert.KernelIdeal.nD Cert.KernelIdeal.τ).loc Cert.KernelIdeal.main_v6)) (hX : K.FilledAt m c X) :
    (X : Vec Ideal Cert.KernelIdeal.S8x2048x1024 .f32) = Cert.ReferenceIdeal.Value.res_out0 m' c := by
  funext i
  obtain ⟨b, t, d, rfl⟩ : ∃ (b : Fin 8) (t : Fin 2048) (d : Fin 1024), i = ix3 b t d := ⟨i 0, i 1, i 2, eq_ix3 i⟩
  refine (K.kernel_row m c X hX b t d).trans (Eq.trans ?_ (Plain.res_apply m' c b t d).symm)
  refine (fullRow_silu (fun k => gate_above _ _ _ _ _ _ _ _ (hp c) _) d).trans ?_
  exact K.fullRow_congr siluDiv (fun d => (congrFun e0 _).symm) (fun d => (congrFun e4 _).symm) (fun d => (congrFun e6 _).symm)
    (fun k => (congrFun e1 _).symm) (fun k => (congrFun e2 _).symm) (fun k => (congrFun e3 _).symm) (fun k => (congrFun e5 _).symm)
    (fun k d => (congrFun e7 _).symm) d

end

theorem frame_kernel_ideal_pre : Cert.quiescent_KernelIdeal_pre_gb_above_minus_infinity := fun m ρ _ => frame_kernel_ideal m ρ trivial
theorem frame_reference_pre : Cert.quiescent_ReferenceIdeal_pre_gb_above_minus_infinity := fun m ρ _ => frame_reference m ρ trivial

/-- Kernel and reference end with the same result. -/
theorem same_result : Cert.algebraic_KernelIdeal_ReferenceIdeal_pre_gb_above_minus_infinity := by
  intro m g m' g' hp hm
  refine ⟨fun c => Cert.ReferenceIdeal.Value.res_out0 m' c, ?_, ?_⟩
  · refine (θ_run Cert.KernelIdeal.defs _ _).mono (fun r h c => ⟨?_, args_kept m r h.1 c⟩) (K.run_main (F := Ideal) m g)
    obtain ⟨e0, e1, e2, e3, e4, e5, e6, e7⟩ := hm c
    exact result_eq m m' hp c e0 e1 e2 e3 e4 e5 e6 e7 _ (h.1 c).2.2.2.2.2.2.2.2
  · exact Cert.ReferenceIdeal.Value.run m' g'

end Cert.Proof
-- ==== Proof.InFrames.lean ====
/-
  The frames of the second kernel and its reference.
-/
module

public import proofs.«01_k».proof.Defs
public import proofs.«01_k».proof.Proof.Gen.Kernel2
public import proofs.«01_k».proof.Proof.Gen.Kernel2.Skeleton
public import proofs.«01_k».proof.Proof.Gen.Kernel2Ideal.Value
public import proofs.«01_k».proof.Proof.Gen.Reference2Ideal.Run
public import Idealize.ShloMosaic.Lib.Quiescent

@[expose] public section

noncomputable section

namespace Cert.Proof

open Idealize.ShloMosaic Idealize.ShloMosaic.TcCoe Idealize.SL.Sem

set_option maxHeartbeats 4000000 in
theorem in_body_same : @Cert.Kernel2.cc0_inproj Bits _ _ = @Cert.Kernel2Ideal.cc0_inproj Bits _ _ := rfl
theorem in_bodies_same : @Cert.Kernel2.defs₀ Bits _ _ = @Cert.Kernel2Ideal.defs₀ Bits _ _ := by
  unfold Cert.Kernel2.defs₀ Cert.Kernel2Ideal.defs₀
  rw [in_body_same]
  refine congrArg Defs.onTc (funext fun l => funext fun a => ?_)
  match l, a with
  | 0, (t, s) => rfl
  | ⟨_ + 1, h⟩, _ => exact absurd h (Nat.not_lt.2 (Nat.le_add_left _ _))
theorem in_table_same : @Cert.Kernel2.defs Bits _ _ = @Cert.Kernel2Ideal.defs Bits _ _ := by
  unfold Cert.Kernel2.defs Cert.Kernel2Ideal.defs
  rw [in_bodies_same]; rfl
theorem in_main_same : Cert.Kernel2.main (F := Bits) = Cert.Kernel2Ideal.main (F := Bits) := rfl

theorem frame_kernel2 : Cert.quiescent_Kernel2 := fun m ρ _ => by
  rw [in_table_same, in_main_same]
  exact Cert.Kernel2Ideal.Gen.frame (F := Bits) m ρ

theorem frame_kernel2_ideal : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono (fun r h => ⟨fun c => (h c).2.2.2.2.2.2, sem_eq_zero_of_no_sems rfl _⟩) (Cert.Reference2Ideal.Value.run m ρ)

end Cert.Proof
-- ==== Proof.InTerms.lean ====
/-
  The projection kernel's body in words of its own: a block of 1024 rows is four blocks of 256 rows, each normalized and
  modulated, multiplied by six column chunks of the weights, and two of the six products rotated by the rows' positions.
  What the run leaves in each output block is these terms.
-/
module

public import proofs.«01_k».proof.Proof.Gen.Kernel2Ideal.Frame

@[expose] public section

set_option maxRecDepth 16384

noncomputable section

namespace Cert.Proof.In

open Cert.Kernel2Ideal Cert.Kernel2Ideal.Gen
open Idealize.ShloMosaic Idealize.ShloMosaic.TcCoe Idealize.ShloMosaic.Tactic Idealize.SL.Sem

variable {F : FTy → Type} [FloatOps F]

/-! ## 256 rows -/

/-- The rows normalized, scaled and shifted. -/
def hid (sh sc : Vec F S1x1024 .f32) (x : Vec F S1x256x1024 .f32) (g : Vec F S1x1024 .f32) : FVec F S256x1024 .bf16 := k0_pay11 sh sc x g
/-- The rows times a column chunk of the weights. -/
def prod (h : FVec F S256x1024 .bf16) (w : Vec F S1024x512 .bf16) : FVec F S256x512 .f32 :=
  matmul dot_S256x1024_S1024x512_S256x512_1_0_0_1_n_n none h w (constant S256x512 .f32 0x00000000#32)
/-- A product as it is stored. -/
def kept (t : FVec F S256x512 .f32) : FVec F S1x256x512 .f32 := shapeCast S1x256x512 t shapeCasts_S256x512_S1x256x512
/-- A product as it is stored in the short format. -/
def keptShort (t : FVec F S256x512 .f32) : FVec F S1x256x512 .bf16 := shapeCast S1x256x512 (truncf .bf16 t bitsLt_bf16_f32) shapeCasts_S256x512_S1x256x512

/-! ## The rotation -/

/-- The lane's number, and its group of 32. -/
def lane : IVec S1x128 32 := iota .tc S1x128 32 [1] iota_S1x128_d1_w32
def group : IVec S1x128 32 := k0_pay22 k0_pay19 k0_pay20 k0_pay21
/-- The lanes of the first half of a head. -/
def early : IVec S1x128 1 := k0_pay26 (k0_pay24 lane) k0_pay25
/-- The lanes of group `n`. -/
def isGroup (n : BitVec 32) : IVec S64x128 1 :=
  broadcastTo S64x128 (shapeCast S1x128 (cmpi .eq group (broadcast S1x128 n)) shapeCasts_S1x128_S1x128) broadcasts_S1x128_S64x128
/-- Each lane from the vector of its group. -/
def byGroup (t0 t1 t2 t3 : FVec F S64x128 .f32) : FVec F S64x128 .f32 :=
  select (isGroup 3#32) t3 (select (isGroup 2#32) t2 (select (isGroup 1#32) t1 t0))
def turn (n : BitVec 32) (t : FVec F S64x128 .f32) : FVec F S64x128 .f32 := dynamicRotate 1 n none t rotates_S64x128_d1
/-- The four groups of lanes laid out as four blocks of rows. -/
def spread (t : FVec F S64x128 .f32) : FVec F S256x128 .f32 :=
  concatenate S256x128 0 [⟨S64x128, byGroup t (turn 32#32 t) (turn 64#32 t) (turn 96#32 t)⟩,
    ⟨S64x128, byGroup (turn 96#32 t) t (turn 32#32 t) (turn 64#32 t)⟩,
    ⟨S64x128, byGroup (turn 64#32 t) (turn 96#32 t) t (turn 32#32 t)⟩,
    ⟨S64x128, byGroup (turn 32#32 t) (turn 64#32 t) (turn 96#32 t) t⟩] concatenates_S64x128_S64x128_S64x128_S64x128_S256x128_d0
/-- The positions down the rows, the same on every lane. -/
def down (p : Vec F S1x256 .i32) : FVec F S256x128 .f32 := k0_pay18 p
/-- The angles: four blocks of rows in the four groups of lanes. -/
def angle (p : Vec F S1x256 .i32) (f : Vec F S1x128 .f32) : FVec F S64x128 .f32 :=
  mulf (byGroup (extractStridedSlice S64x128 ![0, 0] (down p) slices_S256x128_o0_0_S64x128) (extractStridedSlice S64x128 ![64, 0] (down p) slices_S256x128_o64_0_S64x128)
      (extractStridedSlice S64x128 ![128, 0] (down p) slices_S256x128_o128_0_S64x128) (extractStridedSlice S64x128 ![192, 0] (down p) slices_S256x128_o192_0_S64x128))
    (broadcastTo S64x128 (shapeCast S1x128 f shapeCasts_S1x128_S1x128) broadcasts_S1x128_S64x128)
def isEarly : IVec S256x128 1 := broadcastTo S256x128 (shapeCast S1x128 early shapeCasts_S1x128_S1x128) broadcasts_S1x128_S256x128
/-- The sines, negative on the first half of a head. -/
def signed (s : FVec F S256x128 .f32) : FVec F S256x128 .f32 := select isEarly (subf (broadcast S256x128 (Scalar.ofBits .f32 0x00000000#32)) s) s
/-- 128 columns rotated. -/
def rotated (cs sn t : FVec F S256x128 .f32) : FVec F S256x128 .f32 :=
  addf (mulf t cs) (mulf (select isEarly (dynamicRotate 1 96#32 none t rotates_S256x128_d1) (dynamicRotate 1 32#32 none t rotates_S256x128_d1)) sn)
/-- The whole product rotated, 128 columns at a time. -/
def rotatedAll (cs sn : FVec F S256x128 .f32) (t : FVec F S256x512 .f32) : FVec F S256x512 .f32 :=
  concatenate S256x512 1 [⟨S256x128, rotated cs sn (extractStridedSlice S256x128 ![0, 0] t slices_S256x512_o0_0_S256x128)⟩,
    ⟨S256x128, rotated cs sn (extractStridedSlice S256x128 ![0, 128] t slices_S256x512_o0_128_S256x128)⟩,
    ⟨S256x128, rotated cs sn (extractStridedSlice S256x128 ![0, 256] t slices_S256x512_o0_256_S256x128)⟩,
    ⟨S256x128, rotated cs sn (extractStridedSlice S256x128 ![0, 384] t slices_S256x512_o0_384_S256x128)⟩]
    concatenates_S256x128_S256x128_S256x128_S256x128_S256x512_d1
def turned (p : Vec F S1x256 .i32) (f : Vec F S1x128 .f32) (t : FVec F S256x512 .f32) : FVec F S256x512 .f32 :=
  rotatedAll (spread (cos (angle p f))) (signed (spread (sin (angle p f)))) t
/-- The rotated product scaled. -/
def scaled (t : FVec F S256x512 .f32) : FVec F S256x512 .f32 := mulf t (broadcast S256x512 (Scalar.ofBits .f32 0x3E38AA3B#32))

/-! ## 1024 rows -/

/-- Four stores of 256 rows, the last first. -/
def stores {e : EltTy} (p0 p1 p2 p3 : Vec F S1x256x512 e) : List (View.Piece (Elt F) S1x1024x512 e) :=
  [⟨Rect.unit ![0, 768, 0] S1x256x512.size inb_S1x1024x512_S1x256x512_0_768_0, p3⟩,
   ⟨Rect.unit ![0, 512, 0] S1x256x512.size inb_S1x1024x512_S1x256x512_0_512_0, p2⟩,
   ⟨Rect.unit ![0, 256, 0] S1x256x512.size inb_S1x1024x512_S1x256x512_0_256_0, p1⟩,
   ⟨Rect.unit ![0, 0, 0] S1x256x512.size inb_S1x1024x512_S1x256x512_0_0_0, p0⟩]
/-- The weights as the first point stores them, a column chunk at a time. -/
def wStores (w : Vec F S1024x3072 .f32) : List (View.Piece (Elt F) S1024x3072 .bf16) :=
  [⟨Rect.unit ![0, 2560] S1024x512.size inb_S1024x3072_S1024x512_0_2560, k0_pay4 (View.ld w (Rect.unit ![0, 2560] S1024x512.size inb_S1024x3072_S1024x512_0_2560))⟩,
   ⟨Rect.unit ![0, 2048] S1024x512.size inb_S1024x3072_S1024x512_0_2048, k0_pay4 (View.ld w (Rect.unit ![0, 2048] S1024x512.size inb_S1024x3072_S1024x512_0_2048))⟩,
   ⟨Rect.unit ![0, 1536] S1024x512.size inb_S1024x3072_S1024x512_0_1536, k0_pay4 (View.ld w (Rect.unit ![0, 1536] S1024x512.size inb_S1024x3072_S1024x512_0_1536))⟩,
   ⟨Rect.unit ![0, 1024] S1024x512.size inb_S1024x3072_S1024x512_0_1024, k0_pay4 (View.ld w (Rect.unit ![0, 1024] S1024x512.size inb_S1024x3072_S1024x512_0_1024))⟩,
   ⟨Rect.unit ![0, 512] S1024x512.size inb_S1024x3072_S1024x512_0_512, k0_pay4 (View.ld w (Rect.unit ![0, 512] S1024x512.size inb_S1024x3072_S1024x512_0_512))⟩,
   ⟨Rect.unit ![0, 0] S1024x512.size inb_S1024x3072_S1024x512_0_0, k0_pay4 (View.ld w (Rect.unit ![0, 0] S1024x512.size inb_S1024x3072_S1024x512_0_0))⟩]
abbrev cols0 (w : Vec F S1024x3072 .bf16) : Vec F S1024x512 .bf16 := View.ld w (Rect.unit ![0, 0] S1024x512.size inb_S1024x3072_S1024x512_0_0)
abbrev cols512 (w : Vec F S1024x3072 .bf16) : Vec F S1024x512 .bf16 := View.ld w (Rect.unit ![0, 512] S1024x512.size inb_S1024x3072_S1024x512_0_512)
abbrev cols1024 (w : Vec F S1024x3072 .bf16) : Vec F S1024x512 .bf16 := View.ld w (Rect.unit ![0, 1024] S1024x512.size inb_S1024x3072_S1024x512_0_1024)
abbrev cols1536 (w : Vec F S1024x3072 .bf16) : Vec F S1024x512 .bf16 := View.ld w (Rect.unit ![0, 1536] S1024x512.size inb_S1024x3072_S1024x512_0_1536)
abbrev cols2048 (w : Vec F S1024x3072 .bf16) : Vec F S1024x512 .bf16 := View.ld w (Rect.unit ![0, 2048] S1024x512.size inb_S1024x3072_S1024x512_0_2048)
abbrev cols2560 (w : Vec F S1024x3072 .bf16) : Vec F S1024x512 .bf16 := View.ld w (Rect.unit ![0, 2560] S1024x512.size inb_S1024x3072_S1024x512_0_2560)
abbrev pos0 (i : grid0.Coords) (p : Vec F S8x1024 .i32) : Vec F S1x256 .i32 := View.ld p (Rect.unit (k0_off3 i) S1x256.size (k0_off3_inb i))
def rows0 (i : grid0.Coords) (x0 : Vec F S1x1024x1024 .f32) (x1 : Vec F S8x3072 .f32) (x2 : Vec F S1x1024 .f32) : FVec F S256x1024 .bf16 :=
  hid (View.ld x1 (Rect.unit (k0_off1 i) S1x1024.size (k0_off1_inb i))) (View.ld x1 (Rect.unit (k0_off2 i) S1x1024.size (k0_off2_inb i)))
    (View.ld x0 (Rect.unit ![0, 0, 0] S1x256x1024.size inb_S1x1024x1024_S1x256x1024_0_0_0)) (View.ld x2 (Rect.unit ![0, 0] S1x1024.size inb_S1x1024_S1x1024_0_0))
abbrev pos256 (i : grid0.Coords) (p : Vec F S8x1024 .i32) : Vec F S1x256 .i32 := View.ld p (Rect.unit (k0_off4 i) S1x256.size (k0_off4_inb i))
def rows256 (i : grid0.Coords) (x0 : Vec F S1x1024x1024 .f32) (x1 : Vec F S8x3072 .f32) (x2 : Vec F S1x1024 .f32) : FVec F S256x1024 .bf16 :=
  hid (View.ld x1 (Rect.unit (k0_off1 i) S1x1024.size (k0_off1_inb i))) (View.ld x1 (Rect.unit (k0_off2 i) S1x1024.size (k0_off2_inb i)))
    (View.ld x0 (Rect.unit ![0, 256, 0] S1x256x1024.size inb_S1x1024x1024_S1x256x1024_0_256_0)) (View.ld x2 (Rect.unit ![0, 0] S1x1024.size inb_S1x1024_S1x1024_0_0))
abbrev pos512 (i : grid0.Coords) (p : Vec F S8x1024 .i32) : Vec F S1x256 .i32 := View.ld p (Rect.unit (k0_off5 i) S1x256.size (k0_off5_inb i))
def rows512 (i : grid0.Coords) (x0 : Vec F S1x1024x1024 .f32) (x1 : Vec F S8x3072 .f32) (x2 : Vec F S1x1024 .f32) : FVec F S256x1024 .bf16 :=
  hid (View.ld x1 (Rect.unit (k0_off1 i) S1x1024.size (k0_off1_inb i))) (View.ld x1 (Rect.unit (k0_off2 i) S1x1024.size (k0_off2_inb i)))
    (View.ld x0 (Rect.unit ![0, 512, 0] S1x256x1024.size inb_S1x1024x1024_S1x256x1024_0_512_0)) (View.ld x2 (Rect.unit ![0, 0] S1x1024.size inb_S1x1024_S1x1024_0_0))
abbrev pos768 (i : grid0.Coords) (p : Vec F S8x1024 .i32) : Vec F S1x256 .i32 := View.ld p (Rect.unit (k0_off6 i) S1x256.size (k0_off6_inb i))
def rows768 (i : grid0.Coords) (x0 : Vec F S1x1024x1024 .f32) (x1 : Vec F S8x3072 .f32) (x2 : Vec F S1x1024 .f32) : FVec F S256x1024 .bf16 :=
  hid (View.ld x1 (Rect.unit (k0_off1 i) S1x1024.size (k0_off1_inb i))) (View.ld x1 (Rect.unit (k0_off2 i) S1x1024.size (k0_off2_inb i)))
    (View.ld x0 (Rect.unit ![0, 768, 0] S1x256x1024.size inb_S1x1024x1024_S1x256x1024_0_768_0)) (View.ld x2 (Rect.unit ![0, 0] S1x1024.size inb_S1x1024_S1x1024_0_0))
abbrev freq (f : Vec F S1x128 .f32) : Vec F S1x128 .f32 := View.ld f (Rect.unit ![0, 0] S1x128.size inb_S1x128_S1x128_0_0)

/-! What a point leaves in each output block, from its input blocks and the weights it holds. -/
def left6 (i : grid0.Coords) (x0 : Vec F S1x1024x1024 .f32) (x1 : Vec F S8x3072 .f32) (x2 : Vec F S1x1024 .f32) (x3 : Vec F S8x1024 .i32) (x4 : Vec F S1x128 .f32) (w : Vec F S1024x3072 .bf16) : Vec F S1x1024x512 .f32 :=
  View.canon (stores (kept (prod (rows0 i x0 x1 x2) (cols0 w))) (kept (prod (rows256 i x0 x1 x2) (cols0 w))) (kept (prod (rows512 i x0 x1 x2) (cols0 w))) (kept (prod (rows768 i x0 x1 x2) (cols0 w))))
def left7 (i : grid0.Coords) (x0 : Vec F S1x1024x1024 .f32) (x1 : Vec F S8x3072 .f32) (x2 : Vec F S1x1024 .f32) (x3 : Vec F S8x1024 .i32) (x4 : Vec F S1x128 .f32) (w : Vec F S1024x3072 .bf16) : Vec F S1x1024x512 .f32 :=
  View.canon (stores (kept (prod (rows0 i x0 x1 x2) (cols512 w))) (kept (prod (rows256 i x0 x1 x2) (cols512 w))) (kept (prod (rows512 i x0 x1 x2) (cols512 w))) (kept (prod (rows768 i x0 x1 x2) (cols512 w))))
def left8 (i : grid0.Coords) (x0 : Vec F S1x1024x1024 .f32) (x1 : Vec F S8x3072 .f32) (x2 : Vec F S1x1024 .f32) (x3 : Vec F S8x1024 .i32) (x4 : Vec F S1x128 .f32) (w : Vec F S1024x3072 .bf16) : Vec F S1x1024x512 .f32 :=
  View.canon (stores (kept (scaled (turned (pos0 i x3) (freq x4) (prod (rows0 i x0 x1 x2) (cols1024 w))))) (kept (scaled (turned (pos256 i x3) (freq x4) (prod (rows256 i x0 x1 x2) (cols1024 w))))) (kept (scaled (turned (pos512 i x3) (freq x4) (prod (rows512 i x0 x1 x2) (cols1024 w))))) (kept (scaled (turned (pos768 i x3) (freq x4) (prod (rows768 i x0 x1 x2) (cols1024 w))))))
def left9 (i : grid0.Coords) (x0 : Vec F S1x1024x1024 .f32) (x1 : Vec F S8x3072 .f32) (x2 : Vec F S1x1024 .f32) (x3 : Vec F S8x1024 .i32) (x4 : Vec F S1x128 .f32) (w : Vec F S1024x3072 .bf16) : Vec F S1x1024x512 .f32 :=
  View.canon (stores (kept (turned (pos0 i x3) (freq x4) (prod (rows0 i x0 x1 x2) (cols1536 w)))) (kept (turned (pos256 i x3) (freq x4) (prod (rows256 i x0 x1 x2) (cols1536 w)))) (kept (turned (pos512 i x3) (freq x4) (prod (rows512 i x0 x1 x2) (cols1536 w)))) (kept (turned (pos768 i x3) (freq x4) (prod (rows768 i x0 x1 x2) (cols1536 w)))))
def left10 (i : grid0.Coords) (x0 : Vec F S1x1024x1024 .f32) (x1 : Vec F S8x3072 .f32) (x2 : Vec F S1x1024 .f32) (x3 : Vec F S8x1024 .i32) (x4 : Vec F S1x128 .f32) (w : Vec F S1024x3072 .bf16) : Vec F S1x1024x512 .f32 :=
  View.canon (stores (kept (prod (rows0 i x0 x1 x2) (cols2048 w))) (kept (prod (rows256 i x0 x1 x2) (cols2048 w))) (kept (prod (rows512 i x0 x1 x2) (cols2048 w))) (kept (prod (rows768 i x0 x1 x2) (cols2048 w))))
def left11 (i : grid0.Coords) (x0 : Vec F S1x1024x1024 .f32) (x1 : Vec F S8x3072 .f32) (x2 : Vec F S1x1024 .f32) (x3 : Vec F S8x1024 .i32) (x4 : Vec F S1x128 .f32) (w : Vec F S1024x3072 .bf16) : Vec F S1x1024x512 .bf16 :=
  View.canon (stores (keptShort (prod (rows0 i x0 x1 x2) (cols2560 w))) (keptShort (prod (rows256 i x0 x1 x2) (cols2560 w))) (keptShort (prod (rows512 i x0 x1 x2) (cols2560 w))) (keptShort (prod (rows768 i x0 x1 x2) (cols2560 w))))

end Cert.Proof.In

end
-- ==== Proof.InRow.lean ====
/-
  The in-projection's row arithmetic on extended reals: a row normalized and modulated, its product with a chunk of the
  weights, and the rotation of its heads by the angle of its position; and 256 rows of the kernel's terms read by row.
-/
module

public import proofs.«01_k».proof.Proof.InTerms
public import proofs.«01_k».proof.Proof.Row

@[expose] public section

set_option maxRecDepth 16384

noncomputable section

namespace Cert.Proof.In

open Cert.Kernel2Ideal Cert.Kernel2Ideal.Gen
open Idealize.ShloMosaic Idealize.ShloMosaic.TcCoe Idealize.ShloMosaic.Tactic Idealize.SL.Sem

/-! ## Rows on extended reals -/

/-- A normalized row scaled and shifted. -/
def hidRow (x g sc sh : Fin 1024 → EReal) (k : Fin 1024) : EReal := rmsRow (Ideal.ofBits .f32 0x44800000#32) x g k * (1 + sc k) + sh k
/-- A row times a column chunk. -/
def prodRow (h : Fin 1024 → EReal) (w : Fin 1024 → Fin 512 → EReal) (e : Fin 512) : EReal := ∑ k : Fin 1024, h k * w k e
/-- A row of eight heads rotated by the angle of its position. -/
def rotRow (t : Fin 512 → EReal) (p : EReal) (f : Fin 32 → EReal) (e : Fin 512) : EReal :=
  if h : e.val % 64 < 32 then
    t e * Ideal.cos (p * f ⟨e.val % 32, by omega⟩) - t ⟨e.val + 32, by omega⟩ * Ideal.sin (p * f ⟨e.val % 32, by omega⟩)
  else t e * Ideal.cos (p * f ⟨e.val % 32, by omega⟩) + t ⟨e.val - 32, by omega⟩ * Ideal.sin (p * f ⟨e.val % 32, by omega⟩)

/-! ## 256 rows at an index -/

theorem hid_apply (sh sc : Vec Ideal S1x1024 .f32) (x : Vec Ideal S1x256x1024 .f32) (g : Vec Ideal S1x1024 .f32) (r : Fin 256) (k : Fin 1024) :
    hid sh sc x g (ix2 r k) = hidRow (fun l => x (ix3 0 r l)) (fun l => g (ix2 0 l)) (fun l => sc (ix2 0 l)) (fun l => sh (ix2 0 l)) k := by
  pointwise [hid, k0_pay11]
  rfl
theorem prod_apply (h : FVec Ideal S256x1024 .bf16) (w : Vec Ideal S1024x512 .bf16) (r : Fin 256) (e : Fin 512) :
    prod h w (ix2 r e) = prodRow (fun k => h (ix2 r k)) (fun k e => w (ix2 k e)) e := by
  pointwise [prod]
  rfl
theorem kept_apply (t : FVec Ideal S256x512 .f32) (r : Fin 256) (e : Fin 512) : kept t (ix3 0 r e) = t (ix2 r e) := by
  pointwise [kept]
theorem keptShort_apply (t : FVec Ideal S256x512 .f32) (r : Fin 256) (e : Fin 512) : keptShort t (ix3 0 r e) = t (ix2 r e) := by
  pointwise [keptShort]
theorem scaled_apply (t : FVec Ideal S256x512 .f32) (r : Fin 256) (e : Fin 512) : scaled t (ix2 r e) = t (ix2 r e) * Ideal.ofBits .f32 0x3E38AA3B#32 := by
  pointwise [scaled]

theorem group_apply : ∀ l : Fin 128, group (ix2 0 l) = BitVec.ofNat 32 (l.val / 32) := by decide +kernel
theorem early_apply : ∀ l : Fin 128, early (ix2 0 l) = if l.val % 64 < 32 then 1#1 else 0#1 := by decide +kernel
theorem isGroup_apply (n : BitVec 32) (r : Fin 64) (l : Fin 128) : isGroup n (ix2 r l) = if group (ix2 0 l) = n then 1#1 else 0#1 := by
  pointwise [isGroup]
  by_cases h : group (ix2 0 l) = n
  · simp [h, IntOp.cmpi]
  · rw [if_neg h]
    show BitVec.ofBool (group (ix2 0 l) == n) = 0#1
    rw [beq_eq_false_iff_ne.mpr h]
    rfl
theorem select_ite {α : Type} (p : Prop) [Decidable p] (a b : α) : Scalar.select (if p then 1#1 else 0#1) a b = if p then a else b := by
  by_cases h : p <;> simp [h, Scalar.select]
theorem byGroup_apply (t0 t1 t2 t3 : FVec Ideal S64x128 .f32) (r : Fin 64) (l : Fin 128) :
    byGroup t0 t1 t2 t3 (ix2 r l) = if l.val / 32 = 3 then t3 (ix2 r l) else if l.val / 32 = 2 then t2 (ix2 r l)
      else if l.val / 32 = 1 then t1 (ix2 r l) else t0 (ix2 r l) := by
  have hl : l.val / 32 < 4 := by omega
  have e : ∀ n : ℕ, n < 4 → ((BitVec.ofNat 32 (l.val / 32) = BitVec.ofNat 32 n) ↔ l.val / 32 = n) := fun n hn =>
    ⟨fun h => by have := congrArg BitVec.toNat h; simp only [BitVec.toNat_ofNat] at this; omega, fun h => by rw [h]⟩
  pointwise [byGroup]
  simp only [isGroup_apply, group_apply, select_ite, e 3 (by omega), e 2 (by omega), e 1 (by omega)]
theorem turn_apply (n : BitVec 32) (t : FVec Ideal S64x128 .f32) (r : Fin 64) (l : Fin 128) :
    turn n t (ix2 r l) = t (ix2 r ⟨(l.val + 128 - n.toNat % 128) % 128, by omega⟩) := by
  pointwise [turn]
theorem down_apply (p : Vec Ideal S1x256 .i32) (r : Fin 256) (l : Fin 128) :
    down p (ix2 r l) = FloatOps.sitofp (F := Ideal) FTy.f32 (p (ix2 0 r)) := by
  pointwise [down, k0_pay18]
  split
  · rfl
  · next h => exact congrArg (fun q : Fin 256 => FloatOps.sitofp (F := Ideal) FTy.f32 (p (ix2 0 q))) (Fin.ext (by show 128 + (r.val - 128) = r.val; omega))
theorem angle_apply (p : Vec Ideal S1x256 .i32) (f : Vec Ideal S1x128 .f32) (r : Fin 64) (l : Fin 128) :
    angle p f (ix2 r l) = FloatOps.sitofp (F := Ideal) FTy.f32 (p (ix2 0 ⟨64 * (l.val / 32) + r.val, by omega⟩)) * f (ix2 0 l) := by
  pointwise [angle]
  refine congrArg (· * f (ix2 0 l)) ?_
  rw [byGroup_apply]
  pointwise
  simp only [down_apply]
  have key : ∀ q q' : Fin 256, q.val = q'.val → FloatOps.sitofp (F := Ideal) FTy.f32 (p (ix2 0 q)) = FloatOps.sitofp (F := Ideal) FTy.f32 (p (ix2 0 q')) :=
    fun q q' h => by rw [Fin.ext h]
  split_ifs <;> refine key _ _ ?_ <;> simp <;> omega
theorem spread_apply (t : FVec Ideal S64x128 .f32) (r : Fin 256) (l : Fin 128) :
    spread t (ix2 r l) = t (ix2 ⟨r.val % 64, by omega⟩ ⟨32 * (r.val / 64) + l.val % 32, by omega⟩) := by
  pointwise [spread]
  simp only [byGroup_apply, turn_apply]
  have key : ∀ (a a' : Fin 64) (b b' : Fin 128), a.val = a'.val → b.val = b'.val → t (ix2 a b) = t (ix2 a' b') := fun a a' b b' h h' => by
    rw [Fin.ext h, Fin.ext h']
  split_ifs <;> refine key _ _ _ _ ?_ ?_ <;> simp <;> omega
theorem rotated_apply (cs sn t : FVec Ideal S256x128 .f32) (r : Fin 256) (l : Fin 128) :
    rotated cs sn t (ix2 r l) = t (ix2 r l) * cs (ix2 r l)
      + (if l.val % 64 < 32 then t (ix2 r ⟨(l.val + 128 - 96) % 128, by omega⟩) else t (ix2 r ⟨(l.val + 128 - 32) % 128, by omega⟩)) * sn (ix2 r l) := by
  pointwise [rotated, isEarly]
  rw [early_apply, select_ite]
theorem signed_apply (s : FVec Ideal S256x128 .f32) (r : Fin 256) (l : Fin 128) :
    signed s (ix2 r l) = if l.val % 64 < 32 then - s (ix2 r l) else s (ix2 r l) := by
  pointwise [signed, isEarly]
  rw [early_apply, select_ite, zero_sub]
theorem columns_apply (cs sn u : FVec Ideal S256x128 .f32) (t : FVec Ideal S256x512 .f32) (r : Fin 256) (o : ℕ) (ho : o % 128 = 0) (hb : o + 128 ≤ 512)
    (hu : ∀ l : Fin 128, u (ix2 r l) = t (ix2 r ⟨o + l.val, by omega⟩)) (e : Fin 512) (l : Fin 128) (he : e.val = o + l.val) :
    rotated cs sn u (ix2 r l) = t (ix2 r e) * cs (ix2 r ⟨e.val % 128, by omega⟩)
      + (if h : e.val % 64 < 32 then t (ix2 r ⟨e.val + 32, by omega⟩) else t (ix2 r ⟨e.val - 32, by omega⟩)) * sn (ix2 r ⟨e.val % 128, by omega⟩) := by
  have key : ∀ q q' : Fin 512, q.val = q'.val → t (ix2 r q) = t (ix2 r q') := fun q q' h => by rw [Fin.ext h]
  have el : (⟨e.val % 128, by omega⟩ : Fin 128) = l := Fin.ext (by show e.val % 128 = l.val; omega)
  rw [rotated_apply, el, hu, hu, hu]
  congr 1
  · exact congrArg (· * cs (ix2 r l)) (key _ _ he.symm)
  · refine congrArg (· * sn (ix2 r l)) ?_
    by_cases h : l.val % 64 < 32
    · rw [if_pos h, dif_pos (by omega)]
      exact key _ _ (by show o + (l.val + 128 - 96) % 128 = e.val + 32; omega)
    · rw [if_neg h, dif_neg (by omega)]
      exact key _ _ (by show o + (l.val + 128 - 32) % 128 = e.val - 32; omega)
theorem rotatedAll_apply (cs sn : FVec Ideal S256x128 .f32) (t : FVec Ideal S256x512 .f32) (r : Fin 256) (e : Fin 512) :
    rotatedAll cs sn t (ix2 r e) = t (ix2 r e) * cs (ix2 r ⟨e.val % 128, by omega⟩)
      + (if h : e.val % 64 < 32 then t (ix2 r ⟨e.val + 32, by omega⟩) else t (ix2 r ⟨e.val - 32, by omega⟩)) * sn (ix2 r ⟨e.val % 128, by omega⟩) := by
  pointwise [rotatedAll]
  split
  · exact columns_apply cs sn _ t r 0 (by omega) (by omega) (fun l => by pointwise) e _ (by show e.val = 0 + e.val; omega)
  split
  · exact columns_apply cs sn _ t r 128 (by omega) (by omega) (fun l => by pointwise) e _ (by show e.val = 128 + (e.val - 128); omega)
  split
  · exact columns_apply cs sn _ t r 256 (by omega) (by omega) (fun l => by pointwise) e _ (by show e.val = 256 + (e.val - 128 - 128); omega)
  · exact columns_apply cs sn _ t r 384 (by omega) (by omega) (fun l => by pointwise) e _ (by show e.val = 384 + (e.val - 128 - 128 - 128); omega)
theorem turned_apply (p : Vec Ideal S1x256 .i32) (f : Vec Ideal S1x128 .f32) (fr : Fin 32 → EReal) (hf : ∀ l : Fin 128, f (ix2 0 l) = fr ⟨l.val % 32, by omega⟩)
    (t : FVec Ideal S256x512 .f32) (r : Fin 256) (e : Fin 512) :
    turned p f t (ix2 r e) = rotRow (fun e => t (ix2 r e)) (FloatOps.sitofp (F := Ideal) FTy.f32 (p (ix2 0 r))) fr e := by
  have ea : angle p f (ix2 ⟨r.val % 64, by omega⟩ ⟨32 * (r.val / 64) + e.val % 128 % 32, by omega⟩)
      = FloatOps.sitofp (F := Ideal) FTy.f32 (p (ix2 0 r)) * fr ⟨e.val % 32, by omega⟩ := by
    rw [angle_apply, hf]
    exact congrArg₂ (fun (q : Fin 256) (d : Fin 32) => FloatOps.sitofp (F := Ideal) FTy.f32 (p (ix2 0 q)) * fr d)
      (Fin.ext (by show 64 * ((32 * (r.val / 64) + e.val % 128 % 32) / 32) + r.val % 64 = r.val; omega))
      (Fin.ext (by show (32 * (r.val / 64) + e.val % 128 % 32) % 32 = e.val % 32; omega))
  have ec : spread (cos (angle p f)) (ix2 r ⟨e.val % 128, by omega⟩) = Ideal.cos (FloatOps.sitofp (F := Ideal) FTy.f32 (p (ix2 0 r)) * fr ⟨e.val % 32, by omega⟩) :=
    (spread_apply _ _ _).trans (congrArg Ideal.cos ea)
  have es : spread (sin (angle p f)) (ix2 r ⟨e.val % 128, by omega⟩) = Ideal.sin (FloatOps.sitofp (F := Ideal) FTy.f32 (p (ix2 0 r)) * fr ⟨e.val % 32, by omega⟩) :=
    (spread_apply _ _ _).trans (congrArg Ideal.sin ea)
  rw [turned, rotatedAll_apply, signed_apply, ec, es]
  unfold rotRow
  by_cases h : e.val % 64 < 32
  · rw [dif_pos h, dif_pos h, if_pos (by show e.val % 128 % 64 < 32; omega), mul_neg, sub_eq_add_neg]
  · rw [dif_neg h, dif_neg h, if_neg (by show ¬ e.val % 128 % 64 < 32; omega)]
-- ==== Proof.InBlock.lean ====
/-
  What a point leaves in its output blocks, read at a row on extended reals.
-/
module

public import proofs.«01_k».proof.Proof.InRow
public import Idealize.ShloMosaic.Lib.Pipeline.ValueKit.Tiles

@[expose] public section

set_option maxRecDepth 16384

noncomputable section

namespace Cert.Proof.In

open Cert.Kernel2Ideal Cert.Kernel2Ideal.Gen
open Idealize.ShloMosaic Idealize.ShloMosaic.TcCoe Idealize.SL.Sem

/-! ## Stores read back -/

/-- One store of 256 rows, by the row of the block it lands on. -/
theorem store_apply {e : EltTy} (o : ℕ) (inb : ∀ a, ![0, o, 0] a + S1x256x512.size a ≤ S1x1024x512.size a) (ho : o + 256 ≤ 1024) (p : Vec Ideal S1x256x512 e)
    (G : Fin 1024 → Fin 512 → Elt Ideal e) (h : ∀ (r : Fin 256) (d : Fin 512), p (ix3 0 r d) = G ⟨o + r.val, by omega⟩ d) (x : S1x256x512.Idx) :
    p x = G ((Rect.unit (s := S1x1024x512) ![0, o, 0] S1x256x512.size inb).emb x 1) ((Rect.unit (s := S1x1024x512) ![0, o, 0] S1x256x512.size inb).emb x 2) := by
  obtain ⟨x0, x1, x2, rfl⟩ : ∃ (x0 : Fin 1) (x1 : Fin 256) (x2 : Fin 512), x = ix3 x0 x1 x2 := ⟨x 0, x 1, x 2, eq_ix3 x⟩
  obtain rfl : x0 = 0 := Subsingleton.elim _ _
  refine (h x1 x2).trans (congrArg₂ G (Fin.ext ?_) (Fin.ext ?_))
  · show o + x1.val = o + 1 * x1.val; omega
  · show x2.val = 0 + 1 * x2.val; omega
theorem mem_store (o : ℕ) (inb : ∀ a, ![0, o, 0] a + S1x256x512.size a ≤ S1x1024x512.size a) (r : Fin 1024) (d : Fin 512) (h1 : o ≤ r.val) (h2 : r.val < o + 256) :
    (ix3 0 r d : S1x1024x512.Idx) ∈ (Rect.unit (s := S1x1024x512) ![0, o, 0] S1x256x512.size inb).set := by
  refine (Rect.mem_set_unit (inb := inb)).mpr fun a => ?_
  fin_cases a
  · exact ⟨Nat.zero_le _, by show 0 < 0 + 1; omega⟩
  · exact ⟨h1, h2⟩
  · exact ⟨Nat.zero_le _, by show d.val < 0 + 512; omega⟩
/-- Four stores of 256 rows, read at a row. -/
theorem stores_apply {e : EltTy} (p0 p1 p2 p3 : Vec Ideal S1x256x512 e) (G : Fin 1024 → Fin 512 → Elt Ideal e)
    (h0 : ∀ (r : Fin 256) (d : Fin 512), p0 (ix3 0 r d) = G ⟨0 + r.val, by omega⟩ d)
    (h1 : ∀ (r : Fin 256) (d : Fin 512), p1 (ix3 0 r d) = G ⟨256 + r.val, by omega⟩ d)
    (h2 : ∀ (r : Fin 256) (d : Fin 512), p2 (ix3 0 r d) = G ⟨512 + r.val, by omega⟩ d)
    (h3 : ∀ (r : Fin 256) (d : Fin 512), p3 (ix3 0 r d) = G ⟨768 + r.val, by omega⟩ d) (r : Fin 1024) (d : Fin 512) :
    View.canon (stores p0 p1 p2 p3) (ix3 0 r d) = G r d := by
  refine View.canon_apply_of_pieces (fun y : S1x1024x512.Idx => G (y 1) (y 2)) (stores p0 p1 p2 p3) ?_ (ix3 0 r d) ?_
  · intro p hp
    rcases List.mem_cons.mp hp with rfl | hp
    · exact store_apply 768 inb_S1x1024x512_S1x256x512_0_768_0 (by omega) p3 G h3
    rcases List.mem_cons.mp hp with rfl | hp
    · exact store_apply 512 inb_S1x1024x512_S1x256x512_0_512_0 (by omega) p2 G h2
    rcases List.mem_cons.mp hp with rfl | hp
    · exact store_apply 256 inb_S1x1024x512_S1x256x512_0_256_0 (by omega) p1 G h1
    rcases List.mem_cons.mp hp with rfl | hp
    · exact store_apply 0 inb_S1x1024x512_S1x256x512_0_0_0 (by omega) p0 G h0
    exact absurd hp List.not_mem_nil
  · by_cases c3 : 768 ≤ r.val
    · exact ⟨_, List.mem_cons_self, mem_store 768 inb_S1x1024x512_S1x256x512_0_768_0 r d c3 (by omega)⟩
    by_cases c2 : 512 ≤ r.val
    · exact ⟨_, List.mem_cons_of_mem _ List.mem_cons_self, mem_store 512 inb_S1x1024x512_S1x256x512_0_512_0 r d c2 (by omega)⟩
    by_cases c1 : 256 ≤ r.val
    · exact ⟨_, List.mem_cons_of_mem _ (List.mem_cons_of_mem _ List.mem_cons_self), mem_store 256 inb_S1x1024x512_S1x256x512_0_256_0 r d c1 (by omega)⟩
    exact ⟨_, List.mem_cons_of_mem _ (List.mem_cons_of_mem _ (List.mem_cons_of_mem _ List.mem_cons_self)), mem_store 0 inb_S1x1024x512_S1x256x512_0_0_0 r d (by omega) (by omega)⟩

theorem cast_pay (v : Vec Ideal S1024x512 .f32) : (k0_pay4 v : S1024x512.Idx → EReal) = v := by
  funext x
  obtain ⟨k, d, rfl⟩ : ∃ (k : Fin 1024) (d : Fin 512), x = ix2 k d := ⟨x 0, x 1, eq_ix2 x⟩
  pointwise [k0_pay4]
theorem wStore_apply (o : ℕ) (inb : ∀ a, ![0, o] a + S1024x512.size a ≤ S1024x3072.size a) (w : Vec Ideal S1024x3072 .f32) (x : S1024x512.Idx) :
    (k0_pay4 (View.ld w (Rect.unit (s := S1024x3072) ![0, o] S1024x512.size inb)) : S1024x512.Idx → EReal) x
      = (w : S1024x3072.Idx → EReal) ((Rect.unit (s := S1024x3072) ![0, o] S1024x512.size inb).emb x) := congrFun (cast_pay _) x
theorem mem_wStore (o : ℕ) (inb : ∀ a, ![0, o] a + S1024x512.size a ≤ S1024x3072.size a) (k : Fin 1024) (d : Fin 3072) (h1 : o ≤ d.val) (h2 : d.val < o + 512) :
    (ix2 k d : S1024x3072.Idx) ∈ (Rect.unit (s := S1024x3072) ![0, o] S1024x512.size inb).set := by
  refine (Rect.mem_set_unit (inb := inb)).mpr fun a => ?_
  fin_cases a
  · exact ⟨Nat.zero_le _, by show k.val < 0 + 1024; omega⟩
  · exact ⟨h1, h2⟩
/-- The weights the first point stores, read back. -/
theorem wStores_apply (w : Vec Ideal S1024x3072 .f32) (k : Fin 1024) (d : Fin 3072) :
    (View.canon (wStores w) : S1024x3072.Idx → EReal) (ix2 k d) = (w : S1024x3072.Idx → EReal) (ix2 k d) := by
  refine View.canon_apply_of_pieces (fun y : S1024x3072.Idx => (w : S1024x3072.Idx → EReal) y) (wStores w) ?_ (ix2 k d) ?_
  · intro p hp
    rcases List.mem_cons.mp hp with rfl | hp
    · exact wStore_apply 2560 inb_S1024x3072_S1024x512_0_2560 w
    rcases List.mem_cons.mp hp with rfl | hp
    · exact wStore_apply 2048 inb_S1024x3072_S1024x512_0_2048 w
    rcases List.mem_cons.mp hp with rfl | hp
    · exact wStore_apply 1536 inb_S1024x3072_S1024x512_0_1536 w
    rcases List.mem_cons.mp hp with rfl | hp
    · exact wStore_apply 1024 inb_S1024x3072_S1024x512_0_1024 w
    rcases List.mem_cons.mp hp with rfl | hp
    · exact wStore_apply 512 inb_S1024x3072_S1024x512_0_512 w
    rcases List.mem_cons.mp hp with rfl | hp
    · exact wStore_apply 0 inb_S1024x3072_S1024x512_0_0 w
    exact absurd hp List.not_mem_nil
  · by_cases c2560 : 2560 ≤ d.val
    · exact ⟨_, List.mem_cons_self, mem_wStore 2560 inb_S1024x3072_S1024x512_0_2560 k d c2560 (by omega)⟩
    by_cases c2048 : 2048 ≤ d.val
    · exact ⟨_, List.mem_cons_of_mem _ List.mem_cons_self, mem_wStore 2048 inb_S1024x3072_S1024x512_0_2048 k d c2048 (by omega)⟩
    by_cases c1536 : 1536 ≤ d.val
    · exact ⟨_, List.mem_cons_of_mem _ (List.mem_cons_of_mem _ List.mem_cons_self), mem_wStore 1536 inb_S1024x3072_S1024x512_0_1536 k d c1536 (by omega)⟩
    by_cases c1024 : 1024 ≤ d.val
    · exact ⟨_, List.mem_cons_of_mem _ (List.mem_cons_of_mem _ (List.mem_cons_of_mem _ List.mem_cons_self)), mem_wStore 1024 inb_S1024x3072_S1024x512_0_1024 k d c1024 (by omega)⟩
    by_cases c512 : 512 ≤ d.val
    · exact ⟨_, List.mem_cons_of_mem _ (List.mem_cons_of_mem _ (List.mem_cons_of_mem _ (List.mem_cons_of_mem _ List.mem_cons_self))), mem_wStore 512 inb_S1024x3072_S1024x512_0_512 k d c512 (by omega)⟩
    exact ⟨_, List.mem_cons_of_mem _ (List.mem_cons_of_mem _ (List.mem_cons_of_mem _ (List.mem_cons_of_mem _ (List.mem_cons_of_mem _ List.mem_cons_self)))), mem_wStore 0 inb_S1024x3072_S1024x512_0_0 k d (by omega) (by omega)⟩

/-! ## What the point reads -/

/-- A row of the block, normalized and modulated. -/
def inRow (b : Fin 8) (x0 : Vec Ideal S1x1024x1024 .f32) (x1 : Vec Ideal S8x3072 .f32) (x2 : Vec Ideal S1x1024 .f32) (r : Fin 1024) (k : Fin 1024) : EReal :=
  hidRow (fun l => x0 (ix3 0 r l)) (fun l => x2 (ix2 0 l)) (fun l => x1 (ix2 b ⟨1024 + l.val, by omega⟩)) (fun l => x1 (ix2 b ⟨l.val, by omega⟩)) k
theorem word (b : ℕ) (h : b < 8) : (BitVec.ofNat 32 b).toNat = b := by rw [BitVec.toNat_ofNat]; exact Nat.mod_eq_of_lt (by omega)
theorem cols_apply (o : ℕ) (inb : ∀ a, ![0, o] a + S1024x512.size a ≤ S1024x3072.size a) (ho : o + 512 ≤ 3072) (w : Vec Ideal S1024x3072 .bf16) (k : Fin 1024) (d : Fin 512) :
    View.ld w (Rect.unit (s := S1024x3072) ![0, o] S1024x512.size inb) (ix2 k d) = w (ix2 k ⟨o + d.val, by omega⟩) :=
  View.ld_unit_apply_of w _ _ inb (ix2 k d) (ix2 k ⟨o + d.val, by omega⟩) fun a => by
    fin_cases a
    · show k.val = 0 + k.val; omega
    · rfl
theorem shift_apply (i : grid0.Coords) (b : Fin 8) (hb : (i 0).val = b.val) (x1 : Vec Ideal S8x3072 .f32) (l : Fin 1024) :
    View.ld x1 (Rect.unit (k0_off1 i) S1x1024.size (k0_off1_inb i)) (ix2 0 l) = x1 (ix2 b ⟨l.val, by omega⟩) :=
  View.ld_unit_apply_of x1 _ _ _ (ix2 0 l) (ix2 b ⟨l.val, by omega⟩) fun a => by
    fin_cases a
    · show b.val = (BitVec.ofNat 32 (i 0).val).toNat + 0
      rw [hb, word _ b.isLt]; omega
    · show l.val = 0 + l.val; omega
theorem scale_apply (i : grid0.Coords) (b : Fin 8) (hb : (i 0).val = b.val) (x1 : Vec Ideal S8x3072 .f32) (l : Fin 1024) :
    View.ld x1 (Rect.unit (k0_off2 i) S1x1024.size (k0_off2_inb i)) (ix2 0 l) = x1 (ix2 b ⟨1024 + l.val, by omega⟩) :=
  View.ld_unit_apply_of x1 _ _ _ (ix2 0 l) (ix2 b ⟨1024 + l.val, by omega⟩) fun a => by
    fin_cases a
    · show b.val = (BitVec.ofNat 32 (i 0).val).toNat + 0
      rw [hb, word _ b.isLt]; omega
    · rfl
theorem xRows_apply (o : ℕ) (inb : ∀ a, ![0, o, 0] a + S1x256x1024.size a ≤ S1x1024x1024.size a) (ho : o + 256 ≤ 1024) (x0 : Vec Ideal S1x1024x1024 .f32) (r : Fin 256) (l : Fin 1024) :
    View.ld x0 (Rect.unit (s := S1x1024x1024) ![0, o, 0] S1x256x1024.size inb) (ix3 0 r l) = x0 (ix3 0 ⟨o + r.val, by omega⟩ l) :=
  View.ld_unit_apply_of x0 _ _ inb (ix3 0 r l) (ix3 0 ⟨o + r.val, by omega⟩ l) fun a => by
    fin_cases a
    · rfl
    · rfl
    · show l.val = 0 + l.val; omega
theorem norm_apply (x2 : Vec Ideal S1x1024 .f32) (l : Fin 1024) :
    View.ld x2 (Rect.unit ![0, 0] S1x1024.size inb_S1x1024_S1x1024_0_0) (ix2 0 l) = x2 (ix2 0 l) :=
  View.ld_unit_apply_of x2 _ _ _ (ix2 0 l) (ix2 0 l) fun a => by
    fin_cases a
    · rfl
    · show l.val = 0 + l.val; omega
theorem freq_apply (x4 : Vec Ideal S1x128 .f32) (l : Fin 128) : freq x4 (ix2 0 l) = x4 (ix2 0 l) :=
  View.ld_unit_apply_of x4 _ _ _ (ix2 0 l) (ix2 0 l) fun a => by
    fin_cases a
    · rfl
    · show l.val = 0 + l.val; omega
theorem hidRow_congr {x x' g g' sc sc' sh sh' : Fin 1024 → EReal} (hx : ∀ l, x l = x' l) (hg : ∀ l, g l = g' l) (hsc : ∀ l, sc l = sc' l) (hsh : ∀ l, sh l = sh' l) (k : Fin 1024) :
    hidRow x g sc sh k = hidRow x' g' sc' sh' k := by
  obtain rfl := funext hx
  obtain rfl := funext hg
  obtain rfl := funext hsc
  obtain rfl := funext hsh
  rfl
theorem prodRow_congr {h h' : Fin 1024 → EReal} {w w' : Fin 1024 → Fin 512 → EReal} (hh : ∀ k, h k = h' k) (hw : ∀ k d, w k d = w' k d) (d : Fin 512) :
    prodRow h w d = prodRow h' w' d := by
  obtain rfl := funext hh
  obtain rfl : w = w' := funext fun k => funext fun d => hw k d
  rfl
theorem rotRow_congr {t t' : Fin 512 → EReal} {p p' : EReal} {f f' : Fin 32 → EReal} (ht : ∀ d, t d = t' d) (hp : p = p') (hf : ∀ l, f l = f' l) (d : Fin 512) :
    rotRow t p f d = rotRow t' p' f' d := by
  obtain rfl := funext ht
  obtain rfl := hp
  obtain rfl := funext hf
  rfl
theorem pos0_apply (i : grid0.Coords) (b : Fin 8) (hb : (i 0).val = b.val) (x3 : Vec Ideal S8x1024 .i32) (r : Fin 256) : pos0 i x3 (ix2 0 r) = x3 (ix2 b ⟨0 + r.val, by omega⟩) :=
  View.ld_unit_apply_of x3 _ _ _ (ix2 0 r) (ix2 b ⟨0 + r.val, by omega⟩) fun a => by
    fin_cases a
    · show b.val = (BitVec.ofNat 32 (i 0).val).toNat + 0
      rw [hb, word _ b.isLt]; omega
    · rfl
theorem rows0_apply (i : grid0.Coords) (b : Fin 8) (hb : (i 0).val = b.val) (x0 : Vec Ideal S1x1024x1024 .f32) (x1 : Vec Ideal S8x3072 .f32) (x2 : Vec Ideal S1x1024 .f32) (r : Fin 256) (k : Fin 1024) :
    rows0 i x0 x1 x2 (ix2 r k) = inRow b x0 x1 x2 ⟨0 + r.val, by omega⟩ k :=
  (hid_apply _ _ _ _ r k).trans (hidRow_congr (xRows_apply 0 _ (by omega) x0 r) (norm_apply x2) (scale_apply i b hb x1) (shift_apply i b hb x1) k)
theorem pos256_apply (i : grid0.Coords) (b : Fin 8) (hb : (i 0).val = b.val) (x3 : Vec Ideal S8x1024 .i32) (r : Fin 256) : pos256 i x3 (ix2 0 r) = x3 (ix2 b ⟨256 + r.val, by omega⟩) :=
  View.ld_unit_apply_of x3 _ _ _ (ix2 0 r) (ix2 b ⟨256 + r.val, by omega⟩) fun a => by
    fin_cases a
    · show b.val = (BitVec.ofNat 32 (i 0).val).toNat + 0
      rw [hb, word _ b.isLt]; omega
    · rfl
theorem rows256_apply (i : grid0.Coords) (b : Fin 8) (hb : (i 0).val = b.val) (x0 : Vec Ideal S1x1024x1024 .f32) (x1 : Vec Ideal S8x3072 .f32) (x2 : Vec Ideal S1x1024 .f32) (r : Fin 256) (k : Fin 1024) :
    rows256 i x0 x1 x2 (ix2 r k) = inRow b x0 x1 x2 ⟨256 + r.val, by omega⟩ k :=
  (hid_apply _ _ _ _ r k).trans (hidRow_congr (xRows_apply 256 _ (by omega) x0 r) (norm_apply x2) (scale_apply i b hb x1) (shift_apply i b hb x1) k)
theorem pos512_apply (i : grid0.Coords) (b : Fin 8) (hb : (i 0).val = b.val) (x3 : Vec Ideal S8x1024 .i32) (r : Fin 256) : pos512 i x3 (ix2 0 r) = x3 (ix2 b ⟨512 + r.val, by omega⟩) :=
  View.ld_unit_apply_of x3 _ _ _ (ix2 0 r) (ix2 b ⟨512 + r.val, by omega⟩) fun a => by
    fin_cases a
    · show b.val = (BitVec.ofNat 32 (i 0).val).toNat + 0
      rw [hb, word _ b.isLt]; omega
    · rfl
theorem rows512_apply (i : grid0.Coords) (b : Fin 8) (hb : (i 0).val = b.val) (x0 : Vec Ideal S1x1024x1024 .f32) (x1 : Vec Ideal S8x3072 .f32) (x2 : Vec Ideal S1x1024 .f32) (r : Fin 256) (k : Fin 1024) :
    rows512 i x0 x1 x2 (ix2 r k) = inRow b x0 x1 x2 ⟨512 + r.val, by omega⟩ k :=
  (hid_apply _ _ _ _ r k).trans (hidRow_congr (xRows_apply 512 _ (by omega) x0 r) (norm_apply x2) (scale_apply i b hb x1) (shift_apply i b hb x1) k)
theorem pos768_apply (i : grid0.Coords) (b : Fin 8) (hb : (i 0).val = b.val) (x3 : Vec Ideal S8x1024 .i32) (r : Fin 256) : pos768 i x3 (ix2 0 r) = x3 (ix2 b ⟨768 + r.val, by omega⟩) :=
  View.ld_unit_apply_of x3 _ _ _ (ix2 0 r) (ix2 b ⟨768 + r.val, by omega⟩) fun a => by
    fin_cases a
    · show b.val = (BitVec.ofNat 32 (i 0).val).toNat + 0
      rw [hb, word _ b.isLt]; omega
    · rfl
theorem rows768_apply (i : grid0.Coords) (b : Fin 8) (hb : (i 0).val = b.val) (x0 : Vec Ideal S1x1024x1024 .f32) (x1 : Vec Ideal S8x3072 .f32) (x2 : Vec Ideal S1x1024 .f32) (r : Fin 256) (k : Fin 1024) :
    rows768 i x0 x1 x2 (ix2 r k) = inRow b x0 x1 x2 ⟨768 + r.val, by omega⟩ k :=
  (hid_apply _ _ _ _ r k).trans (hidRow_congr (xRows_apply 768 _ (by omega) x0 r) (norm_apply x2) (scale_apply i b hb x1) (shift_apply i b hb x1) k)

/-! ## The output blocks at a row -/

/-- A column chunk of a row's product with the weights. -/
def projRow (b : Fin 8) (x0 : Vec Ideal S1x1024x1024 .f32) (x1 : Vec Ideal S8x3072 .f32) (x2 : Vec Ideal S1x1024 .f32) (w : Vec Ideal S1024x3072 .bf16)
    (o : ℕ) (ho : o + 512 ≤ 3072) (r : Fin 1024) (d : Fin 512) : EReal :=
  prodRow (inRow b x0 x1 x2 r) (fun k d => w (ix2 k ⟨o + d.val, by omega⟩)) d

section
variable (i : grid0.Coords) (b : Fin 8) (hb : (i 0).val = b.val) (x0 : Vec Ideal S1x1024x1024 .f32) (x1 : Vec Ideal S8x3072 .f32) (x2 : Vec Ideal S1x1024 .f32)
  (x3 : Vec Ideal S8x1024 .i32) (x4 : Vec Ideal S1x128 .f32) (w : Vec Ideal S1024x3072 .bf16)

include hb
theorem prod0_apply (o : ℕ) (inb : ∀ a, ![0, o] a + S1024x512.size a ≤ S1024x3072.size a) (ho : o + 512 ≤ 3072) (r : Fin 256) (d : Fin 512) :
    prod (rows0 i x0 x1 x2) (View.ld w (Rect.unit (s := S1024x3072) ![0, o] S1024x512.size inb)) (ix2 r d) = projRow b x0 x1 x2 w o ho ⟨0 + r.val, by omega⟩ d :=
  (prod_apply _ _ r d).trans (prodRow_congr (rows0_apply i b hb x0 x1 x2 r) (cols_apply o inb ho w) d)
theorem turned0_apply (fr : Fin 32 → EReal) (hf : ∀ l : Fin 128, x4 (ix2 0 l) = fr ⟨l.val % 32, by omega⟩)
    (o : ℕ) (inb : ∀ a, ![0, o] a + S1024x512.size a ≤ S1024x3072.size a) (ho : o + 512 ≤ 3072) (r : Fin 256) (d : Fin 512) :
    turned (pos0 i x3) (freq x4) (prod (rows0 i x0 x1 x2) (View.ld w (Rect.unit (s := S1024x3072) ![0, o] S1024x512.size inb))) (ix2 r d)
      = rotRow (projRow b x0 x1 x2 w o ho ⟨0 + r.val, by omega⟩) (FloatOps.sitofp (F := Ideal) FTy.f32 (x3 (ix2 b ⟨0 + r.val, by omega⟩))) fr d :=
  (turned_apply _ _ fr (fun l => (freq_apply x4 l).trans (hf l)) _ r d).trans
    (rotRow_congr (prod0_apply i b hb x0 x1 x2 w o inb ho r) (congrArg (FloatOps.sitofp (F := Ideal) FTy.f32) (pos0_apply i b hb x3 r)) (fun _ => rfl) d)
theorem prod256_apply (o : ℕ) (inb : ∀ a, ![0, o] a + S1024x512.size a ≤ S1024x3072.size a) (ho : o + 512 ≤ 3072) (r : Fin 256) (d : Fin 512) :
    prod (rows256 i x0 x1 x2) (View.ld w (Rect.unit (s := S1024x3072) ![0, o] S1024x512.size inb)) (ix2 r d) = projRow b x0 x1 x2 w o ho ⟨256 + r.val, by omega⟩ d :=
  (prod_apply _ _ r d).trans (prodRow_congr (rows256_apply i b hb x0 x1 x2 r) (cols_apply o inb ho w) d)
theorem turned256_apply (fr : Fin 32 → EReal) (hf : ∀ l : Fin 128, x4 (ix2 0 l) = fr ⟨l.val % 32, by omega⟩)
    (o : ℕ) (inb : ∀ a, ![0, o] a + S1024x512.size a ≤ S1024x3072.size a) (ho : o + 512 ≤ 3072) (r : Fin 256) (d : Fin 512) :
    turned (pos256 i x3) (freq x4) (prod (rows256 i x0 x1 x2) (View.ld w (Rect.unit (s := S1024x3072) ![0, o] S1024x512.size inb))) (ix2 r d)
      = rotRow (projRow b x0 x1 x2 w o ho ⟨256 + r.val, by omega⟩) (FloatOps.sitofp (F := Ideal) FTy.f32 (x3 (ix2 b ⟨256 + r.val, by omega⟩))) fr d :=
  (turned_apply _ _ fr (fun l => (freq_apply x4 l).trans (hf l)) _ r d).trans
    (rotRow_congr (prod256_apply i b hb x0 x1 x2 w o inb ho r) (congrArg (FloatOps.sitofp (F := Ideal) FTy.f32) (pos256_apply i b hb x3 r)) (fun _ => rfl) d)
theorem prod512_apply (o : ℕ) (inb : ∀ a, ![0, o] a + S1024x512.size a ≤ S1024x3072.size a) (ho : o + 512 ≤ 3072) (r : Fin 256) (d : Fin 512) :
    prod (rows512 i x0 x1 x2) (View.ld w (Rect.unit (s := S1024x3072) ![0, o] S1024x512.size inb)) (ix2 r d) = projRow b x0 x1 x2 w o ho ⟨512 + r.val, by omega⟩ d :=
  (prod_apply _ _ r d).trans (prodRow_congr (rows512_apply i b hb x0 x1 x2 r) (cols_apply o inb ho w) d)
theorem turned512_apply (fr : Fin 32 → EReal) (hf : ∀ l : Fin 128, x4 (ix2 0 l) = fr ⟨l.val % 32, by omega⟩)
    (o : ℕ) (inb : ∀ a, ![0, o] a + S1024x512.size a ≤ S1024x3072.size a) (ho : o + 512 ≤ 3072) (r : Fin 256) (d : Fin 512) :
    turned (pos512 i x3) (freq x4) (prod (rows512 i x0 x1 x2) (View.ld w (Rect.unit (s := S1024x3072) ![0, o] S1024x512.size inb))) (ix2 r d)
      = rotRow (projRow b x0 x1 x2 w o ho ⟨512 + r.val, by omega⟩) (FloatOps.sitofp (F := Ideal) FTy.f32 (x3 (ix2 b ⟨512 + r.val, by omega⟩))) fr d :=
  (turned_apply _ _ fr (fun l => (freq_apply x4 l).trans (hf l)) _ r d).trans
    (rotRow_congr (prod512_apply i b hb x0 x1 x2 w o inb ho r) (congrArg (FloatOps.sitofp (F := Ideal) FTy.f32) (pos512_apply i b hb x3 r)) (fun _ => rfl) d)
theorem prod768_apply (o : ℕ) (inb : ∀ a, ![0, o] a + S1024x512.size a ≤ S1024x3072.size a) (ho : o + 512 ≤ 3072) (r : Fin 256) (d : Fin 512) :
    prod (rows768 i x0 x1 x2) (View.ld w (Rect.unit (s := S1024x3072) ![0, o] S1024x512.size inb)) (ix2 r d) = projRow b x0 x1 x2 w o ho ⟨768 + r.val, by omega⟩ d :=
  (prod_apply _ _ r d).trans (prodRow_congr (rows768_apply i b hb x0 x1 x2 r) (cols_apply o inb ho w) d)
theorem turned768_apply (fr : Fin 32 → EReal) (hf : ∀ l : Fin 128, x4 (ix2 0 l) = fr ⟨l.val % 32, by omega⟩)
    (o : ℕ) (inb : ∀ a, ![0, o] a + S1024x512.size a ≤ S1024x3072.size a) (ho : o + 512 ≤ 3072) (r : Fin 256) (d : Fin 512) :
    turned (pos768 i x3) (freq x4) (prod (rows768 i x0 x1 x2) (View.ld w (Rect.unit (s := S1024x3072) ![0, o] S1024x512.size inb))) (ix2 r d)
      = rotRow (projRow b x0 x1 x2 w o ho ⟨768 + r.val, by omega⟩) (FloatOps.sitofp (F := Ideal) FTy.f32 (x3 (ix2 b ⟨768 + r.val, by omega⟩))) fr d :=
  (turned_apply _ _ fr (fun l => (freq_apply x4 l).trans (hf l)) _ r d).trans
    (rotRow_congr (prod768_apply i b hb x0 x1 x2 w o inb ho r) (congrArg (FloatOps.sitofp (F := Ideal) FTy.f32) (pos768_apply i b hb x3 r)) (fun _ => rfl) d)
theorem left6_apply (r : Fin 1024) (d : Fin 512) :
    (left6 i x0 x1 x2 x3 x4 w : S1x1024x512.Idx → EReal) (ix3 0 r d) = projRow b x0 x1 x2 w 0 (by omega) r d := by
  unfold left6
  refine stores_apply (e := .f32) _ _ _ _ (projRow b x0 x1 x2 w 0 (by omega)) ?_ ?_ ?_ ?_ r d
  · exact fun r d => (kept_apply _ r d).trans (prod0_apply i b hb x0 x1 x2 w 0 _ _ r d)
  · exact fun r d => (kept_apply _ r d).trans (prod256_apply i b hb x0 x1 x2 w 0 _ _ r d)
  · exact fun r d => (kept_apply _ r d).trans (prod512_apply i b hb x0 x1 x2 w 0 _ _ r d)
  · exact fun r d => (kept_apply _ r d).trans (prod768_apply i b hb x0 x1 x2 w 0 _ _ r d)
theorem left7_apply (r : Fin 1024) (d : Fin 512) :
    (left7 i x0 x1 x2 x3 x4 w : S1x1024x512.Idx → EReal) (ix3 0 r d) = projRow b x0 x1 x2 w 512 (by omega) r d := by
  unfold left7
  refine stores_apply (e := .f32) _ _ _ _ (projRow b x0 x1 x2 w 512 (by omega)) ?_ ?_ ?_ ?_ r d
  · exact fun r d => (kept_apply _ r d).trans (prod0_apply i b hb x0 x1 x2 w 512 _ _ r d)
  · exact fun r d => (kept_apply _ r d).trans (prod256_apply i b hb x0 x1 x2 w 512 _ _ r d)
  · exact fun r d => (kept_apply _ r d).trans (prod512_apply i b hb x0 x1 x2 w 512 _ _ r d)
  · exact fun r d => (kept_apply _ r d).trans (prod768_apply i b hb x0 x1 x2 w 512 _ _ r d)
theorem left8_apply (fr : Fin 32 → EReal) (hf : ∀ l : Fin 128, x4 (ix2 0 l) = fr ⟨l.val % 32, by omega⟩) (r : Fin 1024) (d : Fin 512) :
    (left8 i x0 x1 x2 x3 x4 w : S1x1024x512.Idx → EReal) (ix3 0 r d) = rotRow (projRow b x0 x1 x2 w 1024 (by omega) r) (FloatOps.sitofp (F := Ideal) FTy.f32 (x3 (ix2 b r))) fr d * Ideal.ofBits .f32 0x3E38AA3B#32 := by
  unfold left8
  refine stores_apply (e := .f32) _ _ _ _ (fun r d => rotRow (projRow b x0 x1 x2 w 1024 (by omega) r) (FloatOps.sitofp (F := Ideal) FTy.f32 (x3 (ix2 b r))) fr d * Ideal.ofBits .f32 0x3E38AA3B#32) ?_ ?_ ?_ ?_ r d
  · exact fun r d => (kept_apply _ r d).trans ((scaled_apply _ r d).trans (congrArg (· * Ideal.ofBits .f32 0x3E38AA3B#32) (turned0_apply i b hb x0 x1 x2 x3 x4 w fr hf 1024 _ _ r d)))
  · exact fun r d => (kept_apply _ r d).trans ((scaled_apply _ r d).trans (congrArg (· * Ideal.ofBits .f32 0x3E38AA3B#32) (turned256_apply i b hb x0 x1 x2 x3 x4 w fr hf 1024 _ _ r d)))
  · exact fun r d => (kept_apply _ r d).trans ((scaled_apply _ r d).trans (congrArg (· * Ideal.ofBits .f32 0x3E38AA3B#32) (turned512_apply i b hb x0 x1 x2 x3 x4 w fr hf 1024 _ _ r d)))
  · exact fun r d => (kept_apply _ r d).trans ((scaled_apply _ r d).trans (congrArg (· * Ideal.ofBits .f32 0x3E38AA3B#32) (turned768_apply i b hb x0 x1 x2 x3 x4 w fr hf 1024 _ _ r d)))
theorem left9_apply (fr : Fin 32 → EReal) (hf : ∀ l : Fin 128, x4 (ix2 0 l) = fr ⟨l.val % 32, by omega⟩) (r : Fin 1024) (d : Fin 512) :
    (left9 i x0 x1 x2 x3 x4 w : S1x1024x512.Idx → EReal) (ix3 0 r d) = rotRow (projRow b x0 x1 x2 w 1536 (by omega) r) (FloatOps.sitofp (F := Ideal) FTy.f32 (x3 (ix2 b r))) fr d := by
  unfold left9
  refine stores_apply (e := .f32) _ _ _ _ (fun r d => rotRow (projRow b x0 x1 x2 w 1536 (by omega) r) (FloatOps.sitofp (F := Ideal) FTy.f32 (x3 (ix2 b r))) fr d) ?_ ?_ ?_ ?_ r d
  · exact fun r d => (kept_apply _ r d).trans (turned0_apply i b hb x0 x1 x2 x3 x4 w fr hf 1536 _ _ r d)
  · exact fun r d => (kept_apply _ r d).trans (turned256_apply i b hb x0 x1 x2 x3 x4 w fr hf 1536 _ _ r d)
  · exact fun r d => (kept_apply _ r d).trans (turned512_apply i b hb x0 x1 x2 x3 x4 w fr hf 1536 _ _ r d)
  · exact fun r d => (kept_apply _ r d).trans (turned768_apply i b hb x0 x1 x2 x3 x4 w fr hf 1536 _ _ r d)
theorem left10_apply (r : Fin 1024) (d : Fin 512) :
    (left10 i x0 x1 x2 x3 x4 w : S1x1024x512.Idx → EReal) (ix3 0 r d) = projRow b x0 x1 x2 w 2048 (by omega) r d := by
  unfold left10
  refine stores_apply (e := .f32) _ _ _ _ (projRow b x0 x1 x2 w 2048 (by omega)) ?_ ?_ ?_ ?_ r d
  · exact fun r d => (kept_apply _ r d).trans (prod0_apply i b hb x0 x1 x2 w 2048 _ _ r d)
  · exact fun r d => (kept_apply _ r d).trans (prod256_apply i b hb x0 x1 x2 w 2048 _ _ r d)
  · exact fun r d => (kept_apply _ r d).trans (prod512_apply i b hb x0 x1 x2 w 2048 _ _ r d)
  · exact fun r d => (kept_apply _ r d).trans (prod768_apply i b hb x0 x1 x2 w 2048 _ _ r d)
theorem left11_apply (r : Fin 1024) (d : Fin 512) :
    (left11 i x0 x1 x2 x3 x4 w : S1x1024x512.Idx → EReal) (ix3 0 r d) = projRow b x0 x1 x2 w 2560 (by omega) r d := by
  unfold left11
  refine stores_apply (e := .bf16) _ _ _ _ (projRow b x0 x1 x2 w 2560 (by omega)) ?_ ?_ ?_ ?_ r d
  · exact fun r d => (keptShort_apply _ r d).trans (prod0_apply i b hb x0 x1 x2 w 2560 _ _ r d)
  · exact fun r d => (keptShort_apply _ r d).trans (prod256_apply i b hb x0 x1 x2 w 2560 _ _ r d)
  · exact fun r d => (keptShort_apply _ r d).trans (prod512_apply i b hb x0 x1 x2 w 2560 _ _ r d)
  · exact fun r d => (keptShort_apply _ r d).trans (prod768_apply i b hb x0 x1 x2 w 2560 _ _ r d)

end

end Cert.Proof.In

end
-- ==== Proof.InFirst.lean ====
/-
  What a point leaves in each output block: the first point, which stores the weights it then reads.
-/
module

public import proofs.«01_k».proof.Proof.InTerms

@[expose] public section

set_option maxRecDepth 16384

noncomputable section

namespace Cert.Proof.In

open Cert.Kernel2Ideal Cert.Kernel2Ideal.Gen
open Idealize.ShloMosaic Idealize.ShloMosaic.TcCoe Idealize.ShloMosaic.Tactic Idealize.SL.Sem

variable {F : FTy → Type} [FloatOps F]

variable (c : Dev nD) (i : grid0.Coords) (a2 : Memref sig .tc .vmem S1x1024x1024 .f32) (h2 : a2.IsWhole) (a3 : Memref sig .tc .vmem S8x3072 .f32) (h3 : a3.IsWhole) (a4 : Memref sig .tc .vmem S1x1024 .f32) (h4 : a4.IsWhole) (a5 : Memref sig .tc .vmem S8x1024 .i32) (h5 : a5.IsWhole) (a6 : Memref sig .tc .vmem S1x128 .f32) (h6 : a6.IsWhole) (a7 : Memref sig .tc .vmem S1024x3072 .f32) (h7 : a7.IsWhole) (a8 : Memref sig .tc .vmem S1x1024x512 .f32) (h8 : a8.IsWhole) (a9 : Memref sig .tc .vmem S1x1024x512 .f32) (h9 : a9.IsWhole) (a10 : Memref sig .tc .vmem S1x1024x512 .f32) (h10 : a10.IsWhole) (a11 : Memref sig .tc .vmem S1x1024x512 .f32) (h11 : a11.IsWhole) (a12 : Memref sig .tc .vmem S1x1024x512 .f32) (h12 : a12.IsWhole) (a13 : Memref sig .tc .vmem S1x1024x512 .bf16) (h13 : a13.IsWhole) (a14 : Memref sig .tc .vmem S1024x3072 .bf16) (h14 : a14.IsWhole) (x0 : Vec F S1x1024x1024 .f32) (x1 : Vec F S8x3072 .f32) (x2 : Vec F S1x1024 .f32) (x3 : Vec F S8x1024 .i32) (x4 : Vec F S1x128 .f32) (x5 : Vec F S1024x3072 .f32)

set_option maxHeartbeats 4000000 in
theorem out_A_6 (hc0 : cond0_0 i) : out0_A_6 c i a2 h2 a3 h3 a4 h4 a5 h5 a6 h6 a7 h7 a8 h8 a9 h9 a10 h10 a11 h11 a12 h12 a13 h13 a14 h14 hc0 x0 x1 x2 x3 x4 x5 = left6 i x0 x1 x2 x3 x4 (View.canon (wStores x5)) := by
  unfold out0_A_6
  rw [View.read_writes_eq_canon _ _ _ (cover0_A_6 c i a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_eq_canon', View.readAt_eq_ld, h2.read_unread, h3.read_unread, h4.read_unread, h5.read_unread, h6.read_unread, h7.read_unread]
  rfl

set_option maxHeartbeats 4000000 in
theorem out_A_7 (hc0 : cond0_0 i) : out0_A_7 c i a2 h2 a3 h3 a4 h4 a5 h5 a6 h6 a7 h7 a8 h8 a9 h9 a10 h10 a11 h11 a12 h12 a13 h13 a14 h14 hc0 x0 x1 x2 x3 x4 x5 = left7 i x0 x1 x2 x3 x4 (View.canon (wStores x5)) := by
  unfold out0_A_7
  rw [View.read_writes_eq_canon _ _ _ (cover0_A_7 c i a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_eq_canon', View.readAt_eq_ld, h2.read_unread, h3.read_unread, h4.read_unread, h5.read_unread, h6.read_unread, h7.read_unread]
  rfl

set_option maxHeartbeats 4000000 in
theorem out_A_8 (hc0 : cond0_0 i) : out0_A_8 c i a2 h2 a3 h3 a4 h4 a5 h5 a6 h6 a7 h7 a8 h8 a9 h9 a10 h10 a11 h11 a12 h12 a13 h13 a14 h14 hc0 x0 x1 x2 x3 x4 x5 = left8 i x0 x1 x2 x3 x4 (View.canon (wStores x5)) := by
  unfold out0_A_8
  rw [View.read_writes_eq_canon _ _ _ (cover0_A_8 c i a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_eq_canon', View.readAt_eq_ld, h2.read_unread, h3.read_unread, h4.read_unread, h5.read_unread, h6.read_unread, h7.read_unread]
  rfl

set_option maxHeartbeats 4000000 in
theorem out_A_9 (hc0 : cond0_0 i) : out0_A_9 c i a2 h2 a3 h3 a4 h4 a5 h5 a6 h6 a7 h7 a8 h8 a9 h9 a10 h10 a11 h11 a12 h12 a13 h13 a14 h14 hc0 x0 x1 x2 x3 x4 x5 = left9 i x0 x1 x2 x3 x4 (View.canon (wStores x5)) := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_eq_canon', View.readAt_eq_ld, h2.read_unread, h3.read_unread, h4.read_unread, h5.read_unread, h6.read_unread, h7.read_unread]
  rfl

set_option maxHeartbeats 4000000 in
theorem out_A_10 (hc0 : cond0_0 i) : out0_A_10 c i a2 h2 a3 h3 a4 h4 a5 h5 a6 h6 a7 h7 a8 h8 a9 h9 a10 h10 a11 h11 a12 h12 a13 h13 a14 h14 hc0 x0 x1 x2 x3 x4 x5 = left10 i x0 x1 x2 x3 x4 (View.canon (wStores x5)) := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_eq_canon', View.readAt_eq_ld, h2.read_unread, h3.read_unread, h4.read_unread, h5.read_unread, h6.read_unread, h7.read_unread]
  rfl

set_option maxHeartbeats 4000000 in
theorem out_A_11 (hc0 : cond0_0 i) : out0_A_11 c i a2 h2 a3 h3 a4 h4 a5 h5 a6 h6 a7 h7 a8 h8 a9 h9 a10 h10 a11 h11 a12 h12 a13 h13 a14 h14 hc0 x0 x1 x2 x3 x4 x5 = left11 i x0 x1 x2 x3 x4 (View.canon (wStores x5)) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_eq_canon', View.readAt_eq_ld, h2.read_unread, h3.read_unread, h4.read_unread, h5.read_unread, h6.read_unread, h7.read_unread]
  rfl

theorem scratch_A (hc0 : cond0_0 i) : sout0_A_0 c i a2 h2 a3 h3 a4 h4 a5 h5 a6 h6 a7 h7 a8 h8 a9 h9 a10 h10 a11 h11 a12 h12 a13 h13 a14 h14 hc0 x0 x1 x2 x3 x4 x5 = View.canon (wStores x5) := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readAt_eq_ld, h7.read_unread]
  rfl

end Cert.Proof.In

end
-- ==== Proof.InLater.lean ====
/-
  What a point leaves in each output block: every point but the first, over the weights the first stored.
-/
module

public import proofs.«01_k».proof.Proof.InTerms

@[expose] public section

set_option maxRecDepth 16384

noncomputable section

namespace Cert.Proof.In

open Cert.Kernel2Ideal Cert.Kernel2Ideal.Gen
open Idealize.ShloMosaic Idealize.ShloMosaic.TcCoe Idealize.ShloMosaic.Tactic Idealize.SL.Sem

variable {F : FTy → Type} [FloatOps F]

variable (c : Dev nD) (i : grid0.Coords) (a2 : Memref sig .tc .vmem S1x1024x1024 .f32) (h2 : a2.IsWhole) (a3 : Memref sig .tc .vmem S8x3072 .f32) (h3 : a3.IsWhole) (a4 : Memref sig .tc .vmem S1x1024 .f32) (h4 : a4.IsWhole) (a5 : Memref sig .tc .vmem S8x1024 .i32) (h5 : a5.IsWhole) (a6 : Memref sig .tc .vmem S1x128 .f32) (h6 : a6.IsWhole) (a7 : Memref sig .tc .vmem S1024x3072 .f32) (h7 : a7.IsWhole) (a8 : Memref sig .tc .vmem S1x1024x512 .f32) (h8 : a8.IsWhole) (a9 : Memref sig .tc .vmem S1x1024x512 .f32) (h9 : a9.IsWhole) (a10 : Memref sig .tc .vmem S1x1024x512 .f32) (h10 : a10.IsWhole) (a11 : Memref sig .tc .vmem S1x1024x512 .f32) (h11 : a11.IsWhole) (a12 : Memref sig .tc .vmem S1x1024x512 .f32) (h12 : a12.IsWhole) (a13 : Memref sig .tc .vmem S1x1024x512 .bf16) (h13 : a13.IsWhole) (a14 : Memref sig .tc .vmem S1024x3072 .bf16) (h14 : a14.IsWhole) (x0 : Vec F S1x1024x1024 .f32) (x1 : Vec F S8x3072 .f32) (x2 : Vec F S1x1024 .f32) (x3 : Vec F S8x1024 .i32) (x4 : Vec F S1x128 .f32) (x5 : Vec F S1024x3072 .f32)

set_option maxHeartbeats 4000000 in
theorem out_B_6 (hc0 : ¬cond0_0 i) (xs0 : Vec F S1024x3072 .bf16) : out0_B_6 c i a2 h2 a3 h3 a4 h4 a5 h5 a6 h6 a7 h7 a8 h8 a9 h9 a10 h10 a11 h11 a12 h12 a13 h13 a14 h14 hc0 x0 x1 x2 x3 x4 x5 xs0 = left6 i x0 x1 x2 x3 x4 xs0 := by
  unfold out0_B_6
  rw [View.read_writes_eq_canon _ _ _ (cover0_B_6 c i a2 h2 a3 h3 a4 h4 a5 h5 a6 h6 a7 h7 a8 h8 a9 h9 a10 h10 a11 h11 a12 h12 a13 h13 a14 h14 hc0 x0 x1 x2 x3 x4 x5 xs0)]
  unfold kernelRun0_B
  dsimp only
  sl_unfold_words
  simp only [View.readAt_eq_ld, h2.read_unread, h3.read_unread, h4.read_unread, h5.read_unread, h6.read_unread, h7.read_unread, h14.read_unread]
  rfl

set_option maxHeartbeats 4000000 in
theorem out_B_7 (hc0 : ¬cond0_0 i) (xs0 : Vec F S1024x3072 .bf16) : out0_B_7 c i a2 h2 a3 h3 a4 h4 a5 h5 a6 h6 a7 h7 a8 h8 a9 h9 a10 h10 a11 h11 a12 h12 a13 h13 a14 h14 hc0 x0 x1 x2 x3 x4 x5 xs0 = left7 i x0 x1 x2 x3 x4 xs0 := by
  unfold out0_B_7
  rw [View.read_writes_eq_canon _ _ _ (cover0_B_7 c i a2 h2 a3 h3 a4 h4 a5 h5 a6 h6 a7 h7 a8 h8 a9 h9 a10 h10 a11 h11 a12 h12 a13 h13 a14 h14 hc0 x0 x1 x2 x3 x4 x5 xs0)]
  unfold kernelRun0_B
  dsimp only
  sl_unfold_words
  simp only [View.readAt_eq_ld, h2.read_unread, h3.read_unread, h4.read_unread, h5.read_unread, h6.read_unread, h7.read_unread, h14.read_unread]
  rfl

set_option maxHeartbeats 4000000 in
theorem out_B_8 (hc0 : ¬cond0_0 i) (xs0 : Vec F S1024x3072 .bf16) : out0_B_8 c i a2 h2 a3 h3 a4 h4 a5 h5 a6 h6 a7 h7 a8 h8 a9 h9 a10 h10 a11 h11 a12 h12 a13 h13 a14 h14 hc0 x0 x1 x2 x3 x4 x5 xs0 = left8 i x0 x1 x2 x3 x4 xs0 := by
  unfold out0_B_8
  rw [View.read_writes_eq_canon _ _ _ (cover0_B_8 c i a2 h2 a3 h3 a4 h4 a5 h5 a6 h6 a7 h7 a8 h8 a9 h9 a10 h10 a11 h11 a12 h12 a13 h13 a14 h14 hc0 x0 x1 x2 x3 x4 x5 xs0)]
  unfold kernelRun0_B
  dsimp only
  sl_unfold_words
  simp only [View.readAt_eq_ld, h2.read_unread, h3.read_unread, h4.read_unread, h5.read_unread, h6.read_unread, h7.read_unread, h14.read_unread]
  rfl

set_option maxHeartbeats 4000000 in
theorem out_B_9 (hc0 : ¬cond0_0 i) (xs0 : Vec F S1024x3072 .bf16) : out0_B_9 c i a2 h2 a3 h3 a4 h4 a5 h5 a6 h6 a7 h7 a8 h8 a9 h9 a10 h10 a11 h11 a12 h12 a13 h13 a14 h14 hc0 x0 x1 x2 x3 x4 x5 xs0 = left9 i x0 x1 x2 x3 x4 xs0 := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 hc0 x0 x1 x2 x3 x4 x5 xs0)]
  unfold kernelRun0_B
  dsimp only
  sl_unfold_words
  simp only [View.readAt_eq_ld, h2.read_unread, h3.read_unread, h4.read_unread, h5.read_unread, h6.read_unread, h7.read_unread, h14.read_unread]
  rfl

set_option maxHeartbeats 4000000 in
theorem out_B_10 (hc0 : ¬cond0_0 i) (xs0 : Vec F S1024x3072 .bf16) : out0_B_10 c i a2 h2 a3 h3 a4 h4 a5 h5 a6 h6 a7 h7 a8 h8 a9 h9 a10 h10 a11 h11 a12 h12 a13 h13 a14 h14 hc0 x0 x1 x2 x3 x4 x5 xs0 = left10 i x0 x1 x2 x3 x4 xs0 := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 hc0 x0 x1 x2 x3 x4 x5 xs0)]
  unfold kernelRun0_B
  dsimp only
  sl_unfold_words
  simp only [View.readAt_eq_ld, h2.read_unread, h3.read_unread, h4.read_unread, h5.read_unread, h6.read_unread, h7.read_unread, h14.read_unread]
  rfl

set_option maxHeartbeats 4000000 in
theorem out_B_11 (hc0 : ¬cond0_0 i) (xs0 : Vec F S1024x3072 .bf16) : out0_B_11 c i a2 h2 a3 h3 a4 h4 a5 h5 a6 h6 a7 h7 a8 h8 a9 h9 a10 h10 a11 h11 a12 h12 a13 h13 a14 h14 hc0 x0 x1 x2 x3 x4 x5 xs0 = left11 i x0 x1 x2 x3 x4 xs0 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 hc0 x0 x1 x2 x3 x4 x5 xs0)]
  unfold kernelRun0_B
  dsimp only
  sl_unfold_words
  simp only [View.readAt_eq_ld, h2.read_unread, h3.read_unread, h4.read_unread, h5.read_unread, h6.read_unread, h7.read_unread, h14.read_unread]
  rfl

end Cert.Proof.In

end
-- ==== Proof.InPoint.lean ====
/-
  The arrays after the run: every row is the row its grid point left, over the weights the first point stored.
-/
module

public import proofs.«01_k».proof.Proof.InFirst
public import proofs.«01_k».proof.Proof.InLater
public import proofs.«01_k».proof.Proof.Gen.Kernel2Ideal.Value
public import Idealize.ShloMosaic.Lib.Pointwise

@[expose] public section

set_option maxRecDepth 16384

noncomputable section

namespace Cert.Proof.In

open Cert.Kernel2Ideal Cert.Kernel2Ideal.Gen
open Idealize.ShloMosaic Idealize.ShloMosaic.TcCoe Idealize.SL.Sem

variable {F : FTy → Type} [FloatOps F]
variable (m : (ℓ : Loc nD τ sig) → Buf (Elt F) ℓ) (c : Dev nD)

/-- The first grid point. -/
def first : Fin cfg0.N := ⟨0, lt_of_lt_of_eq (by omega) N_0.symm⟩
/-- The weights the first point stores. -/
def wKept : Vec F S1024x3072 .bf16 := View.canon (wStores (iblk m c 5 first))

set_option maxHeartbeats 2000000 in
/-- Every point leaves the weights as the first stored them. -/
theorem scratch_eq : ∀ (n : ℕ) (hn : n < cfg0.N), (outsAt0 m c n hn).2.2.2.2.2.2 = wKept m c
  | 0, hn => by
    have e := outsAt0_A m c first (Nat.zero_mod _)
    show (outsAt0 m c first.val first.isLt).2.2.2.2.2.2 = _
    simp only [e]
    rw [scratch_A, wKept]
  | n + 1, hn => by
    have h : ¬ (n + 1) % 16 = 0 := by have h16 : n + 1 < 16 := lt_of_lt_of_eq hn N_0; omega
    have e := outsAt0_B m c ⟨n + 1, hn⟩ h
    show (outsAt0 m c (⟨n + 1, hn⟩ : Fin cfg0.N).val (⟨n + 1, hn⟩ : Fin cfg0.N).isLt).2.2.2.2.2.2 = _
    simp only [e]
    exact scratch_eq n _

set_option maxHeartbeats 2000000 in
theorem point6 (t : Fin cfg0.N) : (outsAt0 m c t.val t.isLt).1 = left6 (grid0.coords t) (iblk m c 0 t) (iblk m c 1 t) (iblk m c 2 t) (iblk m c 3 t) (iblk m c 4 t) (wKept m c) := by
  by_cases h : t.val % 16 = 0
  · have e : t = first := Fin.ext (by have h16 : t.val < 16 := lt_of_lt_of_eq t.isLt N_0; show t.val = 0; omega)
    simp only [outsAt0_A m c t h]
    rw [out_A_6, e, wKept]
  · simp only [outsAt0_B m c t h]
    rw [out_B_6, scratch_eq]
set_option maxHeartbeats 2000000 in
theorem point7 (t : Fin cfg0.N) : (outsAt0 m c t.val t.isLt).2.1 = left7 (grid0.coords t) (iblk m c 0 t) (iblk m c 1 t) (iblk m c 2 t) (iblk m c 3 t) (iblk m c 4 t) (wKept m c) := by
  by_cases h : t.val % 16 = 0
  · have e : t = first := Fin.ext (by have h16 : t.val < 16 := lt_of_lt_of_eq t.isLt N_0; show t.val = 0; omega)
    simp only [outsAt0_A m c t h]
    rw [out_A_7, e, wKept]
  · simp only [outsAt0_B m c t h]
    rw [out_B_7, scratch_eq]
set_option maxHeartbeats 2000000 in
theorem point8 (t : Fin cfg0.N) : (outsAt0 m c t.val t.isLt).2.2.1 = left8 (grid0.coords t) (iblk m c 0 t) (iblk m c 1 t) (iblk m c 2 t) (iblk m c 3 t) (iblk m c 4 t) (wKept m c) := by
  by_cases h : t.val % 16 = 0
  · have e : t = first := Fin.ext (by have h16 : t.val < 16 := lt_of_lt_of_eq t.isLt N_0; show t.val = 0; omega)
    simp only [outsAt0_A m c t h]
    rw [out_A_8, e, wKept]
  · simp only [outsAt0_B m c t h]
    rw [out_B_8, scratch_eq]
set_option maxHeartbeats 2000000 in
theorem point9 (t : Fin cfg0.N) : (outsAt0 m c t.val t.isLt).2.2.2.1 = left9 (grid0.coords t) (iblk m c 0 t) (iblk m c 1 t) (iblk m c 2 t) (iblk m c 3 t) (iblk m c 4 t) (wKept m c) := by
  by_cases h : t.val % 16 = 0
  · have e : t = first := Fin.ext (by have h16 : t.val < 16 := lt_of_lt_of_eq t.isLt N_0; show t.val = 0; omega)
    simp only [outsAt0_A m c t h]
    rw [out_A_9, e, wKept]
  · simp only [outsAt0_B m c t h]
    rw [out_B_9, scratch_eq]
set_option maxHeartbeats 2000000 in
theorem point10 (t : Fin cfg0.N) : (outsAt0 m c t.val t.isLt).2.2.2.2.1 = left10 (grid0.coords t) (iblk m c 0 t) (iblk m c 1 t) (iblk m c 2 t) (iblk m c 3 t) (iblk m c 4 t) (wKept m c) := by
  by_cases h : t.val % 16 = 0
  · have e : t = first := Fin.ext (by have h16 : t.val < 16 := lt_of_lt_of_eq t.isLt N_0; show t.val = 0; omega)
    simp only [outsAt0_A m c t h]
    rw [out_A_10, e, wKept]
  · simp only [outsAt0_B m c t h]
    rw [out_B_10, scratch_eq]
set_option maxHeartbeats 2000000 in
theorem point11 (t : Fin cfg0.N) : (outsAt0 m c t.val t.isLt).2.2.2.2.2.1 = left11 (grid0.coords t) (iblk m c 0 t) (iblk m c 1 t) (iblk m c 2 t) (iblk m c 3 t) (iblk m c 4 t) (wKept m c) := by
  by_cases h : t.val % 16 = 0
  · have e : t = first := Fin.ext (by have h16 : t.val < 16 := lt_of_lt_of_eq t.isLt N_0; show t.val = 0; omega)
    simp only [outsAt0_A m c t h]
    rw [out_A_11, e, wKept]
  · simp only [outsAt0_B m c t h]
    rw [out_B_11, scratch_eq]

/-- The grid point a result row is written by, -/
def ptOf (b : Fin 8) (t : Fin 2048) : Fin cfg0.N := ⟨2 * b.val + t.val / 1024, lt_of_lt_of_eq (by omega) N_0.symm⟩
/-- and the row's place in its block. -/
def plOf (t : Fin 2048) : Fin 1024 := ⟨t.val % 1024, by omega⟩

theorem result6 (b : Fin 8) (t : Fin 2048) (d : Fin 512) :
    (Value.G6 m c : S8x2048x512.Idx → Elt F .f32) (ix3 b t d) = left6 (grid0.coords (ptOf b t)) (iblk m c 0 (ptOf b t)) (iblk m c 1 (ptOf b t)) (iblk m c 2 (ptOf b t)) (iblk m c 3 (ptOf b t)) (iblk m c 4 (ptOf b t)) (wKept m c) (ix3 0 (plOf t) d) := by
  have ep : Value.pt6Of (ix3 b t d) = (ptOf b t).val := by
    show 2 * (b.val / 1 - 0) + 1 * (t.val / 1024 - 0) + 1 * (d.val / 512 - 0) = 2 * b.val + t.val / 1024
    omega
  have el : Value.loc6Of (ix3 b t d) = ix3 0 (plOf t) d := by
    funext a; apply Fin.ext
    match a with
    | ⟨0, _⟩ => show b.val % 1 = 0; omega
    | ⟨1, _⟩ => rfl
    | ⟨2, _⟩ => show d.val % 512 = d.val; omega
  rw [← point6 m c (ptOf b t), Value.outsAt0_sweep]
  unfold Value.G6
  rw [dif_pos (by rw [ep]; exact (ptOf b t).isLt), el, Value.fold0_congr m c _ _ _ _ ep]
theorem result7 (b : Fin 8) (t : Fin 2048) (d : Fin 512) :
    (Value.G7 m c : S8x2048x512.Idx → Elt F .f32) (ix3 b t d) = left7 (grid0.coords (ptOf b t)) (iblk m c 0 (ptOf b t)) (iblk m c 1 (ptOf b t)) (iblk m c 2 (ptOf b t)) (iblk m c 3 (ptOf b t)) (iblk m c 4 (ptOf b t)) (wKept m c) (ix3 0 (plOf t) d) := by
  have ep : Value.pt7Of (ix3 b t d) = (ptOf b t).val := by
    show 2 * (b.val / 1 - 0) + 1 * (t.val / 1024 - 0) + 1 * (d.val / 512 - 0) = 2 * b.val + t.val / 1024
    omega
  have el : Value.loc7Of (ix3 b t d) = ix3 0 (plOf t) d := by
    funext a; apply Fin.ext
    match a with
    | ⟨0, _⟩ => show b.val % 1 = 0; omega
    | ⟨1, _⟩ => rfl
    | ⟨2, _⟩ => show d.val % 512 = d.val; omega
  rw [← point7 m c (ptOf b t), Value.outsAt0_sweep]
  unfold Value.G7
  rw [dif_pos (by rw [ep]; exact (ptOf b t).isLt), el, Value.fold0_congr m c _ _ _ _ ep]
theorem result8 (b : Fin 8) (t : Fin 2048) (d : Fin 512) :
    (Value.G8 m c : S8x2048x512.Idx → Elt F .f32) (ix3 b t d) = left8 (grid0.coords (ptOf b t)) (iblk m c 0 (ptOf b t)) (iblk m c 1 (ptOf b t)) (iblk m c 2 (ptOf b t)) (iblk m c 3 (ptOf b t)) (iblk m c 4 (ptOf b t)) (wKept m c) (ix3 0 (plOf t) d) := by
  have ep : Value.pt8Of (ix3 b t d) = (ptOf b t).val := by
    show 2 * (b.val / 1 - 0) + 1 * (t.val / 1024 - 0) + 1 * (d.val / 512 - 0) = 2 * b.val + t.val / 1024
    omega
  have el : Value.loc8Of (ix3 b t d) = ix3 0 (plOf t) d := by
    funext a; apply Fin.ext
    match a with
    | ⟨0, _⟩ => show b.val % 1 = 0; omega
    | ⟨1, _⟩ => rfl
    | ⟨2, _⟩ => show d.val % 512 = d.val; omega
  rw [← point8 m c (ptOf b t), Value.outsAt0_sweep]
  unfold Value.G8
  rw [dif_pos (by rw [ep]; exact (ptOf b t).isLt), el, Value.fold0_congr m c _ _ _ _ ep]
theorem result9 (b : Fin 8) (t : Fin 2048) (d : Fin 512) :
    (Value.G9 m c : S8x2048x512.Idx → Elt F .f32) (ix3 b t d) = left9 (grid0.coords (ptOf b t)) (iblk m c 0 (ptOf b t)) (iblk m c 1 (ptOf b t)) (iblk m c 2 (ptOf b t)) (iblk m c 3 (ptOf b t)) (iblk m c 4 (ptOf b t)) (wKept m c) (ix3 0 (plOf t) d) := by
  have ep : Value.pt9Of (ix3 b t d) = (ptOf b t).val := by
    show 2 * (b.val / 1 - 0) + 1 * (t.val / 1024 - 0) + 1 * (d.val / 512 - 0) = 2 * b.val + t.val / 1024
    omega
  have el : Value.loc9Of (ix3 b t d) = ix3 0 (plOf t) d := by
    funext a; apply Fin.ext
    match a with
    | ⟨0, _⟩ => show b.val % 1 = 0; omega
    | ⟨1, _⟩ => rfl
    | ⟨2, _⟩ => show d.val % 512 = d.val; omega
  rw [← point9 m c (ptOf b t), Value.outsAt0_sweep]
  unfold Value.G9
  rw [dif_pos (by rw [ep]; exact (ptOf b t).isLt), el, Value.fold0_congr m c _ _ _ _ ep]
theorem result10 (b : Fin 8) (t : Fin 2048) (d : Fin 512) :
    (Value.G10 m c : S8x2048x512.Idx → Elt F .f32) (ix3 b t d) = left10 (grid0.coords (ptOf b t)) (iblk m c 0 (ptOf b t)) (iblk m c 1 (ptOf b t)) (iblk m c 2 (ptOf b t)) (iblk m c 3 (ptOf b t)) (iblk m c 4 (ptOf b t)) (wKept m c) (ix3 0 (plOf t) d) := by
  have ep : Value.pt10Of (ix3 b t d) = (ptOf b t).val := by
    show 2 * (b.val / 1 - 0) + 1 * (t.val / 1024 - 0) + 1 * (d.val / 512 - 0) = 2 * b.val + t.val / 1024
    omega
  have el : Value.loc10Of (ix3 b t d) = ix3 0 (plOf t) d := by
    funext a; apply Fin.ext
    match a with
    | ⟨0, _⟩ => show b.val % 1 = 0; omega
    | ⟨1, _⟩ => rfl
    | ⟨2, _⟩ => show d.val % 512 = d.val; omega
  rw [← point10 m c (ptOf b t), Value.outsAt0_sweep]
  unfold Value.G10
  rw [dif_pos (by rw [ep]; exact (ptOf b t).isLt), el, Value.fold0_congr m c _ _ _ _ ep]
theorem result11 (b : Fin 8) (t : Fin 2048) (d : Fin 512) :
    (Value.G11 m c : S8x2048x512.Idx → Elt F .bf16) (ix3 b t d) = left11 (grid0.coords (ptOf b t)) (iblk m c 0 (ptOf b t)) (iblk m c 1 (ptOf b t)) (iblk m c 2 (ptOf b t)) (iblk m c 3 (ptOf b t)) (iblk m c 4 (ptOf b t)) (wKept m c) (ix3 0 (plOf t) d) := by
  have ep : Value.pt11Of (ix3 b t d) = (ptOf b t).val := by
    show 2 * (b.val / 1 - 0) + 1 * (t.val / 1024 - 0) + 1 * (d.val / 512 - 0) = 2 * b.val + t.val / 1024
    omega
  have el : Value.loc11Of (ix3 b t d) = ix3 0 (plOf t) d := by
    funext a; apply Fin.ext
    match a with
    | ⟨0, _⟩ => show b.val % 1 = 0; omega
    | ⟨1, _⟩ => rfl
    | ⟨2, _⟩ => show d.val % 512 = d.val; omega
  rw [← point11 m c (ptOf b t), Value.outsAt0_sweep]
  unfold Value.G11
  rw [dif_pos (by rw [ep]; exact (ptOf b t).isLt), el, Value.fold0_congr m c _ _ _ _ ep]

end Cert.Proof.In

end
-- ==== Proof.InPlain.lean ====
/-
  What the second reference computes, read at an index on extended reals.
-/
module

public import proofs.«01_k».proof.Proof.InRow
public import proofs.«01_k».proof.Proof.Gen.Reference2Ideal.Run

@[expose] public section

set_option maxRecDepth 16384

noncomputable section

namespace Cert.Proof.PlainIn

open Cert.Reference2Ideal Cert.Reference2Ideal.Gen
open Idealize.ShloMosaic

/-- The rows normalized, scaled and shifted. -/
def hidden (x : Vec Ideal S8x2048x1024 .f32) (md : Vec Ideal S8x3072 .f32) (np : Vec Ideal S1x1024 .f32) : FVec Ideal S8x2048x1024 .f32 :=
  addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1
      (Host.reduceAdd (mulf x x) (constant S_ .f32 0x00000000#32) reducesTo_S8x2048x1024_S8x2048_d2 h_S_))
      (broadcastInDim S8x2048x1 ![] bcast_S_S8x2048x1 (constant S_ .f32 0x44800000#32))) (broadcastInDim S8x2048x1 ![] bcast_S_S8x2048x1 (constant S_ .f32 0x358637BD#32))))))
      (broadcastInDim S8x2048x1024 ![0, 1, 2] bcast_S1x1x1024_S8x2048x1024_0_1_2 (broadcastInDim S1x1x1024 ![2] bcast_S1024_S1x1x1024_2 (shapeCast _ np shapeCasts_S1x1024_S1024))))
      (broadcastInDim S8x2048x1024 ![0, 1, 2] bcast_S8x1x1024_S8x2048x1024_0_1_2 (addf (broadcastInDim S8x1x1024 ![] bcast_S_S8x1x1024 (constant S_ .f32 0x3F800000#32))
        (broadcastInDim S8x1x1024 ![0, 2] bcast_S8x1024_S8x1x1024_0_2 (extractStridedSlice S8x1024 ![0, 1024] md slices_S8x3072_S8x1024_0_1024)))))
    (broadcastInDim S8x2048x1024 ![0, 1, 2] bcast_S8x1x1024_S8x2048x1024_0_1_2 (broadcastInDim S8x1x1024 ![0, 2] bcast_S8x1024_S8x1x1024_0_2 (extractStridedSlice S8x1024 ![0, 0] md slices_S8x3072_S8x1024_0_0)))

/-- The rows times the weights. -/
def projected (h : FVec Ideal S8x2048x1024 .f32) (w : Vec Ideal S1x1024x3072 .f32) : FVec Ideal S8x2048x3072 .f32 :=
  Host.dotGeneral (φ₂ := .f32) dot_S8x2048x1024_S1024x3072_S8x2048x3072_2_0_01_1_n_n none h (shapeCast _ w shapeCasts_S1x1024x3072_S1024x3072)

/-- The rotation's frequencies, -/
def freqs : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- the angles, -/
def angles (p : Vec Ideal S8x2048 .i32) (f : FVec Ideal S32 .f32) : FVec Ideal S8x2048x32 .f32 :=
  mulf (broadcastInDim S8x2048x32 ![0, 1, 2] bcast_S8x2048x1_S8x2048x32_0_1_2 (broadcastInDim S8x2048x1 ![0, 1] bcast_S8x2048_S8x2048x1_0_1 (sitofp .f32 p)))
    (broadcastInDim S8x2048x32 ![0, 1, 2] bcast_S1x1x32_S8x2048x32_0_1_2 (broadcastInDim S1x1x32 ![2] bcast_S32_S1x1x32_2 f))

/-- the same angle for all heads. -/
def perHead (a : FVec Ideal S8x2048x32 .f32) : FVec Ideal S8x2048x8x32 .f32 :=
  broadcastInDim S8x2048x8x32 ![0, 1, 2, 3] bcast_S8x2048x1x32_S8x2048x8x32_0_1_2_3 (broadcastInDim S8x2048x1x32 ![0, 1, 3] bcast_S8x2048x32_S8x2048x1x32_0_1_3 a)

/-- The heads rotated. -/
def rotatedHeads (t : FVec Ideal S8x2048x512 .f32) (cs sn : FVec Ideal S8x2048x32 .f32) : FVec Ideal S8x2048x8x64 .f32 :=
  concatenate S8x2048x8x64 3 [⟨S8x2048x8x32, (subf
      (mulf (extractStridedSlice S8x2048x8x32 ![0, 0, 0, 0] (shapeCast _ t shapeCasts_S8x2048x512_S8x2048x8x64) slices_S8x2048x8x64_S8x2048x8x32_0_0_0_0) (perHead cs))
      (mulf (extractStridedSlice S8x2048x8x32 ![0, 0, 0, 32] (shapeCast _ t shapeCasts_S8x2048x512_S8x2048x8x64) slices_S8x2048x8x64_S8x2048x8x32_0_0_0_32) (perHead sn)))⟩,
    ⟨S8x2048x8x32, (addf
      (mulf (extractStridedSlice S8x2048x8x32 ![0, 0, 0, 32] (shapeCast _ t shapeCasts_S8x2048x512_S8x2048x8x64) slices_S8x2048x8x64_S8x2048x8x32_0_0_0_32) (perHead cs))
      (mulf (extractStridedSlice S8x2048x8x32 ![0, 0, 0, 0] (shapeCast _ t shapeCasts_S8x2048x512_S8x2048x8x64) slices_S8x2048x8x64_S8x2048x8x32_0_0_0_0) (perHead sn)))⟩] concatenates_S8x2048x8x32_S8x2048x8x32_S8x2048x8x64_d3

/-- A chunk of 512 columns, for each of the six. -/
def chunk0 (v : FVec Ideal S8x2048x3072 .f32) : FVec Ideal S8x2048x512 .f32 := extractStridedSlice S8x2048x512 ![0, 0, 0] v slices_S8x2048x3072_S8x2048x512_0_0_0
def chunk512 (v : FVec Ideal S8x2048x3072 .f32) : FVec Ideal S8x2048x512 .f32 := extractStridedSlice S8x2048x512 ![0, 0, 512] v slices_S8x2048x3072_S8x2048x512_0_0_512
def chunk1024 (v : FVec Ideal S8x2048x3072 .f32) : FVec Ideal S8x2048x512 .f32 := extractStridedSlice S8x2048x512 ![0, 0, 1024] v slices_S8x2048x3072_S8x2048x512_0_0_1024
def chunk1536 (v : FVec Ideal S8x2048x3072 .f32) : FVec Ideal S8x2048x512 .f32 := extractStridedSlice S8x2048x512 ![0, 0, 1536] v slices_S8x2048x3072_S8x2048x512_0_0_1536
def chunk2048 (v : FVec Ideal S8x2048x3072 .f32) : FVec Ideal S8x2048x512 .f32 := extractStridedSlice S8x2048x512 ![0, 0, 2048] v slices_S8x2048x3072_S8x2048x512_0_0_2048
def chunk2560 (v : FVec Ideal S8x2048x3072 .f32) : FVec Ideal S8x2048x512 .bf16 := truncf .bf16 (extractStridedSlice S8x2048x512 ![0, 0, 2560] v slices_S8x2048x3072_S8x2048x512_0_0_2560) bitsLt_bf16_f32
def turnedScaled (t : FVec Ideal S8x2048x512 .f32) (a : FVec Ideal S8x2048x32 .f32) : FVec Ideal S8x2048x512 .f32 :=
  shapeCast _ (mulf (rotatedHeads t (Host.cos a) (Host.sin a)) (broadcastInDim S8x2048x8x64 ![] bcast_S_S8x2048x8x64 (constant S_ .f32 0x3E38AA3B#32))) shapeCasts_S8x2048x8x64_S8x2048x512
def turned (t : FVec Ideal S8x2048x512 .f32) (a : FVec Ideal S8x2048x32 .f32) : FVec Ideal S8x2048x512 .f32 :=
  shapeCast _ (rotatedHeads t (Host.cos a) (Host.sin a)) shapeCasts_S8x2048x8x64_S8x2048x512

/-! ## At an index -/

theorem hidden_apply (x : Vec Ideal S8x2048x1024 .f32) (md : Vec Ideal S8x3072 .f32) (np : Vec Ideal S1x1024 .f32) (b : Fin 8) (t : Fin 2048) (k : Fin 1024) :
    hidden x md np (ix3 b t k) = In.hidRow (fun l => x (ix3 b t l)) (fun l => np (ix2 0 l)) (fun l => md (ix2 b ⟨1024 + l.val, by omega⟩)) (fun l => md (ix2 b ⟨l.val, by omega⟩)) k := by
  pointwise [hidden]
  rfl
theorem projected_apply (h : FVec Ideal S8x2048x1024 .f32) (w : Vec Ideal S1x1024x3072 .f32) (b : Fin 8) (t : Fin 2048) (d : Fin 3072) :
    projected h w (ix3 b t d) = ∑ k : Fin 1024, h (ix3 b t k) * w (ix3 0 k d) := by
  pointwise [projected]
theorem angles_apply (p : Vec Ideal S8x2048 .i32) (f : FVec Ideal S32 .f32) (b : Fin 8) (t : Fin 2048) (l : Fin 32) :
    angles p f (ix3 b t l) = FloatOps.sitofp (F := Ideal) FTy.f32 (p (ix2 b t)) * f (ix1 l) := by
  pointwise [angles]
theorem rotatedHeads_apply (u : FVec Ideal S8x2048x512 .f32) (cs sn : FVec Ideal S8x2048x32 .f32) (b : Fin 8) (t : Fin 2048) (h : Fin 8) (d : Fin 64) :
    rotatedHeads u cs sn (ix4 b t h d) = if _ : d.val < 32 then
        u (ix3 b t ⟨h.val * 64 + d.val, by omega⟩) * cs (ix3 b t ⟨d.val, by omega⟩) - u (ix3 b t ⟨h.val * 64 + (32 + d.val), by omega⟩) * sn (ix3 b t ⟨d.val, by omega⟩)
      else
        u (ix3 b t ⟨h.val * 64 + (32 + (d.val - 32)), by omega⟩) * cs (ix3 b t ⟨d.val - 32, by omega⟩) + u (ix3 b t ⟨h.val * 64 + (d.val - 32), by omega⟩) * sn (ix3 b t ⟨d.val - 32, by omega⟩) := by
  pointwise [rotatedHeads, perHead]
theorem cos_apply (a : FVec Ideal S8x2048x32 .f32) (i : S8x2048x32.Idx) : Host.cos a i = Ideal.cos (a i) := rfl
theorem sin_apply (a : FVec Ideal S8x2048x32 .f32) (i : S8x2048x32.Idx) : Host.sin a i = Ideal.sin (a i) := rfl
/-- The rotated heads, a row at a time. -/
theorem rotated_apply (u : FVec Ideal S8x2048x512 .f32) (p : Vec Ideal S8x2048 .i32) (f : FVec Ideal S32 .f32) (b : Fin 8) (t : Fin 2048) (d : Fin 512) :
    rotatedHeads u (Host.cos (angles p f)) (Host.sin (angles p f)) (ix4 b t ⟨d.val / 64, by omega⟩ ⟨d.val % 64, by omega⟩)
      = In.rotRow (fun e => u (ix3 b t e)) (FloatOps.sitofp (F := Ideal) FTy.f32 (p (ix2 b t))) (fun l => f (ix1 l)) d := by
  have ku : ∀ q q' : Fin 512, q.val = q'.val → u (ix3 b t q) = u (ix3 b t q') := fun q q' h => by rw [Fin.ext h]
  have kf : ∀ q q' : Fin 32, q.val = q'.val → f (ix1 q) = f (ix1 q') := fun q q' h => by rw [Fin.ext h]
  rw [rotatedHeads_apply]
  unfold In.rotRow
  simp only [cos_apply, sin_apply, angles_apply]
  split
  · next h =>
    rw [ku ⟨d.val / 64 * 64 + d.val % 64, by omega⟩ d (by show d.val / 64 * 64 + d.val % 64 = d.val; omega),
      ku ⟨d.val / 64 * 64 + (32 + d.val % 64), by omega⟩ ⟨d.val + 32, by omega⟩ (by show d.val / 64 * 64 + (32 + d.val % 64) = d.val + 32; omega),
      kf ⟨d.val % 64, h⟩ ⟨d.val % 32, by omega⟩ (by show d.val % 64 = d.val % 32; omega)]
  · next h =>
    rw [ku ⟨d.val / 64 * 64 + (32 + (d.val % 64 - 32)), by omega⟩ d (by show d.val / 64 * 64 + (32 + (d.val % 64 - 32)) = d.val; omega),
      ku ⟨d.val / 64 * 64 + (d.val % 64 - 32), by omega⟩ ⟨d.val - 32, by omega⟩ (by show d.val / 64 * 64 + (d.val % 64 - 32) = d.val - 32; omega),
      kf ⟨d.val % 64 - 32, by omega⟩ ⟨d.val % 32, by omega⟩ (by show d.val % 64 - 32 = d.val % 32; omega)]
theorem turnedScaled_apply (u : FVec Ideal S8x2048x512 .f32) (p : Vec Ideal S8x2048 .i32) (f : FVec Ideal S32 .f32) (b : Fin 8) (t : Fin 2048) (d : Fin 512) :
    turnedScaled u (angles p f) (ix3 b t d) = In.rotRow (fun e => u (ix3 b t e)) (FloatOps.sitofp (F := Ideal) FTy.f32 (p (ix2 b t))) (fun l => f (ix1 l)) d * Ideal.ofBits .f32 0x3E38AA3B#32 := by
  rw [← rotated_apply]
  unfold turnedScaled
  generalize rotatedHeads u (Host.cos (angles p f)) (Host.sin (angles p f)) = z
  pointwise
theorem turned_apply (u : FVec Ideal S8x2048x512 .f32) (p : Vec Ideal S8x2048 .i32) (f : FVec Ideal S32 .f32) (b : Fin 8) (t : Fin 2048) (d : Fin 512) :
    turned u (angles p f) (ix3 b t d) = In.rotRow (fun e => u (ix3 b t e)) (FloatOps.sitofp (F := Ideal) FTy.f32 (p (ix2 b t))) (fun l => f (ix1 l)) d := by
  rw [← rotated_apply]
  unfold turned
  generalize rotatedHeads u (Host.cos (angles p f)) (Host.sin (angles p f)) = z
  pointwise

/-- An element of the product of the modulated rows and the weights. -/
def element (x : Vec Ideal S8x2048x1024 .f32) (md : Vec Ideal S8x3072 .f32) (np : Vec Ideal S1x1024 .f32) (w : Vec Ideal S1x1024x3072 .f32)
    (b : Fin 8) (t : Fin 2048) (o : ℕ) (ho : o + 512 ≤ 3072) (d : Fin 512) : EReal :=
  In.prodRow (In.hidRow (fun l => x (ix3 b t l)) (fun l => np (ix2 0 l)) (fun l => md (ix2 b ⟨1024 + l.val, by omega⟩)) (fun l => md (ix2 b ⟨l.val, by omega⟩)))
    (fun k d => w (ix3 0 k ⟨o + d.val, by omega⟩)) d
theorem element_eq (x : Vec Ideal S8x2048x1024 .f32) (md : Vec Ideal S8x3072 .f32) (np : Vec Ideal S1x1024 .f32) (w : Vec Ideal S1x1024x3072 .f32)
    (b : Fin 8) (t : Fin 2048) (o : ℕ) (ho : o + 512 ≤ 3072) (d : Fin 512) :
    projected (hidden x md np) w (ix3 b t ⟨o + d.val, by omega⟩) = element x md np w b t o ho d := by
  rw [projected_apply]
  simp only [hidden_apply]
  rfl
theorem chunk0_apply (x : Vec Ideal S8x2048x1024 .f32) (md : Vec Ideal S8x3072 .f32) (np : Vec Ideal S1x1024 .f32) (w : Vec Ideal S1x1024x3072 .f32)
    (b : Fin 8) (t : Fin 2048) (d : Fin 512) : chunk0 (projected (hidden x md np) w) (ix3 b t d) = element x md np w b t 0 (by omega) d := by
  rw [← element_eq]
  generalize projected (hidden x md np) w = v
  pointwise [chunk0]
theorem chunk512_apply (x : Vec Ideal S8x2048x1024 .f32) (md : Vec Ideal S8x3072 .f32) (np : Vec Ideal S1x1024 .f32) (w : Vec Ideal S1x1024x3072 .f32)
    (b : Fin 8) (t : Fin 2048) (d : Fin 512) : chunk512 (projected (hidden x md np) w) (ix3 b t d) = element x md np w b t 512 (by omega) d := by
  rw [← element_eq]
  generalize projected (hidden x md np) w = v
  pointwise [chunk512]
theorem chunk1024_apply (x : Vec Ideal S8x2048x1024 .f32) (md : Vec Ideal S8x3072 .f32) (np : Vec Ideal S1x1024 .f32) (w : Vec Ideal S1x1024x3072 .f32)
    (b : Fin 8) (t : Fin 2048) (d : Fin 512) : chunk1024 (projected (hidden x md np) w) (ix3 b t d) = element x md np w b t 1024 (by omega) d := by
  rw [← element_eq]
  generalize projected (hidden x md np) w = v
  pointwise [chunk1024]
theorem chunk1536_apply (x : Vec Ideal S8x2048x1024 .f32) (md : Vec Ideal S8x3072 .f32) (np : Vec Ideal S1x1024 .f32) (w : Vec Ideal S1x1024x3072 .f32)
    (b : Fin 8) (t : Fin 2048) (d : Fin 512) : chunk1536 (projected (hidden x md np) w) (ix3 b t d) = element x md np w b t 1536 (by omega) d := by
  rw [← element_eq]
  generalize projected (hidden x md np) w = v
  pointwise [chunk1536]
theorem chunk2048_apply (x : Vec Ideal S8x2048x1024 .f32) (md : Vec Ideal S8x3072 .f32) (np : Vec Ideal S1x1024 .f32) (w : Vec Ideal S1x1024x3072 .f32)
    (b : Fin 8) (t : Fin 2048) (d : Fin 512) : chunk2048 (projected (hidden x md np) w) (ix3 b t d) = element x md np w b t 2048 (by omega) d := by
  rw [← element_eq]
  generalize projected (hidden x md np) w = v
  pointwise [chunk2048]
theorem chunk2560_apply (x : Vec Ideal S8x2048x1024 .f32) (md : Vec Ideal S8x3072 .f32) (np : Vec Ideal S1x1024 .f32) (w : Vec Ideal S1x1024x3072 .f32)
    (b : Fin 8) (t : Fin 2048) (d : Fin 512) : chunk2560 (projected (hidden x md np) w) (ix3 b t d) = element x md np w b t 2560 (by omega) d := by
  rw [← element_eq]
  generalize projected (hidden x md np) w = v
  pointwise [chunk2560]

end Cert.Proof.PlainIn
-- ==== Proof.InValue.lean ====
/-
  The second kernel's results, by element of its arguments.
-/
module

public import proofs.«01_k».proof.Proof.InBlock
public import proofs.«01_k».proof.Proof.InPoint
public import proofs.«01_k».proof.Proof.InPlain

@[expose] public section

set_option maxRecDepth 16384

noncomputable section

namespace Cert.Proof.In

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-! ## The arrays the region finds -/

/-- The rotation's frequencies. -/
def freqsK : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))
theorem v9_eq : V m c main_v9 = (shapeCast S1x128 (shapeCast S128 (broadcastInDim S4x32 ![0, 1] bcast_S1x32_S4x32_0_1 (shapeCast S1x32 freqsK shapeCasts_S32_S1x32)) shapeCasts_S4x32_S128) shapeCasts_S128_S1x128 : Vec Ideal S1x128 .f32) := by
  entry_read
  rfl
theorem v11_eq : V m c main_v11 = (shapeCast S1024x3072 (m ((c : Thread nD τ).loc main_arg4) : Vec Ideal S1x1024x3072 .f32) shapeCasts_S1x1024x3072_S1024x3072 : Vec Ideal S1024x3072 .f32) := by
  entry_read
  rfl
theorem v12_eq : V m c main_v12 = (shapeCast S1x1024 (shapeCast S1024 (m ((c : Thread nD τ).loc main_arg2) : Vec Ideal S1x1024 .f32) shapeCasts_S1x1024_S1024) shapeCasts_S1024_S1x1024 : Vec Ideal S1x1024 .f32) := by
  entry_read
  rfl
theorem cast_freq (f : FVec Ideal S32 .f32) (l : Fin 128) :
    (shapeCast S1x128 (shapeCast S128 (broadcastInDim S4x32 ![0, 1] bcast_S1x32_S4x32_0_1 (shapeCast S1x32 f shapeCasts_S32_S1x32)) shapeCasts_S4x32_S128) shapeCasts_S128_S1x128 : Vec Ideal S1x128 .f32) (ix2 0 l)
      = f (ix1 ⟨l.val % 32, by omega⟩) := by
  pointwise
theorem cast_w (v : Vec Ideal S1x1024x3072 .f32) (k : Fin 1024) (d : Fin 3072) :
    (shapeCast S1024x3072 v shapeCasts_S1x1024x3072_S1024x3072 : Vec Ideal S1024x3072 .f32) (ix2 k d) = v (ix3 0 k d) := by
  pointwise
theorem cast_np (v : Vec Ideal S1x1024 .f32) (k : Fin 1024) :
    (shapeCast S1x1024 (shapeCast S1024 v shapeCasts_S1x1024_S1024) shapeCasts_S1024_S1x1024 : Vec Ideal S1x1024 .f32) (ix2 0 k) = v (ix2 0 k) := by
  pointwise

/-! ## The blocks of a point -/

theorem coord0 (b : Fin 8) (t : Fin 2048) : (grid0.coords (ptOf b t) 0).val = b.val := by
  have h : (grid0.coords (ptOf b t) 0).val = (ptOf b t).val / 2 % 8 := Pipeline.Grid.coords_val (ptOf b t) 0 (by decide) rfl
  rw [h]
  show (2 * b.val + t.val / 1024) / 2 % 8 = b.val
  omega
theorem coord1 (b : Fin 8) (t : Fin 2048) : (grid0.coords (ptOf b t) 1).val = t.val / 1024 := by
  have h : (grid0.coords (ptOf b t) 1).val = (ptOf b t).val / 1 % 2 := Pipeline.Grid.coords_val (ptOf b t) 1 (by decide) rfl
  rw [h]
  show (2 * b.val + t.val / 1024) / 1 % 2 = t.val / 1024
  omega

theorem blk0 (b : Fin 8) (t : Fin 2048) (l : Fin 1024) :
    (iblk m c 0 (ptOf b t) : Vec Ideal S1x1024x1024 .f32) (ix3 0 (plOf t) l) = (V m c main_arg0 : Vec Ideal S8x2048x1024 .f32) (ix3 b t l) := by
  refine congrArg (V m c main_arg0 : S8x2048x1024.Idx → Elt Ideal .f32) (?_ : ((cfg0.win 0).blk (ptOf b t)).view.emb (ix3 0 (plOf t) l) = (ix3 b t l : S8x2048x1024.Idx))
  funext a; apply Fin.ext
  fin_cases a
  · show (BitVec.ofNat 32 (grid0.coords (ptOf b t) 0).val).toNat * 1 + 1 * 0 = b.val
    rw [coord0, word _ b.isLt]; omega
  · show (BitVec.ofNat 32 (grid0.coords (ptOf b t) 1).val).toNat * 1024 + 1 * (t.val % 1024) = t.val
    rw [coord1, word _ (by omega)]; omega
  · show 0 * 1024 + 1 * l.val = l.val; omega
theorem blk1 (p : Fin cfg0.N) (x : Fin 8) (y : Fin 3072) : (iblk m c 1 p : Vec Ideal S8x3072 .f32) (ix2 x y) = (V m c main_arg1 : Vec Ideal S8x3072 .f32) (ix2 x y) := by
  refine congrArg (V m c main_arg1 : S8x3072.Idx → Elt Ideal .f32) (?_ : ((cfg0.win 1).blk p).view.emb (ix2 x y) = (ix2 x y : S8x3072.Idx))
  funext a; apply Fin.ext
  fin_cases a
  · show 0 * 8 + 1 * x.val = x.val; omega
  · show 0 * 3072 + 1 * y.val = y.val; omega
theorem blk2 (p : Fin cfg0.N) (y : Fin 1024) : (iblk m c 2 p : Vec Ideal S1x1024 .f32) (ix2 0 y) = (V m c main_v12 : Vec Ideal S1x1024 .f32) (ix2 0 y) := by
  refine congrArg (V m c main_v12 : S1x1024.Idx → Elt Ideal .f32) (?_ : ((cfg0.win 2).blk p).view.emb (ix2 0 y) = (ix2 0 y : S1x1024.Idx))
  funext a; apply Fin.ext
  fin_cases a
  · rfl
  · show 0 * 1024 + 1 * y.val = y.val; omega
theorem blk3 (b : Fin 8) (t : Fin 2048) :
    (iblk m c 3 (ptOf b t) : Vec Ideal S8x1024 .i32) (ix2 b (plOf t)) = (V m c main_arg3 : Vec Ideal S8x2048 .i32) (ix2 b t) := by
  refine congrArg (V m c main_arg3 : S8x2048.Idx → Elt Ideal .i32) (?_ : ((cfg0.win 3).blk (ptOf b t)).view.emb (ix2 b (plOf t)) = (ix2 b t : S8x2048.Idx))
  funext a; apply Fin.ext
  fin_cases a
  · show 0 * 8 + 1 * b.val = b.val; omega
  · show (BitVec.ofNat 32 (grid0.coords (ptOf b t) 1).val).toNat * 1024 + 1 * (t.val % 1024) = t.val
    rw [coord1, word _ (by omega)]; omega
theorem blk4 (p : Fin cfg0.N) (y : Fin 128) : (iblk m c 4 p : Vec Ideal S1x128 .f32) (ix2 0 y) = (V m c main_v9 : Vec Ideal S1x128 .f32) (ix2 0 y) := by
  refine congrArg (V m c main_v9 : S1x128.Idx → Elt Ideal .f32) (?_ : ((cfg0.win 4).blk p).view.emb (ix2 0 y) = (ix2 0 y : S1x128.Idx))
  funext a; apply Fin.ext
  fin_cases a
  · rfl
  · show 0 * 128 + 1 * y.val = y.val; omega
theorem blk5 (p : Fin cfg0.N) (x : Fin 1024) (y : Fin 3072) : (iblk m c 5 p : Vec Ideal S1024x3072 .f32) (ix2 x y) = (V m c main_v11 : Vec Ideal S1024x3072 .f32) (ix2 x y) := by
  refine congrArg (V m c main_v11 : S1024x3072.Idx → Elt Ideal .f32) (?_ : ((cfg0.win 5).blk p).view.emb (ix2 x y) = (ix2 x y : S1024x3072.Idx))
  funext a; apply Fin.ext
  fin_cases a
  · show 0 * 1024 + 1 * x.val = x.val; omega
  · show 0 * 3072 + 1 * y.val = y.val; omega

theorem x_apply (b : Fin 8) (t : Fin 2048) (l : Fin 1024) :
    (iblk m c 0 (ptOf b t) : Vec Ideal S1x1024x1024 .f32) (ix3 0 (plOf t) l) = (m ((c : Thread nD τ).loc main_arg0) : Vec Ideal S8x2048x1024 .f32) (ix3 b t l) :=
  (blk0 m c b t l).trans (congrFun (V_main_arg0 m c) _)
theorem mod_apply (p : Fin cfg0.N) (x : Fin 8) (y : Fin 3072) :
    (iblk m c 1 p : Vec Ideal S8x3072 .f32) (ix2 x y) = (m ((c : Thread nD τ).loc main_arg1) : Vec Ideal S8x3072 .f32) (ix2 x y) :=
  (blk1 m c p x y).trans (congrFun (V_main_arg1 m c) _)
theorem np_apply (p : Fin cfg0.N) (y : Fin 1024) :
    (iblk m c 2 p : Vec Ideal S1x1024 .f32) (ix2 0 y) = (m ((c : Thread nD τ).loc main_arg2) : Vec Ideal S1x1024 .f32) (ix2 0 y) :=
  (blk2 m c p y).trans ((congrFun (v12_eq m c) _).trans (cast_np _ y))
theorem pos_apply (b : Fin 8) (t : Fin 2048) :
    (iblk m c 3 (ptOf b t) : Vec Ideal S8x1024 .i32) (ix2 b (plOf t)) = (m ((c : Thread nD τ).loc main_arg3) : Vec Ideal S8x2048 .i32) (ix2 b t) :=
  (blk3 m c b t).trans (congrFun (V_main_arg3 m c) _)
theorem fr_apply (p : Fin cfg0.N) (l : Fin 128) : (iblk m c 4 p : Vec Ideal S1x128 .f32) (ix2 0 l) = freqsK (ix1 ⟨l.val % 32, by omega⟩) :=
  (blk4 m c p l).trans ((congrFun (v9_eq m c) _).trans (cast_freq freqsK l))
theorem w_apply (k : Fin 1024) (d : Fin 3072) :
    (wKept m c : S1024x3072.Idx → EReal) (ix2 k d) = (m ((c : Thread nD τ).loc main_arg4) : Vec Ideal S1x1024x3072 .f32) (ix3 0 k d) :=
  (wStores_apply (iblk m c 5 first) k d).trans ((blk5 m c first k d).trans ((congrFun (v11_eq m c) _).trans (cast_w _ k d)))

/-! ## The results -/

/-- An element of the product of the modulated rows and the weights, from the arguments. -/
def elementK (b : Fin 8) (t : Fin 2048) (o : ℕ) (ho : o + 512 ≤ 3072) (d : Fin 512) : EReal :=
  prodRow (hidRow (fun l => (m ((c : Thread nD τ).loc main_arg0) : Vec Ideal S8x2048x1024 .f32) (ix3 b t l)) (fun l => (m ((c : Thread nD τ).loc main_arg2) : Vec Ideal S1x1024 .f32) (ix2 0 l))
      (fun l => (m ((c : Thread nD τ).loc main_arg1) : Vec Ideal S8x3072 .f32) (ix2 b ⟨1024 + l.val, by omega⟩)) (fun l => (m ((c : Thread nD τ).loc main_arg1) : Vec Ideal S8x3072 .f32) (ix2 b ⟨l.val, by omega⟩)))
    (fun k d => (m ((c : Thread nD τ).loc main_arg4) : Vec Ideal S1x1024x3072 .f32) (ix3 0 k ⟨o + d.val, by omega⟩)) d
theorem proj_apply (b : Fin 8) (t : Fin 2048) (o : ℕ) (ho : o + 512 ≤ 3072) (d : Fin 512) :
    projRow b (iblk m c 0 (ptOf b t)) (iblk m c 1 (ptOf b t)) (iblk m c 2 (ptOf b t)) (wKept m c) o ho (plOf t) d = elementK m c b t o ho d :=
  prodRow_congr (fun k => hidRow_congr (fun l => x_apply m c b t l) (fun l => np_apply m c (ptOf b t) l) (fun l => mod_apply m c (ptOf b t) b _) (fun l => mod_apply m c (ptOf b t) b _) k)
    (fun k d => w_apply m c k _) d
/-- The same rotated by the row's position. -/
def rotatedK (b : Fin 8) (t : Fin 2048) (o : ℕ) (ho : o + 512 ≤ 3072) (d : Fin 512) : EReal :=
  rotRow (elementK m c b t o ho) (FloatOps.sitofp (F := Ideal) FTy.f32 ((m ((c : Thread nD τ).loc main_arg3) : Vec Ideal S8x2048 .i32) (ix2 b t))) (fun l => freqsK (ix1 l)) d
theorem rot_apply (b : Fin 8) (t : Fin 2048) (o : ℕ) (ho : o + 512 ≤ 3072) (d : Fin 512) :
    rotRow (projRow b (iblk m c 0 (ptOf b t)) (iblk m c 1 (ptOf b t)) (iblk m c 2 (ptOf b t)) (wKept m c) o ho (plOf t))
      (FloatOps.sitofp (F := Ideal) FTy.f32 ((iblk m c 3 (ptOf b t) : Vec Ideal S8x1024 .i32) (ix2 b (plOf t)))) (fun l => freqsK (ix1 l)) d = rotatedK m c b t o ho d :=
  rotRow_congr (fun d => proj_apply m c b t o ho d) (congrArg (FloatOps.sitofp (F := Ideal) FTy.f32) (pos_apply m c b t)) (fun _ => rfl) d

theorem kernel6 (b : Fin 8) (t : Fin 2048) (d : Fin 512) : (Value.G6 m c : S8x2048x512.Idx → Elt Ideal .f32) (ix3 b t d) = elementK m c b t 0 (by omega) d :=
  (result6 m c b t d).trans ((left6_apply (grid0.coords (ptOf b t)) b (coord0 b t) (iblk m c 0 (ptOf b t)) (iblk m c 1 (ptOf b t)) (iblk m c 2 (ptOf b t)) (iblk m c 3 (ptOf b t)) (iblk m c 4 (ptOf b t)) (wKept m c) (plOf t) d).trans
    (proj_apply m c b t 0 (by omega) d))
theorem kernel7 (b : Fin 8) (t : Fin 2048) (d : Fin 512) : (Value.G7 m c : S8x2048x512.Idx → Elt Ideal .f32) (ix3 b t d) = elementK m c b t 512 (by omega) d :=
  (result7 m c b t d).trans ((left7_apply (grid0.coords (ptOf b t)) b (coord0 b t) (iblk m c 0 (ptOf b t)) (iblk m c 1 (ptOf b t)) (iblk m c 2 (ptOf b t)) (iblk m c 3 (ptOf b t)) (iblk m c 4 (ptOf b t)) (wKept m c) (plOf t) d).trans
    (proj_apply m c b t 512 (by omega) d))
theorem kernel10 (b : Fin 8) (t : Fin 2048) (d : Fin 512) : (Value.G10 m c : S8x2048x512.Idx → Elt Ideal .f32) (ix3 b t d) = elementK m c b t 2048 (by omega) d :=
  (result10 m c b t d).trans ((left10_apply (grid0.coords (ptOf b t)) b (coord0 b t) (iblk m c 0 (ptOf b t)) (iblk m c 1 (ptOf b t)) (iblk m c 2 (ptOf b t)) (iblk m c 3 (ptOf b t)) (iblk m c 4 (ptOf b t)) (wKept m c) (plOf t) d).trans
    (proj_apply m c b t 2048 (by omega) d))
theorem kernel11 (b : Fin 8) (t : Fin 2048) (d : Fin 512) : (Value.G11 m c : S8x2048x512.Idx → Elt Ideal .bf16) (ix3 b t d) = elementK m c b t 2560 (by omega) d :=
  (result11 m c b t d).trans ((left11_apply (grid0.coords (ptOf b t)) b (coord0 b t) (iblk m c 0 (ptOf b t)) (iblk m c 1 (ptOf b t)) (iblk m c 2 (ptOf b t)) (iblk m c 3 (ptOf b t)) (iblk m c 4 (ptOf b t)) (wKept m c) (plOf t) d).trans
    (proj_apply m c b t 2560 (by omega) d))
theorem kernel8 (b : Fin 8) (t : Fin 2048) (d : Fin 512) : (Value.G8 m c : S8x2048x512.Idx → Elt Ideal .f32) (ix3 b t d) = rotatedK m c b t 1024 (by omega) d * Ideal.ofBits .f32 0x3E38AA3B#32 :=
  (result8 m c b t d).trans ((left8_apply (grid0.coords (ptOf b t)) b (coord0 b t) (iblk m c 0 (ptOf b t)) (iblk m c 1 (ptOf b t)) (iblk m c 2 (ptOf b t)) (iblk m c 3 (ptOf b t)) (iblk m c 4 (ptOf b t)) (wKept m c)
      (fun l => freqsK (ix1 l)) (fun l => fr_apply m c (ptOf b t) l) (plOf t) d).trans
    (congrArg (· * Ideal.ofBits .f32 0x3E38AA3B#32) (rot_apply m c b t 1024 (by omega) d)))
theorem kernel9 (b : Fin 8) (t : Fin 2048) (d : Fin 512) : (Value.G9 m c : S8x2048x512.Idx → Elt Ideal .f32) (ix3 b t d) = rotatedK m c b t 1536 (by omega) d :=
  (result9 m c b t d).trans ((left9_apply (grid0.coords (ptOf b t)) b (coord0 b t) (iblk m c 0 (ptOf b t)) (iblk m c 1 (ptOf b t)) (iblk m c 2 (ptOf b t)) (iblk m c 3 (ptOf b t)) (iblk m c 4 (ptOf b t)) (wKept m c)
      (fun l => freqsK (ix1 l)) (fun l => fr_apply m c (ptOf b t) l) (plOf t) d).trans
    (rot_apply m c b t 1536 (by omega) d))

end Cert.Proof.In
-- ==== Proof.InEquation.lean ====
/-
  The second equation: from arguments that agree, the in-projection's run and its reference's leave the same six results.
-/
module

public import proofs.«01_k».proof.Proof.InValue
public import proofs.«01_k».proof.Proof.InFrames

@[expose] public section

noncomputable section

namespace Cert.Proof

open Idealize.ShloMosaic Idealize.ShloMosaic.TcCoe Idealize.SL.Sem

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)

/-- The reference's product of the modulated rows and the weights, from its arguments. -/
def product (c : Dev Cert.Reference2Ideal.nD) : FVec Ideal Cert.Reference2Ideal.S8x2048x3072 .f32 :=
  PlainIn.projected (PlainIn.hidden (m' ((c.tc : Thread Cert.Reference2Ideal.nD Cert.Reference2Ideal.τ).loc Cert.Reference2Ideal.main_arg0) : Vec Ideal Cert.Reference2Ideal.S8x2048x1024 .f32) (m' ((c.tc : Thread Cert.Reference2Ideal.nD Cert.Reference2Ideal.τ).loc Cert.Reference2Ideal.main_arg1) : Vec Ideal Cert.Reference2Ideal.S8x3072 .f32) (m' ((c.tc : Thread Cert.Reference2Ideal.nD Cert.Reference2Ideal.τ).loc Cert.Reference2Ideal.main_arg2) : Vec Ideal Cert.Reference2Ideal.S1x1024 .f32)) (m' ((c.tc : Thread Cert.Reference2Ideal.nD Cert.Reference2Ideal.τ).loc Cert.Reference2Ideal.main_arg4) : Vec Ideal Cert.Reference2Ideal.S1x1024x3072 .f32)
/-- The reference's angles. -/
def phase (c : Dev Cert.Reference2Ideal.nD) : FVec Ideal Cert.Reference2Ideal.S8x2048x32 .f32 := PlainIn.angles (m' ((c.tc : Thread Cert.Reference2Ideal.nD Cert.Reference2Ideal.τ).loc Cert.Reference2Ideal.main_arg3) : Vec Ideal Cert.Reference2Ideal.S8x2048 .i32) PlainIn.freqs

theorem plain_q (c : Dev Cert.Reference2Ideal.nD) : Cert.Reference2Ideal.Value.res_main_v65 m' c = PlainIn.turnedScaled (PlainIn.chunk1024 (product m' c)) (phase m' c) := rfl
theorem plain_k (c : Dev Cert.Reference2Ideal.nD) : Cert.Reference2Ideal.Value.res_main_v96 m' c = PlainIn.turned (PlainIn.chunk1536 (product m' c)) (phase m' c) := rfl

section
variable (c : Dev Cert.Kernel2Ideal.nD)
  (e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
  (e1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
  (e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
  (e3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
  (e4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
include e0 e1 e2 e4

theorem element_same (b : Fin 8) (t : Fin 2048) (o : ℕ) (ho : o + 512 ≤ 3072) (d : Fin 512) :
    In.elementK m c b t o ho d = PlainIn.element (m' ((c.tc : Thread Cert.Reference2Ideal.nD Cert.Reference2Ideal.τ).loc Cert.Reference2Ideal.main_arg0) : Vec Ideal Cert.Reference2Ideal.S8x2048x1024 .f32) (m' ((c.tc : Thread Cert.Reference2Ideal.nD Cert.Reference2Ideal.τ).loc Cert.Reference2Ideal.main_arg1) : Vec Ideal Cert.Reference2Ideal.S8x3072 .f32) (m' ((c.tc : Thread Cert.Reference2Ideal.nD Cert.Reference2Ideal.τ).loc Cert.Reference2Ideal.main_arg2) : Vec Ideal Cert.Reference2Ideal.S1x1024 .f32) (m' ((c.tc : Thread Cert.Reference2Ideal.nD Cert.Reference2Ideal.τ).loc Cert.Reference2Ideal.main_arg4) : Vec Ideal Cert.Reference2Ideal.S1x1024x3072 .f32) b t o ho d :=
  In.prodRow_congr (fun k => In.hidRow_congr (fun l => (congrFun e0 _).symm) (fun l => (congrFun e2 _).symm) (fun l => (congrFun e1 _).symm) (fun l => (congrFun e1 _).symm) k)
    (fun k d => (congrFun e4 _).symm) d
theorem same6 : (Cert.Kernel2Ideal.Value.G6 m c : Vec Ideal Cert.Kernel2Ideal.S8x2048x512 .f32) = PlainIn.chunk0 (product m' c) := by
  funext i
  obtain ⟨b, t, d, rfl⟩ : ∃ (b : Fin 8) (t : Fin 2048) (d : Fin 512), i = ix3 b t d := ⟨i 0, i 1, i 2, eq_ix3 i⟩
  exact (In.kernel6 m c b t d).trans ((element_same m m' c e0 e1 e2 e4 b t 0 (by omega) d).trans (PlainIn.chunk0_apply _ _ _ _ b t d).symm)
theorem same7 : (Cert.Kernel2Ideal.Value.G7 m c : Vec Ideal Cert.Kernel2Ideal.S8x2048x512 .f32) = PlainIn.chunk512 (product m' c) := by
  funext i
  obtain ⟨b, t, d, rfl⟩ : ∃ (b : Fin 8) (t : Fin 2048) (d : Fin 512), i = ix3 b t d := ⟨i 0, i 1, i 2, eq_ix3 i⟩
  exact (In.kernel7 m c b t d).trans ((element_same m m' c e0 e1 e2 e4 b t 512 (by omega) d).trans (PlainIn.chunk512_apply _ _ _ _ b t d).symm)
theorem same10 : (Cert.Kernel2Ideal.Value.G10 m c : Vec Ideal Cert.Kernel2Ideal.S8x2048x512 .f32) = PlainIn.chunk2048 (product m' c) := by
  funext i
  obtain ⟨b, t, d, rfl⟩ : ∃ (b : Fin 8) (t : Fin 2048) (d : Fin 512), i = ix3 b t d := ⟨i 0, i 1, i 2, eq_ix3 i⟩
  exact (In.kernel10 m c b t d).trans ((element_same m m' c e0 e1 e2 e4 b t 2048 (by omega) d).trans (PlainIn.chunk2048_apply _ _ _ _ b t d).symm)
theorem same11 : (Cert.Kernel2Ideal.Value.G11 m c : Vec Ideal Cert.Kernel2Ideal.S8x2048x512 .bf16) = PlainIn.chunk2560 (product m' c) := by
  funext i
  obtain ⟨b, t, d, rfl⟩ : ∃ (b : Fin 8) (t : Fin 2048) (d : Fin 512), i = ix3 b t d := ⟨i 0, i 1, i 2, eq_ix3 i⟩
  exact (In.kernel11 m c b t d).trans ((element_same m m' c e0 e1 e2 e4 b t 2560 (by omega) d).trans (PlainIn.chunk2560_apply _ _ _ _ b t d).symm)

include e3
theorem rotated_same (b : Fin 8) (t : Fin 2048) (o : ℕ) (ho : o + 512 ≤ 3072) (u : FVec Ideal Cert.Reference2Ideal.S8x2048x512 .f32)
    (hu : ∀ d, u (ix3 b t d) = PlainIn.element (m' ((c.tc : Thread Cert.Reference2Ideal.nD Cert.Reference2Ideal.τ).loc Cert.Reference2Ideal.main_arg0) : Vec Ideal Cert.Reference2Ideal.S8x2048x1024 .f32) (m' ((c.tc : Thread Cert.Reference2Ideal.nD Cert.Reference2Ideal.τ).loc Cert.Reference2Ideal.main_arg1) : Vec Ideal Cert.Reference2Ideal.S8x3072 .f32) (m' ((c.tc : Thread Cert.Reference2Ideal.nD Cert.Reference2Ideal.τ).loc Cert.Reference2Ideal.main_arg2) : Vec Ideal Cert.Reference2Ideal.S1x1024 .f32) (m' ((c.tc : Thread Cert.Reference2Ideal.nD Cert.Reference2Ideal.τ).loc Cert.Reference2Ideal.main_arg4) : Vec Ideal Cert.Reference2Ideal.S1x1024x3072 .f32) b t o ho d) (d : Fin 512) :
    In.rotatedK m c b t o ho d = In.rotRow (fun e => u (ix3 b t e)) (FloatOps.sitofp (F := Ideal) FTy.f32 ((m' ((c.tc : Thread Cert.Reference2Ideal.nD Cert.Reference2Ideal.τ).loc Cert.Reference2Ideal.main_arg3) : Vec Ideal Cert.Reference2Ideal.S8x2048 .i32) (ix2 b t))) (fun l => PlainIn.freqs (ix1 l)) d :=
  In.rotRow_congr (fun d => (element_same m m' c e0 e1 e2 e4 b t o ho d).trans (hu d).symm) (congrArg (FloatOps.sitofp (F := Ideal) FTy.f32) (congrFun e3 _).symm) (fun _ => rfl) d
theorem same8 : (Cert.Kernel2Ideal.Value.G8 m c : Vec Ideal Cert.Kernel2Ideal.S8x2048x512 .f32) = PlainIn.turnedScaled (PlainIn.chunk1024 (product m' c)) (phase m' c) := by
  funext i
  obtain ⟨b, t, d, rfl⟩ : ∃ (b : Fin 8) (t : Fin 2048) (d : Fin 512), i = ix3 b t d := ⟨i 0, i 1, i 2, eq_ix3 i⟩
  exact (In.kernel8 m c b t d).trans ((congrArg (· * Ideal.ofBits .f32 0x3E38AA3B#32)
    (rotated_same m m' c e0 e1 e2 e3 e4 b t 1024 (by omega) (PlainIn.chunk1024 (product m' c)) (fun d => PlainIn.chunk1024_apply _ _ _ _ b t d) d)).trans (PlainIn.turnedScaled_apply _ _ _ b t d).symm)
theorem same9 : (Cert.Kernel2Ideal.Value.G9 m c : Vec Ideal Cert.Kernel2Ideal.S8x2048x512 .f32) = PlainIn.turned (PlainIn.chunk1536 (product m' c)) (phase m' c) := by
  funext i
  obtain ⟨b, t, d, rfl⟩ : ∃ (b : Fin 8) (t : Fin 2048) (d : Fin 512), i = ix3 b t d := ⟨i 0, i 1, i 2, eq_ix3 i⟩
  exact (In.kernel9 m c b t d).trans ((rotated_same m m' c e0 e1 e2 e3 e4 b t 1536 (by omega) (PlainIn.chunk1536 (product m' c)) (fun d => PlainIn.chunk1536_apply _ _ _ _ b t d) d).trans
    (PlainIn.turned_apply _ _ _ b t d).symm)
end

/-- The in-projection and its reference end with the same results. -/
theorem same_result2 : Cert.algebraic_Kernel2Ideal_Reference2Ideal := by
  intro m g m' g' _ hm
  refine ⟨fun c => PlainIn.chunk0 (product m' c), fun c => PlainIn.chunk512 (product m' c), fun c => PlainIn.turnedScaled (PlainIn.chunk1024 (product m' c)) (phase m' c),
    fun c => PlainIn.turned (PlainIn.chunk1536 (product m' c)) (phase m' c), fun c => PlainIn.chunk2048 (product m' c), fun c => PlainIn.chunk2560 (product m' c), ?_, ?_⟩
  · refine (θ_run Cert.Kernel2Ideal.defs _ _).mono (fun r h c => ?_) (Cert.Kernel2Ideal.Value.run m g)
    obtain ⟨e0, e1, e2, e3, e4⟩ := hm c
    obtain ⟨h6, h7, h8, h9, h10, h11, hk⟩ := h c
    exact ⟨h6.trans (same6 m m' c e0 e1 e2 e4), h7.trans (same7 m m' c e0 e1 e2 e4), h8.trans (same8 m m' c e0 e1 e2 e3 e4),
      h9.trans (same9 m m' c e0 e1 e2 e3 e4), h10.trans (same10 m m' c e0 e1 e2 e4), h11.trans (same11 m m' c e0 e1 e2 e4), hk⟩
  · refine (θ_run Cert.Reference2Ideal.defs _ _).mono (fun r h c => ?_) (Cert.Reference2Ideal.Value.run m' g')
    obtain ⟨h6, h7, h8, h9, h10, h11, hk⟩ := h c
    exact ⟨h6, h7, h8.trans (plain_q m' c), h9.trans (plain_k m' c), h10, h11, hk⟩

end Cert.Proof
-- ==== Proof.ModFrames.lean ====
/-
  The frames of the third kernel and its reference.
-/
module

public import proofs.«01_k».proof.Defs
public import proofs.«01_k».proof.Proof.Gen.Kernel3
public import proofs.«01_k».proof.Proof.Gen.Kernel3.Skeleton
public import proofs.«01_k».proof.Proof.Gen.Kernel3Ideal.Value
public import proofs.«01_k».proof.Proof.Gen.Reference3Ideal.Run
public import Idealize.ShloMosaic.Lib.Quiescent

@[expose] public section

noncomputable section

namespace Cert.Proof

open Idealize.ShloMosaic Idealize.ShloMosaic.TcCoe Idealize.SL.Sem

set_option maxHeartbeats 4000000 in
theorem mod_body_same : @Cert.Kernel3.cc0_mod Bits _ _ = @Cert.Kernel3Ideal.cc0_mod Bits _ _ := rfl
theorem mod_bodies_same : @Cert.Kernel3.defs₀ Bits _ _ = @Cert.Kernel3Ideal.defs₀ Bits _ _ := by
  unfold Cert.Kernel3.defs₀ Cert.Kernel3Ideal.defs₀
  rw [mod_body_same]
  refine congrArg Defs.onTc (funext fun l => funext fun a => ?_)
  match l, a with
  | 0, (t, s) => rfl
  | ⟨_ + 1, h⟩, _ => exact absurd h (Nat.not_lt.2 (Nat.le_add_left _ _))
theorem mod_table_same : @Cert.Kernel3.defs Bits _ _ = @Cert.Kernel3Ideal.defs Bits _ _ := by
  unfold Cert.Kernel3.defs Cert.Kernel3Ideal.defs
  rw [mod_bodies_same]; rfl
theorem mod_main_same : Cert.Kernel3.main (F := Bits) = Cert.Kernel3Ideal.main (F := Bits) := rfl

theorem frame_kernel3 : Cert.quiescent_Kernel3 := fun m ρ _ => by
  rw [mod_table_same, mod_main_same]
  exact Cert.Kernel3Ideal.Gen.frame (F := Bits) m ρ

theorem frame_kernel3_ideal : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r h => ⟨fun c => (h c).2, sem_eq_zero_of_no_sems rfl _⟩) (Cert.Reference3Ideal.Value.run m ρ)

end Cert.Proof
-- ==== Proof.ModValue.lean ====
/-
  The third kernel's result and its reference's, by element of the arguments: the gated rows times the weights, plus the
  bias.
-/
module

public import proofs.«01_k».proof.Proof.Row
public import proofs.«01_k».proof.Proof.Gen.Kernel3Ideal.Value
public import proofs.«01_k».proof.Proof.Gen.Reference3Ideal.Run
public import Idealize.ShloMosaic.Lib.Pipeline.ValueKit.Basic

@[expose] public section

set_option maxRecDepth 16384

noncomputable section

namespace Cert.Proof

open Idealize.ShloMosaic Idealize.ShloMosaic.TcCoe Idealize.SL.Sem

/-- One element: a row, through `s`, times a column, plus the column's bias. -/
def modElement (s : EReal → EReal) (v w : Fin 1024 → EReal) (bias : EReal) : EReal := (∑ k : Fin 1024, s (v k) * w k) + bias

theorem modElement_congr (s : EReal → EReal) {v v' w w' : Fin 1024 → EReal} {bias bias' : EReal} (hv : ∀ k, v k = v' k) (hw : ∀ k, w k = w' k)
    (hb : bias = bias') : modElement s v w bias = modElement s v' w' bias' := by
  rw [funext hv, funext hw, hb]

/-- The two sides' elements, where the row stays above −∞. -/
theorem modElement_silu {v w : Fin 1024 → EReal} {bias : EReal} (hv : ∀ k, v k ≠ ⊥) :
    modElement siluTanh v w bias = modElement siluDiv v w bias := by
  unfold modElement
  simp only [silu_eq _ (hv _)]

namespace Mod

open Cert.Kernel3Ideal Cert.Kernel3Ideal.Gen

theorem pay_apply (v : Vec Ideal S8x1024 .f32) (w : Vec Ideal S1024x1024 .f32) (u : Vec Ideal S1x1024 .f32) (b : Fin 8) (d : Fin 1024) :
    k0_pay1 v w u (ix2 b d) = modElement siluTanh (fun k => v (ix2 b k)) (fun k => w (ix2 k d)) (u (ix2 0 d)) := by
  pointwise [k0_pay1, modElement, siluTanh]

/-- What a point leaves in its output block. -/
theorem left_apply (v : Vec Ideal S8x1024 .f32) (w : Vec Ideal S1024x1024 .f32) (u : Vec Ideal S1x1024 .f32) (b : Fin 8) (d : Fin 1024) :
    out0_3 v w u (ix2 b d) = modElement siluTanh (fun k => v (ix2 b k)) (fun k => w (ix2 k d)) (u (ix2 0 d)) := by
  have h : out0_3 v w u = k0_pay1 v w u := by
    unfold out0_3
    rw [View.canon_unit_zero (by decide), View.ld_unit_zero (by decide), View.ld_unit_zero (by decide), View.ld_unit_zero (by decide)]
  rw [h]
  exact pay_apply v w u b d

variable (m : (ℓ : Loc nD τ sig) → Buf (Elt Ideal) ℓ) (c : Dev nD)

theorem v0_eq : V m c main_v0 = (shapeCast S1024x3072 (m ((c : Thread nD τ).loc main_arg1) : Vec Ideal S1x1024x3072 .f32) shapeCasts_S1x1024x3072_S1024x3072 : Vec Ideal S1024x3072 .f32) := by
  entry_read
  rfl
theorem v2_eq : V m c main_v2 = (shapeCast S1x3072 (shapeCast S3072 (m ((c : Thread nD τ).loc main_arg2) : Vec Ideal S1x3072 .f32) shapeCasts_S1x3072_S3072) shapeCasts_S3072_S1x3072 : Vec Ideal S1x3072 .f32) := by
  entry_read
  rfl
theorem cast_w (v : Vec Ideal S1x1024x3072 .f32) (k : Fin 1024) (d : Fin 3072) :
    (shapeCast S1024x3072 v shapeCasts_S1x1024x3072_S1024x3072 : Vec Ideal S1024x3072 .f32) (ix2 k d) = v (ix3 0 k d) := by
  pointwise
theorem cast_b (v : Vec Ideal S1x3072 .f32) (k : Fin 3072) :
    (shapeCast S1x3072 (shapeCast S3072 v shapeCasts_S1x3072_S3072) shapeCasts_S3072_S1x3072 : Vec Ideal S1x3072 .f32) (ix2 0 k) = v (ix2 0 k) := by
  pointwise

/-- The point that writes column `e`. -/
def ptOf (e : Fin 3072) : Fin cfg0.N := ⟨e.val / 1024, lt_of_lt_of_eq (by omega) N_0.symm⟩
/-- The column's place in the point's block. -/
def plOf (e : Fin 3072) : Fin 1024 := ⟨e.val % 1024, Nat.mod_lt _ (by decide)⟩

theorem coord (e : Fin 3072) : (BitVec.ofNat 32 (grid0.coords (ptOf e) 0).val).toNat = e.val / 1024 := by
  have h : (grid0.coords (ptOf e) 0).val = (ptOf e).val / 1 % 3 := Pipeline.Grid.coords_val (ptOf e) 0 (by decide) rfl
  rw [h, BitVec.toNat_ofNat]
  show e.val / 1024 / 1 % 3 % 2 ^ 32 = e.val / 1024
  omega

theorem blk0 (p : Fin cfg0.N) (x : Fin 8) (y : Fin 1024) : (iblk m c 0 p : Vec Ideal S8x1024 .f32) (ix2 x y) = (V m c main_arg0 : Vec Ideal S8x1024 .f32) (ix2 x y) := by
  refine congrArg (V m c main_arg0 : S8x1024.Idx → Elt Ideal .f32) (?_ : ((cfg0.win 0).blk p).view.emb (ix2 x y) = (ix2 x y : S8x1024.Idx))
  funext a; apply Fin.ext
  fin_cases a
  · show 0 * 8 + 1 * x.val = x.val; omega
  · show 0 * 1024 + 1 * y.val = y.val; omega
theorem blk1 (k : Fin 1024) (e : Fin 3072) : (iblk m c 1 (ptOf e) : Vec Ideal S1024x1024 .f32) (ix2 k (plOf e)) = (V m c main_v0 : Vec Ideal S1024x3072 .f32) (ix2 k e) := by
  refine congrArg (V m c main_v0 : S1024x3072.Idx → Elt Ideal .f32) (?_ : ((cfg0.win 1).blk (ptOf e)).view.emb (ix2 k (plOf e)) = (ix2 k e : S1024x3072.Idx))
  funext a; apply Fin.ext
  fin_cases a
  · show 0 * 1024 + 1 * k.val = k.val; omega
  · show (BitVec.ofNat 32 (grid0.coords (ptOf e) 0).val).toNat * 1024 + 1 * (e.val % 1024) = e.val
    rw [coord]; omega
theorem blk2 (e : Fin 3072) : (iblk m c 2 (ptOf e) : Vec Ideal S1x1024 .f32) (ix2 0 (plOf e)) = (V m c main_v2 : Vec Ideal S1x3072 .f32) (ix2 0 e) := by
  refine congrArg (V m c main_v2 : S1x3072.Idx → Elt Ideal .f32) (?_ : ((cfg0.win 2).blk (ptOf e)).view.emb (ix2 0 (plOf e)) = (ix2 0 e : S1x3072.Idx))
  funext a; apply Fin.ext
  fin_cases a
  · rfl
  · show (BitVec.ofNat 32 (grid0.coords (ptOf e) 0).val).toNat * 1024 + 1 * (e.val % 1024) = e.val
    rw [coord]; omega

/-- The array after the run, at row `b` and column `e`. -/
theorem kernel_apply (b : Fin 8) (e : Fin 3072) :
    ((dats m 0 c).arrAt 3 cfg0.N : Vec Ideal S8x3072 .f32) (ix2 b e)
      = modElement siluTanh (fun k => (m ((c : Thread nD τ).loc main_arg0) : Vec Ideal S8x1024 .f32) (ix2 b k))
          (fun k => (m ((c : Thread nD τ).loc main_arg1) : Vec Ideal S1x1024x3072 .f32) (ix3 0 k e)) ((m ((c : Thread nD τ).loc main_arg2) : Vec Ideal S1x3072 .f32) (ix2 0 e)) := by
  have he : ((cfg0.win 3).blk (ptOf e)).view.emb (ix2 b (plOf e)) = (ix2 b e : S8x3072.Idx) := by
    funext a; apply Fin.ext
    fin_cases a
    · show 0 * 8 + 1 * b.val = b.val; omega
    · show (BitVec.ofNat 32 (grid0.coords (ptOf e) 0).val).toNat * 1024 + 1 * (e.val % 1024) = e.val
      rw [coord]; omega
  have hb := (Value.blocks3 m c (ptOf e) (flush0_3 (ptOf e))).trans (Value.flushed3 m c (ptOf e))
  have h1 : ((dats m 0 c).arrAt 3 cfg0.N : Vec Ideal S8x3072 .f32) (ix2 b e)
      = out0_3 (iblk m c 0 (ptOf e)) (iblk m c 1 (ptOf e)) (iblk m c 2 (ptOf e)) (ix2 b (plOf e)) :=
    (congrArg ((dats m 0 c).arrAt 3 cfg0.N : S8x3072.Idx → Elt Ideal .f32) he.symm).trans (congrFun hb (ix2 b (plOf e)))
  refine h1.trans ((left_apply _ _ _ b (plOf e)).trans (modElement_congr _ (fun k => ?_) (fun k => ?_) ?_))
  · exact (blk0 m c (ptOf e) b k).trans (congrFun (V_main_arg0 m c) _)
  · exact (blk1 m c k e).trans ((congrFun (v0_eq m c) _).trans (cast_w _ k e))
  · exact (blk2 m c e).trans ((congrFun (v2_eq m c) _).trans (cast_b _ e))

end Mod

namespace PlainMod

open Cert.Reference3Ideal Cert.Reference3Ideal.Gen

/-- The reference's result, from its arguments. -/
def result (v : Vec Ideal S8x1024 .f32) (w : Vec Ideal S1x1024x3072 .f32) (u : Vec Ideal S1x3072 .f32) : FVec Ideal S8x3072 .f32 :=
  addf (Host.dotGeneral (φ₂ := .f32) dot_S8x1024_S1024x3072_S8x3072_1_0_0_1_n_n none (mulf v (Host.divf (broadcastInDim S8x1024 ![] bcast_S_S8x1024 (constant S_ .f32 0x3F800000#32))
      (addf (broadcastInDim S8x1024 ![] bcast_S_S8x1024 (constant S_ .f32 0x3F800000#32)) (Host.exp (Host.negf v))))) (shapeCast S1024x3072 w shapeCasts_S1x1024x3072_S1024x3072))
    (broadcastInDim S8x3072 ![0, 1] bcast_S1x3072_S8x3072_0_1 (broadcastInDim S1x3072 ![1] bcast_S3072_S1x3072_1 (shapeCast S3072 u shapeCasts_S1x3072_S3072)))

theorem result_apply (v : Vec Ideal S8x1024 .f32) (w : Vec Ideal S1x1024x3072 .f32) (u : Vec Ideal S1x3072 .f32) (b : Fin 8) (e : Fin 3072) :
    result v w u (ix2 b e) = modElement siluDiv (fun k => v (ix2 b k)) (fun k => w (ix3 0 k e)) (u (ix2 0 e)) := by
  pointwise [result, modElement, siluDiv]

end PlainMod

end Cert.Proof
-- ==== Proof.ModEquation.lean ====
/-
  The third equation: from arguments that agree, the modulation's run and its reference's leave the same result.
-/
module

public import proofs.«01_k».proof.Proof.ModValue
public import proofs.«01_k».proof.Proof.ModFrames
public import Idealize.ShloMosaic.Lib.ReduceAll

@[expose] public section

noncomputable section

namespace Cert.Proof

open Idealize.ShloMosaic Idealize.ShloMosaic.TcCoe Idealize.SL.Sem

/-- The shape facts the precondition's function takes. -/
theorem pre_facts3 : Cert.Pre_c_above_minus_infinity.Facts where
  bcast_S_S8x1024 := by decide
  reducesTo_S8x1024_S_d0_1 := by decide
  h_S_ := by decide

instance facts_rows : Cert.Pre_c_above_minus_infinity.Facts := pre_facts3

instance single_rows : Subsingleton Cert.Pre_c_above_minus_infinity.S_.Idx := ⟨fun a b => funext fun i => i.elim0⟩

open Cert.Pre_c_above_minus_infinity in
/-- Where the precondition holds, no element of the conditioning rows is −∞. -/
theorem rows_above (v : FVec Ideal S8x1024 .f32) (w : FVec Ideal S1x1024x3072 .f32) (u : FVec Ideal S1x3072 .f32)
    (h : fn v w u = fun _ => 1#1) (i : S8x1024.Idx) : v i ≠ ⊥ := by
  have h1 := Host.reduce_andi_all _ _ _ _ (fun i => i.elim0) (congrFun h (fun i => i.elim0)) i
  intro e
  have h2 : Ideal.cmp .ogt (v i) (Ideal.ofBits .f32 0xFF800000#32) = 1#1 := h1
  have h3 : Ideal.ofBits .f32 0xFF800000#32 = ⊥ := by simp [Ideal.ofBits, Ideal.ieee]
  rw [h3, e] at h2
  simp [Ideal.cmp] at h2

theorem frame_kernel3_ideal_pre : Cert.quiescent_Kernel3Ideal_pre_c_above_minus_infinity := fun m ρ _ => frame_kernel3_ideal m ρ trivial
theorem frame_reference3_pre : Cert.quiescent_Reference3Ideal_pre_c_above_minus_infinity := fun m ρ _ => frame_reference3 m ρ trivial

section
variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)

/-- The reference's result on a device. -/
def modulation (c : Dev Cert.Reference3Ideal.nD) : FVec Ideal Cert.Reference3Ideal.S8x3072 .f32 :=
  PlainMod.result (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2))

theorem mod_same (hp : Cert.Pre_Kernel3Ideal_c_above_minus_infinity m) (c : Dev Cert.Kernel3Ideal.nD)
    (e0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (e1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (e2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) :
    ((Cert.Kernel3Ideal.Gen.dats m 0 c).arrAt 3 Cert.Kernel3Ideal.cfg0.N : Vec Ideal Cert.Kernel3Ideal.S8x3072 .f32) = modulation m' c := by
  funext i
  obtain ⟨b, e, rfl⟩ : ∃ (b : Fin 8) (e : Fin 3072), i = ix2 b e := ⟨i 0, i 1, eq_ix2 i⟩
  refine (Mod.kernel_apply m c b e).trans (Eq.trans ?_ (PlainMod.result_apply _ _ _ b e).symm)
  refine (modElement_silu (fun k => rows_above _ _ _ (hp c) _)).trans ?_
  exact modElement_congr siluDiv (fun k => (congrFun e0 _).symm) (fun k => (congrFun e1 _).symm) (congrFun e2 _).symm

end

/-- The modulation and its reference end with the same result. -/
theorem same_result3 : Cert.algebraic_Kernel3Ideal_Reference3Ideal_pre_c_above_minus_infinity := by
  intro m g m' g' hp hm
  refine ⟨fun c => modulation m' c, ?_, ?_⟩
  · refine (θ_run Cert.Kernel3Ideal.defs _ _).mono (fun r h c => ?_) (Cert.Kernel3Ideal.Value.run_blocks m g)
    obtain ⟨e0, e1, e2⟩ := hm c
    exact ⟨(h c).1.trans (mod_same m m' hp c e0 e1 e2), (h c).2⟩
  · exact Cert.Reference3Ideal.Value.run m' g'

end Cert.Proof
-- ==== Proof.MixersBody.lean ====
/-
  The body of the fourth kernel keeps the buffers it is handed: from resources that lend each memref
  it reads and writes, it runs to its return and leaves the same resources.
-/
module

public import proofs.«01_k».proof.Proof.Gen.Kernel4Ideal.Frame
public import Idealize.ShloMosaic.Lib.Pipeline.Frame
public import Idealize.ShloMosaic.Lib.Tactic

@[expose] public section

noncomputable section

namespace Cert.Proof.Mixers

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

variable {c : Dev nD} {cs : CoreSpace} {sp : Space} {s : Shape} {e : EltTy} {α β : Type}
variable {R P : sProp (MT nD τ sig Unit (Elt F) ℕ (UR sig nD τ) ℕ)}

/-- The resources lend a memref's contents for reading. -/
def Reads (c : Dev nD) (R : sProp 𝕄) (M : Memref sig .tc sp s e) : Prop :=
  R ⊢ iprop(∃ d, owns (c : Thread nD τ) M fullShare d ∗ (owns (c : Thread nD τ) M fullShare d -∗ R))

/-- The resources lend a memref for writing: they take it back at any contents. -/
def Writes (c : Dev nD) (R : sProp 𝕄) (M : Memref sig .tc sp s e) : Prop :=
  R ⊢ iprop(∃ d, owns (c : Thread nD τ) M fullShare d ∗ (∀ d', owns (c : Thread nD τ) M fullShare d' -∗ R))

theorem Writes.reads {M : Memref sig .tc sp s e} (h : Writes c R M) : Reads c R M := by
  unfold Writes at h; unfold Reads
  refine h.trans ?_
  iintro ⟨%d, H, Hk⟩
  iexists d
  isplitl [H]; · iexact H
  iapply Hk

theorem Reads.here (M : Memref sig .tc sp s e) (d : s.Idx → Elt F e) :
    Reads c iprop(owns (c : Thread nD τ) M fullShare d ∗ R) M := by
  unfold Reads
  iintro ⟨H, HR⟩
  iexists d
  isplitl [H]; · iexact H
  iintro H
  isplitl [H]; · iexact H
  iexact HR

theorem Writes.here (M : Memref sig .tc sp s e) :
    Writes c iprop((∃ d, owns (c : Thread nD τ) M fullShare d) ∗ R) M := by
  unfold Writes
  iintro ⟨⟨%d, H⟩, HR⟩
  iexists d
  isplitl [H]; · iexact H
  iintro %d' H
  isplitl [H]; · iexists d'; iexact H
  iexact HR

theorem Reads.there {M : Memref sig .tc sp s e} (h : Reads c R M) : Reads c iprop(P ∗ R) M := by
  unfold Reads at h ⊢
  refine (sep_mono_right h).trans ?_
  iintro ⟨HP, ⟨%d, H, Hk⟩⟩
  iexists d
  isplitl [H]; · iexact H
  iintro H
  isplitl [HP]; · iexact HP
  iapply Hk; iexact H

theorem Writes.there {M : Memref sig .tc sp s e} (h : Writes c R M) : Writes c iprop(P ∗ R) M := by
  unfold Writes at h ⊢
  refine (sep_mono_right h).trans ?_
  iintro ⟨HP, ⟨%d, H, Hk⟩⟩
  iexists d
  isplitl [H]; · iexact H
  iintro %d' H
  isplitl [HP]; · iexact HP
  iapply Hk; iexact H

/-- A program that runs to its return from the resources and leaves them. -/
def Keeps (c : Dev nD) (R : sProp 𝕄) (p : Prog (TpuEff nD τ sig (Elt F) Λ₀ .tc) α) : Prop :=
  R ⊢ wp frame (wpE (defs₀ (F := F)) Variants.none (c : Thread nD τ) none) Set.univ p (fun _ => R)

theorem Keeps.ret (x : α) : Keeps c R (pure x : Prog (TpuEff nD τ sig (Elt F) Λ₀ .tc) α) :=
  le_wp_ret _ _ _ x fun _ => R

theorem Keeps.bind {p : Prog (TpuEff nD τ sig (Elt F) Λ₀ .tc) α} {k : α → Prog (TpuEff nD τ sig (Elt F) Λ₀ .tc) β}
    (hp : Keeps c R p) (hk : ∀ x, Keeps c R (k x)) : Keeps c R (p >>= k) := by
  unfold Keeps
  rw [wp_bind]
  exact hp.trans (wp_mono _ _ _ hk)

theorem Keeps.ite {b : Prop} [Decidable b] {p : b → Prog (TpuEff nD τ sig (Elt F) Λ₀ .tc) α}
    {q : ¬b → Prog (TpuEff nD τ sig (Elt F) Λ₀ .tc) α} (hp : ∀ h, Keeps c R (p h)) (hq : ∀ h, Keeps c R (q h)) :
    Keeps c R (dite b p q) := by
  by_cases h : b
  · rw [dif_pos h]; exact hp h
  · rw [dif_neg h]; exact hq h

theorem Keeps.load {M : Memref sig .tc cs s e} (r : LoadRect s) (hl : M.view.LoadsAt r) (h : Reads c R M) :
    Keeps c R (Prog.lift (.load M r hl) : Prog (TpuEff nD τ sig (Elt F) Λ₀ .tc) _) := by
  unfold Keeps
  unfold Reads owns at h
  refine h.trans ?_
  iintro ⟨%d, ⟨%f, %hf, H⟩, Hk⟩
  iapply (wp_load Variants.none (c : Thread nD τ) none Set.univ (hl := hl) (View.setOn_subset_set M.view r.set)) $$ [H]
  · iexact H
  iintro H
  iapply (le_wp_ret _ _ _ _ _)
  iapply Hk
  iexists f
  isplitr
  · ipureintro; exact hf
  iexact H

theorem Keeps.store {M : Memref sig .tc cs s e} (r : Rect s) (w : r.shape.Idx → Elt F e) (Mk : Finset r.shape.Idx)
    (hx : (M.access r).Stores Mk) (hm : Mk = Finset.univ ∨ ∀ a, r.stride a = 1) (h : Writes c R M) :
    Keeps c R (Prog.lift (.store M r w Mk hx hm) : Prog (TpuEff nD τ sig (Elt F) Λ₀ .tc) _) := by
  unfold Keeps
  unfold Writes owns at h
  refine h.trans ?_
  iintro ⟨%d, ⟨%f, %hf, H⟩, Hk⟩
  iapply (wp_store Variants.none (c : Thread nD τ) none Set.univ (hx := hx) (hm := hm) (S := M.view.set)
    ((View.setOn_subset_set _ Mk).trans (View.set_slice_subset M.view r))) $$ [H]
  · iexact H
  iintro H
  iapply (le_wp_ret _ _ _ _ _)
  iapply Hk
  iexists _
  isplitr
  swap; · iexact H
  ipureintro; rfl

set_option maxRecDepth 65536 in
set_option maxHeartbeats 40000000 in
/-- The body keeps the resources: it reads its twelve inputs, and reads and writes its two results and its nine
    scratch buffers, and does nothing else to memory. -/
theorem body_keeps (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S8x64x512 .f32) (harg4 : arg4.IsWhole) (arg5 : Memref sig .tc .vmem S8x64x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S4x128x256 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048x128 .bf16) (harg13 : arg13.IsWhole) (arg14 : Memref sig .tc .vmem S8x64x512 .bf16) (harg14 : arg14.IsWhole) (arg15 : Memref sig .tc .vmem S256x256 .bf16) (harg15 : arg15.IsWhole) (arg16 : Memref sig .tc .vmem S3x2048x128 .f32) (harg16 : arg16.IsWhole) (arg17 : Memref sig .tc .vmem S3x2048x128 .f32) (harg17 : arg17.IsWhole) (arg18 : Memref sig .tc .vmem S3x2048x128 .f32) (harg18 : arg18.IsWhole) (arg19 : Memref sig .tc .vmem S3x2048x128 .f32) (harg19 : arg19.IsWhole) (arg20 : Memref sig .tc .vmem S4x536x128 .f32) (harg20 : arg20.IsWhole) (arg21 : Memref sig .tc .vmem S4x512x128 .f32) (harg21 : arg21.IsWhole) (arg22 : Memref sig .tc .vmem S4x512x128 .f32) (harg22 : arg22.IsWhole) (arg23 : Memref sig .tc .vmem S4x8x128 .f32) (harg23 : arg23.IsWhole)
    (h1 : Reads c R arg1) (h2 : Reads c R arg2) (h3 : Reads c R arg3) (h4 : Reads c R arg4) (h5 : Reads c R arg5) (h6 : Reads c R arg6) (h7 : Reads c R arg7) (h8 : Reads c R arg8) (h9 : Reads c R arg9) (h10 : Reads c R arg10) (h11 : Reads c R arg11) (h12 : Reads c R arg12) (h13 : Writes c R arg13) (h14 : Writes c R arg14) (h15 : Writes c R arg15) (h16 : Writes c R arg16) (h17 : Writes c R arg17) (h18 : Writes c R arg18) (h19 : Writes c R arg19) (h20 : Writes c R arg20) (h21 : Writes c R arg21) (h22 : Writes c R arg22) (h23 : Writes c R arg23) :
    Keeps c R (cc0_mixers (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  have g13 := h13.reads
  have g14 := h14.reads
  have g15 := h15.reads
  have g16 := h16.reads
  have g17 := h17.reads
  have g18 := h18.reads
  have g19 := h19.reads
  have g20 := h20.reads
  have g21 := h21.reads
  have g22 := h22.reads
  have g23 := h23.reads
  repeat' first
    | with_reducible exact Keeps.ret _
    | with_reducible exact Keeps.load _ _ (by assumption)
    | with_reducible exact Keeps.store _ _ _ _ _ (by assumption)
    | with_reducible refine Keeps.bind ?_ fun _ => ?_
    | with_reducible refine Keeps.ite (fun _ => ?_) (fun _ => ?_)
    | refine Keeps.bind ?_ fun _ => ?_
    | refine Keeps.ite (fun _ => ?_) (fun _ => ?_)

end Cert.Proof.Mixers
-- ==== Proof.MixersFrames.lean ====
/-
  The frames of the fourth kernel: its body lends and takes back what the pipeline hands it, so every run ends, and ends
  with the argument arrays unchanged. Nothing is said of what it leaves in its two results.
-/
module

public import proofs.«01_k».proof.Defs
public import proofs.«01_k».proof.Proof.MixersBody
public import proofs.«01_k».proof.Proof.Gen.Kernel4
public import proofs.«01_k».proof.Proof.Gen.Kernel4.Skeleton
public import Idealize.ShloMosaic.Lib.Pipeline.FrameBody

@[expose] public section

noncomputable section

namespace Cert.Proof.Mixers

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The two results are forgotten; the twelve inputs are not. -/
def forgets : Fin 14 → Bool := fun w => 12 ≤ w.val

/-- What the pipeline's run is told: the arrays as the region finds them, each input left as fetched, the scratch
    buffers at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Pipeline.Dat.unnamed (cfg := cfg0) 12 t
    | ⟨13, _⟩ => Pipeline.Dat.unnamed (cfg := cfg0) 13 t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-! The windows' buffers at a point, as the body is handed them. -/

abbrev stage0 (t : Fin cfg0.N) : Memref sig .tc .vmem S1x2048x128 .f32 := win0_0.stage (cfg0.slots t 0)
abbrev stage1 (t : Fin cfg0.N) : Memref sig .tc .vmem S1x2048x128 .f32 := win0_1.stage (cfg0.slots t 1)
abbrev stage2 (t : Fin cfg0.N) : Memref sig .tc .vmem S1x2048x128 .f32 := win0_2.stage (cfg0.slots t 2)
abbrev stage3 (t : Fin cfg0.N) : Memref sig .tc .vmem S8x64x512 .f32 := win0_3.stage (cfg0.slots t 3)
abbrev stage4 (t : Fin cfg0.N) : Memref sig .tc .vmem S8x64x512 .f32 := win0_4.stage (cfg0.slots t 4)
abbrev stage5 (t : Fin cfg0.N) : Memref sig .tc .vmem S4x512 .f32 := win0_5.stage (cfg0.slots t 5)
abbrev stage6 (t : Fin cfg0.N) : Memref sig .tc .vmem S1x512 .f32 := win0_6.stage (cfg0.slots t 6)
abbrev stage7 (t : Fin cfg0.N) : Memref sig .tc .vmem S4x128x256 .bf16 := win0_7.stage (cfg0.slots t 7)
abbrev stage8 (t : Fin cfg0.N) : Memref sig .tc .vmem S1x512 .f32 := win0_8.stage (cfg0.slots t 8)
abbrev stage9 (t : Fin cfg0.N) : Memref sig .tc .vmem S1x512 .f32 := win0_9.stage (cfg0.slots t 9)
abbrev stage10 (t : Fin cfg0.N) : Memref sig .tc .vmem S1x512 .f32 := win0_10.stage (cfg0.slots t 10)
abbrev stage11 (t : Fin cfg0.N) : Memref sig .tc .vmem S1x512 .f32 := win0_11.stage (cfg0.slots t 11)
abbrev stage12 (t : Fin cfg0.N) : Memref sig .tc .vmem S1x2048x128 .bf16 := win0_12.stage (cfg0.slots t 12)
abbrev stage13 (t : Fin cfg0.N) : Memref sig .tc .vmem S8x64x512 .bf16 := win0_13.stage (cfg0.slots t 13)

/-! The scratch buffers. -/

abbrev scratch0 : Memref sig .tc .vmem S256x256 .bf16 := Memref.whole cc0_scratch0
abbrev scratch1 : Memref sig .tc .vmem S3x2048x128 .f32 := Memref.whole cc0_scratch1
abbrev scratch2 : Memref sig .tc .vmem S3x2048x128 .f32 := Memref.whole cc0_scratch2
abbrev scratch3 : Memref sig .tc .vmem S3x2048x128 .f32 := Memref.whole cc0_scratch3
abbrev scratch4 : Memref sig .tc .vmem S3x2048x128 .f32 := Memref.whole cc0_scratch4
abbrev scratch5 : Memref sig .tc .vmem S4x536x128 .f32 := Memref.whole cc0_scratch5
abbrev scratch6 : Memref sig .tc .vmem S4x512x128 .f32 := Memref.whole cc0_scratch6
abbrev scratch7 : Memref sig .tc .vmem S4x512x128 .f32 := Memref.whole cc0_scratch7
abbrev scratch8 : Memref sig .tc .vmem S4x8x128 .f32 := Memref.whole cc0_scratch8

/-- The scratch buffers and the generator register. -/
theorem rest_eq (c : Dev nD) :
    (Pipeline.ΦA spec0 c : sProp 𝕄)
      = iprop(((∃ d, owns (c : Thread nD τ) scratch0 fullShare d) ∗ (∃ d, owns (c : Thread nD τ) scratch1 fullShare d) ∗ (∃ d, owns (c : Thread nD τ) scratch2 fullShare d) ∗ (∃ d, owns (c : Thread nD τ) scratch3 fullShare d) ∗ (∃ d, owns (c : Thread nD τ) scratch4 fullShare d) ∗ (∃ d, owns (c : Thread nD τ) scratch5 fullShare d) ∗ (∃ d, owns (c : Thread nD τ) scratch6 fullShare d) ∗ (∃ d, owns (c : Thread nD τ) scratch7 fullShare d) ∗ (∃ d, owns (c : Thread nD τ) scratch8 fullShare d)) ∗ (∃ r, prngReg c r)) := by
  rw [Pipeline.ΦA, scopedRest0_eq]; simp only [scratch0, scratch1, scratch2, scratch3, scratch4, scratch5, scratch6, scratch7, scratch8, owns_whole]; try rfl

/-- What the body holds at a point. -/
def Held (c : Dev nD) (t : Fin cfg0.N) : sProp 𝕄 :=
  iprop(owns (c : Thread nD τ) (stage0 t) fullShare (iblk m c 0 t)
    ∗ owns (c : Thread nD τ) (stage1 t) fullShare (iblk m c 1 t)
    ∗ owns (c : Thread nD τ) (stage2 t) fullShare (iblk m c 2 t)
    ∗ owns (c : Thread nD τ) (stage3 t) fullShare (iblk m c 3 t)
    ∗ owns (c : Thread nD τ) (stage4 t) fullShare (iblk m c 4 t)
    ∗ owns (c : Thread nD τ) (stage5 t) fullShare (iblk m c 5 t)
    ∗ owns (c : Thread nD τ) (stage6 t) fullShare (iblk m c 6 t)
    ∗ owns (c : Thread nD τ) (stage7 t) fullShare (iblk m c 7 t)
    ∗ owns (c : Thread nD τ) (stage8 t) fullShare (iblk m c 8 t)
    ∗ owns (c : Thread nD τ) (stage9 t) fullShare (iblk m c 9 t)
    ∗ owns (c : Thread nD τ) (stage10 t) fullShare (iblk m c 10 t)
    ∗ owns (c : Thread nD τ) (stage11 t) fullShare (iblk m c 11 t)
    ∗ (∃ d, owns (c : Thread nD τ) (stage12 t) fullShare d)
    ∗ (∃ d, owns (c : Thread nD τ) (stage13 t) fullShare d)
    ∗ (∃ d, owns (c : Thread nD τ) scratch0 fullShare d) ∗ (∃ d, owns (c : Thread nD τ) scratch1 fullShare d) ∗ (∃ d, owns (c : Thread nD τ) scratch2 fullShare d) ∗ (∃ d, owns (c : Thread nD τ) scratch3 fullShare d) ∗ (∃ d, owns (c : Thread nD τ) scratch4 fullShare d) ∗ (∃ d, owns (c : Thread nD τ) scratch5 fullShare d) ∗ (∃ d, owns (c : Thread nD τ) scratch6 fullShare d) ∗ (∃ d, owns (c : Thread nD τ) scratch7 fullShare d) ∗ (∃ d, owns (c : Thread nD τ) scratch8 fullShare d)
    ∗ (∃ r, prngReg c r) ∗ (dats m 0 c).owesAt () t.castSucc)

theorem held_keeps (c : Dev nD) (t : Fin cfg0.N) : Keeps c (Held m c t) (bodyAt0 (F := F) t) := by
  unfold Held
  apply body_keeps
  all_goals
    with_reducible
      repeat' first | exact Reads.here _ _ | exact Writes.here _ | apply Reads.there | apply Writes.there

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d))
    ∗ (∃ d, owns (c : Thread nD τ) (stage8 t) fullShare ((dats m 0 c).before 8 t d))
    ∗ (∃ d, owns (c : Thread nD τ) (stage9 t) fullShare ((dats m 0 c).before 9 t d))
    ∗ (∃ d, owns (c : Thread nD τ) (stage10 t) fullShare ((dats m 0 c).before 10 t d))
    ∗ (∃ d, owns (c : Thread nD τ) (stage11 t) fullShare ((dats m 0 c).before 11 t d))
    ∗ (∃ d, owns (c : Thread nD τ) (stage12 t) fullShare d)
    ∗ (∃ d, owns (c : Thread nD τ) (stage13 t) fullShare d))
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ owns (c : Thread nD τ) (stage6 t) fullShare ((dats m 0 c).after 6 t)
    ∗ owns (c : Thread nD τ) (stage7 t) fullShare ((dats m 0 c).after 7 t)
    ∗ owns (c : Thread nD τ) (stage8 t) fullShare ((dats m 0 c).after 8 t)
    ∗ owns (c : Thread nD τ) (stage9 t) fullShare ((dats m 0 c).after 9 t)
    ∗ owns (c : Thread nD τ) (stage10 t) fullShare ((dats m 0 c).after 10 t)
    ∗ owns (c : Thread nD τ) (stage11 t) fullShare ((dats m 0 c).after 11 t)
    ∗ (∃ d, owns (c : Thread nD τ) (stage12 t) fullShare d)
    ∗ (∃ d, owns (c : Thread nD τ) (stage13 t) fullShare d))

theorem sound_body (c : Dev nD) (t : Fin cfg0.N) :
    bodyPre m c t ⊢ wp frame (wpE (defs₀ (F := F)) Variants.none c none) Set.univ (bodyAt0 t) (fun _ => bodyPost m c t) := by
  have hpre : bodyPre m c t ⊢ Held m c t := by
    unfold bodyPre Held
    simp only [before_0, before_1, before_2, before_3, before_4, before_5, before_6, before_7, before_8, before_9, before_10, before_11]
    rw [show (dats m 0 c).Φ t.castSucc = Pipeline.ΦA spec0 c from rfl, rest_eq]
    iintro ⟨⟨⟨S0, S1, S2, S3, S4, S5, S6, S7, S8⟩, Hg⟩, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, H12, H13⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [Hg]; · iexact Hg
    iexact Ho
  have hpost : Held m c t ⊢ bodyPost m c t := by
    unfold bodyPost Held
    simp only [after_0, after_1, after_2, after_3, after_4, after_5, after_6, after_7, after_8, after_9, after_10, after_11]
    rw [show (dats m 0 c).Φ t.succ = Pipeline.ΦA spec0 c from rfl, rest_eq,
      show (dats m 0 c).owesAt () t.succ = (dats m 0 c).owesAt () t.castSucc from rfl]
    iintro ⟨H0, H1, H2, H3, H4, H5, H6, H7, H8, H9, H10, H11, H12, H13, S0, S1, S2, S3, S4, S5, S6, S7, S8, Hg, Ho⟩
    isplitl [S0 S1 S2 S3 S4 S5 S6 S7 S8 Hg]
    · isplitl [S0 S1 S2 S3 S4 S5 S6 S7 S8]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  exact hpre.trans ((held_keeps m c t).trans (wp_mono _ _ _ fun _ => hpost))

theorem row (t : Fin cfg0.N) : defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ forgets := fun t => by
  rw [bigSep_W0, bigSep_W0, row]
  exact triple_restated (sound_body m c t) rfl .rfl fun _ => .rfl

set_option backward.isDefEq.respectTransparency.types false in
theorem run :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := A_eq m) (hΦ := fun _ _ => rfl)

set_option maxHeartbeats 4000000 in
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c)⟩, h.2⟩) (run m ρ)

end Cert.Proof.Mixers

namespace Cert.Proof

open Idealize.ShloMosaic Idealize.ShloMosaic.TcCoe Idealize.SL.Sem

set_option maxRecDepth 65536 in
set_option maxHeartbeats 40000000 in
theorem mixers_body_same : @Cert.Kernel4.cc0_mixers Bits _ _ = @Cert.Kernel4Ideal.cc0_mixers Bits _ _ := rfl
set_option maxHeartbeats 4000000 in
theorem mixers_bodies_same : @Cert.Kernel4.defs₀ Bits _ _ = @Cert.Kernel4Ideal.defs₀ Bits _ _ := by
  unfold Cert.Kernel4.defs₀ Cert.Kernel4Ideal.defs₀
  rw [mixers_body_same]
  refine congrArg Defs.onTc (funext fun l => funext fun a => ?_)
  match l, a with
  | 0, (t, s) => rfl
  | ⟨_ + 1, h⟩, _ => exact absurd h (Nat.not_lt.2 (Nat.le_add_left _ _))
set_option maxHeartbeats 4000000 in
theorem mixers_table_same : @Cert.Kernel4.defs Bits _ _ = @Cert.Kernel4Ideal.defs Bits _ _ := by
  unfold Cert.Kernel4.defs Cert.Kernel4Ideal.defs
  rw [mixers_bodies_same]; rfl
set_option maxHeartbeats 4000000 in
theorem mixers_main_same : Cert.Kernel4.main (F := Bits) = Cert.Kernel4Ideal.main (F := Bits) := rfl

set_option maxHeartbeats 4000000 in
theorem frame_kernel4 : Cert.quiescent_Kernel4 := fun m ρ _ => by
  rw [mixers_table_same, mixers_main_same]
  exact Mixers.frame_all (F := Bits) m ρ

set_option maxHeartbeats 4000000 in
theorem frame_kernel4_ideal : Cert.quiescent_Kernel4Ideal := fun m ρ _ => Mixers.frame_all (F := Ideal) m ρ

end Cert.Proof
-- ==== Proof.lean ====
/-
  The certificate, for the output projection, for the in-projection and for the modulation: the frames of each kernel, of
  its idealization and of its reference; that the idealization rewrote nothing; and that kernel and reference end with the
  same results.  For the mixers: the frames of the kernel and of its idealization, and that the idealization rewrote nothing.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.ReferenceIdeal
public import proofs.«01_k».proof.Proof.Gen.Kernel2
public import proofs.«01_k».proof.Proof.Gen.Kernel2.Skeleton
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4Ideal
public import proofs.«01_k».proof.Proof.Gen.Kernel4Ideal.Frame
public import proofs.«01_k».proof.Proof.Frames
public import proofs.«01_k».proof.Proof.Equation
public import proofs.«01_k».proof.Proof.InFrames
public import proofs.«01_k».proof.Proof.InEquation
public import proofs.«01_k».proof.Proof.ModFrames
public import proofs.«01_k».proof.Proof.ModEquation
public import proofs.«01_k».proof.Proof.MixersFrames

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, pre_facts, pre_facts3,
    frame_kernel, frame_kernel_ideal, frame_kernel_ideal_pre, frame_reference, frame_reference_pre, frame_kernel2, frame_kernel2_ideal, frame_reference2,
    frame_kernel3, frame_kernel3_ideal, frame_kernel3_ideal_pre, frame_reference3, frame_reference3_pre,
    frame_kernel4, frame_kernel4_ideal,
    trivial, same_result, trivial, same_result2, trivial, same_result3, trivial⟩

end Cert.Proof

end
